-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_usage_stays_nonnegative [hPre_usage_stays_nonnegative : Cert.Pre_usage_stays_nonnegative.Facts] (m : (ℓ : Loc Cert.KernelIdeal.nD Cert.KernelIdeal.τ Cert.KernelIdeal.sig) → Buf (Elt Ideal) ℓ) : Prop :=
  ∀ c : Dev Cert.KernelIdeal.nD,
    (Cert.Pre_usage_stays_nonnegative.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_usage_stays_nonnegative.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_usage_stays_nonnegative.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_usage_stays_nonnegative.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_usage_stays_nonnegative.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_usage_stays_nonnegative [hPre_usage_stays_nonnegative : Cert.Pre_usage_stays_nonnegative.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_usage_stays_nonnegative.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_usage_stays_nonnegative.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_usage_stays_nonnegative.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_usage_stays_nonnegative.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_usage_stays_nonnegative.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_usage_stays_nonnegative [hKernelIdeal : Cert.KernelIdeal.Facts] [hPre_usage_stays_nonnegative : Cert.Pre_usage_stays_nonnegative.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_usage_stays_nonnegative m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_usage_stays_nonnegative [hReferenceIdeal : Cert.ReferenceIdeal.Facts] [hPre_usage_stays_nonnegative : Cert.Pre_usage_stays_nonnegative.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_usage_stays_nonnegative m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "log0" .f32 0xC7C35000#32 ⊥

def algebraic_KernelIdeal_ReferenceIdeal_pre_usage_stays_nonnegative [hKernelIdeal : Cert.KernelIdeal.Facts] [hReferenceIdeal : Cert.ReferenceIdeal.Facts] [hPre_usage_stays_nonnegative : Cert.Pre_usage_stays_nonnegative.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_usage_stays_nonnegative m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_usage_stays_nonnegative : Cert.Pre_usage_stays_nonnegative.Facts),
    quiescent_Kernel (hKernel := hKernel)
    ∧ quiescent_KernelIdeal (hKernelIdeal := hKernelIdeal)
    ∧ quiescent_KernelIdeal_pre_usage_stays_nonnegative (hKernelIdeal := hKernelIdeal) (hPre_usage_stays_nonnegative := hPre_usage_stays_nonnegative)
    ∧ quiescent_ReferenceIdeal (hReferenceIdeal := hReferenceIdeal)
    ∧ quiescent_ReferenceIdeal_pre_usage_stays_nonnegative (hReferenceIdeal := hReferenceIdeal) (hPre_usage_stays_nonnegative := hPre_usage_stays_nonnegative)
    ∧ preserves_Kernel_KernelIdeal
    ∧ algebraic_KernelIdeal_ReferenceIdeal_pre_usage_stays_nonnegative (hKernelIdeal := hKernelIdeal) (hReferenceIdeal := hReferenceIdeal) (hPre_usage_stays_nonnegative := hPre_usage_stays_nonnegative)
-- ==== Pre_usage_stays_nonnegative.lean ====
abbrev S32x512 : Shape := ⟨2, ![32, 512]⟩
abbrev S1024x2048 : Shape := ⟨2, ![1024, 2048]⟩
abbrev S2048 : Shape := ⟨1, ![2048]⟩
abbrev S512x471 : Shape := ⟨2, ![512, 471]⟩
abbrev S512x128 : Shape := ⟨2, ![512, 128]⟩
abbrev S256x128 : Shape := ⟨2, ![256, 128]⟩
abbrev S1 : Shape := ⟨1, ![1]⟩
abbrev S_ : Shape := ⟨0, ![]⟩
abbrev S512 : Shape := ⟨1, ![512]⟩
abbrev S1024x64 : Shape := ⟨2, ![1024, 64]⟩
abbrev S1024 : Shape := ⟨1, ![1024]⟩
abbrev S1024x1024 : Shape := ⟨2, ![1024, 1024]⟩
abbrev S4x1024 : Shape := ⟨2, ![4, 1024]⟩
abbrev S1x512 : Shape := ⟨2, ![1, 512]⟩
abbrev S471 : Shape := ⟨1, ![471]⟩
abbrev S256 : Shape := ⟨1, ![256]⟩
abbrev S4x64 : Shape := ⟨2, ![4, 64]⟩
abbrev S4 : Shape := ⟨1, ![4]⟩
abbrev S64 : Shape := ⟨1, ![64]⟩
abbrev S12 : Shape := ⟨1, ![12]⟩
abbrev S4x3 : Shape := ⟨2, ![4, 3]⟩
abbrev S4x1 : Shape := ⟨2, ![4, 1]⟩
abbrev S1x1024 : Shape := ⟨2, ![1, 1024]⟩
abbrev S1024x1 : Shape := ⟨2, ![1024, 1]⟩
abbrev S1023 : Shape := ⟨1, ![1023]⟩
abbrev S2 : Shape := ⟨1, ![2]⟩
abbrev S1022 : Shape := ⟨1, ![1022]⟩
abbrev S1020 : Shape := ⟨1, ![1020]⟩
abbrev S8 : Shape := ⟨1, ![8]⟩
abbrev S1016 : Shape := ⟨1, ![1016]⟩
abbrev S16 : Shape := ⟨1, ![16]⟩
abbrev S1008 : Shape := ⟨1, ![1008]⟩
abbrev S32 : Shape := ⟨1, ![32]⟩
abbrev S992 : Shape := ⟨1, ![992]⟩
abbrev S960 : Shape := ⟨1, ![960]⟩
abbrev S128 : Shape := ⟨1, ![128]⟩
abbrev S896 : Shape := ⟨1, ![896]⟩
abbrev S768 : Shape := ⟨1, ![768]⟩
abbrev S1x64 : Shape := ⟨2, ![1, 64]⟩
abbrev S1024x4 : Shape := ⟨2, ![1024, 4]⟩
abbrev S512x2048 : Shape := ⟨2, ![512, 2048]⟩

class Facts : Prop where
  slices_S2048_S1_0 : S2048.Slices ![0] S1
  shapeCasts_S1_S_ : S1.ShapeCasts S_
  bcast_S_S512 : S_.BroadcastsInDim S512 (![] : Fin 0 → Fin S512.rank)
  bcast_S_S1024x64 : S_.BroadcastsInDim S1024x64 (![] : Fin 0 → Fin S1024x64.rank)
  bcast_S_S1024 : S_.BroadcastsInDim S1024 (![] : Fin 0 → Fin S1024.rank)
  bcast_S_S1024x1024 : S_.BroadcastsInDim S1024x1024 (![] : Fin 0 → Fin S1024x1024.rank)
  bcast_S_S4x1024 : S_.BroadcastsInDim S4x1024 (![] : Fin 0 → Fin S4x1024.rank)
  slices_S32x512_S1x512_0_0 : S32x512.Slices ![0, 0] S1x512
  shapeCasts_S1x512_S512 : S1x512.ShapeCasts S512
  concatenates_S512_S512_S1024_d0 : Shape.Concatenates [S512, S512] S1024 0
  slices_S2048_S512_0 : S2048.Slices ![0] S512
  slices_S2048_S512_512 : S2048.Slices ![512] S512
  slices_S2048_S512_1024 : S2048.Slices ![1024] S512
  slices_S2048_S512_1536 : S2048.Slices ![1536] S512
  slices_S471_S256_0 : S471.Slices ![0] S256
  shapeCasts_S256_S4x64 : S256.ShapeCasts S4x64
  slices_S471_S4_256 : S471.Slices ![256] S4
  bcast_S_S4 : S_.BroadcastsInDim S4 (![] : Fin 0 → Fin S4.rank)
  slices_S471_S64_260 : S471.Slices ![260] S64
  slices_S471_S1_324 : S471.Slices ![324] S1
  slices_S471_S64_325 : S471.Slices ![325] S64
  bcast_S_S64 : S_.BroadcastsInDim S64 (![] : Fin 0 → Fin S64.rank)
  slices_S471_S64_389 : S471.Slices ![389] S64
  slices_S471_S4_453 : S471.Slices ![453] S4
  slices_S471_S1_457 : S471.Slices ![457] S1
  slices_S471_S1_458 : S471.Slices ![458] S1
  slices_S471_S12_459 : S471.Slices ![459] S12
  shapeCasts_S12_S4x3 : S12.ShapeCasts S4x3
  reducesTo_S4x3_S4_d1 : S4x3.ReducesTo [1] S4
  h_S_ : 0 < S_.numel
  bcast_S4_S4x1_0 : S4.BroadcastsInDim S4x1 (![0] : Fin 1 → Fin S4x1.rank)
  bcast_S4x1_S4x3_0_1 : S4x1.BroadcastsInDim S4x3 (![0, 1] : Fin 2 → Fin S4x3.rank)
  bcast_S4x1_S4x1024_0_1 : S4x1.BroadcastsInDim S4x1024 (![0, 1] : Fin 2 → Fin S4x1024.rank)
  slices_S4x1024_S1x1024_0_0 : S4x1024.Slices ![0, 0] S1x1024
  shapeCasts_S1x1024_S1024 : S1x1024.ShapeCasts S1024
  slices_S4x1024_S1x1024_1_0 : S4x1024.Slices ![1, 0] S1x1024
  slices_S4x1024_S1x1024_2_0 : S4x1024.Slices ![2, 0] S1x1024
  slices_S4x1024_S1x1024_3_0 : S4x1024.Slices ![3, 0] S1x1024
  bcast_S1024_S1024x1_0 : S1024.BroadcastsInDim S1024x1 (![0] : Fin 1 → Fin S1024x1.rank)
  bcast_S_S1 : S_.BroadcastsInDim S1 (![] : Fin 0 → Fin S1.rank)
  slices_S1024_S1023_0 : S1024.Slices ![0] S1023
  concatenates_S1_S1023_S1024_d0 : Shape.Concatenates [S1, S1023] S1024 0
  bcast_S_S2 : S_.BroadcastsInDim S2 (![] : Fin 0 → Fin S2.rank)
  slices_S1024_S1022_0 : S1024.Slices ![0] S1022
  concatenates_S2_S1022_S1024_d0 : Shape.Concatenates [S2, S1022] S1024 0
  slices_S1024_S1020_0 : S1024.Slices ![0] S1020
  concatenates_S4_S1020_S1024_d0 : Shape.Concatenates [S4, S1020] S1024 0
  bcast_S_S8 : S_.BroadcastsInDim S8 (![] : Fin 0 → Fin S8.rank)
  slices_S1024_S1016_0 : S1024.Slices ![0] S1016
  concatenates_S8_S1016_S1024_d0 : Shape.Concatenates [S8, S1016] S1024 0
  bcast_S_S16 : S_.BroadcastsInDim S16 (![] : Fin 0 → Fin S16.rank)
  slices_S1024_S1008_0 : S1024.Slices ![0] S1008
  concatenates_S16_S1008_S1024_d0 : Shape.Concatenates [S16, S1008] S1024 0
  bcast_S_S32 : S_.BroadcastsInDim S32 (![] : Fin 0 → Fin S32.rank)
  slices_S1024_S992_0 : S1024.Slices ![0] S992
  concatenates_S32_S992_S1024_d0 : Shape.Concatenates [S32, S992] S1024 0
  slices_S1024_S960_0 : S1024.Slices ![0] S960
  concatenates_S64_S960_S1024_d0 : Shape.Concatenates [S64, S960] S1024 0
  bcast_S_S128 : S_.BroadcastsInDim S128 (![] : Fin 0 → Fin S128.rank)
  slices_S1024_S896_0 : S1024.Slices ![0] S896
  concatenates_S128_S896_S1024_d0 : Shape.Concatenates [S128, S896] S1024 0
  bcast_S_S256 : S_.BroadcastsInDim S256 (![] : Fin 0 → Fin S256.rank)
  slices_S1024_S768_0 : S1024.Slices ![0] S768
  concatenates_S256_S768_S1024_d0 : Shape.Concatenates [S256, S768] S1024 0
  slices_S1024_S512_0 : S1024.Slices ![0] S512
  reducesTo_S1024x64_S1024_d1 : S1024x64.ReducesTo [1] S1024
  reducesTo_S64_S_d0 : S64.ReducesTo [0] S_
  reducesTo_S1024_S_d0 : S1024.ReducesTo [0] S_
  bcast_S1_S1024_0 : S1.BroadcastsInDim S1024 (![0] : Fin 1 → Fin S1024.rank)
  bcast_S64_S1x64_1 : S64.BroadcastsInDim S1x64 (![1] : Fin 1 → Fin S1x64.rank)
  bcast_S1024x1_S1024x64_0_1 : S1024x1.BroadcastsInDim S1024x64 (![0, 1] : Fin 2 → Fin S1024x64.rank)
  bcast_S1x64_S1024x64_0_1 : S1x64.BroadcastsInDim S1024x64 (![0, 1] : Fin 2 → Fin S1024x64.rank)
  bcast_S_S1024x1 : S_.BroadcastsInDim S1024x1 (![] : Fin 0 → Fin S1024x1.rank)
  bcast_S1024_S1x1024_1 : S1024.BroadcastsInDim S1x1024 (![1] : Fin 1 → Fin S1x1024.rank)
  bcast_S1024x1_S1024x1024_0_1 : S1024x1.BroadcastsInDim S1024x1024 (![0, 1] : Fin 2 → Fin S1024x1024.rank)
  bcast_S1x1024_S1024x1024_0_1 : S1x1024.BroadcastsInDim S1024x1024 (![0, 1] : Fin 2 → Fin S1024x1024.rank)
  transposes_S1024x1024_S1024x1024_1_0 : S1024x1024.Transposes [1, 0] S1024x1024
  reducesTo_S4x64_S4_d1 : S4x64.ReducesTo [1] S4
  bcast_S1x1024_S4x1024_0_1 : S1x1024.BroadcastsInDim S4x1024 (![0, 1] : Fin 2 → Fin S4x1024.rank)
  transposes_S1024x4_S4x1024_1_0 : S1024x4.Transposes [1, 0] S4x1024
  reducesTo_S4x1024_S4_d1 : S4x1024.ReducesTo [1] S4
  slices_S4x3_S4x1_0_0 : S4x3.Slices ![0, 0] S4x1
  slices_S4x3_S4x1_0_1 : S4x3.Slices ![0, 1] S4x1
  slices_S4x3_S4x1_0_2 : S4x3.Slices ![0, 2] S4x1
  shapeCasts_S4x64_S256 : S4x64.ShapeCasts S256
  slices_S32x512_S1x512_1_0 : S32x512.Slices ![1, 0] S1x512
  slices_S32x512_S1x512_2_0 : S32x512.Slices ![2, 0] S1x512
  slices_S32x512_S1x512_3_0 : S32x512.Slices ![3, 0] S1x512
  slices_S32x512_S1x512_4_0 : S32x512.Slices ![4, 0] S1x512
  slices_S32x512_S1x512_5_0 : S32x512.Slices ![5, 0] S1x512
  slices_S32x512_S1x512_6_0 : S32x512.Slices ![6, 0] S1x512
  slices_S32x512_S1x512_7_0 : S32x512.Slices ![7, 0] S1x512
  slices_S32x512_S1x512_8_0 : S32x512.Slices ![8, 0] S1x512
  slices_S32x512_S1x512_9_0 : S32x512.Slices ![9, 0] S1x512
  slices_S32x512_S1x512_10_0 : S32x512.Slices ![10, 0] S1x512
  slices_S32x512_S1x512_11_0 : S32x512.Slices ![11, 0] S1x512
  slices_S32x512_S1x512_12_0 : S32x512.Slices ![12, 0] S1x512
  slices_S32x512_S1x512_13_0 : S32x512.Slices ![13, 0] S1x512
  slices_S32x512_S1x512_14_0 : S32x512.Slices ![14, 0] S1x512
  slices_S32x512_S1x512_15_0 : S32x512.Slices ![15, 0] S1x512
  slices_S32x512_S1x512_16_0 : S32x512.Slices ![16, 0] S1x512
  slices_S32x512_S1x512_17_0 : S32x512.Slices ![17, 0] S1x512
  slices_S32x512_S1x512_18_0 : S32x512.Slices ![18, 0] S1x512
  slices_S32x512_S1x512_19_0 : S32x512.Slices ![19, 0] S1x512
  slices_S32x512_S1x512_20_0 : S32x512.Slices ![20, 0] S1x512
  slices_S32x512_S1x512_21_0 : S32x512.Slices ![21, 0] S1x512
  slices_S32x512_S1x512_22_0 : S32x512.Slices ![22, 0] S1x512
  slices_S32x512_S1x512_23_0 : S32x512.Slices ![23, 0] S1x512
  slices_S32x512_S1x512_24_0 : S32x512.Slices ![24, 0] S1x512
  slices_S32x512_S1x512_25_0 : S32x512.Slices ![25, 0] S1x512
  slices_S32x512_S1x512_26_0 : S32x512.Slices ![26, 0] S1x512
  slices_S32x512_S1x512_27_0 : S32x512.Slices ![27, 0] S1x512
  slices_S32x512_S1x512_28_0 : S32x512.Slices ![28, 0] S1x512
  slices_S32x512_S1x512_29_0 : S32x512.Slices ![29, 0] S1x512
  slices_S32x512_S1x512_30_0 : S32x512.Slices ![30, 0] S1x512
  slices_S32x512_S1x512_31_0 : S32x512.Slices ![31, 0] S1x512
  slices_S1024x2048_S512x2048_512_0 : S1024x2048.Slices ![512, 0] S512x2048
  bcast_S_S512x2048 : S_.BroadcastsInDim S512x2048 (![] : Fin 0 → Fin S512x2048.rank)
  bcast_S_S512x471 : S_.BroadcastsInDim S512x471 (![] : Fin 0 → Fin S512x471.rank)
  bcast_S_S512x128 : S_.BroadcastsInDim S512x128 (![] : Fin 0 → Fin S512x128.rank)
  bcast_S_S256x128 : S_.BroadcastsInDim S256x128 (![] : Fin 0 → Fin S256x128.rank)
  dot_S1024_S1024x2048_S2048_0_0_n_1_n_n_wf : DotDims.WF S1024 S1024x2048 S2048 [0] [0] [] [1] [] []
  dot_S512_S512x471_S471_0_0_n_1_n_n_wf : DotDims.WF S512 S512x471 S471 [0] [0] [] [1] [] []
  gather_S1024_S1024x1_S1024_n_0_n_n_0_1_1_wf : GatherDims.WF S1024 S1024x1 S1024 [] [0] [] [0] [] 1 ![1]
  scatter_S1024_S1024x1_S1024_n_0_0_1_wf : ScatterDims.WF S1024 S1024x1 S1024 [] [0] [0] 1
  dot_S1024x64_S64_S1024_1_0_0_n_n_n_wf : DotDims.WF S1024x64 S64 S1024 [1] [0] [0] [] [] []
  dot_S4x1024_S1024x1024_S4x1024_1_0_0_1_n_n_wf : DotDims.WF S4x1024 S1024x1024 S4x1024 [1] [0] [0] [1] [] []
  dot_S1024x64_S4x64_S1024x4_1_1_0_0_n_n_wf : DotDims.WF S1024x64 S4x64 S1024x4 [1] [1] [0] [0] [] []
  dot_S4x1024_S1024x64_S4x64_1_0_0_1_n_n_wf : DotDims.WF S4x1024 S1024x64 S4x64 [1] [0] [0] [1] [] []
  dot_S512_S512x128_S128_0_0_n_1_n_n_wf : DotDims.WF S512 S512x128 S128 [0] [0] [] [1] [] []
  dot_S256_S256x128_S128_0_0_n_1_n_n_wf : DotDims.WF S256 S256x128 S128 [0] [0] [] [1] [] []

variable [Facts]

variable {F : FTy → Type} [FloatOps F]
def dot_S1024_S1024x2048_S2048_0_0_n_1_n_n : DotDims S1024 S1024x2048 S2048 where
  lhsContracting := [0]
  rhsContracting := [0]
  lhsNonContracting := []
  rhsNonContracting := [1]
  lhsBatch := []
  rhsBatch := []
  wf := dot_S1024_S1024x2048_S2048_0_0_n_1_n_n_wf
def dot_S512_S512x471_S471_0_0_n_1_n_n : DotDims S512 S512x471 S471 where
  lhsContracting := [0]
  rhsContracting := [0]
  lhsNonContracting := []
  rhsNonContracting := [1]
  lhsBatch := []
  rhsBatch := []
  wf := dot_S512_S512x471_S471_0_0_n_1_n_n_wf
def comparator_f32_i32_d0 : F .f32 × BitVec 32 → F .f32 × BitVec 32 → BitVec 1 :=
  fun l r =>
    let cst := FloatOps.ofBits .f32 0x00000000#32
    let v2 := FloatOps.cmpf .oeq l.1 cst
    let cst_0 := FloatOps.ofBits .f32 0x00000000#32
    let v3 := Scalar.select v2 cst_0 l.1
    let v4 := FloatOps.cmpf .une l.1 l.1
    let cst_1 := FloatOps.ofBits .f32 0x7FC00000#32
    let v5 := Scalar.select v4 cst_1 v3
    let cst_2 := FloatOps.ofBits .f32 0x00000000#32
    let v6 := FloatOps.cmpf .oeq r.1 cst_2
    let cst_3 := FloatOps.ofBits .f32 0x00000000#32
    let v7 := Scalar.select v6 cst_3 r.1
    let v8 := FloatOps.cmpf .une r.1 r.1
    let cst_4 := FloatOps.ofBits .f32 0x7FC00000#32
    let v9 := Scalar.select v8 cst_4 v7
    let v10 := FloatOps.cmpfTotal .lt v5 v9
    v10
def gather_S1024_S1024x1_S1024_n_0_n_n_0_1_1 : GatherDims S1024 S1024x1 S1024 where
  offsetDims := []
  collapsedSliceDims := [0]
  operandBatchingDims := []
  startIndicesBatchingDims := []
  startIndexMap := [0]
  indexVectorDim := 1
  sliceSizes := ![1]
  wf := gather_S1024_S1024x1_S1024_n_0_n_n_0_1_1_wf
def scatter_S1024_S1024x1_S1024_n_0_0_1 : ScatterDims S1024 S1024x1 S1024 where
  updateWindowDims := []
  insertedWindowDims := [0]
  scatterDimsToOperandDims := [0]
  indexVectorDim := 1
  wf := scatter_S1024_S1024x1_S1024_n_0_0_1_wf
def dot_S1024x64_S64_S1024_1_0_0_n_n_n : DotDims S1024x64 S64 S1024 where
  lhsContracting := [1]
  rhsContracting := [0]
  lhsNonContracting := [0]
  rhsNonContracting := []
  lhsBatch := []
  rhsBatch := []
  wf := dot_S1024x64_S64_S1024_1_0_0_n_n_n_wf
def dot_S4x1024_S1024x1024_S4x1024_1_0_0_1_n_n : DotDims S4x1024 S1024x1024 S4x1024 where
  lhsContracting := [1]
  rhsContracting := [0]
  lhsNonContracting := [0]
  rhsNonContracting := [1]
  lhsBatch := []
  rhsBatch := []
  wf := dot_S4x1024_S1024x1024_S4x1024_1_0_0_1_n_n_wf
def dot_S1024x64_S4x64_S1024x4_1_1_0_0_n_n : DotDims S1024x64 S4x64 S1024x4 where
  lhsContracting := [1]
  rhsContracting := [1]
  lhsNonContracting := [0]
  rhsNonContracting := [0]
  lhsBatch := []
  rhsBatch := []
  wf := dot_S1024x64_S4x64_S1024x4_1_1_0_0_n_n_wf
def dot_S4x1024_S1024x64_S4x64_1_0_0_1_n_n : DotDims S4x1024 S1024x64 S4x64 where
  lhsContracting := [1]
  rhsContracting := [0]
  lhsNonContracting := [0]
  rhsNonContracting := [1]
  lhsBatch := []
  rhsBatch := []
  wf := dot_S4x1024_S1024x64_S4x64_1_0_0_1_n_n_wf
def dot_S512_S512x128_S128_0_0_n_1_n_n : DotDims S512 S512x128 S128 where
  lhsContracting := [0]
  rhsContracting := [0]
  lhsNonContracting := []
  rhsNonContracting := [1]
  lhsBatch := []
  rhsBatch := []
  wf := dot_S512_S512x128_S128_0_0_n_1_n_n_wf
def dot_S256_S256x128_S128_0_0_n_1_n_n : DotDims S256 S256x128 S128 where
  lhsContracting := [0]
  rhsContracting := [0]
  lhsNonContracting := []
  rhsNonContracting := [1]
  lhsBatch := []
  rhsBatch := []
  wf := dot_S256_S256x128_S128_0_0_n_1_n_n_wf

def fn_softplus {F : FTy → Type} [FloatOps F] (arg0 : FVec F S4 .f32) : FVec F S4 .f32 :=
  let cst : FVec F S_ .f32 := constant S_ .f32 0x00000000#32
  let v0 : FVec F S4 .f32 := broadcastInDim S4 ![] bcast_S_S4 cst
  let v1 : FVec F S4 .f32 := maximumf arg0 v0
  let v2 : FVec F S4 .f32 := broadcastInDim S4 ![] bcast_S_S4 cst
  let v3 : FVec F S4 .f32 := subf arg0 v2
  let v4 : IVec S4 1 := cmpf .une v3 v3
  let v5 : FVec F S4 .f32 := broadcastInDim S4 ![] bcast_S_S4 cst
  let v6 : FVec F S4 .f32 := addf arg0 v5
  let v7 : FVec F S4 .f32 := Host.absf v3
  let v8 : FVec F S4 .f32 := Host.negf v7
  let v9 : FVec F S4 .f32 := Host.exp v8
  let v10 : FVec F S4 .f32 := Host.log1p v9
  let v11 : FVec F S4 .f32 := addf v1 v10
  let v12 : FVec F S4 .f32 := select v4 v6 v11
  v12

def fn_softplus_0 {F : FTy → Type} [FloatOps F] (arg0 : FVec F S_ .f32) : FVec F S_ .f32 :=
  let cst : FVec F S_ .f32 := constant S_ .f32 0x00000000#32
  let v0 : FVec F S_ .f32 := maximumf arg0 cst
  let v1 : FVec F S_ .f32 := subf arg0 cst
  let v2 : IVec S_ 1 := cmpf .une v1 v1
  let v3 : FVec F S_ .f32 := addf arg0 cst
  let v4 : FVec F S_ .f32 := Host.absf v1
  let v5 : FVec F S_ .f32 := Host.negf v4
  let v6 : FVec F S_ .f32 := Host.exp v5
  let v7 : FVec F S_ .f32 := Host.log1p v6
  let v8 : FVec F S_ .f32 := addf v0 v7
  let v9 : FVec F S_ .f32 := select v2 v3 v8
  v9

def fn_argsort {F : FTy → Type} [FloatOps F] (arg0 : FVec F S1024 .f32) : IVec S1024 32 :=
  let v0 : IVec S1024 32 := iotaInDim S1024 32 0
  let v1_0 : FVec F S1024 .f32 := (fun x y => (Host.sort2 S1024 0 comparator_f32_i32_d0 x y).1) arg0 v0
  let v1_1 : IVec S1024 32 := (fun x y => (Host.sort2 S1024 0 comparator_f32_i32_d0 x y).2) arg0 v0
  v1_1

def fn_norm {F : FTy → Type} [FloatOps F] (arg0 : FVec F S1024x64 .f32) : FVec F S1024 .f32 :=
  let v0 : FVec F S1024x64 .f32 := mulf arg0 arg0
  let cst : FVec F S_ .f32 := constant S_ .f32 0x00000000#32
  let v1 : FVec F S1024 .f32 := (fun x v => Host.reduceAdd x v reducesTo_S1024x64_S1024_d1 h_S_) v0 cst
  let v2 : FVec F S1024 .f32 := Host.sqrt v1
  v2

def fn_norm_1 {F : FTy → Type} [FloatOps F] (arg0 : FVec F S64 .f32) : FVec F S_ .f32 :=
  let v0 : FVec F S64 .f32 := mulf arg0 arg0
  let cst : FVec F S_ .f32 := constant S_ .f32 0x00000000#32
  let v1 : FVec F S_ .f32 := (fun x v => Host.reduceAdd x v reducesTo_S64_S_d0 h_S_) v0 cst
  let v2 : FVec F S_ .f32 := Host.sqrt v1
  v2

def fn_norm_2 {F : FTy → Type} [FloatOps F] (arg0 : FVec F S1024x64 .f32) : FVec F S1024 .f32 :=
  let v0 : FVec F S1024x64 .f32 := mulf arg0 arg0
  let cst : FVec F S_ .f32 := constant S_ .f32 0x00000000#32
  let v1 : FVec F S1024 .f32 := (fun x v => Host.reduceAdd x v reducesTo_S1024x64_S1024_d1 h_S_) v0 cst
  let v2 : FVec F S1024 .f32 := Host.sqrt v1
  v2

def fn_norm_3 {F : FTy → Type} [FloatOps F] (arg0 : FVec F S4x64 .f32) : FVec F S4 .f32 :=
  let v0 : FVec F S4x64 .f32 := mulf arg0 arg0
  let cst : FVec F S_ .f32 := constant S_ .f32 0x00000000#32
  let v1 : FVec F S4 .f32 := (fun x v => Host.reduceAdd x v reducesTo_S4x64_S4_d1 h_S_) v0 cst
  let v2 : FVec F S4 .f32 := Host.sqrt v1
  v2

def fn_advance_part13 {F : FTy → Type} [FloatOps F] (arg8 : IVec S1024 1) (arg13 : FVec F S512x128 .f32) (arg14 : FVec F S256x128 .f32) (v22 : FVec F S512 .f32) (v30 : FVec F S512 .f32) (v82 : FVec F S4x3 .f32) (v102 : FVec F S1024 .f32) (v192 : FVec F S1024 .f32) (v206 : FVec F S1024x64 .f32) (v211 : FVec F S1024 .f32) (v225 : FVec F S1024x1024 .f32) (v226 : FVec F S4x1024 .f32) (v261 : FVec F S4x1024 .f32) : FVec F S512 .f32 × FVec F S512 .f32 × FVec F S1024x64 .f32 × FVec F S1024 .f32 × FVec F S1024 .f32 × FVec F S1024x1024 .f32 × FVec F S1024 .f32 × FVec F S4x1024 .f32 × IVec S1024 1 :=
  let v262 : FVec F S4x1 .f32 := (extractStridedSlice S4x1 ![0, 2] · slices_S4x3_S4x1_0_2) v82
  let v263 : FVec F S4x1024 .f32 := broadcastInDim S4x1024 ![0, 1] bcast_S4x1_S4x1024_0_1 v262
  let v264 : FVec F S4x1024 .f32 := mulf v263 v226
  let v265 : FVec F S4x1024 .f32 := addf v261 v264
  let v266 : FVec F S4x64 .f32 := (fun l r => Host.dotGeneral dot_S4x1024_S1024x64_S4x64_1_0_0_1_n_n none l r) v265 v206
  let v267 : FVec F S256 .f32 := shapeCast S256 v266 shapeCasts_S4x64_S256
  let v268 : FVec F S128 .f32 := (fun l r => Host.dotGeneral dot_S512_S512x128_S128_0_0_n_1_n_n none l r) v30 arg13
  let v269 : FVec F S128 .f32 := (fun l r => Host.dotGeneral dot_S256_S256x128_S128_0_0_n_1_n_n none l r) v267 arg14
  let v270 : FVec F S128 .f32 := addf v268 v269
  let cst_48 : FVec F S_ .f32 := constant S_ .f32 0x00000000#32
  let v271 : FVec F S1024 .f32 := broadcastInDim S1024 ![] bcast_S_S1024 cst_48
  let v272 : IVec S1024 1 := cmpf .oge v102 v271
  let v273 : IVec S1024 1 := andi arg8 v272
  (v30, v22, v206, v102, v192, v225, v211, v265, v273)

def fn_advance_part12 {F : FTy → Type} [FloatOps F] (arg8 : IVec S1024 1) (arg13 : FVec F S512x128 .f32) (arg14 : FVec F S256x128 .f32) (v22 : FVec F S512 .f32) (v30 : FVec F S512 .f32) (v37 : FVec F S4 .f32) (v82 : FVec F S4x3 .f32) (v102 : FVec F S1024 .f32) (v192 : FVec F S1024 .f32) (v206 : FVec F S1024x64 .f32) (v211 : FVec F S1024 .f32) (v225 : FVec F S1024x1024 .f32) (v226 : FVec F S4x1024 .f32) (v228 : FVec F S4x1024 .f32) (v240 : FVec F S4x1024 .f32) : FVec F S512 .f32 × FVec F S512 .f32 × FVec F S1024x64 .f32 × FVec F S1024 .f32 × FVec F S1024 .f32 × FVec F S1024x1024 .f32 × FVec F S1024 .f32 × FVec F S4x1024 .f32 × IVec S1024 1 :=
  let v241 : FVec F S4x1 .f32 := broadcastInDim S4x1 ![0] bcast_S4_S4x1_0 v37
  let v242 : FVec F S4x1024 .f32 := broadcastInDim S4x1024 ![0, 1] bcast_S4x1_S4x1024_0_1 v241
  let v243 : FVec F S4x1024 .f32 := mulf v242 v240
  let cst_45 : FVec F S_ .f32 := constant S_ .f32 0xFF800000#32
  let v244 : FVec F S4 .f32 := (fun x v => Host.reduce FloatOps.maximumf x v reducesTo_S4x1024_S4_d1 h_S_) v243 cst_45
  let cst_46 : FVec F S_ .f32 := constant S_ .f32 0xFF800000#32
  let v245 : FVec F S4 .f32 := broadcastInDim S4 ![] bcast_S_S4 cst_46
  let v246 : FVec F S4 .f32 := maximumf v245 v244
  let v247 : FVec F S4x1 .f32 := broadcastInDim S4x1 ![0] bcast_S4_S4x1_0 v246
  let v248 : FVec F S4x1024 .f32 := broadcastInDim S4x1024 ![0, 1] bcast_S4x1_S4x1024_0_1 v247
  let v249 : FVec F S4x1024 .f32 := subf v243 v248
  let v250 : FVec F S4x1024 .f32 := Host.exp v249
  let cst_47 : FVec F S_ .f32 := constant S_ .f32 0x00000000#32
  let v251 : FVec F S4 .f32 := (fun x v => Host.reduceAdd x v reducesTo_S4x1024_S4_d1 h_S_) v250 cst_47
  let v252 : FVec F S4x1 .f32 := broadcastInDim S4x1 ![0] bcast_S4_S4x1_0 v251
  let v253 : FVec F S4x1024 .f32 := broadcastInDim S4x1024 ![0, 1] bcast_S4x1_S4x1024_0_1 v252
  let v254 : FVec F S4x1024 .f32 := Host.divf v250 v253
  let v255 : FVec F S4x1 .f32 := (extractStridedSlice S4x1 ![0, 0] · slices_S4x3_S4x1_0_0) v82
  let v256 : FVec F S4x1024 .f32 := broadcastInDim S4x1024 ![0, 1] bcast_S4x1_S4x1024_0_1 v255
  let v257 : FVec F S4x1024 .f32 := mulf v256 v228
  let v258 : FVec F S4x1 .f32 := (extractStridedSlice S4x1 ![0, 1] · slices_S4x3_S4x1_0_1) v82
  let v259 : FVec F S4x1024 .f32 := broadcastInDim S4x1024 ![0, 1] bcast_S4x1_S4x1024_0_1 v258
  let v260 : FVec F S4x1024 .f32 := mulf v259 v254
  let v261 : FVec F S4x1024 .f32 := addf v257 v260
  fn_advance_part13 (F := F) arg8 arg13 arg14 v22 v30 v82 v102 v192 v206 v211 v225 v226 v261

def fn_advance_part11 {F : FTy → Type} [FloatOps F] (arg5 : FVec F S1024x1024 .f32) (arg7 : FVec F S4x1024 .f32) (arg8 : IVec S1024 1) (arg13 : FVec F S512x128 .f32) (arg14 : FVec F S256x128 .f32) (v22 : FVec F S512 .f32) (v30 : FVec F S512 .f32) (v33 : FVec F S4x64 .f32) (v37 : FVec F S4 .f32) (v82 : FVec F S4x3 .f32) (v102 : FVec F S1024 .f32) (v192 : FVec F S1024 .f32) (v206 : FVec F S1024x64 .f32) (v211 : FVec F S1024 .f32) (v216 : FVec F S1024x1024 .f32) (v217 : FVec F S1024x1024 .f32) : FVec F S512 .f32 × FVec F S512 .f32 × FVec F S1024x64 .f32 × FVec F S1024 .f32 × FVec F S1024 .f32 × FVec F S1024x1024 .f32 × FVec F S1024 .f32 × FVec F S4x1024 .f32 × IVec S1024 1 :=
  let v218 : FVec F S1024x1024 .f32 := subf v216 v217
  let v219 : FVec F S1024x1024 .f32 := mulf arg5 v218
  let v220 : FVec F S1024x1 .f32 := broadcastInDim S1024x1 ![0] bcast_S1024_S1024x1_0 v192
  let v221 : FVec F S1x1024 .f32 := broadcastInDim S1x1024 ![1] bcast_S1024_S1x1024_1 v211
  let v222 : FVec F S1024x1024 .f32 := broadcastInDim S1024x1024 ![0, 1] bcast_S1024x1_S1024x1024_0_1 v220
  let v223 : FVec F S1024x1024 .f32 := broadcastInDim S1024x1024 ![0, 1] bcast_S1x1024_S1024x1024_0_1 v221
  let v224 : FVec F S1024x1024 .f32 := mulf v222 v223
  let v225 : FVec F S1024x1024 .f32 := addf v219 v224
  let v226 : FVec F S4x1024 .f32 := (fun l r => Host.dotGeneral dot_S4x1024_S1024x1024_S4x1024_1_0_0_1_n_n none l r) arg7 v225
  let v227 : FVec F S1024x1024 .f32 := (transpose S1024x1024 [1, 0] · transposes_S1024x1024_S1024x1024_1_0) v225
  let v228 : FVec F S4x1024 .f32 := (fun l r => Host.dotGeneral dot_S4x1024_S1024x1024_S4x1024_1_0_0_1_n_n none l r) arg7 v227
  let v229 : FVec F S1024x4 .f32 := (fun l r => Host.dotGeneral dot_S1024x64_S4x64_S1024x4_1_1_0_0_n_n none l r) v206 v33
  let v230 : FVec F S1024 .f32 := fn_norm_2 (F := F) v206
  let v231 : FVec F S4 .f32 := fn_norm_3 (F := F) v33
  let v232 : FVec F S1x1024 .f32 := broadcastInDim S1x1024 ![1] bcast_S1024_S1x1024_1 v230
  let v233 : FVec F S4x1 .f32 := broadcastInDim S4x1 ![0] bcast_S4_S4x1_0 v231
  let v234 : FVec F S4x1024 .f32 := broadcastInDim S4x1024 ![0, 1] bcast_S1x1024_S4x1024_0_1 v232
  let v235 : FVec F S4x1024 .f32 := broadcastInDim S4x1024 ![0, 1] bcast_S4x1_S4x1024_0_1 v233
  let v236 : FVec F S4x1024 .f32 := mulf v234 v235
  let cst_44 : FVec F S_ .f32 := constant S_ .f32 0x322BCC77#32
  let v237 : FVec F S4x1024 .f32 := broadcastInDim S4x1024 ![] bcast_S_S4x1024 cst_44
  let v238 : FVec F S4x1024 .f32 := addf v236 v237
  let v239 : FVec F S4x1024 .f32 := (transpose S4x1024 [1, 0] · transposes_S1024x4_S4x1024_1_0) v229
  let v240 : FVec F S4x1024 .f32 := Host.divf v239 v238
  fn_advance_part12 (F := F) arg8 arg13 arg14 v22 v30 v37 v82 v102 v192 v206 v211 v225 v226 v228 v240

def fn_advance_part10 {F : FTy → Type} [FloatOps F] (arg2 : FVec F S1024x64 .f32) (arg5 : FVec F S1024x1024 .f32) (arg6 : FVec F S1024 .f32) (arg7 : FVec F S4x1024 .f32) (arg8 : IVec S1024 1) (arg13 : FVec F S512x128 .f32) (arg14 : FVec F S256x128 .f32) (v22 : FVec F S512 .f32) (v30 : FVec F S512 .f32) (v33 : FVec F S4x64 .f32) (v37 : FVec F S4 .f32) (v50 : FVec F S64 .f32) (v82 : FVec F S4x3 .f32) (v102 : FVec F S1024 .f32) (v192 : FVec F S1024 .f32) (v197 : FVec F S1024x64 .f32) : FVec F S512 .f32 × FVec F S512 .f32 × FVec F S1024x64 .f32 × FVec F S1024 .f32 × FVec F S1024 .f32 × FVec F S1024x1024 .f32 × FVec F S1024 .f32 × FVec F S4x1024 .f32 × IVec S1024 1 :=
  let cst_40 : FVec F S_ .f32 := constant S_ .f32 0x3F800000#32
  let v198 : FVec F S1024x64 .f32 := broadcastInDim S1024x64 ![] bcast_S_S1024x64 cst_40
  let v199 : FVec F S1024x64 .f32 := subf v198 v197
  let v200 : FVec F S1024x64 .f32 := mulf arg2 v199
  let v201 : FVec F S1024x1 .f32 := broadcastInDim S1024x1 ![0] bcast_S1024_S1024x1_0 v192
  let v202 : FVec F S1x64 .f32 := broadcastInDim S1x64 ![1] bcast_S64_S1x64_1 v50
  let v203 : FVec F S1024x64 .f32 := broadcastInDim S1024x64 ![0, 1] bcast_S1024x1_S1024x64_0_1 v201
  let v204 : FVec F S1024x64 .f32 := broadcastInDim S1024x64 ![0, 1] bcast_S1x64_S1024x64_0_1 v202
  let v205 : FVec F S1024x64 .f32 := mulf v203 v204
  let v206 : FVec F S1024x64 .f32 := addf v200 v205
  let cst_41 : FVec F S_ .f32 := constant S_ .f32 0x00000000#32
  let v207 : FVec F S_ .f32 := (fun x v => Host.reduceAdd x v reducesTo_S1024_S_d0 h_S_) v192 cst_41
  let cst_42 : FVec F S_ .f32 := constant S_ .f32 0x3F800000#32
  let v208 : FVec F S_ .f32 := subf cst_42 v207
  let v209 : FVec F S1024 .f32 := broadcastInDim S1024 ![] bcast_S_S1024 v208
  let v210 : FVec F S1024 .f32 := mulf arg6 v209
  let v211 : FVec F S1024 .f32 := addf v210 v192
  let v212 : FVec F S1024x1 .f32 := broadcastInDim S1024x1 ![0] bcast_S1024_S1024x1_0 v192
  let cst_43 : FVec F S_ .f32 := constant S_ .f32 0x3F800000#32
  let v213 : FVec F S1024x1 .f32 := broadcastInDim S1024x1 ![] bcast_S_S1024x1 cst_43
  let v214 : FVec F S1024x1 .f32 := subf v213 v212
  let v215 : FVec F S1x1024 .f32 := broadcastInDim S1x1024 ![1] bcast_S1024_S1x1024_1 v192
  let v216 : FVec F S1024x1024 .f32 := broadcastInDim S1024x1024 ![0, 1] bcast_S1024x1_S1024x1024_0_1 v214
  let v217 : FVec F S1024x1024 .f32 := broadcastInDim S1024x1024 ![0, 1] bcast_S1x1024_S1024x1024_0_1 v215
  fn_advance_part11 (F := F) arg5 arg7 arg8 arg13 arg14 v22 v30 v33 v37 v82 v102 v192 v206 v211 v216 v217

def fn_advance_part9 {F : FTy → Type} [FloatOps F] (arg2 : FVec F S1024x64 .f32) (arg5 : FVec F S1024x1024 .f32) (arg6 : FVec F S1024 .f32) (arg7 : FVec F S4x1024 .f32) (arg8 : IVec S1024 1) (arg13 : FVec F S512x128 .f32) (arg14 : FVec F S256x128 .f32) (v22 : FVec F S512 .f32) (v30 : FVec F S512 .f32) (v33 : FVec F S4x64 .f32) (v37 : FVec F S4 .f32) (v49 : FVec F S64 .f32) (v50 : FVec F S64 .f32) (v63 : FVec F S_ .f32) (v69 : FVec F S_ .f32) (v82 : FVec F S4x3 .f32) (v102 : FVec F S1024 .f32) (v164 : FVec F S1024 .f32) (v174 : FVec F S1024 .f32) (v175 : FVec F S_ .f32) (cst_37 : FVec F S_ .f32) : FVec F S512 .f32 × FVec F S512 .f32 × FVec F S1024x64 .f32 × FVec F S1024 .f32 × FVec F S1024 .f32 × FVec F S1024x1024 .f32 × FVec F S1024 .f32 × FVec F S4x1024 .f32 × IVec S1024 1 :=
  let v176 : FVec F S_ .f32 := maximumf cst_37 v175
  let v177 : FVec F S1 .f32 := broadcastInDim S1 ![] bcast_S_S1 v176
  let v178 : FVec F S1024 .f32 := broadcastInDim S1024 ![0] bcast_S1_S1024_0 v177
  let v179 : FVec F S1024 .f32 := subf v174 v178
  let v180 : FVec F S1024 .f32 := Host.exp v179
  let cst_38 : FVec F S_ .f32 := constant S_ .f32 0x00000000#32
  let v181 : FVec F S_ .f32 := (fun x v => Host.reduceAdd x v reducesTo_S1024_S_d0 h_S_) v180 cst_38
  let v182 : FVec F S1 .f32 := broadcastInDim S1 ![] bcast_S_S1 v181
  let v183 : FVec F S1024 .f32 := broadcastInDim S1024 ![0] bcast_S1_S1024_0 v182
  let v184 : FVec F S1024 .f32 := Host.divf v180 v183
  let v185 : FVec F S1024 .f32 := broadcastInDim S1024 ![] bcast_S_S1024 v63
  let v186 : FVec F S1024 .f32 := mulf v185 v164
  let cst_39 : FVec F S_ .f32 := constant S_ .f32 0x3F800000#32
  let v187 : FVec F S_ .f32 := subf cst_39 v63
  let v188 : FVec F S1024 .f32 := broadcastInDim S1024 ![] bcast_S_S1024 v187
  let v189 : FVec F S1024 .f32 := mulf v188 v184
  let v190 : FVec F S1024 .f32 := addf v186 v189
  let v191 : FVec F S1024 .f32 := broadcastInDim S1024 ![] bcast_S_S1024 v69
  let v192 : FVec F S1024 .f32 := mulf v191 v190
  let v193 : FVec F S1024x1 .f32 := broadcastInDim S1024x1 ![0] bcast_S1024_S1024x1_0 v192
  let v194 : FVec F S1x64 .f32 := broadcastInDim S1x64 ![1] bcast_S64_S1x64_1 v49
  let v195 : FVec F S1024x64 .f32 := broadcastInDim S1024x64 ![0, 1] bcast_S1024x1_S1024x64_0_1 v193
  let v196 : FVec F S1024x64 .f32 := broadcastInDim S1024x64 ![0, 1] bcast_S1x64_S1024x64_0_1 v194
  let v197 : FVec F S1024x64 .f32 := mulf v195 v196
  fn_advance_part10 (F := F) arg2 arg5 arg6 arg7 arg8 arg13 arg14 v22 v30 v33 v37 v50 v82 v102 v192 v197

def fn_advance_part8 {F : FTy → Type} [FloatOps F] (arg2 : FVec F S1024x64 .f32) (arg5 : FVec F S1024x1024 .f32) (arg6 : FVec F S1024 .f32) (arg7 : FVec F S4x1024 .f32) (arg8 : IVec S1024 1) (arg13 : FVec F S512x128 .f32) (arg14 : FVec F S256x128 .f32) (v22 : FVec F S512 .f32) (v30 : FVec F S512 .f32) (v33 : FVec F S4x64 .f32) (v37 : FVec F S4 .f32) (v38 : FVec F S64 .f32) (v42 : FVec F S_ .f32) (v49 : FVec F S64 .f32) (v50 : FVec F S64 .f32) (v63 : FVec F S_ .f32) (v69 : FVec F S_ .f32) (v82 : FVec F S4x3 .f32) (v102 : FVec F S1024 .f32) (v103 : IVec S1024 32) (v153 : FVec F S1024 .f32) (v154 : FVec F S1024 .f32) (v156 : FVec F S1024 .f32) : FVec F S512 .f32 × FVec F S512 .f32 × FVec F S1024x64 .f32 × FVec F S1024 .f32 × FVec F S1024 .f32 × FVec F S1024x1024 .f32 × FVec F S1024 .f32 × FVec F S4x1024 .f32 × IVec S1024 1 :=
  let v157 : FVec F S1024 .f32 := mulf v156 v153
  let c_33 : IVec S_ 32 := constantI S_ 32 0#32
  let v158 : IVec S1024 32 := broadcastInDim S1024 ![] bcast_S_S1024 c_33
  let v159 : IVec S1024 1 := cmpi .slt v103 v158
  let c_34 : IVec S_ 32 := constantI S_ 32 1024#32
  let v160 : IVec S1024 32 := broadcastInDim S1024 ![] bcast_S_S1024 c_34
  let v161 : IVec S1024 32 := addi v103 v160
  let v162 : IVec S1024 32 := select v159 v161 v103
  let v163 : IVec S1024x1 32 := broadcastInDim S1024x1 ![0] bcast_S1024_S1024x1_0 v162
  let v164 : FVec F S1024 .f32 := (fun x i u => Host.scatter scatter_S1024_S1024x1_S1024_n_0_0_1 (fun _ b => b) x i u) v154 v163 v157
  let v165 : FVec F S1024 .f32 := (fun l r => Host.dotGeneral dot_S1024x64_S64_S1024_1_0_0_n_n_n none l r) arg2 v38
  let v166 : FVec F S1024 .f32 := fn_norm (F := F) arg2
  let v167 : FVec F S_ .f32 := fn_norm_1 (F := F) v38
  let v168 : FVec F S1024 .f32 := broadcastInDim S1024 ![] bcast_S_S1024 v167
  let v169 : FVec F S1024 .f32 := mulf v166 v168
  let cst_35 : FVec F S_ .f32 := constant S_ .f32 0x322BCC77#32
  let v170 : FVec F S1024 .f32 := broadcastInDim S1024 ![] bcast_S_S1024 cst_35
  let v171 : FVec F S1024 .f32 := addf v169 v170
  let v172 : FVec F S1024 .f32 := Host.divf v165 v171
  let v173 : FVec F S1024 .f32 := broadcastInDim S1024 ![] bcast_S_S1024 v42
  let v174 : FVec F S1024 .f32 := mulf v173 v172
  let cst_36 : FVec F S_ .f32 := constant S_ .f32 0xFF800000#32
  let v175 : FVec F S_ .f32 := (fun x v => Host.reduce FloatOps.maximumf x v reducesTo_S1024_S_d0 h_S_) v174 cst_36
  let cst_37 : FVec F S_ .f32 := constant S_ .f32 0xFF800000#32
  fn_advance_part9 (F := F) arg2 arg5 arg6 arg7 arg8 arg13 arg14 v22 v30 v33 v37 v49 v50 v63 v69 v82 v102 v164 v174 v175 cst_37

def fn_advance_part7 {F : FTy → Type} [FloatOps F] (arg2 : FVec F S1024x64 .f32) (arg5 : FVec F S1024x1024 .f32) (arg6 : FVec F S1024 .f32) (arg7 : FVec F S4x1024 .f32) (arg8 : IVec S1024 1) (arg13 : FVec F S512x128 .f32) (arg14 : FVec F S256x128 .f32) (v22 : FVec F S512 .f32) (v30 : FVec F S512 .f32) (v33 : FVec F S4x64 .f32) (v37 : FVec F S4 .f32) (v38 : FVec F S64 .f32) (v42 : FVec F S_ .f32) (v49 : FVec F S64 .f32) (v50 : FVec F S64 .f32) (v63 : FVec F S_ .f32) (v69 : FVec F S_ .f32) (v82 : FVec F S4x3 .f32) (v102 : FVec F S1024 .f32) (v103 : IVec S1024 32) (v110 : FVec F S1024 .f32) (v111 : FVec F S1 .f32) (v135 : FVec F S1024 .f32) (v136 : FVec F S64 .f32) (v137 : FVec F S960 .f32) : FVec F S512 .f32 × FVec F S512 .f32 × FVec F S1024x64 .f32 × FVec F S1024 .f32 × FVec F S1024 .f32 × FVec F S1024x1024 .f32 × FVec F S1024 .f32 × FVec F S4x1024 .f32 × IVec S1024 1 :=
  let v138 : FVec F S1024 .f32 := (fun a b => concatenate S1024 0 [⟨S64, a⟩, ⟨S960, b⟩] concatenates_S64_S960_S1024_d0) v136 v137
  let v139 : FVec F S1024 .f32 := mulf v135 v138
  let cst_28 : FVec F S_ .f32 := constant S_ .f32 0x3F800000#32
  let v140 : FVec F S128 .f32 := broadcastInDim S128 ![] bcast_S_S128 cst_28
  let v141 : FVec F S896 .f32 := (extractStridedSlice S896 ![0] · slices_S1024_S896_0) v139
  let v142 : FVec F S1024 .f32 := (fun a b => concatenate S1024 0 [⟨S128, a⟩, ⟨S896, b⟩] concatenates_S128_S896_S1024_d0) v140 v141
  let v143 : FVec F S1024 .f32 := mulf v139 v142
  let cst_29 : FVec F S_ .f32 := constant S_ .f32 0x3F800000#32
  let v144 : FVec F S256 .f32 := broadcastInDim S256 ![] bcast_S_S256 cst_29
  let v145 : FVec F S768 .f32 := (extractStridedSlice S768 ![0] · slices_S1024_S768_0) v143
  let v146 : FVec F S1024 .f32 := (fun a b => concatenate S1024 0 [⟨S256, a⟩, ⟨S768, b⟩] concatenates_S256_S768_S1024_d0) v144 v145
  let v147 : FVec F S1024 .f32 := mulf v143 v146
  let cst_30 : FVec F S_ .f32 := constant S_ .f32 0x3F800000#32
  let v148 : FVec F S512 .f32 := broadcastInDim S512 ![] bcast_S_S512 cst_30
  let v149 : FVec F S512 .f32 := (extractStridedSlice S512 ![0] · slices_S1024_S512_0) v147
  let v150 : FVec F S1024 .f32 := (fun a b => concatenate S1024 0 [⟨S512, a⟩, ⟨S512, b⟩] concatenates_S512_S512_S1024_d0) v148 v149
  let v151 : FVec F S1024 .f32 := mulf v147 v150
  let v152 : FVec F S1023 .f32 := (extractStridedSlice S1023 ![0] · slices_S1024_S1023_0) v151
  let v153 : FVec F S1024 .f32 := (fun a b => concatenate S1024 0 [⟨S1, a⟩, ⟨S1023, b⟩] concatenates_S1_S1023_S1024_d0) v111 v152
  let cst_31 : FVec F S_ .f32 := constant S_ .f32 0x00000000#32
  let v154 : FVec F S1024 .f32 := broadcastInDim S1024 ![] bcast_S_S1024 cst_31
  let cst_32 : FVec F S_ .f32 := constant S_ .f32 0x3F800000#32
  let v155 : FVec F S1024 .f32 := broadcastInDim S1024 ![] bcast_S_S1024 cst_32
  let v156 : FVec F S1024 .f32 := subf v155 v110
  fn_advance_part8 (F := F) arg2 arg5 arg6 arg7 arg8 arg13 arg14 v22 v30 v33 v37 v38 v42 v49 v50 v63 v69 v82 v102 v103 v153 v154 v156

def fn_advance_part6 {F : FTy → Type} [FloatOps F] (arg2 : FVec F S1024x64 .f32) (arg5 : FVec F S1024x1024 .f32) (arg6 : FVec F S1024 .f32) (arg7 : FVec F S4x1024 .f32) (arg8 : IVec S1024 1) (arg13 : FVec F S512x128 .f32) (arg14 : FVec F S256x128 .f32) (v22 : FVec F S512 .f32) (v30 : FVec F S512 .f32) (v33 : FVec F S4x64 .f32) (v37 : FVec F S4 .f32) (v38 : FVec F S64 .f32) (v42 : FVec F S_ .f32) (v49 : FVec F S64 .f32) (v50 : FVec F S64 .f32) (v63 : FVec F S_ .f32) (v69 : FVec F S_ .f32) (v82 : FVec F S4x3 .f32) (v102 : FVec F S1024 .f32) (v103 : IVec S1024 32) (v110 : FVec F S1024 .f32) (v111 : FVec F S1 .f32) (v115 : FVec F S1024 .f32) (v118 : FVec F S1024 .f32) : FVec F S512 .f32 × FVec F S512 .f32 × FVec F S1024x64 .f32 × FVec F S1024 .f32 × FVec F S1024 .f32 × FVec F S1024x1024 .f32 × FVec F S1024 .f32 × FVec F S4x1024 .f32 × IVec S1024 1 :=
  let v119 : FVec F S1024 .f32 := mulf v115 v118
  let cst_23 : FVec F S_ .f32 := constant S_ .f32 0x3F800000#32
  let v120 : FVec F S4 .f32 := broadcastInDim S4 ![] bcast_S_S4 cst_23
  let v121 : FVec F S1020 .f32 := (extractStridedSlice S1020 ![0] · slices_S1024_S1020_0) v119
  let v122 : FVec F S1024 .f32 := (fun a b => concatenate S1024 0 [⟨S4, a⟩, ⟨S1020, b⟩] concatenates_S4_S1020_S1024_d0) v120 v121
  let v123 : FVec F S1024 .f32 := mulf v119 v122
  let cst_24 : FVec F S_ .f32 := constant S_ .f32 0x3F800000#32
  let v124 : FVec F S8 .f32 := broadcastInDim S8 ![] bcast_S_S8 cst_24
  let v125 : FVec F S1016 .f32 := (extractStridedSlice S1016 ![0] · slices_S1024_S1016_0) v123
  let v126 : FVec F S1024 .f32 := (fun a b => concatenate S1024 0 [⟨S8, a⟩, ⟨S1016, b⟩] concatenates_S8_S1016_S1024_d0) v124 v125
  let v127 : FVec F S1024 .f32 := mulf v123 v126
  let cst_25 : FVec F S_ .f32 := constant S_ .f32 0x3F800000#32
  let v128 : FVec F S16 .f32 := broadcastInDim S16 ![] bcast_S_S16 cst_25
  let v129 : FVec F S1008 .f32 := (extractStridedSlice S1008 ![0] · slices_S1024_S1008_0) v127
  let v130 : FVec F S1024 .f32 := (fun a b => concatenate S1024 0 [⟨S16, a⟩, ⟨S1008, b⟩] concatenates_S16_S1008_S1024_d0) v128 v129
  let v131 : FVec F S1024 .f32 := mulf v127 v130
  let cst_26 : FVec F S_ .f32 := constant S_ .f32 0x3F800000#32
  let v132 : FVec F S32 .f32 := broadcastInDim S32 ![] bcast_S_S32 cst_26
  let v133 : FVec F S992 .f32 := (extractStridedSlice S992 ![0] · slices_S1024_S992_0) v131
  let v134 : FVec F S1024 .f32 := (fun a b => concatenate S1024 0 [⟨S32, a⟩, ⟨S992, b⟩] concatenates_S32_S992_S1024_d0) v132 v133
  let v135 : FVec F S1024 .f32 := mulf v131 v134
  let cst_27 : FVec F S_ .f32 := constant S_ .f32 0x3F800000#32
  let v136 : FVec F S64 .f32 := broadcastInDim S64 ![] bcast_S_S64 cst_27
  let v137 : FVec F S960 .f32 := (extractStridedSlice S960 ![0] · slices_S1024_S960_0) v135
  fn_advance_part7 (F := F) arg2 arg5 arg6 arg7 arg8 arg13 arg14 v22 v30 v33 v37 v38 v42 v49 v50 v63 v69 v82 v102 v103 v110 v111 v135 v136 v137

def fn_advance_part5 {F : FTy → Type} [FloatOps F] (arg2 : FVec F S1024x64 .f32) (arg3 : FVec F S1024 .f32) (arg4 : FVec F S1024 .f32) (arg5 : FVec F S1024x1024 .f32) (arg6 : FVec F S1024 .f32) (arg7 : FVec F S4x1024 .f32) (arg8 : IVec S1024 1) (arg13 : FVec F S512x128 .f32) (arg14 : FVec F S256x128 .f32) (v22 : FVec F S512 .f32) (v30 : FVec F S512 .f32) (v33 : FVec F S4x64 .f32) (v37 : FVec F S4 .f32) (v38 : FVec F S64 .f32) (v42 : FVec F S_ .f32) (v49 : FVec F S64 .f32) (v50 : FVec F S64 .f32) (v63 : FVec F S_ .f32) (v69 : FVec F S_ .f32) (v82 : FVec F S4x3 .f32) (v98 : FVec F S1024 .f32) (v99 : FVec F S1024 .f32) : FVec F S512 .f32 × FVec F S512 .f32 × FVec F S1024x64 .f32 × FVec F S1024 .f32 × FVec F S1024 .f32 × FVec F S1024x1024 .f32 × FVec F S1024 .f32 × FVec F S4x1024 .f32 × IVec S1024 1 :=
  let v100 : FVec F S1024 .f32 := mulf arg3 arg4
  let v101 : FVec F S1024 .f32 := subf v99 v100
  let v102 : FVec F S1024 .f32 := mulf v98 v101
  let v103 : IVec S1024 32 := fn_argsort (F := F) v102
  let c : IVec S_ 32 := constantI S_ 32 0#32
  let v104 : IVec S1024 32 := broadcastInDim S1024 ![] bcast_S_S1024 c
  let v105 : IVec S1024 1 := cmpi .slt v103 v104
  let c_19 : IVec S_ 32 := constantI S_ 32 1024#32
  let v106 : IVec S1024 32 := broadcastInDim S1024 ![] bcast_S_S1024 c_19
  let v107 : IVec S1024 32 := addi v103 v106
  let v108 : IVec S1024 32 := select v105 v107 v103
  let v109 : IVec S1024x1 32 := broadcastInDim S1024x1 ![0] bcast_S1024_S1024x1_0 v108
  let v110 : FVec F S1024 .f32 := (fun x i => Host.gather gather_S1024_S1024x1_S1024_n_0_n_n_0_1_1 x i) v102 v109
  let cst_20 : FVec F S_ .f32 := constant S_ .f32 0x3F800000#32
  let v111 : FVec F S1 .f32 := broadcastInDim S1 ![] bcast_S_S1 cst_20
  let cst_21 : FVec F S_ .f32 := constant S_ .f32 0x3F800000#32
  let v112 : FVec F S1 .f32 := broadcastInDim S1 ![] bcast_S_S1 cst_21
  let v113 : FVec F S1023 .f32 := (extractStridedSlice S1023 ![0] · slices_S1024_S1023_0) v110
  let v114 : FVec F S1024 .f32 := (fun a b => concatenate S1024 0 [⟨S1, a⟩, ⟨S1023, b⟩] concatenates_S1_S1023_S1024_d0) v112 v113
  let v115 : FVec F S1024 .f32 := mulf v110 v114
  let cst_22 : FVec F S_ .f32 := constant S_ .f32 0x3F800000#32
  let v116 : FVec F S2 .f32 := broadcastInDim S2 ![] bcast_S_S2 cst_22
  let v117 : FVec F S1022 .f32 := (extractStridedSlice S1022 ![0] · slices_S1024_S1022_0) v115
  let v118 : FVec F S1024 .f32 := (fun a b => concatenate S1024 0 [⟨S2, a⟩, ⟨S1022, b⟩] concatenates_S2_S1022_S1024_d0) v116 v117
  fn_advance_part6 (F := F) arg2 arg5 arg6 arg7 arg8 arg13 arg14 v22 v30 v33 v37 v38 v42 v49 v50 v63 v69 v82 v102 v103 v110 v111 v115 v118

def fn_advance_part4 {F : FTy → Type} [FloatOps F] (arg2 : FVec F S1024x64 .f32) (arg3 : FVec F S1024 .f32) (arg4 : FVec F S1024 .f32) (arg5 : FVec F S1024x1024 .f32) (arg6 : FVec F S1024 .f32) (arg7 : FVec F S4x1024 .f32) (arg8 : IVec S1024 1) (arg13 : FVec F S512x128 .f32) (arg14 : FVec F S256x128 .f32) (v22 : FVec F S512 .f32) (v30 : FVec F S512 .f32) (v33 : FVec F S4x64 .f32) (v37 : FVec F S4 .f32) (v38 : FVec F S64 .f32) (v42 : FVec F S_ .f32) (v49 : FVec F S64 .f32) (v50 : FVec F S64 .f32) (v57 : FVec F S4 .f32) (v63 : FVec F S_ .f32) (v69 : FVec F S_ .f32) (v77 : FVec F S4x3 .f32) : FVec F S512 .f32 × FVec F S512 .f32 × FVec F S1024x64 .f32 × FVec F S1024 .f32 × FVec F S1024 .f32 × FVec F S1024x1024 .f32 × FVec F S1024 .f32 × FVec F S4x1024 .f32 × IVec S1024 1 :=
  let v78 : FVec F S4x3 .f32 := Host.exp v77
  let cst_17 : FVec F S_ .f32 := constant S_ .f32 0x00000000#32
  let v79 : FVec F S4 .f32 := (fun x v => Host.reduceAdd x v reducesTo_S4x3_S4_d1 h_S_) v78 cst_17
  let v80 : FVec F S4x1 .f32 := broadcastInDim S4x1 ![0] bcast_S4_S4x1_0 v79
  let v81 : FVec F S4x3 .f32 := broadcastInDim S4x3 ![0, 1] bcast_S4x1_S4x3_0_1 v80
  let v82 : FVec F S4x3 .f32 := Host.divf v78 v81
  let v83 : FVec F S4x1 .f32 := broadcastInDim S4x1 ![0] bcast_S4_S4x1_0 v57
  let v84 : FVec F S4x1024 .f32 := broadcastInDim S4x1024 ![0, 1] bcast_S4x1_S4x1024_0_1 v83
  let v85 : FVec F S4x1024 .f32 := mulf v84 arg7
  let cst_18 : FVec F S_ .f32 := constant S_ .f32 0x3F800000#32
  let v86 : FVec F S4x1024 .f32 := broadcastInDim S4x1024 ![] bcast_S_S4x1024 cst_18
  let v87 : FVec F S4x1024 .f32 := subf v86 v85
  let v88 : FVec F S1x1024 .f32 := (extractStridedSlice S1x1024 ![0, 0] · slices_S4x1024_S1x1024_0_0) v87
  let v89 : FVec F S1024 .f32 := shapeCast S1024 v88 shapeCasts_S1x1024_S1024
  let v90 : FVec F S1x1024 .f32 := (extractStridedSlice S1x1024 ![1, 0] · slices_S4x1024_S1x1024_1_0) v87
  let v91 : FVec F S1024 .f32 := shapeCast S1024 v90 shapeCasts_S1x1024_S1024
  let v92 : FVec F S1024 .f32 := mulf v89 v91
  let v93 : FVec F S1x1024 .f32 := (extractStridedSlice S1x1024 ![2, 0] · slices_S4x1024_S1x1024_2_0) v87
  let v94 : FVec F S1024 .f32 := shapeCast S1024 v93 shapeCasts_S1x1024_S1024
  let v95 : FVec F S1024 .f32 := mulf v92 v94
  let v96 : FVec F S1x1024 .f32 := (extractStridedSlice S1x1024 ![3, 0] · slices_S4x1024_S1x1024_3_0) v87
  let v97 : FVec F S1024 .f32 := shapeCast S1024 v96 shapeCasts_S1x1024_S1024
  let v98 : FVec F S1024 .f32 := mulf v95 v97
  let v99 : FVec F S1024 .f32 := addf arg3 arg4
  fn_advance_part5 (F := F) arg2 arg3 arg4 arg5 arg6 arg7 arg8 arg13 arg14 v22 v30 v33 v37 v38 v42 v49 v50 v63 v69 v82 v98 v99

def fn_advance_part3 {F : FTy → Type} [FloatOps F] (arg2 : FVec F S1024x64 .f32) (arg3 : FVec F S1024 .f32) (arg4 : FVec F S1024 .f32) (arg5 : FVec F S1024x1024 .f32) (arg6 : FVec F S1024 .f32) (arg7 : FVec F S4x1024 .f32) (arg8 : IVec S1024 1) (arg13 : FVec F S512x128 .f32) (arg14 : FVec F S256x128 .f32) (v22 : FVec F S512 .f32) (v30 : FVec F S512 .f32) (v31 : FVec F S471 .f32) (v33 : FVec F S4x64 .f32) (v37 : FVec F S4 .f32) (v38 : FVec F S64 .f32) (v42 : FVec F S_ .f32) (v49 : FVec F S64 .f32) (v50 : FVec F S64 .f32) (v57 : FVec F S4 .f32) (v59 : FVec F S_ .f32) : FVec F S512 .f32 × FVec F S512 .f32 × FVec F S1024x64 .f32 × FVec F S1024 .f32 × FVec F S1024 .f32 × FVec F S1024x1024 .f32 × FVec F S1024 .f32 × FVec F S4x1024 .f32 × IVec S1024 1 :=
  let v60 : FVec F S_ .f32 := Host.negf v59
  let v61 : FVec F S_ .f32 := Host.exp v60
  let cst_11 : FVec F S_ .f32 := constant S_ .f32 0x3F800000#32
  let v62 : FVec F S_ .f32 := addf cst_11 v61
  let cst_12 : FVec F S_ .f32 := constant S_ .f32 0x3F800000#32
  let v63 : FVec F S_ .f32 := Host.divf cst_12 v62
  let v64 : FVec F S1 .f32 := (extractStridedSlice S1 ![458] · slices_S471_S1_458) v31
  let v65 : FVec F S_ .f32 := shapeCast S_ v64 shapeCasts_S1_S_
  let v66 : FVec F S_ .f32 := Host.negf v65
  let v67 : FVec F S_ .f32 := Host.exp v66
  let cst_13 : FVec F S_ .f32 := constant S_ .f32 0x3F800000#32
  let v68 : FVec F S_ .f32 := addf cst_13 v67
  let cst_14 : FVec F S_ .f32 := constant S_ .f32 0x3F800000#32
  let v69 : FVec F S_ .f32 := Host.divf cst_14 v68
  let v70 : FVec F S12 .f32 := (extractStridedSlice S12 ![459] · slices_S471_S12_459) v31
  let v71 : FVec F S4x3 .f32 := shapeCast S4x3 v70 shapeCasts_S12_S4x3
  let cst_15 : FVec F S_ .f32 := constant S_ .f32 0xFF800000#32
  let v72 : FVec F S4 .f32 := (fun x v => Host.reduce FloatOps.maximumf x v reducesTo_S4x3_S4_d1 h_S_) v71 cst_15
  let cst_16 : FVec F S_ .f32 := constant S_ .f32 0xFF800000#32
  let v73 : FVec F S4 .f32 := broadcastInDim S4 ![] bcast_S_S4 cst_16
  let v74 : FVec F S4 .f32 := maximumf v73 v72
  let v75 : FVec F S4x1 .f32 := broadcastInDim S4x1 ![0] bcast_S4_S4x1_0 v74
  let v76 : FVec F S4x3 .f32 := broadcastInDim S4x3 ![0, 1] bcast_S4x1_S4x3_0_1 v75
  let v77 : FVec F S4x3 .f32 := subf v71 v76
  fn_advance_part4 (F := F) arg2 arg3 arg4 arg5 arg6 arg7 arg8 arg13 arg14 v22 v30 v33 v37 v38 v42 v49 v50 v57 v63 v69 v77

def fn_advance_part2 {F : FTy → Type} [FloatOps F] (arg2 : FVec F S1024x64 .f32) (arg3 : FVec F S1024 .f32) (arg4 : FVec F S1024 .f32) (arg5 : FVec F S1024x1024 .f32) (arg6 : FVec F S1024 .f32) (arg7 : FVec F S4x1024 .f32) (arg8 : IVec S1024 1) (arg13 : FVec F S512x128 .f32) (arg14 : FVec F S256x128 .f32) (v22 : FVec F S512 .f32) (v30 : FVec F S512 .f32) (v31 : FVec F S471 .f32) (v33 : FVec F S4x64 .f32) (v37 : FVec F S4 .f32) (v38 : FVec F S64 .f32) (v40 : FVec F S_ .f32) : FVec F S512 .f32 × FVec F S512 .f32 × FVec F S1024x64 .f32 × FVec F S1024 .f32 × FVec F S1024 .f32 × FVec F S1024x1024 .f32 × FVec F S1024 .f32 × FVec F S4x1024 .f32 × IVec S1024 1 :=
  let v41 : FVec F S_ .f32 := fn_softplus_0 (F := F) v40
  let cst_6 : FVec F S_ .f32 := constant S_ .f32 0x3F800000#32
  let v42 : FVec F S_ .f32 := addf cst_6 v41
  let v43 : FVec F S64 .f32 := (extractStridedSlice S64 ![325] · slices_S471_S64_325) v31
  let v44 : FVec F S64 .f32 := Host.negf v43
  let v45 : FVec F S64 .f32 := Host.exp v44
  let cst_7 : FVec F S_ .f32 := constant S_ .f32 0x3F800000#32
  let v46 : FVec F S64 .f32 := broadcastInDim S64 ![] bcast_S_S64 cst_7
  let v47 : FVec F S64 .f32 := addf v46 v45
  let cst_8 : FVec F S_ .f32 := constant S_ .f32 0x3F800000#32
  let v48 : FVec F S64 .f32 := broadcastInDim S64 ![] bcast_S_S64 cst_8
  let v49 : FVec F S64 .f32 := Host.divf v48 v47
  let v50 : FVec F S64 .f32 := (extractStridedSlice S64 ![389] · slices_S471_S64_389) v31
  let v51 : FVec F S4 .f32 := (extractStridedSlice S4 ![453] · slices_S471_S4_453) v31
  let v52 : FVec F S4 .f32 := Host.negf v51
  let v53 : FVec F S4 .f32 := Host.exp v52
  let cst_9 : FVec F S_ .f32 := constant S_ .f32 0x3F800000#32
  let v54 : FVec F S4 .f32 := broadcastInDim S4 ![] bcast_S_S4 cst_9
  let v55 : FVec F S4 .f32 := addf v54 v53
  let cst_10 : FVec F S_ .f32 := constant S_ .f32 0x3F800000#32
  let v56 : FVec F S4 .f32 := broadcastInDim S4 ![] bcast_S_S4 cst_10
  let v57 : FVec F S4 .f32 := Host.divf v56 v55
  let v58 : FVec F S1 .f32 := (extractStridedSlice S1 ![457] · slices_S471_S1_457) v31
  let v59 : FVec F S_ .f32 := shapeCast S_ v58 shapeCasts_S1_S_
  fn_advance_part3 (F := F) arg2 arg3 arg4 arg5 arg6 arg7 arg8 arg13 arg14 v22 v30 v31 v33 v37 v38 v42 v49 v50 v57 v59

def fn_advance_part1 {F : FTy → Type} [FloatOps F] (arg2 : FVec F S1024x64 .f32) (arg3 : FVec F S1024 .f32) (arg4 : FVec F S1024 .f32) (arg5 : FVec F S1024x1024 .f32) (arg6 : FVec F S1024 .f32) (arg7 : FVec F S4x1024 .f32) (arg8 : IVec S1024 1) (arg12 : FVec F S512x471 .f32) (arg13 : FVec F S512x128 .f32) (arg14 : FVec F S256x128 .f32) (v5 : FVec F S512 .f32) (v6 : FVec F S512 .f32) (v13 : FVec F S512 .f32) (v19 : FVec F S512 .f32) : FVec F S512 .f32 × FVec F S512 .f32 × FVec F S1024x64 .f32 × FVec F S1024 .f32 × FVec F S1024 .f32 × FVec F S1024x1024 .f32 × FVec F S1024 .f32 × FVec F S4x1024 .f32 × IVec S1024 1 :=
  let v20 : FVec F S512 .f32 := Host.tanh v5
  let v21 : FVec F S512 .f32 := mulf v19 v20
  let v22 : FVec F S512 .f32 := addf v13 v21
  let v23 : FVec F S512 .f32 := Host.negf v6
  let v24 : FVec F S512 .f32 := Host.exp v23
  let cst_3 : FVec F S_ .f32 := constant S_ .f32 0x3F800000#32
  let v25 : FVec F S512 .f32 := broadcastInDim S512 ![] bcast_S_S512 cst_3
  let v26 : FVec F S512 .f32 := addf v25 v24
  let cst_4 : FVec F S_ .f32 := constant S_ .f32 0x3F800000#32
  let v27 : FVec F S512 .f32 := broadcastInDim S512 ![] bcast_S_S512 cst_4
  let v28 : FVec F S512 .f32 := Host.divf v27 v26
  let v29 : FVec F S512 .f32 := Host.tanh v22
  let v30 : FVec F S512 .f32 := mulf v28 v29
  let v31 : FVec F S471 .f32 := (fun l r => Host.dotGeneral dot_S512_S512x471_S471_0_0_n_1_n_n none l r) v30 arg12
  let v32 : FVec F S256 .f32 := (extractStridedSlice S256 ![0] · slices_S471_S256_0) v31
  let v33 : FVec F S4x64 .f32 := shapeCast S4x64 v32 shapeCasts_S256_S4x64
  let v34 : FVec F S4 .f32 := (extractStridedSlice S4 ![256] · slices_S471_S4_256) v31
  let v35 : FVec F S4 .f32 := fn_softplus (F := F) v34
  let cst_5 : FVec F S_ .f32 := constant S_ .f32 0x3F800000#32
  let v36 : FVec F S4 .f32 := broadcastInDim S4 ![] bcast_S_S4 cst_5
  let v37 : FVec F S4 .f32 := addf v36 v35
  let v38 : FVec F S64 .f32 := (extractStridedSlice S64 ![260] · slices_S471_S64_260) v31
  let v39 : FVec F S1 .f32 := (extractStridedSlice S1 ![324] · slices_S471_S1_324) v31
  let v40 : FVec F S_ .f32 := shapeCast S_ v39 shapeCasts_S1_S_
  fn_advance_part2 (F := F) arg2 arg3 arg4 arg5 arg6 arg7 arg8 arg13 arg14 v22 v30 v31 v33 v37 v38 v40

def fn_advance {F : FTy → Type} [FloatOps F] (arg0 : FVec F S512 .f32) (arg1 : FVec F S512 .f32) (arg2 : FVec F S1024x64 .f32) (arg3 : FVec F S1024 .f32) (arg4 : FVec F S1024 .f32) (arg5 : FVec F S1024x1024 .f32) (arg6 : FVec F S1024 .f32) (arg7 : FVec F S4x1024 .f32) (arg8 : IVec S1024 1) (arg9 : FVec F S512 .f32) (arg10 : FVec F S1024x2048 .f32) (arg11 : FVec F S2048 .f32) (arg12 : FVec F S512x471 .f32) (arg13 : FVec F S512x128 .f32) (arg14 : FVec F S256x128 .f32) : FVec F S512 .f32 × FVec F S512 .f32 × FVec F S1024x64 .f32 × FVec F S1024 .f32 × FVec F S1024 .f32 × FVec F S1024x1024 .f32 × FVec F S1024 .f32 × FVec F S4x1024 .f32 × IVec S1024 1 :=
  let v0 : FVec F S1024 .f32 := (fun a b => concatenate S1024 0 [⟨S512, a⟩, ⟨S512, b⟩] concatenates_S512_S512_S1024_d0) arg9 arg0
  let v1 : FVec F S2048 .f32 := (fun l r => Host.dotGeneral dot_S1024_S1024x2048_S2048_0_0_n_1_n_n none l r) v0 arg10
  let v2 : FVec F S2048 .f32 := addf v1 arg11
  let v3 : FVec F S512 .f32 := (extractStridedSlice S512 ![0] · slices_S2048_S512_0) v2
  let v4 : FVec F S512 .f32 := (extractStridedSlice S512 ![512] · slices_S2048_S512_512) v2
  let v5 : FVec F S512 .f32 := (extractStridedSlice S512 ![1024] · slices_S2048_S512_1024) v2
  let v6 : FVec F S512 .f32 := (extractStridedSlice S512 ![1536] · slices_S2048_S512_1536) v2
  let v7 : FVec F S512 .f32 := Host.negf v4
  let v8 : FVec F S512 .f32 := Host.exp v7
  let cst : FVec F S_ .f32 := constant S_ .f32 0x3F800000#32
  let v9 : FVec F S512 .f32 := broadcastInDim S512 ![] bcast_S_S512 cst
  let v10 : FVec F S512 .f32 := addf v9 v8
  let cst_0 : FVec F S_ .f32 := constant S_ .f32 0x3F800000#32
  let v11 : FVec F S512 .f32 := broadcastInDim S512 ![] bcast_S_S512 cst_0
  let v12 : FVec F S512 .f32 := Host.divf v11 v10
  let v13 : FVec F S512 .f32 := mulf v12 arg1
  let v14 : FVec F S512 .f32 := Host.negf v3
  let v15 : FVec F S512 .f32 := Host.exp v14
  let cst_1 : FVec F S_ .f32 := constant S_ .f32 0x3F800000#32
  let v16 : FVec F S512 .f32 := broadcastInDim S512 ![] bcast_S_S512 cst_1
  let v17 : FVec F S512 .f32 := addf v16 v15
  let cst_2 : FVec F S_ .f32 := constant S_ .f32 0x3F800000#32
  let v18 : FVec F S512 .f32 := broadcastInDim S512 ![] bcast_S_S512 cst_2
  let v19 : FVec F S512 .f32 := Host.divf v18 v17
  fn_advance_part1 (F := F) arg2 arg3 arg4 arg5 arg6 arg7 arg8 arg12 arg13 arg14 v5 v6 v13 v19

def fn_part15 {F : FTy → Type} [FloatOps F] (main_arg1 : FVec F S1024x2048 .f32) (main_arg2 : FVec F S2048 .f32) (main_arg3 : FVec F S512x471 .f32) (main_arg4 : FVec F S512x128 .f32) (main_arg5 : FVec F S256x128 .f32) (main_v105_0 : FVec F S512 .f32) (main_v105_1 : FVec F S512 .f32) (main_v105_2 : FVec F S1024x64 .f32) (main_v105_3 : FVec F S1024 .f32) (main_v105_4 : FVec F S1024 .f32) (main_v105_5 : FVec F S1024x1024 .f32) (main_v105_6 : FVec F S1024 .f32) (main_v105_7 : FVec F S4x1024 .f32) (main_v105_8 : IVec S1024 1) (main_v107 : FVec F S512 .f32) : IVec S1024 1 × IVec S512x2048 1 × IVec S512x471 1 × IVec S512x128 1 × IVec S256x128 1 :=
  let main_v108_2 : FVec F S1024x64 .f32 := (fn_advance (F := F) main_v105_0 main_v105_1 main_v105_2 main_v105_3 main_v105_4 main_v105_5 main_v105_6 main_v105_7 main_v105_8 main_v107 main_arg1 main_arg2 main_arg3 main_arg4 main_arg5).2.2.1
  let main_v108_3 : FVec F S1024 .f32 := (fn_advance (F := F) main_v105_0 main_v105_1 main_v105_2 main_v105_3 main_v105_4 main_v105_5 main_v105_6 main_v105_7 main_v105_8 main_v107 main_arg1 main_arg2 main_arg3 main_arg4 main_arg5).2.2.2.1
  let main_v108_4 : FVec F S1024 .f32 := (fn_advance (F := F) main_v105_0 main_v105_1 main_v105_2 main_v105_3 main_v105_4 main_v105_5 main_v105_6 main_v105_7 main_v105_8 main_v107 main_arg1 main_arg2 main_arg3 main_arg4 main_arg5).2.2.2.2.1
  let main_v108_5 : FVec F S1024x1024 .f32 := (fn_advance (F := F) main_v105_0 main_v105_1 main_v105_2 main_v105_3 main_v105_4 main_v105_5 main_v105_6 main_v105_7 main_v105_8 main_v107 main_arg1 main_arg2 main_arg3 main_arg4 main_arg5).2.2.2.2.2.1
  let main_v108_6 : FVec F S1024 .f32 := (fn_advance (F := F) main_v105_0 main_v105_1 main_v105_2 main_v105_3 main_v105_4 main_v105_5 main_v105_6 main_v105_7 main_v105_8 main_v107 main_arg1 main_arg2 main_arg3 main_arg4 main_arg5).2.2.2.2.2.2.1
  let main_v108_7 : FVec F S4x1024 .f32 := (fn_advance (F := F) main_v105_0 main_v105_1 main_v105_2 main_v105_3 main_v105_4 main_v105_5 main_v105_6 main_v105_7 main_v105_8 main_v107 main_arg1 main_arg2 main_arg3 main_arg4 main_arg5).2.2.2.2.2.2.2.1
  let main_v108_8 : IVec S1024 1 := (fn_advance (F := F) main_v105_0 main_v105_1 main_v105_2 main_v105_3 main_v105_4 main_v105_5 main_v105_6 main_v105_7 main_v105_8 main_v107 main_arg1 main_arg2 main_arg3 main_arg4 main_arg5).2.2.2.2.2.2.2.2
  let main_v109 : FVec F S512x2048 .f32 := (extractStridedSlice S512x2048 ![512, 0] · slices_S1024x2048_S512x2048_512_0) main_arg1
  let main_v110 : FVec F S512x2048 .f32 := Host.absf main_v109
  let main_cst_0 : FVec F S_ .f32 := constant S_ .f32 0x7F800000#32
  let main_v111 : FVec F S512x2048 .f32 := broadcastInDim S512x2048 ![] bcast_S_S512x2048 main_cst_0
  let main_v112 : IVec S512x2048 1 := cmpf .olt main_v110 main_v111
  let main_v113 : FVec F S512x471 .f32 := Host.absf main_arg3
  let main_cst_1 : FVec F S_ .f32 := constant S_ .f32 0x7F800000#32
  let main_v114 : FVec F S512x471 .f32 := broadcastInDim S512x471 ![] bcast_S_S512x471 main_cst_1
  let main_v115 : IVec S512x471 1 := cmpf .olt main_v113 main_v114
  let main_v116 : FVec F S512x128 .f32 := Host.absf main_arg4
  let main_cst_2 : FVec F S_ .f32 := constant S_ .f32 0x7F800000#32
  let main_v117 : FVec F S512x128 .f32 := broadcastInDim S512x128 ![] bcast_S_S512x128 main_cst_2
  let main_v118 : IVec S512x128 1 := cmpf .olt main_v116 main_v117
  let main_v119 : FVec F S256x128 .f32 := Host.absf main_arg5
  let main_cst_3 : FVec F S_ .f32 := constant S_ .f32 0x7F800000#32
  let main_v120 : FVec F S256x128 .f32 := broadcastInDim S256x128 ![] bcast_S_S256x128 main_cst_3
  let main_v121 : IVec S256x128 1 := cmpf .olt main_v119 main_v120
  (main_v108_8, main_v112, main_v115, main_v118, main_v121)

def fn_part14 {F : FTy → Type} [FloatOps F] (main_arg0 : FVec F S32x512 .f32) (main_arg1 : FVec F S1024x2048 .f32) (main_arg2 : FVec F S2048 .f32) (main_arg3 : FVec F S512x471 .f32) (main_arg4 : FVec F S512x128 .f32) (main_arg5 : FVec F S256x128 .f32) (main_v99_0 : FVec F S512 .f32) (main_v99_1 : FVec F S512 .f32) (main_v99_2 : FVec F S1024x64 .f32) (main_v99_3 : FVec F S1024 .f32) (main_v99_4 : FVec F S1024 .f32) (main_v99_5 : FVec F S1024x1024 .f32) (main_v99_6 : FVec F S1024 .f32) (main_v99_7 : FVec F S4x1024 .f32) (main_v99_8 : IVec S1024 1) (main_v101 : FVec F S512 .f32) : IVec S1024 1 × IVec S512x2048 1 × IVec S512x471 1 × IVec S512x128 1 × IVec S256x128 1 :=
  let main_v102_0 : FVec F S512 .f32 := (fn_advance (F := F) main_v99_0 main_v99_1 main_v99_2 main_v99_3 main_v99_4 main_v99_5 main_v99_6 main_v99_7 main_v99_8 main_v101 main_arg1 main_arg2 main_arg3 main_arg4 main_arg5).1
  let main_v102_1 : FVec F S512 .f32 := (fn_advance (F := F) main_v99_0 main_v99_1 main_v99_2 main_v99_3 main_v99_4 main_v99_5 main_v99_6 main_v99_7 main_v99_8 main_v101 main_arg1 main_arg2 main_arg3 main_arg4 main_arg5).2.1
  let main_v102_2 : FVec F S1024x64 .f32 := (fn_advance (F := F) main_v99_0 main_v99_1 main_v99_2 main_v99_3 main_v99_4 main_v99_5 main_v99_6 main_v99_7 main_v99_8 main_v101 main_arg1 main_arg2 main_arg3 main_arg4 main_arg5).2.2.1
  let main_v102_3 : FVec F S1024 .f32 := (fn_advance (F := F) main_v99_0 main_v99_1 main_v99_2 main_v99_3 main_v99_4 main_v99_5 main_v99_6 main_v99_7 main_v99_8 main_v101 main_arg1 main_arg2 main_arg3 main_arg4 main_arg5).2.2.2.1
  let main_v102_4 : FVec F S1024 .f32 := (fn_advance (F := F) main_v99_0 main_v99_1 main_v99_2 main_v99_3 main_v99_4 main_v99_5 main_v99_6 main_v99_7 main_v99_8 main_v101 main_arg1 main_arg2 main_arg3 main_arg4 main_arg5).2.2.2.2.1
  let main_v102_5 : FVec F S1024x1024 .f32 := (fn_advance (F := F) main_v99_0 main_v99_1 main_v99_2 main_v99_3 main_v99_4 main_v99_5 main_v99_6 main_v99_7 main_v99_8 main_v101 main_arg1 main_arg2 main_arg3 main_arg4 main_arg5).2.2.2.2.2.1
  let main_v102_6 : FVec F S1024 .f32 := (fn_advance (F := F) main_v99_0 main_v99_1 main_v99_2 main_v99_3 main_v99_4 main_v99_5 main_v99_6 main_v99_7 main_v99_8 main_v101 main_arg1 main_arg2 main_arg3 main_arg4 main_arg5).2.2.2.2.2.2.1
  let main_v102_7 : FVec F S4x1024 .f32 := (fn_advance (F := F) main_v99_0 main_v99_1 main_v99_2 main_v99_3 main_v99_4 main_v99_5 main_v99_6 main_v99_7 main_v99_8 main_v101 main_arg1 main_arg2 main_arg3 main_arg4 main_arg5).2.2.2.2.2.2.2.1
  let main_v102_8 : IVec S1024 1 := (fn_advance (F := F) main_v99_0 main_v99_1 main_v99_2 main_v99_3 main_v99_4 main_v99_5 main_v99_6 main_v99_7 main_v99_8 main_v101 main_arg1 main_arg2 main_arg3 main_arg4 main_arg5).2.2.2.2.2.2.2.2
  let main_v103 : FVec F S1x512 .f32 := (extractStridedSlice S1x512 ![30, 0] · slices_S32x512_S1x512_30_0) main_arg0
  let main_v104 : FVec F S512 .f32 := shapeCast S512 main_v103 shapeCasts_S1x512_S512
  let main_v105_0 : FVec F S512 .f32 := (fn_advance (F := F) main_v102_0 main_v102_1 main_v102_2 main_v102_3 main_v102_4 main_v102_5 main_v102_6 main_v102_7 main_v102_8 main_v104 main_arg1 main_arg2 main_arg3 main_arg4 main_arg5).1
  let main_v105_1 : FVec F S512 .f32 := (fn_advance (F := F) main_v102_0 main_v102_1 main_v102_2 main_v102_3 main_v102_4 main_v102_5 main_v102_6 main_v102_7 main_v102_8 main_v104 main_arg1 main_arg2 main_arg3 main_arg4 main_arg5).2.1
  let main_v105_2 : FVec F S1024x64 .f32 := (fn_advance (F := F) main_v102_0 main_v102_1 main_v102_2 main_v102_3 main_v102_4 main_v102_5 main_v102_6 main_v102_7 main_v102_8 main_v104 main_arg1 main_arg2 main_arg3 main_arg4 main_arg5).2.2.1
  let main_v105_3 : FVec F S1024 .f32 := (fn_advance (F := F) main_v102_0 main_v102_1 main_v102_2 main_v102_3 main_v102_4 main_v102_5 main_v102_6 main_v102_7 main_v102_8 main_v104 main_arg1 main_arg2 main_arg3 main_arg4 main_arg5).2.2.2.1
  let main_v105_4 : FVec F S1024 .f32 := (fn_advance (F := F) main_v102_0 main_v102_1 main_v102_2 main_v102_3 main_v102_4 main_v102_5 main_v102_6 main_v102_7 main_v102_8 main_v104 main_arg1 main_arg2 main_arg3 main_arg4 main_arg5).2.2.2.2.1
  let main_v105_5 : FVec F S1024x1024 .f32 := (fn_advance (F := F) main_v102_0 main_v102_1 main_v102_2 main_v102_3 main_v102_4 main_v102_5 main_v102_6 main_v102_7 main_v102_8 main_v104 main_arg1 main_arg2 main_arg3 main_arg4 main_arg5).2.2.2.2.2.1
  let main_v105_6 : FVec F S1024 .f32 := (fn_advance (F := F) main_v102_0 main_v102_1 main_v102_2 main_v102_3 main_v102_4 main_v102_5 main_v102_6 main_v102_7 main_v102_8 main_v104 main_arg1 main_arg2 main_arg3 main_arg4 main_arg5).2.2.2.2.2.2.1
  let main_v105_7 : FVec F S4x1024 .f32 := (fn_advance (F := F) main_v102_0 main_v102_1 main_v102_2 main_v102_3 main_v102_4 main_v102_5 main_v102_6 main_v102_7 main_v102_8 main_v104 main_arg1 main_arg2 main_arg3 main_arg4 main_arg5).2.2.2.2.2.2.2.1
  let main_v105_8 : IVec S1024 1 := (fn_advance (F := F) main_v102_0 main_v102_1 main_v102_2 main_v102_3 main_v102_4 main_v102_5 main_v102_6 main_v102_7 main_v102_8 main_v104 main_arg1 main_arg2 main_arg3 main_arg4 main_arg5).2.2.2.2.2.2.2.2
  let main_v106 : FVec F S1x512 .f32 := (extractStridedSlice S1x512 ![31, 0] · slices_S32x512_S1x512_31_0) main_arg0
  let main_v107 : FVec F S512 .f32 := shapeCast S512 main_v106 shapeCasts_S1x512_S512
  let main_v108_0 : FVec F S512 .f32 := (fn_advance (F := F) main_v105_0 main_v105_1 main_v105_2 main_v105_3 main_v105_4 main_v105_5 main_v105_6 main_v105_7 main_v105_8 main_v107 main_arg1 main_arg2 main_arg3 main_arg4 main_arg5).1
  let main_v108_1 : FVec F S512 .f32 := (fn_advance (F := F) main_v105_0 main_v105_1 main_v105_2 main_v105_3 main_v105_4 main_v105_5 main_v105_6 main_v105_7 main_v105_8 main_v107 main_arg1 main_arg2 main_arg3 main_arg4 main_arg5).2.1
  fn_part15 (F := F) main_arg1 main_arg2 main_arg3 main_arg4 main_arg5 main_v105_0 main_v105_1 main_v105_2 main_v105_3 main_v105_4 main_v105_5 main_v105_6 main_v105_7 main_v105_8 main_v107

def fn_part13 {F : FTy → Type} [FloatOps F] (main_arg0 : FVec F S32x512 .f32) (main_arg1 : FVec F S1024x2048 .f32) (main_arg2 : FVec F S2048 .f32) (main_arg3 : FVec F S512x471 .f32) (main_arg4 : FVec F S512x128 .f32) (main_arg5 : FVec F S256x128 .f32) (main_v93_0 : FVec F S512 .f32) (main_v93_1 : FVec F S512 .f32) (main_v93_2 : FVec F S1024x64 .f32) (main_v93_3 : FVec F S1024 .f32) (main_v93_4 : FVec F S1024 .f32) (main_v93_5 : FVec F S1024x1024 .f32) (main_v93_6 : FVec F S1024 .f32) (main_v93_7 : FVec F S4x1024 .f32) (main_v93_8 : IVec S1024 1) : IVec S1024 1 × IVec S512x2048 1 × IVec S512x471 1 × IVec S512x128 1 × IVec S256x128 1 :=
  let main_v94 : FVec F S1x512 .f32 := (extractStridedSlice S1x512 ![27, 0] · slices_S32x512_S1x512_27_0) main_arg0
  let main_v95 : FVec F S512 .f32 := shapeCast S512 main_v94 shapeCasts_S1x512_S512
  let main_v96_0 : FVec F S512 .f32 := (fn_advance (F := F) main_v93_0 main_v93_1 main_v93_2 main_v93_3 main_v93_4 main_v93_5 main_v93_6 main_v93_7 main_v93_8 main_v95 main_arg1 main_arg2 main_arg3 main_arg4 main_arg5).1
  let main_v96_1 : FVec F S512 .f32 := (fn_advance (F := F) main_v93_0 main_v93_1 main_v93_2 main_v93_3 main_v93_4 main_v93_5 main_v93_6 main_v93_7 main_v93_8 main_v95 main_arg1 main_arg2 main_arg3 main_arg4 main_arg5).2.1
  let main_v96_2 : FVec F S1024x64 .f32 := (fn_advance (F := F) main_v93_0 main_v93_1 main_v93_2 main_v93_3 main_v93_4 main_v93_5 main_v93_6 main_v93_7 main_v93_8 main_v95 main_arg1 main_arg2 main_arg3 main_arg4 main_arg5).2.2.1
  let main_v96_3 : FVec F S1024 .f32 := (fn_advance (F := F) main_v93_0 main_v93_1 main_v93_2 main_v93_3 main_v93_4 main_v93_5 main_v93_6 main_v93_7 main_v93_8 main_v95 main_arg1 main_arg2 main_arg3 main_arg4 main_arg5).2.2.2.1
  let main_v96_4 : FVec F S1024 .f32 := (fn_advance (F := F) main_v93_0 main_v93_1 main_v93_2 main_v93_3 main_v93_4 main_v93_5 main_v93_6 main_v93_7 main_v93_8 main_v95 main_arg1 main_arg2 main_arg3 main_arg4 main_arg5).2.2.2.2.1
  let main_v96_5 : FVec F S1024x1024 .f32 := (fn_advance (F := F) main_v93_0 main_v93_1 main_v93_2 main_v93_3 main_v93_4 main_v93_5 main_v93_6 main_v93_7 main_v93_8 main_v95 main_arg1 main_arg2 main_arg3 main_arg4 main_arg5).2.2.2.2.2.1
  let main_v96_6 : FVec F S1024 .f32 := (fn_advance (F := F) main_v93_0 main_v93_1 main_v93_2 main_v93_3 main_v93_4 main_v93_5 main_v93_6 main_v93_7 main_v93_8 main_v95 main_arg1 main_arg2 main_arg3 main_arg4 main_arg5).2.2.2.2.2.2.1
  let main_v96_7 : FVec F S4x1024 .f32 := (fn_advance (F := F) main_v93_0 main_v93_1 main_v93_2 main_v93_3 main_v93_4 main_v93_5 main_v93_6 main_v93_7 main_v93_8 main_v95 main_arg1 main_arg2 main_arg3 main_arg4 main_arg5).2.2.2.2.2.2.2.1
  let main_v96_8 : IVec S1024 1 := (fn_advance (F := F) main_v93_0 main_v93_1 main_v93_2 main_v93_3 main_v93_4 main_v93_5 main_v93_6 main_v93_7 main_v93_8 main_v95 main_arg1 main_arg2 main_arg3 main_arg4 main_arg5).2.2.2.2.2.2.2.2
  let main_v97 : FVec F S1x512 .f32 := (extractStridedSlice S1x512 ![28, 0] · slices_S32x512_S1x512_28_0) main_arg0
  let main_v98 : FVec F S512 .f32 := shapeCast S512 main_v97 shapeCasts_S1x512_S512
  let main_v99_0 : FVec F S512 .f32 := (fn_advance (F := F) main_v96_0 main_v96_1 main_v96_2 main_v96_3 main_v96_4 main_v96_5 main_v96_6 main_v96_7 main_v96_8 main_v98 main_arg1 main_arg2 main_arg3 main_arg4 main_arg5).1
  let main_v99_1 : FVec F S512 .f32 := (fn_advance (F := F) main_v96_0 main_v96_1 main_v96_2 main_v96_3 main_v96_4 main_v96_5 main_v96_6 main_v96_7 main_v96_8 main_v98 main_arg1 main_arg2 main_arg3 main_arg4 main_arg5).2.1
  let main_v99_2 : FVec F S1024x64 .f32 := (fn_advance (F := F) main_v96_0 main_v96_1 main_v96_2 main_v96_3 main_v96_4 main_v96_5 main_v96_6 main_v96_7 main_v96_8 main_v98 main_arg1 main_arg2 main_arg3 main_arg4 main_arg5).2.2.1
  let main_v99_3 : FVec F S1024 .f32 := (fn_advance (F := F) main_v96_0 main_v96_1 main_v96_2 main_v96_3 main_v96_4 main_v96_5 main_v96_6 main_v96_7 main_v96_8 main_v98 main_arg1 main_arg2 main_arg3 main_arg4 main_arg5).2.2.2.1
  let main_v99_4 : FVec F S1024 .f32 := (fn_advance (F := F) main_v96_0 main_v96_1 main_v96_2 main_v96_3 main_v96_4 main_v96_5 main_v96_6 main_v96_7 main_v96_8 main_v98 main_arg1 main_arg2 main_arg3 main_arg4 main_arg5).2.2.2.2.1
  let main_v99_5 : FVec F S1024x1024 .f32 := (fn_advance (F := F) main_v96_0 main_v96_1 main_v96_2 main_v96_3 main_v96_4 main_v96_5 main_v96_6 main_v96_7 main_v96_8 main_v98 main_arg1 main_arg2 main_arg3 main_arg4 main_arg5).2.2.2.2.2.1
  let main_v99_6 : FVec F S1024 .f32 := (fn_advance (F := F) main_v96_0 main_v96_1 main_v96_2 main_v96_3 main_v96_4 main_v96_5 main_v96_6 main_v96_7 main_v96_8 main_v98 main_arg1 main_arg2 main_arg3 main_arg4 main_arg5).2.2.2.2.2.2.1
  let main_v99_7 : FVec F S4x1024 .f32 := (fn_advance (F := F) main_v96_0 main_v96_1 main_v96_2 main_v96_3 main_v96_4 main_v96_5 main_v96_6 main_v96_7 main_v96_8 main_v98 main_arg1 main_arg2 main_arg3 main_arg4 main_arg5).2.2.2.2.2.2.2.1
  let main_v99_8 : IVec S1024 1 := (fn_advance (F := F) main_v96_0 main_v96_1 main_v96_2 main_v96_3 main_v96_4 main_v96_5 main_v96_6 main_v96_7 main_v96_8 main_v98 main_arg1 main_arg2 main_arg3 main_arg4 main_arg5).2.2.2.2.2.2.2.2
  let main_v100 : FVec F S1x512 .f32 := (extractStridedSlice S1x512 ![29, 0] · slices_S32x512_S1x512_29_0) main_arg0
  let main_v101 : FVec F S512 .f32 := shapeCast S512 main_v100 shapeCasts_S1x512_S512
  fn_part14 (F := F) main_arg0 main_arg1 main_arg2 main_arg3 main_arg4 main_arg5 main_v99_0 main_v99_1 main_v99_2 main_v99_3 main_v99_4 main_v99_5 main_v99_6 main_v99_7 main_v99_8 main_v101

def fn_part12 {F : FTy → Type} [FloatOps F] (main_arg0 : FVec F S32x512 .f32) (main_arg1 : FVec F S1024x2048 .f32) (main_arg2 : FVec F S2048 .f32) (main_arg3 : FVec F S512x471 .f32) (main_arg4 : FVec F S512x128 .f32) (main_arg5 : FVec F S256x128 .f32) (main_v84_0 : FVec F S512 .f32) (main_v84_1 : FVec F S512 .f32) (main_v84_2 : FVec F S1024x64 .f32) (main_v84_3 : FVec F S1024 .f32) (main_v84_4 : FVec F S1024 .f32) (main_v84_5 : FVec F S1024x1024 .f32) (main_v84_6 : FVec F S1024 .f32) (main_v84_7 : FVec F S4x1024 .f32) (main_v84_8 : IVec S1024 1) (main_v86 : FVec F S512 .f32) (main_v87_0 : FVec F S512 .f32) (main_v87_1 : FVec F S512 .f32) (main_v87_2 : FVec F S1024x64 .f32) (main_v87_3 : FVec F S1024 .f32) (main_v87_4 : FVec F S1024 .f32) (main_v87_5 : FVec F S1024x1024 .f32) (main_v87_6 : FVec F S1024 .f32) : IVec S1024 1 × IVec S512x2048 1 × IVec S512x471 1 × IVec S512x128 1 × IVec S256x128 1 :=
  let main_v87_7 : FVec F S4x1024 .f32 := (fn_advance (F := F) main_v84_0 main_v84_1 main_v84_2 main_v84_3 main_v84_4 main_v84_5 main_v84_6 main_v84_7 main_v84_8 main_v86 main_arg1 main_arg2 main_arg3 main_arg4 main_arg5).2.2.2.2.2.2.2.1
  let main_v87_8 : IVec S1024 1 := (fn_advance (F := F) main_v84_0 main_v84_1 main_v84_2 main_v84_3 main_v84_4 main_v84_5 main_v84_6 main_v84_7 main_v84_8 main_v86 main_arg1 main_arg2 main_arg3 main_arg4 main_arg5).2.2.2.2.2.2.2.2
  let main_v88 : FVec F S1x512 .f32 := (extractStridedSlice S1x512 ![25, 0] · slices_S32x512_S1x512_25_0) main_arg0
  let main_v89 : FVec F S512 .f32 := shapeCast S512 main_v88 shapeCasts_S1x512_S512
  let main_v90_0 : FVec F S512 .f32 := (fn_advance (F := F) main_v87_0 main_v87_1 main_v87_2 main_v87_3 main_v87_4 main_v87_5 main_v87_6 main_v87_7 main_v87_8 main_v89 main_arg1 main_arg2 main_arg3 main_arg4 main_arg5).1
  let main_v90_1 : FVec F S512 .f32 := (fn_advance (F := F) main_v87_0 main_v87_1 main_v87_2 main_v87_3 main_v87_4 main_v87_5 main_v87_6 main_v87_7 main_v87_8 main_v89 main_arg1 main_arg2 main_arg3 main_arg4 main_arg5).2.1
  let main_v90_2 : FVec F S1024x64 .f32 := (fn_advance (F := F) main_v87_0 main_v87_1 main_v87_2 main_v87_3 main_v87_4 main_v87_5 main_v87_6 main_v87_7 main_v87_8 main_v89 main_arg1 main_arg2 main_arg3 main_arg4 main_arg5).2.2.1
  let main_v90_3 : FVec F S1024 .f32 := (fn_advance (F := F) main_v87_0 main_v87_1 main_v87_2 main_v87_3 main_v87_4 main_v87_5 main_v87_6 main_v87_7 main_v87_8 main_v89 main_arg1 main_arg2 main_arg3 main_arg4 main_arg5).2.2.2.1
  let main_v90_4 : FVec F S1024 .f32 := (fn_advance (F := F) main_v87_0 main_v87_1 main_v87_2 main_v87_3 main_v87_4 main_v87_5 main_v87_6 main_v87_7 main_v87_8 main_v89 main_arg1 main_arg2 main_arg3 main_arg4 main_arg5).2.2.2.2.1
  let main_v90_5 : FVec F S1024x1024 .f32 := (fn_advance (F := F) main_v87_0 main_v87_1 main_v87_2 main_v87_3 main_v87_4 main_v87_5 main_v87_6 main_v87_7 main_v87_8 main_v89 main_arg1 main_arg2 main_arg3 main_arg4 main_arg5).2.2.2.2.2.1
  let main_v90_6 : FVec F S1024 .f32 := (fn_advance (F := F) main_v87_0 main_v87_1 main_v87_2 main_v87_3 main_v87_4 main_v87_5 main_v87_6 main_v87_7 main_v87_8 main_v89 main_arg1 main_arg2 main_arg3 main_arg4 main_arg5).2.2.2.2.2.2.1
  let main_v90_7 : FVec F S4x1024 .f32 := (fn_advance (F := F) main_v87_0 main_v87_1 main_v87_2 main_v87_3 main_v87_4 main_v87_5 main_v87_6 main_v87_7 main_v87_8 main_v89 main_arg1 main_arg2 main_arg3 main_arg4 main_arg5).2.2.2.2.2.2.2.1
  let main_v90_8 : IVec S1024 1 := (fn_advance (F := F) main_v87_0 main_v87_1 main_v87_2 main_v87_3 main_v87_4 main_v87_5 main_v87_6 main_v87_7 main_v87_8 main_v89 main_arg1 main_arg2 main_arg3 main_arg4 main_arg5).2.2.2.2.2.2.2.2
  let main_v91 : FVec F S1x512 .f32 := (extractStridedSlice S1x512 ![26, 0] · slices_S32x512_S1x512_26_0) main_arg0
  let main_v92 : FVec F S512 .f32 := shapeCast S512 main_v91 shapeCasts_S1x512_S512
  let main_v93_0 : FVec F S512 .f32 := (fn_advance (F := F) main_v90_0 main_v90_1 main_v90_2 main_v90_3 main_v90_4 main_v90_5 main_v90_6 main_v90_7 main_v90_8 main_v92 main_arg1 main_arg2 main_arg3 main_arg4 main_arg5).1
  let main_v93_1 : FVec F S512 .f32 := (fn_advance (F := F) main_v90_0 main_v90_1 main_v90_2 main_v90_3 main_v90_4 main_v90_5 main_v90_6 main_v90_7 main_v90_8 main_v92 main_arg1 main_arg2 main_arg3 main_arg4 main_arg5).2.1
  let main_v93_2 : FVec F S1024x64 .f32 := (fn_advance (F := F) main_v90_0 main_v90_1 main_v90_2 main_v90_3 main_v90_4 main_v90_5 main_v90_6 main_v90_7 main_v90_8 main_v92 main_arg1 main_arg2 main_arg3 main_arg4 main_arg5).2.2.1
  let main_v93_3 : FVec F S1024 .f32 := (fn_advance (F := F) main_v90_0 main_v90_1 main_v90_2 main_v90_3 main_v90_4 main_v90_5 main_v90_6 main_v90_7 main_v90_8 main_v92 main_arg1 main_arg2 main_arg3 main_arg4 main_arg5).2.2.2.1
  let main_v93_4 : FVec F S1024 .f32 := (fn_advance (F := F) main_v90_0 main_v90_1 main_v90_2 main_v90_3 main_v90_4 main_v90_5 main_v90_6 main_v90_7 main_v90_8 main_v92 main_arg1 main_arg2 main_arg3 main_arg4 main_arg5).2.2.2.2.1
  let main_v93_5 : FVec F S1024x1024 .f32 := (fn_advance (F := F) main_v90_0 main_v90_1 main_v90_2 main_v90_3 main_v90_4 main_v90_5 main_v90_6 main_v90_7 main_v90_8 main_v92 main_arg1 main_arg2 main_arg3 main_arg4 main_arg5).2.2.2.2.2.1
  let main_v93_6 : FVec F S1024 .f32 := (fn_advance (F := F) main_v90_0 main_v90_1 main_v90_2 main_v90_3 main_v90_4 main_v90_5 main_v90_6 main_v90_7 main_v90_8 main_v92 main_arg1 main_arg2 main_arg3 main_arg4 main_arg5).2.2.2.2.2.2.1
  let main_v93_7 : FVec F S4x1024 .f32 := (fn_advance (F := F) main_v90_0 main_v90_1 main_v90_2 main_v90_3 main_v90_4 main_v90_5 main_v90_6 main_v90_7 main_v90_8 main_v92 main_arg1 main_arg2 main_arg3 main_arg4 main_arg5).2.2.2.2.2.2.2.1
  let main_v93_8 : IVec S1024 1 := (fn_advance (F := F) main_v90_0 main_v90_1 main_v90_2 main_v90_3 main_v90_4 main_v90_5 main_v90_6 main_v90_7 main_v90_8 main_v92 main_arg1 main_arg2 main_arg3 main_arg4 main_arg5).2.2.2.2.2.2.2.2
  fn_part13 (F := F) main_arg0 main_arg1 main_arg2 main_arg3 main_arg4 main_arg5 main_v93_0 main_v93_1 main_v93_2 main_v93_3 main_v93_4 main_v93_5 main_v93_6 main_v93_7 main_v93_8

def fn_part11 {F : FTy → Type} [FloatOps F] (main_arg0 : FVec F S32x512 .f32) (main_arg1 : FVec F S1024x2048 .f32) (main_arg2 : FVec F S2048 .f32) (main_arg3 : FVec F S512x471 .f32) (main_arg4 : FVec F S512x128 .f32) (main_arg5 : FVec F S256x128 .f32) (main_v78_0 : FVec F S512 .f32) (main_v78_1 : FVec F S512 .f32) (main_v78_2 : FVec F S1024x64 .f32) (main_v78_3 : FVec F S1024 .f32) (main_v78_4 : FVec F S1024 .f32) (main_v78_5 : FVec F S1024x1024 .f32) (main_v78_6 : FVec F S1024 .f32) (main_v78_7 : FVec F S4x1024 .f32) (main_v78_8 : IVec S1024 1) (main_v80 : FVec F S512 .f32) (main_v81_0 : FVec F S512 .f32) (main_v81_1 : FVec F S512 .f32) (main_v81_2 : FVec F S1024x64 .f32) (main_v81_3 : FVec F S1024 .f32) (main_v81_4 : FVec F S1024 .f32) : IVec S1024 1 × IVec S512x2048 1 × IVec S512x471 1 × IVec S512x128 1 × IVec S256x128 1 :=
  let main_v81_5 : FVec F S1024x1024 .f32 := (fn_advance (F := F) main_v78_0 main_v78_1 main_v78_2 main_v78_3 main_v78_4 main_v78_5 main_v78_6 main_v78_7 main_v78_8 main_v80 main_arg1 main_arg2 main_arg3 main_arg4 main_arg5).2.2.2.2.2.1
  let main_v81_6 : FVec F S1024 .f32 := (fn_advance (F := F) main_v78_0 main_v78_1 main_v78_2 main_v78_3 main_v78_4 main_v78_5 main_v78_6 main_v78_7 main_v78_8 main_v80 main_arg1 main_arg2 main_arg3 main_arg4 main_arg5).2.2.2.2.2.2.1
  let main_v81_7 : FVec F S4x1024 .f32 := (fn_advance (F := F) main_v78_0 main_v78_1 main_v78_2 main_v78_3 main_v78_4 main_v78_5 main_v78_6 main_v78_7 main_v78_8 main_v80 main_arg1 main_arg2 main_arg3 main_arg4 main_arg5).2.2.2.2.2.2.2.1
  let main_v81_8 : IVec S1024 1 := (fn_advance (F := F) main_v78_0 main_v78_1 main_v78_2 main_v78_3 main_v78_4 main_v78_5 main_v78_6 main_v78_7 main_v78_8 main_v80 main_arg1 main_arg2 main_arg3 main_arg4 main_arg5).2.2.2.2.2.2.2.2
  let main_v82 : FVec F S1x512 .f32 := (extractStridedSlice S1x512 ![23, 0] · slices_S32x512_S1x512_23_0) main_arg0
  let main_v83 : FVec F S512 .f32 := shapeCast S512 main_v82 shapeCasts_S1x512_S512
  let main_v84_0 : FVec F S512 .f32 := (fn_advance (F := F) main_v81_0 main_v81_1 main_v81_2 main_v81_3 main_v81_4 main_v81_5 main_v81_6 main_v81_7 main_v81_8 main_v83 main_arg1 main_arg2 main_arg3 main_arg4 main_arg5).1
  let main_v84_1 : FVec F S512 .f32 := (fn_advance (F := F) main_v81_0 main_v81_1 main_v81_2 main_v81_3 main_v81_4 main_v81_5 main_v81_6 main_v81_7 main_v81_8 main_v83 main_arg1 main_arg2 main_arg3 main_arg4 main_arg5).2.1
  let main_v84_2 : FVec F S1024x64 .f32 := (fn_advance (F := F) main_v81_0 main_v81_1 main_v81_2 main_v81_3 main_v81_4 main_v81_5 main_v81_6 main_v81_7 main_v81_8 main_v83 main_arg1 main_arg2 main_arg3 main_arg4 main_arg5).2.2.1
  let main_v84_3 : FVec F S1024 .f32 := (fn_advance (F := F) main_v81_0 main_v81_1 main_v81_2 main_v81_3 main_v81_4 main_v81_5 main_v81_6 main_v81_7 main_v81_8 main_v83 main_arg1 main_arg2 main_arg3 main_arg4 main_arg5).2.2.2.1
  let main_v84_4 : FVec F S1024 .f32 := (fn_advance (F := F) main_v81_0 main_v81_1 main_v81_2 main_v81_3 main_v81_4 main_v81_5 main_v81_6 main_v81_7 main_v81_8 main_v83 main_arg1 main_arg2 main_arg3 main_arg4 main_arg5).2.2.2.2.1
  let main_v84_5 : FVec F S1024x1024 .f32 := (fn_advance (F := F) main_v81_0 main_v81_1 main_v81_2 main_v81_3 main_v81_4 main_v81_5 main_v81_6 main_v81_7 main_v81_8 main_v83 main_arg1 main_arg2 main_arg3 main_arg4 main_arg5).2.2.2.2.2.1
  let main_v84_6 : FVec F S1024 .f32 := (fn_advance (F := F) main_v81_0 main_v81_1 main_v81_2 main_v81_3 main_v81_4 main_v81_5 main_v81_6 main_v81_7 main_v81_8 main_v83 main_arg1 main_arg2 main_arg3 main_arg4 main_arg5).2.2.2.2.2.2.1
  let main_v84_7 : FVec F S4x1024 .f32 := (fn_advance (F := F) main_v81_0 main_v81_1 main_v81_2 main_v81_3 main_v81_4 main_v81_5 main_v81_6 main_v81_7 main_v81_8 main_v83 main_arg1 main_arg2 main_arg3 main_arg4 main_arg5).2.2.2.2.2.2.2.1
  let main_v84_8 : IVec S1024 1 := (fn_advance (F := F) main_v81_0 main_v81_1 main_v81_2 main_v81_3 main_v81_4 main_v81_5 main_v81_6 main_v81_7 main_v81_8 main_v83 main_arg1 main_arg2 main_arg3 main_arg4 main_arg5).2.2.2.2.2.2.2.2
  let main_v85 : FVec F S1x512 .f32 := (extractStridedSlice S1x512 ![24, 0] · slices_S32x512_S1x512_24_0) main_arg0
  let main_v86 : FVec F S512 .f32 := shapeCast S512 main_v85 shapeCasts_S1x512_S512
  let main_v87_0 : FVec F S512 .f32 := (fn_advance (F := F) main_v84_0 main_v84_1 main_v84_2 main_v84_3 main_v84_4 main_v84_5 main_v84_6 main_v84_7 main_v84_8 main_v86 main_arg1 main_arg2 main_arg3 main_arg4 main_arg5).1
  let main_v87_1 : FVec F S512 .f32 := (fn_advance (F := F) main_v84_0 main_v84_1 main_v84_2 main_v84_3 main_v84_4 main_v84_5 main_v84_6 main_v84_7 main_v84_8 main_v86 main_arg1 main_arg2 main_arg3 main_arg4 main_arg5).2.1
  let main_v87_2 : FVec F S1024x64 .f32 := (fn_advance (F := F) main_v84_0 main_v84_1 main_v84_2 main_v84_3 main_v84_4 main_v84_5 main_v84_6 main_v84_7 main_v84_8 main_v86 main_arg1 main_arg2 main_arg3 main_arg4 main_arg5).2.2.1
  let main_v87_3 : FVec F S1024 .f32 := (fn_advance (F := F) main_v84_0 main_v84_1 main_v84_2 main_v84_3 main_v84_4 main_v84_5 main_v84_6 main_v84_7 main_v84_8 main_v86 main_arg1 main_arg2 main_arg3 main_arg4 main_arg5).2.2.2.1
  let main_v87_4 : FVec F S1024 .f32 := (fn_advance (F := F) main_v84_0 main_v84_1 main_v84_2 main_v84_3 main_v84_4 main_v84_5 main_v84_6 main_v84_7 main_v84_8 main_v86 main_arg1 main_arg2 main_arg3 main_arg4 main_arg5).2.2.2.2.1
  let main_v87_5 : FVec F S1024x1024 .f32 := (fn_advance (F := F) main_v84_0 main_v84_1 main_v84_2 main_v84_3 main_v84_4 main_v84_5 main_v84_6 main_v84_7 main_v84_8 main_v86 main_arg1 main_arg2 main_arg3 main_arg4 main_arg5).2.2.2.2.2.1
  let main_v87_6 : FVec F S1024 .f32 := (fn_advance (F := F) main_v84_0 main_v84_1 main_v84_2 main_v84_3 main_v84_4 main_v84_5 main_v84_6 main_v84_7 main_v84_8 main_v86 main_arg1 main_arg2 main_arg3 main_arg4 main_arg5).2.2.2.2.2.2.1
  fn_part12 (F := F) main_arg0 main_arg1 main_arg2 main_arg3 main_arg4 main_arg5 main_v84_0 main_v84_1 main_v84_2 main_v84_3 main_v84_4 main_v84_5 main_v84_6 main_v84_7 main_v84_8 main_v86 main_v87_0 main_v87_1 main_v87_2 main_v87_3 main_v87_4 main_v87_5 main_v87_6

def fn_part10 {F : FTy → Type} [FloatOps F] (main_arg0 : FVec F S32x512 .f32) (main_arg1 : FVec F S1024x2048 .f32) (main_arg2 : FVec F S2048 .f32) (main_arg3 : FVec F S512x471 .f32) (main_arg4 : FVec F S512x128 .f32) (main_arg5 : FVec F S256x128 .f32) (main_v72_0 : FVec F S512 .f32) (main_v72_1 : FVec F S512 .f32) (main_v72_2 : FVec F S1024x64 .f32) (main_v72_3 : FVec F S1024 .f32) (main_v72_4 : FVec F S1024 .f32) (main_v72_5 : FVec F S1024x1024 .f32) (main_v72_6 : FVec F S1024 .f32) (main_v72_7 : FVec F S4x1024 .f32) (main_v72_8 : IVec S1024 1) (main_v74 : FVec F S512 .f32) (main_v75_0 : FVec F S512 .f32) (main_v75_1 : FVec F S512 .f32) (main_v75_2 : FVec F S1024x64 .f32) : IVec S1024 1 × IVec S512x2048 1 × IVec S512x471 1 × IVec S512x128 1 × IVec S256x128 1 :=
  let main_v75_3 : FVec F S1024 .f32 := (fn_advance (F := F) main_v72_0 main_v72_1 main_v72_2 main_v72_3 main_v72_4 main_v72_5 main_v72_6 main_v72_7 main_v72_8 main_v74 main_arg1 main_arg2 main_arg3 main_arg4 main_arg5).2.2.2.1
  let main_v75_4 : FVec F S1024 .f32 := (fn_advance (F := F) main_v72_0 main_v72_1 main_v72_2 main_v72_3 main_v72_4 main_v72_5 main_v72_6 main_v72_7 main_v72_8 main_v74 main_arg1 main_arg2 main_arg3 main_arg4 main_arg5).2.2.2.2.1
  let main_v75_5 : FVec F S1024x1024 .f32 := (fn_advance (F := F) main_v72_0 main_v72_1 main_v72_2 main_v72_3 main_v72_4 main_v72_5 main_v72_6 main_v72_7 main_v72_8 main_v74 main_arg1 main_arg2 main_arg3 main_arg4 main_arg5).2.2.2.2.2.1
  let main_v75_6 : FVec F S1024 .f32 := (fn_advance (F := F) main_v72_0 main_v72_1 main_v72_2 main_v72_3 main_v72_4 main_v72_5 main_v72_6 main_v72_7 main_v72_8 main_v74 main_arg1 main_arg2 main_arg3 main_arg4 main_arg5).2.2.2.2.2.2.1
  let main_v75_7 : FVec F S4x1024 .f32 := (fn_advance (F := F) main_v72_0 main_v72_1 main_v72_2 main_v72_3 main_v72_4 main_v72_5 main_v72_6 main_v72_7 main_v72_8 main_v74 main_arg1 main_arg2 main_arg3 main_arg4 main_arg5).2.2.2.2.2.2.2.1
  let main_v75_8 : IVec S1024 1 := (fn_advance (F := F) main_v72_0 main_v72_1 main_v72_2 main_v72_3 main_v72_4 main_v72_5 main_v72_6 main_v72_7 main_v72_8 main_v74 main_arg1 main_arg2 main_arg3 main_arg4 main_arg5).2.2.2.2.2.2.2.2
  let main_v76 : FVec F S1x512 .f32 := (extractStridedSlice S1x512 ![21, 0] · slices_S32x512_S1x512_21_0) main_arg0
  let main_v77 : FVec F S512 .f32 := shapeCast S512 main_v76 shapeCasts_S1x512_S512
  let main_v78_0 : FVec F S512 .f32 := (fn_advance (F := F) main_v75_0 main_v75_1 main_v75_2 main_v75_3 main_v75_4 main_v75_5 main_v75_6 main_v75_7 main_v75_8 main_v77 main_arg1 main_arg2 main_arg3 main_arg4 main_arg5).1
  let main_v78_1 : FVec F S512 .f32 := (fn_advance (F := F) main_v75_0 main_v75_1 main_v75_2 main_v75_3 main_v75_4 main_v75_5 main_v75_6 main_v75_7 main_v75_8 main_v77 main_arg1 main_arg2 main_arg3 main_arg4 main_arg5).2.1
  let main_v78_2 : FVec F S1024x64 .f32 := (fn_advance (F := F) main_v75_0 main_v75_1 main_v75_2 main_v75_3 main_v75_4 main_v75_5 main_v75_6 main_v75_7 main_v75_8 main_v77 main_arg1 main_arg2 main_arg3 main_arg4 main_arg5).2.2.1
  let main_v78_3 : FVec F S1024 .f32 := (fn_advance (F := F) main_v75_0 main_v75_1 main_v75_2 main_v75_3 main_v75_4 main_v75_5 main_v75_6 main_v75_7 main_v75_8 main_v77 main_arg1 main_arg2 main_arg3 main_arg4 main_arg5).2.2.2.1
  let main_v78_4 : FVec F S1024 .f32 := (fn_advance (F := F) main_v75_0 main_v75_1 main_v75_2 main_v75_3 main_v75_4 main_v75_5 main_v75_6 main_v75_7 main_v75_8 main_v77 main_arg1 main_arg2 main_arg3 main_arg4 main_arg5).2.2.2.2.1
  let main_v78_5 : FVec F S1024x1024 .f32 := (fn_advance (F := F) main_v75_0 main_v75_1 main_v75_2 main_v75_3 main_v75_4 main_v75_5 main_v75_6 main_v75_7 main_v75_8 main_v77 main_arg1 main_arg2 main_arg3 main_arg4 main_arg5).2.2.2.2.2.1
  let main_v78_6 : FVec F S1024 .f32 := (fn_advance (F := F) main_v75_0 main_v75_1 main_v75_2 main_v75_3 main_v75_4 main_v75_5 main_v75_6 main_v75_7 main_v75_8 main_v77 main_arg1 main_arg2 main_arg3 main_arg4 main_arg5).2.2.2.2.2.2.1
  let main_v78_7 : FVec F S4x1024 .f32 := (fn_advance (F := F) main_v75_0 main_v75_1 main_v75_2 main_v75_3 main_v75_4 main_v75_5 main_v75_6 main_v75_7 main_v75_8 main_v77 main_arg1 main_arg2 main_arg3 main_arg4 main_arg5).2.2.2.2.2.2.2.1
  let main_v78_8 : IVec S1024 1 := (fn_advance (F := F) main_v75_0 main_v75_1 main_v75_2 main_v75_3 main_v75_4 main_v75_5 main_v75_6 main_v75_7 main_v75_8 main_v77 main_arg1 main_arg2 main_arg3 main_arg4 main_arg5).2.2.2.2.2.2.2.2
  let main_v79 : FVec F S1x512 .f32 := (extractStridedSlice S1x512 ![22, 0] · slices_S32x512_S1x512_22_0) main_arg0
  let main_v80 : FVec F S512 .f32 := shapeCast S512 main_v79 shapeCasts_S1x512_S512
  let main_v81_0 : FVec F S512 .f32 := (fn_advance (F := F) main_v78_0 main_v78_1 main_v78_2 main_v78_3 main_v78_4 main_v78_5 main_v78_6 main_v78_7 main_v78_8 main_v80 main_arg1 main_arg2 main_arg3 main_arg4 main_arg5).1
  let main_v81_1 : FVec F S512 .f32 := (fn_advance (F := F) main_v78_0 main_v78_1 main_v78_2 main_v78_3 main_v78_4 main_v78_5 main_v78_6 main_v78_7 main_v78_8 main_v80 main_arg1 main_arg2 main_arg3 main_arg4 main_arg5).2.1
  let main_v81_2 : FVec F S1024x64 .f32 := (fn_advance (F := F) main_v78_0 main_v78_1 main_v78_2 main_v78_3 main_v78_4 main_v78_5 main_v78_6 main_v78_7 main_v78_8 main_v80 main_arg1 main_arg2 main_arg3 main_arg4 main_arg5).2.2.1
  let main_v81_3 : FVec F S1024 .f32 := (fn_advance (F := F) main_v78_0 main_v78_1 main_v78_2 main_v78_3 main_v78_4 main_v78_5 main_v78_6 main_v78_7 main_v78_8 main_v80 main_arg1 main_arg2 main_arg3 main_arg4 main_arg5).2.2.2.1
  let main_v81_4 : FVec F S1024 .f32 := (fn_advance (F := F) main_v78_0 main_v78_1 main_v78_2 main_v78_3 main_v78_4 main_v78_5 main_v78_6 main_v78_7 main_v78_8 main_v80 main_arg1 main_arg2 main_arg3 main_arg4 main_arg5).2.2.2.2.1
  fn_part11 (F := F) main_arg0 main_arg1 main_arg2 main_arg3 main_arg4 main_arg5 main_v78_0 main_v78_1 main_v78_2 main_v78_3 main_v78_4 main_v78_5 main_v78_6 main_v78_7 main_v78_8 main_v80 main_v81_0 main_v81_1 main_v81_2 main_v81_3 main_v81_4

def fn_part9 {F : FTy → Type} [FloatOps F] (main_arg0 : FVec F S32x512 .f32) (main_arg1 : FVec F S1024x2048 .f32) (main_arg2 : FVec F S2048 .f32) (main_arg3 : FVec F S512x471 .f32) (main_arg4 : FVec F S512x128 .f32) (main_arg5 : FVec F S256x128 .f32) (main_v66_0 : FVec F S512 .f32) (main_v66_1 : FVec F S512 .f32) (main_v66_2 : FVec F S1024x64 .f32) (main_v66_3 : FVec F S1024 .f32) (main_v66_4 : FVec F S1024 .f32) (main_v66_5 : FVec F S1024x1024 .f32) (main_v66_6 : FVec F S1024 .f32) (main_v66_7 : FVec F S4x1024 .f32) (main_v66_8 : IVec S1024 1) (main_v68 : FVec F S512 .f32) (main_v69_0 : FVec F S512 .f32) : IVec S1024 1 × IVec S512x2048 1 × IVec S512x471 1 × IVec S512x128 1 × IVec S256x128 1 :=
  let main_v69_1 : FVec F S512 .f32 := (fn_advance (F := F) main_v66_0 main_v66_1 main_v66_2 main_v66_3 main_v66_4 main_v66_5 main_v66_6 main_v66_7 main_v66_8 main_v68 main_arg1 main_arg2 main_arg3 main_arg4 main_arg5).2.1
  let main_v69_2 : FVec F S1024x64 .f32 := (fn_advance (F := F) main_v66_0 main_v66_1 main_v66_2 main_v66_3 main_v66_4 main_v66_5 main_v66_6 main_v66_7 main_v66_8 main_v68 main_arg1 main_arg2 main_arg3 main_arg4 main_arg5).2.2.1
  let main_v69_3 : FVec F S1024 .f32 := (fn_advance (F := F) main_v66_0 main_v66_1 main_v66_2 main_v66_3 main_v66_4 main_v66_5 main_v66_6 main_v66_7 main_v66_8 main_v68 main_arg1 main_arg2 main_arg3 main_arg4 main_arg5).2.2.2.1
  let main_v69_4 : FVec F S1024 .f32 := (fn_advance (F := F) main_v66_0 main_v66_1 main_v66_2 main_v66_3 main_v66_4 main_v66_5 main_v66_6 main_v66_7 main_v66_8 main_v68 main_arg1 main_arg2 main_arg3 main_arg4 main_arg5).2.2.2.2.1
  let main_v69_5 : FVec F S1024x1024 .f32 := (fn_advance (F := F) main_v66_0 main_v66_1 main_v66_2 main_v66_3 main_v66_4 main_v66_5 main_v66_6 main_v66_7 main_v66_8 main_v68 main_arg1 main_arg2 main_arg3 main_arg4 main_arg5).2.2.2.2.2.1
  let main_v69_6 : FVec F S1024 .f32 := (fn_advance (F := F) main_v66_0 main_v66_1 main_v66_2 main_v66_3 main_v66_4 main_v66_5 main_v66_6 main_v66_7 main_v66_8 main_v68 main_arg1 main_arg2 main_arg3 main_arg4 main_arg5).2.2.2.2.2.2.1
  let main_v69_7 : FVec F S4x1024 .f32 := (fn_advance (F := F) main_v66_0 main_v66_1 main_v66_2 main_v66_3 main_v66_4 main_v66_5 main_v66_6 main_v66_7 main_v66_8 main_v68 main_arg1 main_arg2 main_arg3 main_arg4 main_arg5).2.2.2.2.2.2.2.1
  let main_v69_8 : IVec S1024 1 := (fn_advance (F := F) main_v66_0 main_v66_1 main_v66_2 main_v66_3 main_v66_4 main_v66_5 main_v66_6 main_v66_7 main_v66_8 main_v68 main_arg1 main_arg2 main_arg3 main_arg4 main_arg5).2.2.2.2.2.2.2.2
  let main_v70 : FVec F S1x512 .f32 := (extractStridedSlice S1x512 ![19, 0] · slices_S32x512_S1x512_19_0) main_arg0
  let main_v71 : FVec F S512 .f32 := shapeCast S512 main_v70 shapeCasts_S1x512_S512
  let main_v72_0 : FVec F S512 .f32 := (fn_advance (F := F) main_v69_0 main_v69_1 main_v69_2 main_v69_3 main_v69_4 main_v69_5 main_v69_6 main_v69_7 main_v69_8 main_v71 main_arg1 main_arg2 main_arg3 main_arg4 main_arg5).1
  let main_v72_1 : FVec F S512 .f32 := (fn_advance (F := F) main_v69_0 main_v69_1 main_v69_2 main_v69_3 main_v69_4 main_v69_5 main_v69_6 main_v69_7 main_v69_8 main_v71 main_arg1 main_arg2 main_arg3 main_arg4 main_arg5).2.1
  let main_v72_2 : FVec F S1024x64 .f32 := (fn_advance (F := F) main_v69_0 main_v69_1 main_v69_2 main_v69_3 main_v69_4 main_v69_5 main_v69_6 main_v69_7 main_v69_8 main_v71 main_arg1 main_arg2 main_arg3 main_arg4 main_arg5).2.2.1
  let main_v72_3 : FVec F S1024 .f32 := (fn_advance (F := F) main_v69_0 main_v69_1 main_v69_2 main_v69_3 main_v69_4 main_v69_5 main_v69_6 main_v69_7 main_v69_8 main_v71 main_arg1 main_arg2 main_arg3 main_arg4 main_arg5).2.2.2.1
  let main_v72_4 : FVec F S1024 .f32 := (fn_advance (F := F) main_v69_0 main_v69_1 main_v69_2 main_v69_3 main_v69_4 main_v69_5 main_v69_6 main_v69_7 main_v69_8 main_v71 main_arg1 main_arg2 main_arg3 main_arg4 main_arg5).2.2.2.2.1
  let main_v72_5 : FVec F S1024x1024 .f32 := (fn_advance (F := F) main_v69_0 main_v69_1 main_v69_2 main_v69_3 main_v69_4 main_v69_5 main_v69_6 main_v69_7 main_v69_8 main_v71 main_arg1 main_arg2 main_arg3 main_arg4 main_arg5).2.2.2.2.2.1
  let main_v72_6 : FVec F S1024 .f32 := (fn_advance (F := F) main_v69_0 main_v69_1 main_v69_2 main_v69_3 main_v69_4 main_v69_5 main_v69_6 main_v69_7 main_v69_8 main_v71 main_arg1 main_arg2 main_arg3 main_arg4 main_arg5).2.2.2.2.2.2.1
  let main_v72_7 : FVec F S4x1024 .f32 := (fn_advance (F := F) main_v69_0 main_v69_1 main_v69_2 main_v69_3 main_v69_4 main_v69_5 main_v69_6 main_v69_7 main_v69_8 main_v71 main_arg1 main_arg2 main_arg3 main_arg4 main_arg5).2.2.2.2.2.2.2.1
  let main_v72_8 : IVec S1024 1 := (fn_advance (F := F) main_v69_0 main_v69_1 main_v69_2 main_v69_3 main_v69_4 main_v69_5 main_v69_6 main_v69_7 main_v69_8 main_v71 main_arg1 main_arg2 main_arg3 main_arg4 main_arg5).2.2.2.2.2.2.2.2
  let main_v73 : FVec F S1x512 .f32 := (extractStridedSlice S1x512 ![20, 0] · slices_S32x512_S1x512_20_0) main_arg0
  let main_v74 : FVec F S512 .f32 := shapeCast S512 main_v73 shapeCasts_S1x512_S512
  let main_v75_0 : FVec F S512 .f32 := (fn_advance (F := F) main_v72_0 main_v72_1 main_v72_2 main_v72_3 main_v72_4 main_v72_5 main_v72_6 main_v72_7 main_v72_8 main_v74 main_arg1 main_arg2 main_arg3 main_arg4 main_arg5).1
  let main_v75_1 : FVec F S512 .f32 := (fn_advance (F := F) main_v72_0 main_v72_1 main_v72_2 main_v72_3 main_v72_4 main_v72_5 main_v72_6 main_v72_7 main_v72_8 main_v74 main_arg1 main_arg2 main_arg3 main_arg4 main_arg5).2.1
  let main_v75_2 : FVec F S1024x64 .f32 := (fn_advance (F := F) main_v72_0 main_v72_1 main_v72_2 main_v72_3 main_v72_4 main_v72_5 main_v72_6 main_v72_7 main_v72_8 main_v74 main_arg1 main_arg2 main_arg3 main_arg4 main_arg5).2.2.1
  fn_part10 (F := F) main_arg0 main_arg1 main_arg2 main_arg3 main_arg4 main_arg5 main_v72_0 main_v72_1 main_v72_2 main_v72_3 main_v72_4 main_v72_5 main_v72_6 main_v72_7 main_v72_8 main_v74 main_v75_0 main_v75_1 main_v75_2

def fn_part8 {F : FTy → Type} [FloatOps F] (main_arg0 : FVec F S32x512 .f32) (main_arg1 : FVec F S1024x2048 .f32) (main_arg2 : FVec F S2048 .f32) (main_arg3 : FVec F S512x471 .f32) (main_arg4 : FVec F S512x128 .f32) (main_arg5 : FVec F S256x128 .f32) (main_v60_0 : FVec F S512 .f32) (main_v60_1 : FVec F S512 .f32) (main_v60_2 : FVec F S1024x64 .f32) (main_v60_3 : FVec F S1024 .f32) (main_v60_4 : FVec F S1024 .f32) (main_v60_5 : FVec F S1024x1024 .f32) (main_v60_6 : FVec F S1024 .f32) (main_v60_7 : FVec F S4x1024 .f32) (main_v60_8 : IVec S1024 1) (main_v61 : FVec F S1x512 .f32) : IVec S1024 1 × IVec S512x2048 1 × IVec S512x471 1 × IVec S512x128 1 × IVec S256x128 1 :=
  let main_v62 : FVec F S512 .f32 := shapeCast S512 main_v61 shapeCasts_S1x512_S512
  let main_v63_0 : FVec F S512 .f32 := (fn_advance (F := F) main_v60_0 main_v60_1 main_v60_2 main_v60_3 main_v60_4 main_v60_5 main_v60_6 main_v60_7 main_v60_8 main_v62 main_arg1 main_arg2 main_arg3 main_arg4 main_arg5).1
  let main_v63_1 : FVec F S512 .f32 := (fn_advance (F := F) main_v60_0 main_v60_1 main_v60_2 main_v60_3 main_v60_4 main_v60_5 main_v60_6 main_v60_7 main_v60_8 main_v62 main_arg1 main_arg2 main_arg3 main_arg4 main_arg5).2.1
  let main_v63_2 : FVec F S1024x64 .f32 := (fn_advance (F := F) main_v60_0 main_v60_1 main_v60_2 main_v60_3 main_v60_4 main_v60_5 main_v60_6 main_v60_7 main_v60_8 main_v62 main_arg1 main_arg2 main_arg3 main_arg4 main_arg5).2.2.1
  let main_v63_3 : FVec F S1024 .f32 := (fn_advance (F := F) main_v60_0 main_v60_1 main_v60_2 main_v60_3 main_v60_4 main_v60_5 main_v60_6 main_v60_7 main_v60_8 main_v62 main_arg1 main_arg2 main_arg3 main_arg4 main_arg5).2.2.2.1
  let main_v63_4 : FVec F S1024 .f32 := (fn_advance (F := F) main_v60_0 main_v60_1 main_v60_2 main_v60_3 main_v60_4 main_v60_5 main_v60_6 main_v60_7 main_v60_8 main_v62 main_arg1 main_arg2 main_arg3 main_arg4 main_arg5).2.2.2.2.1
  let main_v63_5 : FVec F S1024x1024 .f32 := (fn_advance (F := F) main_v60_0 main_v60_1 main_v60_2 main_v60_3 main_v60_4 main_v60_5 main_v60_6 main_v60_7 main_v60_8 main_v62 main_arg1 main_arg2 main_arg3 main_arg4 main_arg5).2.2.2.2.2.1
  let main_v63_6 : FVec F S1024 .f32 := (fn_advance (F := F) main_v60_0 main_v60_1 main_v60_2 main_v60_3 main_v60_4 main_v60_5 main_v60_6 main_v60_7 main_v60_8 main_v62 main_arg1 main_arg2 main_arg3 main_arg4 main_arg5).2.2.2.2.2.2.1
  let main_v63_7 : FVec F S4x1024 .f32 := (fn_advance (F := F) main_v60_0 main_v60_1 main_v60_2 main_v60_3 main_v60_4 main_v60_5 main_v60_6 main_v60_7 main_v60_8 main_v62 main_arg1 main_arg2 main_arg3 main_arg4 main_arg5).2.2.2.2.2.2.2.1
  let main_v63_8 : IVec S1024 1 := (fn_advance (F := F) main_v60_0 main_v60_1 main_v60_2 main_v60_3 main_v60_4 main_v60_5 main_v60_6 main_v60_7 main_v60_8 main_v62 main_arg1 main_arg2 main_arg3 main_arg4 main_arg5).2.2.2.2.2.2.2.2
  let main_v64 : FVec F S1x512 .f32 := (extractStridedSlice S1x512 ![17, 0] · slices_S32x512_S1x512_17_0) main_arg0
  let main_v65 : FVec F S512 .f32 := shapeCast S512 main_v64 shapeCasts_S1x512_S512
  let main_v66_0 : FVec F S512 .f32 := (fn_advance (F := F) main_v63_0 main_v63_1 main_v63_2 main_v63_3 main_v63_4 main_v63_5 main_v63_6 main_v63_7 main_v63_8 main_v65 main_arg1 main_arg2 main_arg3 main_arg4 main_arg5).1
  let main_v66_1 : FVec F S512 .f32 := (fn_advance (F := F) main_v63_0 main_v63_1 main_v63_2 main_v63_3 main_v63_4 main_v63_5 main_v63_6 main_v63_7 main_v63_8 main_v65 main_arg1 main_arg2 main_arg3 main_arg4 main_arg5).2.1
  let main_v66_2 : FVec F S1024x64 .f32 := (fn_advance (F := F) main_v63_0 main_v63_1 main_v63_2 main_v63_3 main_v63_4 main_v63_5 main_v63_6 main_v63_7 main_v63_8 main_v65 main_arg1 main_arg2 main_arg3 main_arg4 main_arg5).2.2.1
  let main_v66_3 : FVec F S1024 .f32 := (fn_advance (F := F) main_v63_0 main_v63_1 main_v63_2 main_v63_3 main_v63_4 main_v63_5 main_v63_6 main_v63_7 main_v63_8 main_v65 main_arg1 main_arg2 main_arg3 main_arg4 main_arg5).2.2.2.1
  let main_v66_4 : FVec F S1024 .f32 := (fn_advance (F := F) main_v63_0 main_v63_1 main_v63_2 main_v63_3 main_v63_4 main_v63_5 main_v63_6 main_v63_7 main_v63_8 main_v65 main_arg1 main_arg2 main_arg3 main_arg4 main_arg5).2.2.2.2.1
  let main_v66_5 : FVec F S1024x1024 .f32 := (fn_advance (F := F) main_v63_0 main_v63_1 main_v63_2 main_v63_3 main_v63_4 main_v63_5 main_v63_6 main_v63_7 main_v63_8 main_v65 main_arg1 main_arg2 main_arg3 main_arg4 main_arg5).2.2.2.2.2.1
  let main_v66_6 : FVec F S1024 .f32 := (fn_advance (F := F) main_v63_0 main_v63_1 main_v63_2 main_v63_3 main_v63_4 main_v63_5 main_v63_6 main_v63_7 main_v63_8 main_v65 main_arg1 main_arg2 main_arg3 main_arg4 main_arg5).2.2.2.2.2.2.1
  let main_v66_7 : FVec F S4x1024 .f32 := (fn_advance (F := F) main_v63_0 main_v63_1 main_v63_2 main_v63_3 main_v63_4 main_v63_5 main_v63_6 main_v63_7 main_v63_8 main_v65 main_arg1 main_arg2 main_arg3 main_arg4 main_arg5).2.2.2.2.2.2.2.1
  let main_v66_8 : IVec S1024 1 := (fn_advance (F := F) main_v63_0 main_v63_1 main_v63_2 main_v63_3 main_v63_4 main_v63_5 main_v63_6 main_v63_7 main_v63_8 main_v65 main_arg1 main_arg2 main_arg3 main_arg4 main_arg5).2.2.2.2.2.2.2.2
  let main_v67 : FVec F S1x512 .f32 := (extractStridedSlice S1x512 ![18, 0] · slices_S32x512_S1x512_18_0) main_arg0
  let main_v68 : FVec F S512 .f32 := shapeCast S512 main_v67 shapeCasts_S1x512_S512
  let main_v69_0 : FVec F S512 .f32 := (fn_advance (F := F) main_v66_0 main_v66_1 main_v66_2 main_v66_3 main_v66_4 main_v66_5 main_v66_6 main_v66_7 main_v66_8 main_v68 main_arg1 main_arg2 main_arg3 main_arg4 main_arg5).1
  fn_part9 (F := F) main_arg0 main_arg1 main_arg2 main_arg3 main_arg4 main_arg5 main_v66_0 main_v66_1 main_v66_2 main_v66_3 main_v66_4 main_v66_5 main_v66_6 main_v66_7 main_v66_8 main_v68 main_v69_0

def fn_part7 {F : FTy → Type} [FloatOps F] (main_arg0 : FVec F S32x512 .f32) (main_arg1 : FVec F S1024x2048 .f32) (main_arg2 : FVec F S2048 .f32) (main_arg3 : FVec F S512x471 .f32) (main_arg4 : FVec F S512x128 .f32) (main_arg5 : FVec F S256x128 .f32) (main_v51_0 : FVec F S512 .f32) (main_v51_1 : FVec F S512 .f32) (main_v51_2 : FVec F S1024x64 .f32) (main_v51_3 : FVec F S1024 .f32) (main_v51_4 : FVec F S1024 .f32) (main_v51_5 : FVec F S1024x1024 .f32) (main_v51_6 : FVec F S1024 .f32) (main_v51_7 : FVec F S4x1024 .f32) (main_v51_8 : IVec S1024 1) (main_v53 : FVec F S512 .f32) (main_v54_0 : FVec F S512 .f32) (main_v54_1 : FVec F S512 .f32) (main_v54_2 : FVec F S1024x64 .f32) (main_v54_3 : FVec F S1024 .f32) (main_v54_4 : FVec F S1024 .f32) (main_v54_5 : FVec F S1024x1024 .f32) (main_v54_6 : FVec F S1024 .f32) (main_v54_7 : FVec F S4x1024 .f32) : IVec S1024 1 × IVec S512x2048 1 × IVec S512x471 1 × IVec S512x128 1 × IVec S256x128 1 :=
  let main_v54_8 : IVec S1024 1 := (fn_advance (F := F) main_v51_0 main_v51_1 main_v51_2 main_v51_3 main_v51_4 main_v51_5 main_v51_6 main_v51_7 main_v51_8 main_v53 main_arg1 main_arg2 main_arg3 main_arg4 main_arg5).2.2.2.2.2.2.2.2
  let main_v55 : FVec F S1x512 .f32 := (extractStridedSlice S1x512 ![14, 0] · slices_S32x512_S1x512_14_0) main_arg0
  let main_v56 : FVec F S512 .f32 := shapeCast S512 main_v55 shapeCasts_S1x512_S512
  let main_v57_0 : FVec F S512 .f32 := (fn_advance (F := F) main_v54_0 main_v54_1 main_v54_2 main_v54_3 main_v54_4 main_v54_5 main_v54_6 main_v54_7 main_v54_8 main_v56 main_arg1 main_arg2 main_arg3 main_arg4 main_arg5).1
  let main_v57_1 : FVec F S512 .f32 := (fn_advance (F := F) main_v54_0 main_v54_1 main_v54_2 main_v54_3 main_v54_4 main_v54_5 main_v54_6 main_v54_7 main_v54_8 main_v56 main_arg1 main_arg2 main_arg3 main_arg4 main_arg5).2.1
  let main_v57_2 : FVec F S1024x64 .f32 := (fn_advance (F := F) main_v54_0 main_v54_1 main_v54_2 main_v54_3 main_v54_4 main_v54_5 main_v54_6 main_v54_7 main_v54_8 main_v56 main_arg1 main_arg2 main_arg3 main_arg4 main_arg5).2.2.1
  let main_v57_3 : FVec F S1024 .f32 := (fn_advance (F := F) main_v54_0 main_v54_1 main_v54_2 main_v54_3 main_v54_4 main_v54_5 main_v54_6 main_v54_7 main_v54_8 main_v56 main_arg1 main_arg2 main_arg3 main_arg4 main_arg5).2.2.2.1
  let main_v57_4 : FVec F S1024 .f32 := (fn_advance (F := F) main_v54_0 main_v54_1 main_v54_2 main_v54_3 main_v54_4 main_v54_5 main_v54_6 main_v54_7 main_v54_8 main_v56 main_arg1 main_arg2 main_arg3 main_arg4 main_arg5).2.2.2.2.1
  let main_v57_5 : FVec F S1024x1024 .f32 := (fn_advance (F := F) main_v54_0 main_v54_1 main_v54_2 main_v54_3 main_v54_4 main_v54_5 main_v54_6 main_v54_7 main_v54_8 main_v56 main_arg1 main_arg2 main_arg3 main_arg4 main_arg5).2.2.2.2.2.1
  let main_v57_6 : FVec F S1024 .f32 := (fn_advance (F := F) main_v54_0 main_v54_1 main_v54_2 main_v54_3 main_v54_4 main_v54_5 main_v54_6 main_v54_7 main_v54_8 main_v56 main_arg1 main_arg2 main_arg3 main_arg4 main_arg5).2.2.2.2.2.2.1
  let main_v57_7 : FVec F S4x1024 .f32 := (fn_advance (F := F) main_v54_0 main_v54_1 main_v54_2 main_v54_3 main_v54_4 main_v54_5 main_v54_6 main_v54_7 main_v54_8 main_v56 main_arg1 main_arg2 main_arg3 main_arg4 main_arg5).2.2.2.2.2.2.2.1
  let main_v57_8 : IVec S1024 1 := (fn_advance (F := F) main_v54_0 main_v54_1 main_v54_2 main_v54_3 main_v54_4 main_v54_5 main_v54_6 main_v54_7 main_v54_8 main_v56 main_arg1 main_arg2 main_arg3 main_arg4 main_arg5).2.2.2.2.2.2.2.2
  let main_v58 : FVec F S1x512 .f32 := (extractStridedSlice S1x512 ![15, 0] · slices_S32x512_S1x512_15_0) main_arg0
  let main_v59 : FVec F S512 .f32 := shapeCast S512 main_v58 shapeCasts_S1x512_S512
  let main_v60_0 : FVec F S512 .f32 := (fn_advance (F := F) main_v57_0 main_v57_1 main_v57_2 main_v57_3 main_v57_4 main_v57_5 main_v57_6 main_v57_7 main_v57_8 main_v59 main_arg1 main_arg2 main_arg3 main_arg4 main_arg5).1
  let main_v60_1 : FVec F S512 .f32 := (fn_advance (F := F) main_v57_0 main_v57_1 main_v57_2 main_v57_3 main_v57_4 main_v57_5 main_v57_6 main_v57_7 main_v57_8 main_v59 main_arg1 main_arg2 main_arg3 main_arg4 main_arg5).2.1
  let main_v60_2 : FVec F S1024x64 .f32 := (fn_advance (F := F) main_v57_0 main_v57_1 main_v57_2 main_v57_3 main_v57_4 main_v57_5 main_v57_6 main_v57_7 main_v57_8 main_v59 main_arg1 main_arg2 main_arg3 main_arg4 main_arg5).2.2.1
  let main_v60_3 : FVec F S1024 .f32 := (fn_advance (F := F) main_v57_0 main_v57_1 main_v57_2 main_v57_3 main_v57_4 main_v57_5 main_v57_6 main_v57_7 main_v57_8 main_v59 main_arg1 main_arg2 main_arg3 main_arg4 main_arg5).2.2.2.1
  let main_v60_4 : FVec F S1024 .f32 := (fn_advance (F := F) main_v57_0 main_v57_1 main_v57_2 main_v57_3 main_v57_4 main_v57_5 main_v57_6 main_v57_7 main_v57_8 main_v59 main_arg1 main_arg2 main_arg3 main_arg4 main_arg5).2.2.2.2.1
  let main_v60_5 : FVec F S1024x1024 .f32 := (fn_advance (F := F) main_v57_0 main_v57_1 main_v57_2 main_v57_3 main_v57_4 main_v57_5 main_v57_6 main_v57_7 main_v57_8 main_v59 main_arg1 main_arg2 main_arg3 main_arg4 main_arg5).2.2.2.2.2.1
  let main_v60_6 : FVec F S1024 .f32 := (fn_advance (F := F) main_v57_0 main_v57_1 main_v57_2 main_v57_3 main_v57_4 main_v57_5 main_v57_6 main_v57_7 main_v57_8 main_v59 main_arg1 main_arg2 main_arg3 main_arg4 main_arg5).2.2.2.2.2.2.1
  let main_v60_7 : FVec F S4x1024 .f32 := (fn_advance (F := F) main_v57_0 main_v57_1 main_v57_2 main_v57_3 main_v57_4 main_v57_5 main_v57_6 main_v57_7 main_v57_8 main_v59 main_arg1 main_arg2 main_arg3 main_arg4 main_arg5).2.2.2.2.2.2.2.1
  let main_v60_8 : IVec S1024 1 := (fn_advance (F := F) main_v57_0 main_v57_1 main_v57_2 main_v57_3 main_v57_4 main_v57_5 main_v57_6 main_v57_7 main_v57_8 main_v59 main_arg1 main_arg2 main_arg3 main_arg4 main_arg5).2.2.2.2.2.2.2.2
  let main_v61 : FVec F S1x512 .f32 := (extractStridedSlice S1x512 ![16, 0] · slices_S32x512_S1x512_16_0) main_arg0
  fn_part8 (F := F) main_arg0 main_arg1 main_arg2 main_arg3 main_arg4 main_arg5 main_v60_0 main_v60_1 main_v60_2 main_v60_3 main_v60_4 main_v60_5 main_v60_6 main_v60_7 main_v60_8 main_v61

def fn_part6 {F : FTy → Type} [FloatOps F] (main_arg0 : FVec F S32x512 .f32) (main_arg1 : FVec F S1024x2048 .f32) (main_arg2 : FVec F S2048 .f32) (main_arg3 : FVec F S512x471 .f32) (main_arg4 : FVec F S512x128 .f32) (main_arg5 : FVec F S256x128 .f32) (main_v45_0 : FVec F S512 .f32) (main_v45_1 : FVec F S512 .f32) (main_v45_2 : FVec F S1024x64 .f32) (main_v45_3 : FVec F S1024 .f32) (main_v45_4 : FVec F S1024 .f32) (main_v45_5 : FVec F S1024x1024 .f32) (main_v45_6 : FVec F S1024 .f32) (main_v45_7 : FVec F S4x1024 .f32) (main_v45_8 : IVec S1024 1) (main_v47 : FVec F S512 .f32) (main_v48_0 : FVec F S512 .f32) (main_v48_1 : FVec F S512 .f32) (main_v48_2 : FVec F S1024x64 .f32) (main_v48_3 : FVec F S1024 .f32) (main_v48_4 : FVec F S1024 .f32) (main_v48_5 : FVec F S1024x1024 .f32) : IVec S1024 1 × IVec S512x2048 1 × IVec S512x471 1 × IVec S512x128 1 × IVec S256x128 1 :=
  let main_v48_6 : FVec F S1024 .f32 := (fn_advance (F := F) main_v45_0 main_v45_1 main_v45_2 main_v45_3 main_v45_4 main_v45_5 main_v45_6 main_v45_7 main_v45_8 main_v47 main_arg1 main_arg2 main_arg3 main_arg4 main_arg5).2.2.2.2.2.2.1
  let main_v48_7 : FVec F S4x1024 .f32 := (fn_advance (F := F) main_v45_0 main_v45_1 main_v45_2 main_v45_3 main_v45_4 main_v45_5 main_v45_6 main_v45_7 main_v45_8 main_v47 main_arg1 main_arg2 main_arg3 main_arg4 main_arg5).2.2.2.2.2.2.2.1
  let main_v48_8 : IVec S1024 1 := (fn_advance (F := F) main_v45_0 main_v45_1 main_v45_2 main_v45_3 main_v45_4 main_v45_5 main_v45_6 main_v45_7 main_v45_8 main_v47 main_arg1 main_arg2 main_arg3 main_arg4 main_arg5).2.2.2.2.2.2.2.2
  let main_v49 : FVec F S1x512 .f32 := (extractStridedSlice S1x512 ![12, 0] · slices_S32x512_S1x512_12_0) main_arg0
  let main_v50 : FVec F S512 .f32 := shapeCast S512 main_v49 shapeCasts_S1x512_S512
  let main_v51_0 : FVec F S512 .f32 := (fn_advance (F := F) main_v48_0 main_v48_1 main_v48_2 main_v48_3 main_v48_4 main_v48_5 main_v48_6 main_v48_7 main_v48_8 main_v50 main_arg1 main_arg2 main_arg3 main_arg4 main_arg5).1
  let main_v51_1 : FVec F S512 .f32 := (fn_advance (F := F) main_v48_0 main_v48_1 main_v48_2 main_v48_3 main_v48_4 main_v48_5 main_v48_6 main_v48_7 main_v48_8 main_v50 main_arg1 main_arg2 main_arg3 main_arg4 main_arg5).2.1
  let main_v51_2 : FVec F S1024x64 .f32 := (fn_advance (F := F) main_v48_0 main_v48_1 main_v48_2 main_v48_3 main_v48_4 main_v48_5 main_v48_6 main_v48_7 main_v48_8 main_v50 main_arg1 main_arg2 main_arg3 main_arg4 main_arg5).2.2.1
  let main_v51_3 : FVec F S1024 .f32 := (fn_advance (F := F) main_v48_0 main_v48_1 main_v48_2 main_v48_3 main_v48_4 main_v48_5 main_v48_6 main_v48_7 main_v48_8 main_v50 main_arg1 main_arg2 main_arg3 main_arg4 main_arg5).2.2.2.1
  let main_v51_4 : FVec F S1024 .f32 := (fn_advance (F := F) main_v48_0 main_v48_1 main_v48_2 main_v48_3 main_v48_4 main_v48_5 main_v48_6 main_v48_7 main_v48_8 main_v50 main_arg1 main_arg2 main_arg3 main_arg4 main_arg5).2.2.2.2.1
  let main_v51_5 : FVec F S1024x1024 .f32 := (fn_advance (F := F) main_v48_0 main_v48_1 main_v48_2 main_v48_3 main_v48_4 main_v48_5 main_v48_6 main_v48_7 main_v48_8 main_v50 main_arg1 main_arg2 main_arg3 main_arg4 main_arg5).2.2.2.2.2.1
  let main_v51_6 : FVec F S1024 .f32 := (fn_advance (F := F) main_v48_0 main_v48_1 main_v48_2 main_v48_3 main_v48_4 main_v48_5 main_v48_6 main_v48_7 main_v48_8 main_v50 main_arg1 main_arg2 main_arg3 main_arg4 main_arg5).2.2.2.2.2.2.1
  let main_v51_7 : FVec F S4x1024 .f32 := (fn_advance (F := F) main_v48_0 main_v48_1 main_v48_2 main_v48_3 main_v48_4 main_v48_5 main_v48_6 main_v48_7 main_v48_8 main_v50 main_arg1 main_arg2 main_arg3 main_arg4 main_arg5).2.2.2.2.2.2.2.1
  let main_v51_8 : IVec S1024 1 := (fn_advance (F := F) main_v48_0 main_v48_1 main_v48_2 main_v48_3 main_v48_4 main_v48_5 main_v48_6 main_v48_7 main_v48_8 main_v50 main_arg1 main_arg2 main_arg3 main_arg4 main_arg5).2.2.2.2.2.2.2.2
  let main_v52 : FVec F S1x512 .f32 := (extractStridedSlice S1x512 ![13, 0] · slices_S32x512_S1x512_13_0) main_arg0
  let main_v53 : FVec F S512 .f32 := shapeCast S512 main_v52 shapeCasts_S1x512_S512
  let main_v54_0 : FVec F S512 .f32 := (fn_advance (F := F) main_v51_0 main_v51_1 main_v51_2 main_v51_3 main_v51_4 main_v51_5 main_v51_6 main_v51_7 main_v51_8 main_v53 main_arg1 main_arg2 main_arg3 main_arg4 main_arg5).1
  let main_v54_1 : FVec F S512 .f32 := (fn_advance (F := F) main_v51_0 main_v51_1 main_v51_2 main_v51_3 main_v51_4 main_v51_5 main_v51_6 main_v51_7 main_v51_8 main_v53 main_arg1 main_arg2 main_arg3 main_arg4 main_arg5).2.1
  let main_v54_2 : FVec F S1024x64 .f32 := (fn_advance (F := F) main_v51_0 main_v51_1 main_v51_2 main_v51_3 main_v51_4 main_v51_5 main_v51_6 main_v51_7 main_v51_8 main_v53 main_arg1 main_arg2 main_arg3 main_arg4 main_arg5).2.2.1
  let main_v54_3 : FVec F S1024 .f32 := (fn_advance (F := F) main_v51_0 main_v51_1 main_v51_2 main_v51_3 main_v51_4 main_v51_5 main_v51_6 main_v51_7 main_v51_8 main_v53 main_arg1 main_arg2 main_arg3 main_arg4 main_arg5).2.2.2.1
  let main_v54_4 : FVec F S1024 .f32 := (fn_advance (F := F) main_v51_0 main_v51_1 main_v51_2 main_v51_3 main_v51_4 main_v51_5 main_v51_6 main_v51_7 main_v51_8 main_v53 main_arg1 main_arg2 main_arg3 main_arg4 main_arg5).2.2.2.2.1
  let main_v54_5 : FVec F S1024x1024 .f32 := (fn_advance (F := F) main_v51_0 main_v51_1 main_v51_2 main_v51_3 main_v51_4 main_v51_5 main_v51_6 main_v51_7 main_v51_8 main_v53 main_arg1 main_arg2 main_arg3 main_arg4 main_arg5).2.2.2.2.2.1
  let main_v54_6 : FVec F S1024 .f32 := (fn_advance (F := F) main_v51_0 main_v51_1 main_v51_2 main_v51_3 main_v51_4 main_v51_5 main_v51_6 main_v51_7 main_v51_8 main_v53 main_arg1 main_arg2 main_arg3 main_arg4 main_arg5).2.2.2.2.2.2.1
  let main_v54_7 : FVec F S4x1024 .f32 := (fn_advance (F := F) main_v51_0 main_v51_1 main_v51_2 main_v51_3 main_v51_4 main_v51_5 main_v51_6 main_v51_7 main_v51_8 main_v53 main_arg1 main_arg2 main_arg3 main_arg4 main_arg5).2.2.2.2.2.2.2.1
  fn_part7 (F := F) main_arg0 main_arg1 main_arg2 main_arg3 main_arg4 main_arg5 main_v51_0 main_v51_1 main_v51_2 main_v51_3 main_v51_4 main_v51_5 main_v51_6 main_v51_7 main_v51_8 main_v53 main_v54_0 main_v54_1 main_v54_2 main_v54_3 main_v54_4 main_v54_5 main_v54_6 main_v54_7

def fn_part5 {F : FTy → Type} [FloatOps F] (main_arg0 : FVec F S32x512 .f32) (main_arg1 : FVec F S1024x2048 .f32) (main_arg2 : FVec F S2048 .f32) (main_arg3 : FVec F S512x471 .f32) (main_arg4 : FVec F S512x128 .f32) (main_arg5 : FVec F S256x128 .f32) (main_v39_0 : FVec F S512 .f32) (main_v39_1 : FVec F S512 .f32) (main_v39_2 : FVec F S1024x64 .f32) (main_v39_3 : FVec F S1024 .f32) (main_v39_4 : FVec F S1024 .f32) (main_v39_5 : FVec F S1024x1024 .f32) (main_v39_6 : FVec F S1024 .f32) (main_v39_7 : FVec F S4x1024 .f32) (main_v39_8 : IVec S1024 1) (main_v41 : FVec F S512 .f32) (main_v42_0 : FVec F S512 .f32) (main_v42_1 : FVec F S512 .f32) (main_v42_2 : FVec F S1024x64 .f32) (main_v42_3 : FVec F S1024 .f32) : IVec S1024 1 × IVec S512x2048 1 × IVec S512x471 1 × IVec S512x128 1 × IVec S256x128 1 :=
  let main_v42_4 : FVec F S1024 .f32 := (fn_advance (F := F) main_v39_0 main_v39_1 main_v39_2 main_v39_3 main_v39_4 main_v39_5 main_v39_6 main_v39_7 main_v39_8 main_v41 main_arg1 main_arg2 main_arg3 main_arg4 main_arg5).2.2.2.2.1
  let main_v42_5 : FVec F S1024x1024 .f32 := (fn_advance (F := F) main_v39_0 main_v39_1 main_v39_2 main_v39_3 main_v39_4 main_v39_5 main_v39_6 main_v39_7 main_v39_8 main_v41 main_arg1 main_arg2 main_arg3 main_arg4 main_arg5).2.2.2.2.2.1
  let main_v42_6 : FVec F S1024 .f32 := (fn_advance (F := F) main_v39_0 main_v39_1 main_v39_2 main_v39_3 main_v39_4 main_v39_5 main_v39_6 main_v39_7 main_v39_8 main_v41 main_arg1 main_arg2 main_arg3 main_arg4 main_arg5).2.2.2.2.2.2.1
  let main_v42_7 : FVec F S4x1024 .f32 := (fn_advance (F := F) main_v39_0 main_v39_1 main_v39_2 main_v39_3 main_v39_4 main_v39_5 main_v39_6 main_v39_7 main_v39_8 main_v41 main_arg1 main_arg2 main_arg3 main_arg4 main_arg5).2.2.2.2.2.2.2.1
  let main_v42_8 : IVec S1024 1 := (fn_advance (F := F) main_v39_0 main_v39_1 main_v39_2 main_v39_3 main_v39_4 main_v39_5 main_v39_6 main_v39_7 main_v39_8 main_v41 main_arg1 main_arg2 main_arg3 main_arg4 main_arg5).2.2.2.2.2.2.2.2
  let main_v43 : FVec F S1x512 .f32 := (extractStridedSlice S1x512 ![10, 0] · slices_S32x512_S1x512_10_0) main_arg0
  let main_v44 : FVec F S512 .f32 := shapeCast S512 main_v43 shapeCasts_S1x512_S512
  let main_v45_0 : FVec F S512 .f32 := (fn_advance (F := F) main_v42_0 main_v42_1 main_v42_2 main_v42_3 main_v42_4 main_v42_5 main_v42_6 main_v42_7 main_v42_8 main_v44 main_arg1 main_arg2 main_arg3 main_arg4 main_arg5).1
  let main_v45_1 : FVec F S512 .f32 := (fn_advance (F := F) main_v42_0 main_v42_1 main_v42_2 main_v42_3 main_v42_4 main_v42_5 main_v42_6 main_v42_7 main_v42_8 main_v44 main_arg1 main_arg2 main_arg3 main_arg4 main_arg5).2.1
  let main_v45_2 : FVec F S1024x64 .f32 := (fn_advance (F := F) main_v42_0 main_v42_1 main_v42_2 main_v42_3 main_v42_4 main_v42_5 main_v42_6 main_v42_7 main_v42_8 main_v44 main_arg1 main_arg2 main_arg3 main_arg4 main_arg5).2.2.1
  let main_v45_3 : FVec F S1024 .f32 := (fn_advance (F := F) main_v42_0 main_v42_1 main_v42_2 main_v42_3 main_v42_4 main_v42_5 main_v42_6 main_v42_7 main_v42_8 main_v44 main_arg1 main_arg2 main_arg3 main_arg4 main_arg5).2.2.2.1
  let main_v45_4 : FVec F S1024 .f32 := (fn_advance (F := F) main_v42_0 main_v42_1 main_v42_2 main_v42_3 main_v42_4 main_v42_5 main_v42_6 main_v42_7 main_v42_8 main_v44 main_arg1 main_arg2 main_arg3 main_arg4 main_arg5).2.2.2.2.1
  let main_v45_5 : FVec F S1024x1024 .f32 := (fn_advance (F := F) main_v42_0 main_v42_1 main_v42_2 main_v42_3 main_v42_4 main_v42_5 main_v42_6 main_v42_7 main_v42_8 main_v44 main_arg1 main_arg2 main_arg3 main_arg4 main_arg5).2.2.2.2.2.1
  let main_v45_6 : FVec F S1024 .f32 := (fn_advance (F := F) main_v42_0 main_v42_1 main_v42_2 main_v42_3 main_v42_4 main_v42_5 main_v42_6 main_v42_7 main_v42_8 main_v44 main_arg1 main_arg2 main_arg3 main_arg4 main_arg5).2.2.2.2.2.2.1
  let main_v45_7 : FVec F S4x1024 .f32 := (fn_advance (F := F) main_v42_0 main_v42_1 main_v42_2 main_v42_3 main_v42_4 main_v42_5 main_v42_6 main_v42_7 main_v42_8 main_v44 main_arg1 main_arg2 main_arg3 main_arg4 main_arg5).2.2.2.2.2.2.2.1
  let main_v45_8 : IVec S1024 1 := (fn_advance (F := F) main_v42_0 main_v42_1 main_v42_2 main_v42_3 main_v42_4 main_v42_5 main_v42_6 main_v42_7 main_v42_8 main_v44 main_arg1 main_arg2 main_arg3 main_arg4 main_arg5).2.2.2.2.2.2.2.2
  let main_v46 : FVec F S1x512 .f32 := (extractStridedSlice S1x512 ![11, 0] · slices_S32x512_S1x512_11_0) main_arg0
  let main_v47 : FVec F S512 .f32 := shapeCast S512 main_v46 shapeCasts_S1x512_S512
  let main_v48_0 : FVec F S512 .f32 := (fn_advance (F := F) main_v45_0 main_v45_1 main_v45_2 main_v45_3 main_v45_4 main_v45_5 main_v45_6 main_v45_7 main_v45_8 main_v47 main_arg1 main_arg2 main_arg3 main_arg4 main_arg5).1
  let main_v48_1 : FVec F S512 .f32 := (fn_advance (F := F) main_v45_0 main_v45_1 main_v45_2 main_v45_3 main_v45_4 main_v45_5 main_v45_6 main_v45_7 main_v45_8 main_v47 main_arg1 main_arg2 main_arg3 main_arg4 main_arg5).2.1
  let main_v48_2 : FVec F S1024x64 .f32 := (fn_advance (F := F) main_v45_0 main_v45_1 main_v45_2 main_v45_3 main_v45_4 main_v45_5 main_v45_6 main_v45_7 main_v45_8 main_v47 main_arg1 main_arg2 main_arg3 main_arg4 main_arg5).2.2.1
  let main_v48_3 : FVec F S1024 .f32 := (fn_advance (F := F) main_v45_0 main_v45_1 main_v45_2 main_v45_3 main_v45_4 main_v45_5 main_v45_6 main_v45_7 main_v45_8 main_v47 main_arg1 main_arg2 main_arg3 main_arg4 main_arg5).2.2.2.1
  let main_v48_4 : FVec F S1024 .f32 := (fn_advance (F := F) main_v45_0 main_v45_1 main_v45_2 main_v45_3 main_v45_4 main_v45_5 main_v45_6 main_v45_7 main_v45_8 main_v47 main_arg1 main_arg2 main_arg3 main_arg4 main_arg5).2.2.2.2.1
  let main_v48_5 : FVec F S1024x1024 .f32 := (fn_advance (F := F) main_v45_0 main_v45_1 main_v45_2 main_v45_3 main_v45_4 main_v45_5 main_v45_6 main_v45_7 main_v45_8 main_v47 main_arg1 main_arg2 main_arg3 main_arg4 main_arg5).2.2.2.2.2.1
  fn_part6 (F := F) main_arg0 main_arg1 main_arg2 main_arg3 main_arg4 main_arg5 main_v45_0 main_v45_1 main_v45_2 main_v45_3 main_v45_4 main_v45_5 main_v45_6 main_v45_7 main_v45_8 main_v47 main_v48_0 main_v48_1 main_v48_2 main_v48_3 main_v48_4 main_v48_5

def fn_part4 {F : FTy → Type} [FloatOps F] (main_arg0 : FVec F S32x512 .f32) (main_arg1 : FVec F S1024x2048 .f32) (main_arg2 : FVec F S2048 .f32) (main_arg3 : FVec F S512x471 .f32) (main_arg4 : FVec F S512x128 .f32) (main_arg5 : FVec F S256x128 .f32) (main_v33_0 : FVec F S512 .f32) (main_v33_1 : FVec F S512 .f32) (main_v33_2 : FVec F S1024x64 .f32) (main_v33_3 : FVec F S1024 .f32) (main_v33_4 : FVec F S1024 .f32) (main_v33_5 : FVec F S1024x1024 .f32) (main_v33_6 : FVec F S1024 .f32) (main_v33_7 : FVec F S4x1024 .f32) (main_v33_8 : IVec S1024 1) (main_v35 : FVec F S512 .f32) (main_v36_0 : FVec F S512 .f32) (main_v36_1 : FVec F S512 .f32) : IVec S1024 1 × IVec S512x2048 1 × IVec S512x471 1 × IVec S512x128 1 × IVec S256x128 1 :=
  let main_v36_2 : FVec F S1024x64 .f32 := (fn_advance (F := F) main_v33_0 main_v33_1 main_v33_2 main_v33_3 main_v33_4 main_v33_5 main_v33_6 main_v33_7 main_v33_8 main_v35 main_arg1 main_arg2 main_arg3 main_arg4 main_arg5).2.2.1
  let main_v36_3 : FVec F S1024 .f32 := (fn_advance (F := F) main_v33_0 main_v33_1 main_v33_2 main_v33_3 main_v33_4 main_v33_5 main_v33_6 main_v33_7 main_v33_8 main_v35 main_arg1 main_arg2 main_arg3 main_arg4 main_arg5).2.2.2.1
  let main_v36_4 : FVec F S1024 .f32 := (fn_advance (F := F) main_v33_0 main_v33_1 main_v33_2 main_v33_3 main_v33_4 main_v33_5 main_v33_6 main_v33_7 main_v33_8 main_v35 main_arg1 main_arg2 main_arg3 main_arg4 main_arg5).2.2.2.2.1
  let main_v36_5 : FVec F S1024x1024 .f32 := (fn_advance (F := F) main_v33_0 main_v33_1 main_v33_2 main_v33_3 main_v33_4 main_v33_5 main_v33_6 main_v33_7 main_v33_8 main_v35 main_arg1 main_arg2 main_arg3 main_arg4 main_arg5).2.2.2.2.2.1
  let main_v36_6 : FVec F S1024 .f32 := (fn_advance (F := F) main_v33_0 main_v33_1 main_v33_2 main_v33_3 main_v33_4 main_v33_5 main_v33_6 main_v33_7 main_v33_8 main_v35 main_arg1 main_arg2 main_arg3 main_arg4 main_arg5).2.2.2.2.2.2.1
  let main_v36_7 : FVec F S4x1024 .f32 := (fn_advance (F := F) main_v33_0 main_v33_1 main_v33_2 main_v33_3 main_v33_4 main_v33_5 main_v33_6 main_v33_7 main_v33_8 main_v35 main_arg1 main_arg2 main_arg3 main_arg4 main_arg5).2.2.2.2.2.2.2.1
  let main_v36_8 : IVec S1024 1 := (fn_advance (F := F) main_v33_0 main_v33_1 main_v33_2 main_v33_3 main_v33_4 main_v33_5 main_v33_6 main_v33_7 main_v33_8 main_v35 main_arg1 main_arg2 main_arg3 main_arg4 main_arg5).2.2.2.2.2.2.2.2
  let main_v37 : FVec F S1x512 .f32 := (extractStridedSlice S1x512 ![8, 0] · slices_S32x512_S1x512_8_0) main_arg0
  let main_v38 : FVec F S512 .f32 := shapeCast S512 main_v37 shapeCasts_S1x512_S512
  let main_v39_0 : FVec F S512 .f32 := (fn_advance (F := F) main_v36_0 main_v36_1 main_v36_2 main_v36_3 main_v36_4 main_v36_5 main_v36_6 main_v36_7 main_v36_8 main_v38 main_arg1 main_arg2 main_arg3 main_arg4 main_arg5).1
  let main_v39_1 : FVec F S512 .f32 := (fn_advance (F := F) main_v36_0 main_v36_1 main_v36_2 main_v36_3 main_v36_4 main_v36_5 main_v36_6 main_v36_7 main_v36_8 main_v38 main_arg1 main_arg2 main_arg3 main_arg4 main_arg5).2.1
  let main_v39_2 : FVec F S1024x64 .f32 := (fn_advance (F := F) main_v36_0 main_v36_1 main_v36_2 main_v36_3 main_v36_4 main_v36_5 main_v36_6 main_v36_7 main_v36_8 main_v38 main_arg1 main_arg2 main_arg3 main_arg4 main_arg5).2.2.1
  let main_v39_3 : FVec F S1024 .f32 := (fn_advance (F := F) main_v36_0 main_v36_1 main_v36_2 main_v36_3 main_v36_4 main_v36_5 main_v36_6 main_v36_7 main_v36_8 main_v38 main_arg1 main_arg2 main_arg3 main_arg4 main_arg5).2.2.2.1
  let main_v39_4 : FVec F S1024 .f32 := (fn_advance (F := F) main_v36_0 main_v36_1 main_v36_2 main_v36_3 main_v36_4 main_v36_5 main_v36_6 main_v36_7 main_v36_8 main_v38 main_arg1 main_arg2 main_arg3 main_arg4 main_arg5).2.2.2.2.1
  let main_v39_5 : FVec F S1024x1024 .f32 := (fn_advance (F := F) main_v36_0 main_v36_1 main_v36_2 main_v36_3 main_v36_4 main_v36_5 main_v36_6 main_v36_7 main_v36_8 main_v38 main_arg1 main_arg2 main_arg3 main_arg4 main_arg5).2.2.2.2.2.1
  let main_v39_6 : FVec F S1024 .f32 := (fn_advance (F := F) main_v36_0 main_v36_1 main_v36_2 main_v36_3 main_v36_4 main_v36_5 main_v36_6 main_v36_7 main_v36_8 main_v38 main_arg1 main_arg2 main_arg3 main_arg4 main_arg5).2.2.2.2.2.2.1
  let main_v39_7 : FVec F S4x1024 .f32 := (fn_advance (F := F) main_v36_0 main_v36_1 main_v36_2 main_v36_3 main_v36_4 main_v36_5 main_v36_6 main_v36_7 main_v36_8 main_v38 main_arg1 main_arg2 main_arg3 main_arg4 main_arg5).2.2.2.2.2.2.2.1
  let main_v39_8 : IVec S1024 1 := (fn_advance (F := F) main_v36_0 main_v36_1 main_v36_2 main_v36_3 main_v36_4 main_v36_5 main_v36_6 main_v36_7 main_v36_8 main_v38 main_arg1 main_arg2 main_arg3 main_arg4 main_arg5).2.2.2.2.2.2.2.2
  let main_v40 : FVec F S1x512 .f32 := (extractStridedSlice S1x512 ![9, 0] · slices_S32x512_S1x512_9_0) main_arg0
  let main_v41 : FVec F S512 .f32 := shapeCast S512 main_v40 shapeCasts_S1x512_S512
  let main_v42_0 : FVec F S512 .f32 := (fn_advance (F := F) main_v39_0 main_v39_1 main_v39_2 main_v39_3 main_v39_4 main_v39_5 main_v39_6 main_v39_7 main_v39_8 main_v41 main_arg1 main_arg2 main_arg3 main_arg4 main_arg5).1
  let main_v42_1 : FVec F S512 .f32 := (fn_advance (F := F) main_v39_0 main_v39_1 main_v39_2 main_v39_3 main_v39_4 main_v39_5 main_v39_6 main_v39_7 main_v39_8 main_v41 main_arg1 main_arg2 main_arg3 main_arg4 main_arg5).2.1
  let main_v42_2 : FVec F S1024x64 .f32 := (fn_advance (F := F) main_v39_0 main_v39_1 main_v39_2 main_v39_3 main_v39_4 main_v39_5 main_v39_6 main_v39_7 main_v39_8 main_v41 main_arg1 main_arg2 main_arg3 main_arg4 main_arg5).2.2.1
  let main_v42_3 : FVec F S1024 .f32 := (fn_advance (F := F) main_v39_0 main_v39_1 main_v39_2 main_v39_3 main_v39_4 main_v39_5 main_v39_6 main_v39_7 main_v39_8 main_v41 main_arg1 main_arg2 main_arg3 main_arg4 main_arg5).2.2.2.1
  fn_part5 (F := F) main_arg0 main_arg1 main_arg2 main_arg3 main_arg4 main_arg5 main_v39_0 main_v39_1 main_v39_2 main_v39_3 main_v39_4 main_v39_5 main_v39_6 main_v39_7 main_v39_8 main_v41 main_v42_0 main_v42_1 main_v42_2 main_v42_3

def fn_part3 {F : FTy → Type} [FloatOps F] (main_arg0 : FVec F S32x512 .f32) (main_arg1 : FVec F S1024x2048 .f32) (main_arg2 : FVec F S2048 .f32) (main_arg3 : FVec F S512x471 .f32) (main_arg4 : FVec F S512x128 .f32) (main_arg5 : FVec F S256x128 .f32) (main_v27_0 : FVec F S512 .f32) (main_v27_1 : FVec F S512 .f32) (main_v27_2 : FVec F S1024x64 .f32) (main_v27_3 : FVec F S1024 .f32) (main_v27_4 : FVec F S1024 .f32) (main_v27_5 : FVec F S1024x1024 .f32) (main_v27_6 : FVec F S1024 .f32) (main_v27_7 : FVec F S4x1024 .f32) (main_v27_8 : IVec S1024 1) (main_v29 : FVec F S512 .f32) : IVec S1024 1 × IVec S512x2048 1 × IVec S512x471 1 × IVec S512x128 1 × IVec S256x128 1 :=
  let main_v30_0 : FVec F S512 .f32 := (fn_advance (F := F) main_v27_0 main_v27_1 main_v27_2 main_v27_3 main_v27_4 main_v27_5 main_v27_6 main_v27_7 main_v27_8 main_v29 main_arg1 main_arg2 main_arg3 main_arg4 main_arg5).1
  let main_v30_1 : FVec F S512 .f32 := (fn_advance (F := F) main_v27_0 main_v27_1 main_v27_2 main_v27_3 main_v27_4 main_v27_5 main_v27_6 main_v27_7 main_v27_8 main_v29 main_arg1 main_arg2 main_arg3 main_arg4 main_arg5).2.1
  let main_v30_2 : FVec F S1024x64 .f32 := (fn_advance (F := F) main_v27_0 main_v27_1 main_v27_2 main_v27_3 main_v27_4 main_v27_5 main_v27_6 main_v27_7 main_v27_8 main_v29 main_arg1 main_arg2 main_arg3 main_arg4 main_arg5).2.2.1
  let main_v30_3 : FVec F S1024 .f32 := (fn_advance (F := F) main_v27_0 main_v27_1 main_v27_2 main_v27_3 main_v27_4 main_v27_5 main_v27_6 main_v27_7 main_v27_8 main_v29 main_arg1 main_arg2 main_arg3 main_arg4 main_arg5).2.2.2.1
  let main_v30_4 : FVec F S1024 .f32 := (fn_advance (F := F) main_v27_0 main_v27_1 main_v27_2 main_v27_3 main_v27_4 main_v27_5 main_v27_6 main_v27_7 main_v27_8 main_v29 main_arg1 main_arg2 main_arg3 main_arg4 main_arg5).2.2.2.2.1
  let main_v30_5 : FVec F S1024x1024 .f32 := (fn_advance (F := F) main_v27_0 main_v27_1 main_v27_2 main_v27_3 main_v27_4 main_v27_5 main_v27_6 main_v27_7 main_v27_8 main_v29 main_arg1 main_arg2 main_arg3 main_arg4 main_arg5).2.2.2.2.2.1
  let main_v30_6 : FVec F S1024 .f32 := (fn_advance (F := F) main_v27_0 main_v27_1 main_v27_2 main_v27_3 main_v27_4 main_v27_5 main_v27_6 main_v27_7 main_v27_8 main_v29 main_arg1 main_arg2 main_arg3 main_arg4 main_arg5).2.2.2.2.2.2.1
  let main_v30_7 : FVec F S4x1024 .f32 := (fn_advance (F := F) main_v27_0 main_v27_1 main_v27_2 main_v27_3 main_v27_4 main_v27_5 main_v27_6 main_v27_7 main_v27_8 main_v29 main_arg1 main_arg2 main_arg3 main_arg4 main_arg5).2.2.2.2.2.2.2.1
  let main_v30_8 : IVec S1024 1 := (fn_advance (F := F) main_v27_0 main_v27_1 main_v27_2 main_v27_3 main_v27_4 main_v27_5 main_v27_6 main_v27_7 main_v27_8 main_v29 main_arg1 main_arg2 main_arg3 main_arg4 main_arg5).2.2.2.2.2.2.2.2
  let main_v31 : FVec F S1x512 .f32 := (extractStridedSlice S1x512 ![6, 0] · slices_S32x512_S1x512_6_0) main_arg0
  let main_v32 : FVec F S512 .f32 := shapeCast S512 main_v31 shapeCasts_S1x512_S512
  let main_v33_0 : FVec F S512 .f32 := (fn_advance (F := F) main_v30_0 main_v30_1 main_v30_2 main_v30_3 main_v30_4 main_v30_5 main_v30_6 main_v30_7 main_v30_8 main_v32 main_arg1 main_arg2 main_arg3 main_arg4 main_arg5).1
  let main_v33_1 : FVec F S512 .f32 := (fn_advance (F := F) main_v30_0 main_v30_1 main_v30_2 main_v30_3 main_v30_4 main_v30_5 main_v30_6 main_v30_7 main_v30_8 main_v32 main_arg1 main_arg2 main_arg3 main_arg4 main_arg5).2.1
  let main_v33_2 : FVec F S1024x64 .f32 := (fn_advance (F := F) main_v30_0 main_v30_1 main_v30_2 main_v30_3 main_v30_4 main_v30_5 main_v30_6 main_v30_7 main_v30_8 main_v32 main_arg1 main_arg2 main_arg3 main_arg4 main_arg5).2.2.1
  let main_v33_3 : FVec F S1024 .f32 := (fn_advance (F := F) main_v30_0 main_v30_1 main_v30_2 main_v30_3 main_v30_4 main_v30_5 main_v30_6 main_v30_7 main_v30_8 main_v32 main_arg1 main_arg2 main_arg3 main_arg4 main_arg5).2.2.2.1
  let main_v33_4 : FVec F S1024 .f32 := (fn_advance (F := F) main_v30_0 main_v30_1 main_v30_2 main_v30_3 main_v30_4 main_v30_5 main_v30_6 main_v30_7 main_v30_8 main_v32 main_arg1 main_arg2 main_arg3 main_arg4 main_arg5).2.2.2.2.1
  let main_v33_5 : FVec F S1024x1024 .f32 := (fn_advance (F := F) main_v30_0 main_v30_1 main_v30_2 main_v30_3 main_v30_4 main_v30_5 main_v30_6 main_v30_7 main_v30_8 main_v32 main_arg1 main_arg2 main_arg3 main_arg4 main_arg5).2.2.2.2.2.1
  let main_v33_6 : FVec F S1024 .f32 := (fn_advance (F := F) main_v30_0 main_v30_1 main_v30_2 main_v30_3 main_v30_4 main_v30_5 main_v30_6 main_v30_7 main_v30_8 main_v32 main_arg1 main_arg2 main_arg3 main_arg4 main_arg5).2.2.2.2.2.2.1
  let main_v33_7 : FVec F S4x1024 .f32 := (fn_advance (F := F) main_v30_0 main_v30_1 main_v30_2 main_v30_3 main_v30_4 main_v30_5 main_v30_6 main_v30_7 main_v30_8 main_v32 main_arg1 main_arg2 main_arg3 main_arg4 main_arg5).2.2.2.2.2.2.2.1
  let main_v33_8 : IVec S1024 1 := (fn_advance (F := F) main_v30_0 main_v30_1 main_v30_2 main_v30_3 main_v30_4 main_v30_5 main_v30_6 main_v30_7 main_v30_8 main_v32 main_arg1 main_arg2 main_arg3 main_arg4 main_arg5).2.2.2.2.2.2.2.2
  let main_v34 : FVec F S1x512 .f32 := (extractStridedSlice S1x512 ![7, 0] · slices_S32x512_S1x512_7_0) main_arg0
  let main_v35 : FVec F S512 .f32 := shapeCast S512 main_v34 shapeCasts_S1x512_S512
  let main_v36_0 : FVec F S512 .f32 := (fn_advance (F := F) main_v33_0 main_v33_1 main_v33_2 main_v33_3 main_v33_4 main_v33_5 main_v33_6 main_v33_7 main_v33_8 main_v35 main_arg1 main_arg2 main_arg3 main_arg4 main_arg5).1
  let main_v36_1 : FVec F S512 .f32 := (fn_advance (F := F) main_v33_0 main_v33_1 main_v33_2 main_v33_3 main_v33_4 main_v33_5 main_v33_6 main_v33_7 main_v33_8 main_v35 main_arg1 main_arg2 main_arg3 main_arg4 main_arg5).2.1
  fn_part4 (F := F) main_arg0 main_arg1 main_arg2 main_arg3 main_arg4 main_arg5 main_v33_0 main_v33_1 main_v33_2 main_v33_3 main_v33_4 main_v33_5 main_v33_6 main_v33_7 main_v33_8 main_v35 main_v36_0 main_v36_1

def fn_part2 {F : FTy → Type} [FloatOps F] (main_arg0 : FVec F S32x512 .f32) (main_arg1 : FVec F S1024x2048 .f32) (main_arg2 : FVec F S2048 .f32) (main_arg3 : FVec F S512x471 .f32) (main_arg4 : FVec F S512x128 .f32) (main_arg5 : FVec F S256x128 .f32) (main_v21_0 : FVec F S512 .f32) (main_v21_1 : FVec F S512 .f32) (main_v21_2 : FVec F S1024x64 .f32) (main_v21_3 : FVec F S1024 .f32) (main_v21_4 : FVec F S1024 .f32) (main_v21_5 : FVec F S1024x1024 .f32) (main_v21_6 : FVec F S1024 .f32) (main_v21_7 : FVec F S4x1024 .f32) (main_v21_8 : IVec S1024 1) : IVec S1024 1 × IVec S512x2048 1 × IVec S512x471 1 × IVec S512x128 1 × IVec S256x128 1 :=
  let main_v22 : FVec F S1x512 .f32 := (extractStridedSlice S1x512 ![3, 0] · slices_S32x512_S1x512_3_0) main_arg0
  let main_v23 : FVec F S512 .f32 := shapeCast S512 main_v22 shapeCasts_S1x512_S512
  let main_v24_0 : FVec F S512 .f32 := (fn_advance (F := F) main_v21_0 main_v21_1 main_v21_2 main_v21_3 main_v21_4 main_v21_5 main_v21_6 main_v21_7 main_v21_8 main_v23 main_arg1 main_arg2 main_arg3 main_arg4 main_arg5).1
  let main_v24_1 : FVec F S512 .f32 := (fn_advance (F := F) main_v21_0 main_v21_1 main_v21_2 main_v21_3 main_v21_4 main_v21_5 main_v21_6 main_v21_7 main_v21_8 main_v23 main_arg1 main_arg2 main_arg3 main_arg4 main_arg5).2.1
  let main_v24_2 : FVec F S1024x64 .f32 := (fn_advance (F := F) main_v21_0 main_v21_1 main_v21_2 main_v21_3 main_v21_4 main_v21_5 main_v21_6 main_v21_7 main_v21_8 main_v23 main_arg1 main_arg2 main_arg3 main_arg4 main_arg5).2.2.1
  let main_v24_3 : FVec F S1024 .f32 := (fn_advance (F := F) main_v21_0 main_v21_1 main_v21_2 main_v21_3 main_v21_4 main_v21_5 main_v21_6 main_v21_7 main_v21_8 main_v23 main_arg1 main_arg2 main_arg3 main_arg4 main_arg5).2.2.2.1
  let main_v24_4 : FVec F S1024 .f32 := (fn_advance (F := F) main_v21_0 main_v21_1 main_v21_2 main_v21_3 main_v21_4 main_v21_5 main_v21_6 main_v21_7 main_v21_8 main_v23 main_arg1 main_arg2 main_arg3 main_arg4 main_arg5).2.2.2.2.1
  let main_v24_5 : FVec F S1024x1024 .f32 := (fn_advance (F := F) main_v21_0 main_v21_1 main_v21_2 main_v21_3 main_v21_4 main_v21_5 main_v21_6 main_v21_7 main_v21_8 main_v23 main_arg1 main_arg2 main_arg3 main_arg4 main_arg5).2.2.2.2.2.1
  let main_v24_6 : FVec F S1024 .f32 := (fn_advance (F := F) main_v21_0 main_v21_1 main_v21_2 main_v21_3 main_v21_4 main_v21_5 main_v21_6 main_v21_7 main_v21_8 main_v23 main_arg1 main_arg2 main_arg3 main_arg4 main_arg5).2.2.2.2.2.2.1
  let main_v24_7 : FVec F S4x1024 .f32 := (fn_advance (F := F) main_v21_0 main_v21_1 main_v21_2 main_v21_3 main_v21_4 main_v21_5 main_v21_6 main_v21_7 main_v21_8 main_v23 main_arg1 main_arg2 main_arg3 main_arg4 main_arg5).2.2.2.2.2.2.2.1
  let main_v24_8 : IVec S1024 1 := (fn_advance (F := F) main_v21_0 main_v21_1 main_v21_2 main_v21_3 main_v21_4 main_v21_5 main_v21_6 main_v21_7 main_v21_8 main_v23 main_arg1 main_arg2 main_arg3 main_arg4 main_arg5).2.2.2.2.2.2.2.2
  let main_v25 : FVec F S1x512 .f32 := (extractStridedSlice S1x512 ![4, 0] · slices_S32x512_S1x512_4_0) main_arg0
  let main_v26 : FVec F S512 .f32 := shapeCast S512 main_v25 shapeCasts_S1x512_S512
  let main_v27_0 : FVec F S512 .f32 := (fn_advance (F := F) main_v24_0 main_v24_1 main_v24_2 main_v24_3 main_v24_4 main_v24_5 main_v24_6 main_v24_7 main_v24_8 main_v26 main_arg1 main_arg2 main_arg3 main_arg4 main_arg5).1
  let main_v27_1 : FVec F S512 .f32 := (fn_advance (F := F) main_v24_0 main_v24_1 main_v24_2 main_v24_3 main_v24_4 main_v24_5 main_v24_6 main_v24_7 main_v24_8 main_v26 main_arg1 main_arg2 main_arg3 main_arg4 main_arg5).2.1
  let main_v27_2 : FVec F S1024x64 .f32 := (fn_advance (F := F) main_v24_0 main_v24_1 main_v24_2 main_v24_3 main_v24_4 main_v24_5 main_v24_6 main_v24_7 main_v24_8 main_v26 main_arg1 main_arg2 main_arg3 main_arg4 main_arg5).2.2.1
  let main_v27_3 : FVec F S1024 .f32 := (fn_advance (F := F) main_v24_0 main_v24_1 main_v24_2 main_v24_3 main_v24_4 main_v24_5 main_v24_6 main_v24_7 main_v24_8 main_v26 main_arg1 main_arg2 main_arg3 main_arg4 main_arg5).2.2.2.1
  let main_v27_4 : FVec F S1024 .f32 := (fn_advance (F := F) main_v24_0 main_v24_1 main_v24_2 main_v24_3 main_v24_4 main_v24_5 main_v24_6 main_v24_7 main_v24_8 main_v26 main_arg1 main_arg2 main_arg3 main_arg4 main_arg5).2.2.2.2.1
  let main_v27_5 : FVec F S1024x1024 .f32 := (fn_advance (F := F) main_v24_0 main_v24_1 main_v24_2 main_v24_3 main_v24_4 main_v24_5 main_v24_6 main_v24_7 main_v24_8 main_v26 main_arg1 main_arg2 main_arg3 main_arg4 main_arg5).2.2.2.2.2.1
  let main_v27_6 : FVec F S1024 .f32 := (fn_advance (F := F) main_v24_0 main_v24_1 main_v24_2 main_v24_3 main_v24_4 main_v24_5 main_v24_6 main_v24_7 main_v24_8 main_v26 main_arg1 main_arg2 main_arg3 main_arg4 main_arg5).2.2.2.2.2.2.1
  let main_v27_7 : FVec F S4x1024 .f32 := (fn_advance (F := F) main_v24_0 main_v24_1 main_v24_2 main_v24_3 main_v24_4 main_v24_5 main_v24_6 main_v24_7 main_v24_8 main_v26 main_arg1 main_arg2 main_arg3 main_arg4 main_arg5).2.2.2.2.2.2.2.1
  let main_v27_8 : IVec S1024 1 := (fn_advance (F := F) main_v24_0 main_v24_1 main_v24_2 main_v24_3 main_v24_4 main_v24_5 main_v24_6 main_v24_7 main_v24_8 main_v26 main_arg1 main_arg2 main_arg3 main_arg4 main_arg5).2.2.2.2.2.2.2.2
  let main_v28 : FVec F S1x512 .f32 := (extractStridedSlice S1x512 ![5, 0] · slices_S32x512_S1x512_5_0) main_arg0
  let main_v29 : FVec F S512 .f32 := shapeCast S512 main_v28 shapeCasts_S1x512_S512
  fn_part3 (F := F) main_arg0 main_arg1 main_arg2 main_arg3 main_arg4 main_arg5 main_v27_0 main_v27_1 main_v27_2 main_v27_3 main_v27_4 main_v27_5 main_v27_6 main_v27_7 main_v27_8 main_v29

def fn_part1 {F : FTy → Type} [FloatOps F] (main_arg0 : FVec F S32x512 .f32) (main_arg1 : FVec F S1024x2048 .f32) (main_arg2 : FVec F S2048 .f32) (main_arg3 : FVec F S512x471 .f32) (main_arg4 : FVec F S512x128 .f32) (main_arg5 : FVec F S256x128 .f32) (main_v4 : FVec F S512 .f32) (main_v5 : FVec F S512 .f32) (main_v6 : FVec F S1024x64 .f32) (main_v7 : FVec F S1024 .f32) (main_v8 : FVec F S1024 .f32) (main_v9 : FVec F S1024x1024 .f32) (main_v10 : FVec F S1024 .f32) (main_v11 : FVec F S4x1024 .f32) (main_v12 : IVec S1024 1) (main_v14 : FVec F S512 .f32) (main_v15_0 : FVec F S512 .f32) (main_v15_1 : FVec F S512 .f32) (main_v15_2 : FVec F S1024x64 .f32) (main_v15_3 : FVec F S1024 .f32) (main_v15_4 : FVec F S1024 .f32) (main_v15_5 : FVec F S1024x1024 .f32) (main_v15_6 : FVec F S1024 .f32) : IVec S1024 1 × IVec S512x2048 1 × IVec S512x471 1 × IVec S512x128 1 × IVec S256x128 1 :=
  let main_v15_7 : FVec F S4x1024 .f32 := (fn_advance (F := F) main_v4 main_v5 main_v6 main_v7 main_v8 main_v9 main_v10 main_v11 main_v12 main_v14 main_arg1 main_arg2 main_arg3 main_arg4 main_arg5).2.2.2.2.2.2.2.1
  let main_v15_8 : IVec S1024 1 := (fn_advance (F := F) main_v4 main_v5 main_v6 main_v7 main_v8 main_v9 main_v10 main_v11 main_v12 main_v14 main_arg1 main_arg2 main_arg3 main_arg4 main_arg5).2.2.2.2.2.2.2.2
  let main_v16 : FVec F S1x512 .f32 := (extractStridedSlice S1x512 ![1, 0] · slices_S32x512_S1x512_1_0) main_arg0
  let main_v17 : FVec F S512 .f32 := shapeCast S512 main_v16 shapeCasts_S1x512_S512
  let main_v18_0 : FVec F S512 .f32 := (fn_advance (F := F) main_v15_0 main_v15_1 main_v15_2 main_v15_3 main_v15_4 main_v15_5 main_v15_6 main_v15_7 main_v15_8 main_v17 main_arg1 main_arg2 main_arg3 main_arg4 main_arg5).1
  let main_v18_1 : FVec F S512 .f32 := (fn_advance (F := F) main_v15_0 main_v15_1 main_v15_2 main_v15_3 main_v15_4 main_v15_5 main_v15_6 main_v15_7 main_v15_8 main_v17 main_arg1 main_arg2 main_arg3 main_arg4 main_arg5).2.1
  let main_v18_2 : FVec F S1024x64 .f32 := (fn_advance (F := F) main_v15_0 main_v15_1 main_v15_2 main_v15_3 main_v15_4 main_v15_5 main_v15_6 main_v15_7 main_v15_8 main_v17 main_arg1 main_arg2 main_arg3 main_arg4 main_arg5).2.2.1
  let main_v18_3 : FVec F S1024 .f32 := (fn_advance (F := F) main_v15_0 main_v15_1 main_v15_2 main_v15_3 main_v15_4 main_v15_5 main_v15_6 main_v15_7 main_v15_8 main_v17 main_arg1 main_arg2 main_arg3 main_arg4 main_arg5).2.2.2.1
  let main_v18_4 : FVec F S1024 .f32 := (fn_advance (F := F) main_v15_0 main_v15_1 main_v15_2 main_v15_3 main_v15_4 main_v15_5 main_v15_6 main_v15_7 main_v15_8 main_v17 main_arg1 main_arg2 main_arg3 main_arg4 main_arg5).2.2.2.2.1
  let main_v18_5 : FVec F S1024x1024 .f32 := (fn_advance (F := F) main_v15_0 main_v15_1 main_v15_2 main_v15_3 main_v15_4 main_v15_5 main_v15_6 main_v15_7 main_v15_8 main_v17 main_arg1 main_arg2 main_arg3 main_arg4 main_arg5).2.2.2.2.2.1
  let main_v18_6 : FVec F S1024 .f32 := (fn_advance (F := F) main_v15_0 main_v15_1 main_v15_2 main_v15_3 main_v15_4 main_v15_5 main_v15_6 main_v15_7 main_v15_8 main_v17 main_arg1 main_arg2 main_arg3 main_arg4 main_arg5).2.2.2.2.2.2.1
  let main_v18_7 : FVec F S4x1024 .f32 := (fn_advance (F := F) main_v15_0 main_v15_1 main_v15_2 main_v15_3 main_v15_4 main_v15_5 main_v15_6 main_v15_7 main_v15_8 main_v17 main_arg1 main_arg2 main_arg3 main_arg4 main_arg5).2.2.2.2.2.2.2.1
  let main_v18_8 : IVec S1024 1 := (fn_advance (F := F) main_v15_0 main_v15_1 main_v15_2 main_v15_3 main_v15_4 main_v15_5 main_v15_6 main_v15_7 main_v15_8 main_v17 main_arg1 main_arg2 main_arg3 main_arg4 main_arg5).2.2.2.2.2.2.2.2
  let main_v19 : FVec F S1x512 .f32 := (extractStridedSlice S1x512 ![2, 0] · slices_S32x512_S1x512_2_0) main_arg0
  let main_v20 : FVec F S512 .f32 := shapeCast S512 main_v19 shapeCasts_S1x512_S512
  let main_v21_0 : FVec F S512 .f32 := (fn_advance (F := F) main_v18_0 main_v18_1 main_v18_2 main_v18_3 main_v18_4 main_v18_5 main_v18_6 main_v18_7 main_v18_8 main_v20 main_arg1 main_arg2 main_arg3 main_arg4 main_arg5).1
  let main_v21_1 : FVec F S512 .f32 := (fn_advance (F := F) main_v18_0 main_v18_1 main_v18_2 main_v18_3 main_v18_4 main_v18_5 main_v18_6 main_v18_7 main_v18_8 main_v20 main_arg1 main_arg2 main_arg3 main_arg4 main_arg5).2.1
  let main_v21_2 : FVec F S1024x64 .f32 := (fn_advance (F := F) main_v18_0 main_v18_1 main_v18_2 main_v18_3 main_v18_4 main_v18_5 main_v18_6 main_v18_7 main_v18_8 main_v20 main_arg1 main_arg2 main_arg3 main_arg4 main_arg5).2.2.1
  let main_v21_3 : FVec F S1024 .f32 := (fn_advance (F := F) main_v18_0 main_v18_1 main_v18_2 main_v18_3 main_v18_4 main_v18_5 main_v18_6 main_v18_7 main_v18_8 main_v20 main_arg1 main_arg2 main_arg3 main_arg4 main_arg5).2.2.2.1
  let main_v21_4 : FVec F S1024 .f32 := (fn_advance (F := F) main_v18_0 main_v18_1 main_v18_2 main_v18_3 main_v18_4 main_v18_5 main_v18_6 main_v18_7 main_v18_8 main_v20 main_arg1 main_arg2 main_arg3 main_arg4 main_arg5).2.2.2.2.1
  let main_v21_5 : FVec F S1024x1024 .f32 := (fn_advance (F := F) main_v18_0 main_v18_1 main_v18_2 main_v18_3 main_v18_4 main_v18_5 main_v18_6 main_v18_7 main_v18_8 main_v20 main_arg1 main_arg2 main_arg3 main_arg4 main_arg5).2.2.2.2.2.1
  let main_v21_6 : FVec F S1024 .f32 := (fn_advance (F := F) main_v18_0 main_v18_1 main_v18_2 main_v18_3 main_v18_4 main_v18_5 main_v18_6 main_v18_7 main_v18_8 main_v20 main_arg1 main_arg2 main_arg3 main_arg4 main_arg5).2.2.2.2.2.2.1
  let main_v21_7 : FVec F S4x1024 .f32 := (fn_advance (F := F) main_v18_0 main_v18_1 main_v18_2 main_v18_3 main_v18_4 main_v18_5 main_v18_6 main_v18_7 main_v18_8 main_v20 main_arg1 main_arg2 main_arg3 main_arg4 main_arg5).2.2.2.2.2.2.2.1
  let main_v21_8 : IVec S1024 1 := (fn_advance (F := F) main_v18_0 main_v18_1 main_v18_2 main_v18_3 main_v18_4 main_v18_5 main_v18_6 main_v18_7 main_v18_8 main_v20 main_arg1 main_arg2 main_arg3 main_arg4 main_arg5).2.2.2.2.2.2.2.2
  fn_part2 (F := F) main_arg0 main_arg1 main_arg2 main_arg3 main_arg4 main_arg5 main_v21_0 main_v21_1 main_v21_2 main_v21_3 main_v21_4 main_v21_5 main_v21_6 main_v21_7 main_v21_8

def fn {F : FTy → Type} [FloatOps F] (main_arg0 : FVec F S32x512 .f32) (main_arg1 : FVec F S1024x2048 .f32) (main_arg2 : FVec F S2048 .f32) (main_arg3 : FVec F S512x471 .f32) (main_arg4 : FVec F S512x128 .f32) (main_arg5 : FVec F S256x128 .f32) : IVec S1024 1 × IVec S512x2048 1 × IVec S512x471 1 × IVec S512x128 1 × IVec S256x128 1 :=
  let main_v0 : FVec F S1 .f32 := (extractStridedSlice S1 ![0] · slices_S2048_S1_0) main_arg2
  let main_v1 : FVec F S_ .f32 := shapeCast S_ main_v0 shapeCasts_S1_S_
  let main_v2 : FVec F S_ .f32 := Host.absf main_v1
  let main_cst : FVec F S_ .f32 := constant S_ .f32 0x00000000#32
  let main_v3 : FVec F S_ .f32 := minimumf main_v2 main_cst
  let main_v4 : FVec F S512 .f32 := broadcastInDim S512 ![] bcast_S_S512 main_v3
  let main_v5 : FVec F S512 .f32 := broadcastInDim S512 ![] bcast_S_S512 main_v3
  let main_v6 : FVec F S1024x64 .f32 := broadcastInDim S1024x64 ![] bcast_S_S1024x64 main_v3
  let main_v7 : FVec F S1024 .f32 := broadcastInDim S1024 ![] bcast_S_S1024 main_v3
  let main_v8 : FVec F S1024 .f32 := broadcastInDim S1024 ![] bcast_S_S1024 main_v3
  let main_v9 : FVec F S1024x1024 .f32 := broadcastInDim S1024x1024 ![] bcast_S_S1024x1024 main_v3
  let main_v10 : FVec F S1024 .f32 := broadcastInDim S1024 ![] bcast_S_S1024 main_v3
  let main_v11 : FVec F S4x1024 .f32 := broadcastInDim S4x1024 ![] bcast_S_S4x1024 main_v3
  let main_c : IVec S_ 1 := constantI S_ 1 1#1
  let main_v12 : IVec S1024 1 := broadcastInDim S1024 ![] bcast_S_S1024 main_c
  let main_v13 : FVec F S1x512 .f32 := (extractStridedSlice S1x512 ![0, 0] · slices_S32x512_S1x512_0_0) main_arg0
  let main_v14 : FVec F S512 .f32 := shapeCast S512 main_v13 shapeCasts_S1x512_S512
  let main_v15_0 : FVec F S512 .f32 := (fn_advance (F := F) main_v4 main_v5 main_v6 main_v7 main_v8 main_v9 main_v10 main_v11 main_v12 main_v14 main_arg1 main_arg2 main_arg3 main_arg4 main_arg5).1
  let main_v15_1 : FVec F S512 .f32 := (fn_advance (F := F) main_v4 main_v5 main_v6 main_v7 main_v8 main_v9 main_v10 main_v11 main_v12 main_v14 main_arg1 main_arg2 main_arg3 main_arg4 main_arg5).2.1
  let main_v15_2 : FVec F S1024x64 .f32 := (fn_advance (F := F) main_v4 main_v5 main_v6 main_v7 main_v8 main_v9 main_v10 main_v11 main_v12 main_v14 main_arg1 main_arg2 main_arg3 main_arg4 main_arg5).2.2.1
  let main_v15_3 : FVec F S1024 .f32 := (fn_advance (F := F) main_v4 main_v5 main_v6 main_v7 main_v8 main_v9 main_v10 main_v11 main_v12 main_v14 main_arg1 main_arg2 main_arg3 main_arg4 main_arg5).2.2.2.1
  let main_v15_4 : FVec F S1024 .f32 := (fn_advance (F := F) main_v4 main_v5 main_v6 main_v7 main_v8 main_v9 main_v10 main_v11 main_v12 main_v14 main_arg1 main_arg2 main_arg3 main_arg4 main_arg5).2.2.2.2.1
  let main_v15_5 : FVec F S1024x1024 .f32 := (fn_advance (F := F) main_v4 main_v5 main_v6 main_v7 main_v8 main_v9 main_v10 main_v11 main_v12 main_v14 main_arg1 main_arg2 main_arg3 main_arg4 main_arg5).2.2.2.2.2.1
  let main_v15_6 : FVec F S1024 .f32 := (fn_advance (F := F) main_v4 main_v5 main_v6 main_v7 main_v8 main_v9 main_v10 main_v11 main_v12 main_v14 main_arg1 main_arg2 main_arg3 main_arg4 main_arg5).2.2.2.2.2.2.1
  fn_part1 (F := F) main_arg0 main_arg1 main_arg2 main_arg3 main_arg4 main_arg5 main_v4 main_v5 main_v6 main_v7 main_v8 main_v9 main_v10 main_v11 main_v12 main_v14 main_v15_0 main_v15_1 main_v15_2 main_v15_3 main_v15_4 main_v15_5 main_v15_6
-- ==== Kernel.lean ====
abbrev S32x512 : Shape := ⟨2, ![32, 512]⟩
abbrev S1024x2048 : Shape := ⟨2, ![1024, 2048]⟩
abbrev S2048 : Shape := ⟨1, ![2048]⟩
abbrev S512x471 : Shape := ⟨2, ![512, 471]⟩
abbrev S512x128 : Shape := ⟨2, ![512, 128]⟩
abbrev S256x128 : Shape := ⟨2, ![256, 128]⟩
abbrev S512x2048 : Shape := ⟨2, ![512, 2048]⟩
abbrev S1x2048 : Shape := ⟨2, ![1, 2048]⟩
abbrev S_ : Shape := ⟨0, ![]⟩
abbrev S512x512 : Shape := ⟨2, ![512, 512]⟩
abbrev S32x1x128 : Shape := ⟨3, ![32, 1, 128]⟩
abbrev S1x1x128 : Shape := ⟨3, ![1, 1, 128]⟩
abbrev S32x2048 : Shape := ⟨2, ![32, 2048]⟩
abbrev S1x512 : Shape := ⟨2, ![1, 512]⟩
abbrev S1024x64 : Shape := ⟨2, ![1024, 64]⟩
abbrev S1x1024 : Shape := ⟨2, ![1, 1024]⟩
abbrev S1024x1024 : Shape := ⟨2, ![1024, 1024]⟩
abbrev S4x1024 : Shape := ⟨2, ![4, 1024]⟩
abbrev S1x256 : Shape := ⟨2, ![1, 256]⟩
abbrev S1x4 : Shape := ⟨2, ![1, 4]⟩
abbrev S1x64 : Shape := ⟨2, ![1, 64]⟩
abbrev S1x1 : Shape := ⟨2, ![1, 1]⟩
abbrev S4x1 : Shape := ⟨2, ![4, 1]⟩
abbrev S1024x1 : Shape := ⟨2, ![1024, 1]⟩
abbrev S1024 : Shape := ⟨1, ![1024]⟩
abbrev S1 : Shape := ⟨1, ![1]⟩
abbrev S1x1x1024 : Shape := ⟨3, ![1, 1, 1024]⟩
abbrev S1x1x1 : Shape := ⟨3, ![1, 1, 1]⟩
abbrev S256x1 : Shape := ⟨2, ![256, 1]⟩
abbrev S256x1024 : Shape := ⟨2, ![256, 1024]⟩
abbrev S4x256 : Shape := ⟨2, ![4, 256]⟩
abbrev S4x64 : Shape := ⟨2, ![4, 64]⟩
abbrev S4 : Shape := ⟨1, ![4]⟩
abbrev S1x3 : Shape := ⟨2, ![1, 3]⟩
abbrev S1x128 : Shape := ⟨2, ![1, 128]⟩
abbrev S64x128 : Shape := ⟨2, ![64, 128]⟩

abbrev nBuf : Space → Nat
  | .hbm => 29
  | .vmem => 24
  | .smem => 0
  | _ => 0

abbrev bufTy : (tb : Table) → Fin (tcTables nBuf tb) → BufTy
  | .hbm, ⟨0, _⟩ => ⟨S32x512, .f32⟩
  | .hbm, ⟨1, _⟩ => ⟨S1024x2048, .f32⟩
  | .hbm, ⟨2, _⟩ => ⟨S2048, .f32⟩
  | .hbm, ⟨3, _⟩ => ⟨S512x471, .f32⟩
  | .hbm, ⟨4, _⟩ => ⟨S512x128, .f32⟩
  | .hbm, ⟨5, _⟩ => ⟨S256x128, .f32⟩
  | .hbm, ⟨6, _⟩ => ⟨S512x2048, .f32⟩
  | .hbm, ⟨7, _⟩ => ⟨S512x2048, .f32⟩
  | .hbm, ⟨8, _⟩ => ⟨S512x2048, .bf16⟩
  | .hbm, ⟨9, _⟩ => ⟨S512x2048, .f32⟩
  | .hbm, ⟨10, _⟩ => ⟨S512x2048, .f32⟩
  | .hbm, ⟨11, _⟩ => ⟨S512x2048, .bf16⟩
  | .hbm, ⟨12, _⟩ => ⟨S1x2048, .f32⟩
  | .hbm, ⟨13, _⟩ => ⟨S_, .i32⟩
  | .hbm, ⟨14, _⟩ => ⟨S_, .f32⟩
  | .hbm, ⟨15, _⟩ => ⟨S512x512, .f32⟩
  | .hbm, ⟨16, _⟩ => ⟨S512x512, .bf16⟩
  | .hbm, ⟨17, _⟩ => ⟨S512x512, .f32⟩
  | .hbm, ⟨18, _⟩ => ⟨S512x512, .f32⟩
  | .hbm, ⟨19, _⟩ => ⟨S512x512, .bf16⟩
  | .hbm, ⟨20, _⟩ => ⟨S512x128, .bf16⟩
  | .hbm, ⟨21, _⟩ => ⟨S512x128, .f32⟩
  | .hbm, ⟨22, _⟩ => ⟨S512x128, .f32⟩
  | .hbm, ⟨23, _⟩ => ⟨S512x128, .bf16⟩
  | .hbm, ⟨24, _⟩ => ⟨S256x128, .bf16⟩
  | .hbm, ⟨25, _⟩ => ⟨S256x128, .f32⟩
  | .hbm, ⟨26, _⟩ => ⟨S256x128, .f32⟩
  | .hbm, ⟨27, _⟩ => ⟨S256x128, .bf16⟩
  | .hbm, ⟨28, _⟩ => ⟨S32x1x128, .f32⟩
  | .local _ .vmem, ⟨0, _⟩ => ⟨S32x512, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S1x2048, .f32⟩
  | .local _ .vmem, ⟨5, _⟩ => ⟨S512x512, .bf16⟩
  | .local _ .vmem, ⟨6, _⟩ => ⟨S512x512, .bf16⟩
  | .local _ .vmem, ⟨7, _⟩ => ⟨S512x128, .bf16⟩
  | .local _ .vmem, ⟨8, _⟩ => ⟨S512x128, .bf16⟩
  | .local _ .vmem, ⟨9, _⟩ => ⟨S256x128, .bf16⟩
  | .local _ .vmem, ⟨10, _⟩ => ⟨S256x128, .bf16⟩
  | .local _ .vmem, ⟨11, _⟩ => ⟨S1x1x128, .f32⟩
  | .local _ .vmem, ⟨12, _⟩ => ⟨S1x1x128, .f32⟩
  | .local _ .vmem, ⟨13, _⟩ => ⟨S32x2048, .f32⟩
  | .local _ .vmem, ⟨14, _⟩ => ⟨S1x512, .f32⟩
  | .local _ .vmem, ⟨15, _⟩ => ⟨S1x512, .f32⟩
  | .local _ .vmem, ⟨16, _⟩ => ⟨S1024x64, .f32⟩
  | .local _ .vmem, ⟨17, _⟩ => ⟨S1x1024, .f32⟩
  | .local _ .vmem, ⟨18, _⟩ => ⟨S1x1024, .f32⟩
  | .local _ .vmem, ⟨19, _⟩ => ⟨S1024x1024, .f32⟩
  | .local _ .vmem, ⟨20, _⟩ => ⟨S1x1024, .f32⟩
  | .local _ .vmem, ⟨21, _⟩ => ⟨S4x1024, .f32⟩
  | .local _ .vmem, ⟨22, _⟩ => ⟨S1x1024, .f32⟩
  | .local _ .vmem, ⟨23, _⟩ => ⟨S1x512, .f32⟩
  | _, _ => ⟨S32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_c : Ref sig .tc := ⟨.hbm, 13, rfl⟩
abbrev main_call0_call0_v0 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_v15 : Ref sig .tc := ⟨.hbm, 23, rfl⟩
abbrev main_call0_v16 : Ref sig .tc := ⟨.hbm, 24, rfl⟩
abbrev main_call0_v17 : Ref sig .tc := ⟨.hbm, 25, rfl⟩
abbrev main_call0_v18 : Ref sig .tc := ⟨.hbm, 26, rfl⟩
abbrev main_call0_v19 : Ref sig .tc := ⟨.hbm, 27, rfl⟩
abbrev main_v0 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg11_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_scratch5 : Ref sig .tc := ⟨.vmem, 18, rfl⟩
abbrev cc0_scratch6 : Ref sig .tc := ⟨.vmem, 19, rfl⟩
abbrev cc0_scratch7 : Ref sig .tc := ⟨.vmem, 20, rfl⟩
abbrev cc0_scratch8 : Ref sig .tc := ⟨.vmem, 21, rfl⟩
abbrev cc0_scratch9 : Ref sig .tc := ⟨.vmem, 22, rfl⟩
abbrev cc0_scratch10 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem11_1 : DmaSem sig := 12

abbrev nD : Nat := 1
abbrev τ : Topo := Topo.v7x

variable {F : FTy → Type} [FloatOps F]

abbrev grid0 : Pipeline.Grid := ⟨1, ![32], ![false]⟩

def k0_off1 (i : grid0.Coords) : Fin 2 → Nat :=
  let arg0 : BitVec 32 := BitVec.ofNat 32 (i 0).val
  let c1_i32 : BitVec 32 := 1#32
  let v6 : BitVec 32 := Scalar.addi arg0 c1_i32
  let c31_i32 : BitVec 32 := 31#32
  let v7 : BitVec 32 := Scalar.minsi v6 c31_i32
  let v8 : Index := Scalar.indexCast v7
  let c0_6 : Index := 0#32
  ![v8.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S32x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== KernelIdeal.lean ====
variable {F : FTy → Type} [FloatOps F] [Named F]
def κ : String → Option EReal := fun
  | "log0" => some ⊥
  | _ => none
-- ==== ReferenceIdeal.lean ====
abbrev S32x512 : Shape := ⟨2, ![32, 512]⟩
abbrev S1024x2048 : Shape := ⟨2, ![1024, 2048]⟩
abbrev S2048 : Shape := ⟨1, ![2048]⟩
abbrev S512x471 : Shape := ⟨2, ![512, 471]⟩
abbrev S512x128 : Shape := ⟨2, ![512, 128]⟩
abbrev S256x128 : Shape := ⟨2, ![256, 128]⟩
abbrev S_ : Shape := ⟨0, ![]⟩
abbrev S512 : Shape := ⟨1, ![512]⟩
abbrev S1024x64 : Shape := ⟨2, ![1024, 64]⟩
abbrev S1024 : Shape := ⟨1, ![1024]⟩
abbrev S1024x1024 : Shape := ⟨2, ![1024, 1024]⟩
abbrev S4x1024 : Shape := ⟨2, ![4, 1024]⟩
abbrev S32x128 : Shape := ⟨2, ![32, 128]⟩
abbrev S1x512 : Shape := ⟨2, ![1, 512]⟩
abbrev S471 : Shape := ⟨1, ![471]⟩
abbrev S256 : Shape := ⟨1, ![256]⟩
abbrev S4x64 : Shape := ⟨2, ![4, 64]⟩
abbrev S4 : Shape := ⟨1, ![4]⟩
abbrev S64 : Shape := ⟨1, ![64]⟩
abbrev S1 : Shape := ⟨1, ![1]⟩
abbrev S12 : Shape := ⟨1, ![12]⟩
abbrev S4x3 : Shape := ⟨2, ![4, 3]⟩
abbrev S4x1 : Shape := ⟨2, ![4, 1]⟩
abbrev S1x1024 : Shape := ⟨2, ![1, 1024]⟩
abbrev S1024x1 : Shape := ⟨2, ![1024, 1]⟩
abbrev S1023 : Shape := ⟨1, ![1023]⟩
abbrev S2 : Shape := ⟨1, ![2]⟩
abbrev S1022 : Shape := ⟨1, ![1022]⟩
abbrev S1020 : Shape := ⟨1, ![1020]⟩
abbrev S8 : Shape := ⟨1, ![8]⟩
abbrev S1016 : Shape := ⟨1, ![1016]⟩
abbrev S16 : Shape := ⟨1, ![16]⟩
abbrev S1008 : Shape := ⟨1, ![1008]⟩
abbrev S32 : Shape := ⟨1, ![32]⟩
abbrev S992 : Shape := ⟨1, ![992]⟩
abbrev S960 : Shape := ⟨1, ![960]⟩
abbrev S128 : Shape := ⟨1, ![128]⟩
abbrev S896 : Shape := ⟨1, ![896]⟩
abbrev S768 : Shape := ⟨1, ![768]⟩
abbrev S1x64 : Shape := ⟨2, ![1, 64]⟩
abbrev S1024x4 : Shape := ⟨2, ![1024, 4]⟩
abbrev S1x128 : Shape := ⟨2, ![1, 128]⟩
abbrev S32x1x128 : Shape := ⟨3, ![32, 1, 128]⟩

abbrev nBuf : Space → Nat
  | .hbm => 410
  | .vmem => 0
  | .smem => 0
  | _ => 0

abbrev hbmTy0_0 (i : Nat) : BufTy := match i % 128 with
  | 0 => ⟨S32x512, .f32⟩
  | 1 => ⟨S1024x2048, .f32⟩
  | 2 => ⟨S2048, .f32⟩
  | 3 => ⟨S512x471, .f32⟩
  | 4 => ⟨S512x128, .f32⟩
  | 5 => ⟨S256x128, .f32⟩
  | 6 => ⟨S_, .f32⟩
  | 7 => ⟨S512, .f32⟩
  | 8 => ⟨S_, .f32⟩
  | 9 => ⟨S512, .f32⟩
  | 10 => ⟨S_, .f32⟩
  | 11 => ⟨S1024x64, .f32⟩
  | 12 => ⟨S_, .f32⟩
  | 13 => ⟨S1024, .f32⟩
  | 14 => ⟨S_, .f32⟩
  | 15 => ⟨S1024, .f32⟩
  | 16 => ⟨S_, .f32⟩
  | 17 => ⟨S1024x1024, .f32⟩
  | 18 => ⟨S_, .f32⟩
  | 19 => ⟨S1024, .f32⟩
  | 20 => ⟨S_, .f32⟩
  | 21 => ⟨S4x1024, .f32⟩
  | 22 => ⟨S_, .f32⟩
  | 23 => ⟨S32x128, .f32⟩
  | 24 => ⟨S_, .i32⟩
  | 25 => ⟨S32x512, .f32⟩
  | 26 => ⟨S1024x2048, .f32⟩
  | 27 => ⟨S2048, .f32⟩
  | 28 => ⟨S512x471, .f32⟩
  | 29 => ⟨S512x128, .f32⟩
  | 30 => ⟨S256x128, .f32⟩
  | 31 => ⟨S_, .i32⟩
  | 32 => ⟨S512, .f32⟩
  | 33 => ⟨S512, .f32⟩
  | 34 => ⟨S1024x64, .f32⟩
  | 35 => ⟨S1024, .f32⟩
  | 36 => ⟨S1024, .f32⟩
  | 37 => ⟨S1024x1024, .f32⟩
  | 38 => ⟨S1024, .f32⟩
  | 39 => ⟨S4x1024, .f32⟩
  | 40 => ⟨S32x128, .f32⟩
  | 41 => ⟨S_, .i32⟩
  | 42 => ⟨S_, .i1⟩
  | 43 => ⟨S_, .i32⟩
  | 44 => ⟨S1x512, .f32⟩
  | 45 => ⟨S512, .f32⟩
  | 46 => ⟨S1024, .f32⟩
  | 47 => ⟨S2048, .f32⟩
  | 48 => ⟨S2048, .f32⟩
  | 49 => ⟨S512, .f32⟩
  | 50 => ⟨S512, .f32⟩
  | 51 => ⟨S512, .f32⟩
  | 52 => ⟨S512, .f32⟩
  | 53 => ⟨S512, .f32⟩
  | 54 => ⟨S512, .f32⟩
  | 55 => ⟨S_, .f32⟩
  | 56 => ⟨S512, .f32⟩
  | 57 => ⟨S512, .f32⟩
  | 58 => ⟨S_, .f32⟩
  | 59 => ⟨S512, .f32⟩
  | 60 => ⟨S512, .f32⟩
  | 61 => ⟨S512, .f32⟩
  | 62 => ⟨S512, .f32⟩
  | 63 => ⟨S512, .f32⟩
  | 64 => ⟨S_, .f32⟩
  | 65 => ⟨S512, .f32⟩
  | 66 => ⟨S512, .f32⟩
  | 67 => ⟨S_, .f32⟩
  | 68 => ⟨S512, .f32⟩
  | 69 => ⟨S512, .f32⟩
  | 70 => ⟨S512, .f32⟩
  | 71 => ⟨S512, .f32⟩
  | 72 => ⟨S512, .f32⟩
  | 73 => ⟨S512, .f32⟩
  | 74 => ⟨S512, .f32⟩
  | 75 => ⟨S_, .f32⟩
  | 76 => ⟨S512, .f32⟩
  | 77 => ⟨S512, .f32⟩
  | 78 => ⟨S_, .f32⟩
  | 79 => ⟨S512, .f32⟩
  | 80 => ⟨S512, .f32⟩
  | 81 => ⟨S512, .f32⟩
  | 82 => ⟨S512, .f32⟩
  | 83 => ⟨S471, .f32⟩
  | 84 => ⟨S256, .f32⟩
  | 85 => ⟨S4x64, .f32⟩
  | 86 => ⟨S4, .f32⟩
  | 87 => ⟨S_, .f32⟩
  | 88 => ⟨S4, .f32⟩
  | 89 => ⟨S4, .f32⟩
  | 90 => ⟨S4, .f32⟩
  | 91 => ⟨S4, .f32⟩
  | 92 => ⟨S4, .i1⟩
  | 93 => ⟨S4, .f32⟩
  | 94 => ⟨S4, .f32⟩
  | 95 => ⟨S4, .f32⟩
  | 96 => ⟨S4, .f32⟩
  | 97 => ⟨S4, .f32⟩
  | 98 => ⟨S4, .f32⟩
  | 99 => ⟨S4, .f32⟩
  | 100 => ⟨S4, .f32⟩
  | 101 => ⟨S_, .f32⟩
  | 102 => ⟨S4, .f32⟩
  | 103 => ⟨S4, .f32⟩
  | 104 => ⟨S64, .f32⟩
  | 105 => ⟨S1, .f32⟩
  | 106 => ⟨S_, .f32⟩
  | 107 => ⟨S_, .f32⟩
  | 108 => ⟨S_, .f32⟩
  | 109 => ⟨S_, .f32⟩
  | 110 => ⟨S_, .i1⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S64, .f32⟩
  | 121 => ⟨S64, .f32⟩
  | 122 => ⟨S64, .f32⟩
  | 123 => ⟨S_, .f32⟩
  | 124 => ⟨S64, .f32⟩
  | 125 => ⟨S64, .f32⟩
  | 126 => ⟨S_, .f32⟩
  | 127 => ⟨S64, .f32⟩
  | _ => ⟨S32x512, .f32⟩

abbrev hbmTy0_1 (i : Nat) : BufTy := match i % 128 with
  | 0 => ⟨S64, .f32⟩
  | 1 => ⟨S64, .f32⟩
  | 2 => ⟨S4, .f32⟩
  | 3 => ⟨S4, .f32⟩
  | 4 => ⟨S4, .f32⟩
  | 5 => ⟨S_, .f32⟩
  | 6 => ⟨S4, .f32⟩
  | 7 => ⟨S4, .f32⟩
  | 8 => ⟨S_, .f32⟩
  | 9 => ⟨S4, .f32⟩
  | 10 => ⟨S4, .f32⟩
  | 11 => ⟨S1, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S1, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S12, .f32⟩
  | 28 => ⟨S4x3, .f32⟩
  | 29 => ⟨S_, .f32⟩
  | 30 => ⟨S4, .f32⟩
  | 31 => ⟨S_, .f32⟩
  | 32 => ⟨S4, .f32⟩
  | 33 => ⟨S4, .f32⟩
  | 34 => ⟨S4x1, .f32⟩
  | 35 => ⟨S4x3, .f32⟩
  | 36 => ⟨S4x3, .f32⟩
  | 37 => ⟨S4x3, .f32⟩
  | 38 => ⟨S_, .f32⟩
  | 39 => ⟨S4, .f32⟩
  | 40 => ⟨S4x1, .f32⟩
  | 41 => ⟨S4x3, .f32⟩
  | 42 => ⟨S4x3, .f32⟩
  | 43 => ⟨S4x1, .f32⟩
  | 44 => ⟨S4x1024, .f32⟩
  | 45 => ⟨S4x1024, .f32⟩
  | 46 => ⟨S_, .f32⟩
  | 47 => ⟨S4x1024, .f32⟩
  | 48 => ⟨S4x1024, .f32⟩
  | 49 => ⟨S1x1024, .f32⟩
  | 50 => ⟨S1024, .f32⟩
  | 51 => ⟨S1x1024, .f32⟩
  | 52 => ⟨S1024, .f32⟩
  | 53 => ⟨S1024, .f32⟩
  | 54 => ⟨S1x1024, .f32⟩
  | 55 => ⟨S1024, .f32⟩
  | 56 => ⟨S1024, .f32⟩
  | 57 => ⟨S1x1024, .f32⟩
  | 58 => ⟨S1024, .f32⟩
  | 59 => ⟨S1024, .f32⟩
  | 60 => ⟨S1024, .f32⟩
  | 61 => ⟨S1024, .f32⟩
  | 62 => ⟨S1024, .f32⟩
  | 63 => ⟨S1024, .f32⟩
  | 64 => ⟨S1024, .i32⟩
  | 65 => ⟨S1024, .f32⟩
  | 66 => ⟨S1024, .i32⟩
  | 67 => ⟨S_, .i32⟩
  | 68 => ⟨S1024, .i32⟩
  | 69 => ⟨S1024, .i1⟩
  | 70 => ⟨S_, .i32⟩
  | 71 => ⟨S1024, .i32⟩
  | 72 => ⟨S1024, .i32⟩
  | 73 => ⟨S1024, .i32⟩
  | 74 => ⟨S1024x1, .i32⟩
  | 75 => ⟨S1024, .f32⟩
  | 76 => ⟨S_, .f32⟩
  | 77 => ⟨S1, .f32⟩
  | 78 => ⟨S_, .f32⟩
  | 79 => ⟨S1, .f32⟩
  | 80 => ⟨S1023, .f32⟩
  | 81 => ⟨S1024, .f32⟩
  | 82 => ⟨S1024, .f32⟩
  | 83 => ⟨S_, .f32⟩
  | 84 => ⟨S2, .f32⟩
  | 85 => ⟨S1022, .f32⟩
  | 86 => ⟨S1024, .f32⟩
  | 87 => ⟨S1024, .f32⟩
  | 88 => ⟨S_, .f32⟩
  | 89 => ⟨S4, .f32⟩
  | 90 => ⟨S1020, .f32⟩
  | 91 => ⟨S1024, .f32⟩
  | 92 => ⟨S1024, .f32⟩
  | 93 => ⟨S_, .f32⟩
  | 94 => ⟨S8, .f32⟩
  | 95 => ⟨S1016, .f32⟩
  | 96 => ⟨S1024, .f32⟩
  | 97 => ⟨S1024, .f32⟩
  | 98 => ⟨S_, .f32⟩
  | 99 => ⟨S16, .f32⟩
  | 100 => ⟨S1008, .f32⟩
  | 101 => ⟨S1024, .f32⟩
  | 102 => ⟨S1024, .f32⟩
  | 103 => ⟨S_, .f32⟩
  | 104 => ⟨S32, .f32⟩
  | 105 => ⟨S992, .f32⟩
  | 106 => ⟨S1024, .f32⟩
  | 107 => ⟨S1024, .f32⟩
  | 108 => ⟨S_, .f32⟩
  | 109 => ⟨S64, .f32⟩
  | 110 => ⟨S960, .f32⟩
  | 111 => ⟨S1024, .f32⟩
  | 112 => ⟨S1024, .f32⟩
  | 113 => ⟨S_, .f32⟩
  | 114 => ⟨S128, .f32⟩
  | 115 => ⟨S896, .f32⟩
  | 116 => ⟨S1024, .f32⟩
  | 117 => ⟨S1024, .f32⟩
  | 118 => ⟨S_, .f32⟩
  | 119 => ⟨S256, .f32⟩
  | 120 => ⟨S768, .f32⟩
  | 121 => ⟨S1024, .f32⟩
  | 122 => ⟨S1024, .f32⟩
  | 123 => ⟨S_, .f32⟩
  | 124 => ⟨S512, .f32⟩
  | 125 => ⟨S512, .f32⟩
  | 126 => ⟨S1024, .f32⟩
  | 127 => ⟨S1024, .f32⟩
  | _ => ⟨S32x512, .f32⟩

abbrev hbmTy0_2 (i : Nat) : BufTy := match i % 128 with
  | 0 => ⟨S1023, .f32⟩
  | 1 => ⟨S1024, .f32⟩
  | 2 => ⟨S_, .f32⟩
  | 3 => ⟨S1024, .f32⟩
  | 4 => ⟨S_, .f32⟩
  | 5 => ⟨S1024, .f32⟩
  | 6 => ⟨S1024, .f32⟩
  | 7 => ⟨S1024, .f32⟩
  | 8 => ⟨S_, .i32⟩
  | 9 => ⟨S1024, .i32⟩
  | 10 => ⟨S1024, .i1⟩
  | 11 => ⟨S_, .i32⟩
  | 12 => ⟨S1024, .i32⟩
  | 13 => ⟨S1024, .i32⟩
  | 14 => ⟨S1024, .i32⟩
  | 15 => ⟨S1024x1, .i32⟩
  | 16 => ⟨S1024, .f32⟩
  | 17 => ⟨S1024, .f32⟩
  | 18 => ⟨S1024x64, .f32⟩
  | 19 => ⟨S_, .f32⟩
  | 20 => ⟨S1024, .f32⟩
  | 21 => ⟨S1024, .f32⟩
  | 22 => ⟨S64, .f32⟩
  | 23 => ⟨S_, .f32⟩
  | 24 => ⟨S_, .f32⟩
  | 25 => ⟨S_, .f32⟩
  | 26 => ⟨S1024, .f32⟩
  | 27 => ⟨S1024, .f32⟩
  | 28 => ⟨S_, .f32⟩
  | 29 => ⟨S1024, .f32⟩
  | 30 => ⟨S1024, .f32⟩
  | 31 => ⟨S1024, .f32⟩
  | 32 => ⟨S1024, .f32⟩
  | 33 => ⟨S1024, .f32⟩
  | 34 => ⟨S_, .f32⟩
  | 35 => ⟨S_, .f32⟩
  | 36 => ⟨S_, .f32⟩
  | 37 => ⟨S_, .f32⟩
  | 38 => ⟨S1, .f32⟩
  | 39 => ⟨S1024, .f32⟩
  | 40 => ⟨S1024, .f32⟩
  | 41 => ⟨S1024, .f32⟩
  | 42 => ⟨S_, .f32⟩
  | 43 => ⟨S_, .f32⟩
  | 44 => ⟨S1, .f32⟩
  | 45 => ⟨S1024, .f32⟩
  | 46 => ⟨S1024, .f32⟩
  | 47 => ⟨S1024, .f32⟩
  | 48 => ⟨S1024, .f32⟩
  | 49 => ⟨S_, .f32⟩
  | 50 => ⟨S_, .f32⟩
  | 51 => ⟨S1024, .f32⟩
  | 52 => ⟨S1024, .f32⟩
  | 53 => ⟨S1024, .f32⟩
  | 54 => ⟨S1024, .f32⟩
  | 55 => ⟨S1024, .f32⟩
  | 56 => ⟨S1024x1, .f32⟩
  | 57 => ⟨S1x64, .f32⟩
  | 58 => ⟨S1024x64, .f32⟩
  | 59 => ⟨S1024x64, .f32⟩
  | 60 => ⟨S1024x64, .f32⟩
  | 61 => ⟨S_, .f32⟩
  | 62 => ⟨S1024x64, .f32⟩
  | 63 => ⟨S1024x64, .f32⟩
  | 64 => ⟨S1024x64, .f32⟩
  | 65 => ⟨S1024x1, .f32⟩
  | 66 => ⟨S1x64, .f32⟩
  | 67 => ⟨S1024x64, .f32⟩
  | 68 => ⟨S1024x64, .f32⟩
  | 69 => ⟨S1024x64, .f32⟩
  | 70 => ⟨S1024x64, .f32⟩
  | 71 => ⟨S_, .f32⟩
  | 72 => ⟨S_, .f32⟩
  | 73 => ⟨S_, .f32⟩
  | 74 => ⟨S_, .f32⟩
  | 75 => ⟨S1024, .f32⟩
  | 76 => ⟨S1024, .f32⟩
  | 77 => ⟨S1024, .f32⟩
  | 78 => ⟨S1024x1, .f32⟩
  | 79 => ⟨S_, .f32⟩
  | 80 => ⟨S1024x1, .f32⟩
  | 81 => ⟨S1024x1, .f32⟩
  | 82 => ⟨S1x1024, .f32⟩
  | 83 => ⟨S1024x1024, .f32⟩
  | 84 => ⟨S1024x1024, .f32⟩
  | 85 => ⟨S1024x1024, .f32⟩
  | 86 => ⟨S1024x1024, .f32⟩
  | 87 => ⟨S1024x1, .f32⟩
  | 88 => ⟨S1x1024, .f32⟩
  | 89 => ⟨S1024x1024, .f32⟩
  | 90 => ⟨S1024x1024, .f32⟩
  | 91 => ⟨S1024x1024, .f32⟩
  | 92 => ⟨S1024x1024, .f32⟩
  | 93 => ⟨S4x1024, .f32⟩
  | 94 => ⟨S1024x1024, .f32⟩
  | 95 => ⟨S4x1024, .f32⟩
  | 96 => ⟨S1024x4, .f32⟩
  | 97 => ⟨S1024x64, .f32⟩
  | 98 => ⟨S_, .f32⟩
  | 99 => ⟨S1024, .f32⟩
  | 100 => ⟨S1024, .f32⟩
  | 101 => ⟨S4x64, .f32⟩
  | 102 => ⟨S_, .f32⟩
  | 103 => ⟨S4, .f32⟩
  | 104 => ⟨S4, .f32⟩
  | 105 => ⟨S1x1024, .f32⟩
  | 106 => ⟨S4x1, .f32⟩
  | 107 => ⟨S4x1024, .f32⟩
  | 108 => ⟨S4x1024, .f32⟩
  | 109 => ⟨S4x1024, .f32⟩
  | 110 => ⟨S_, .f32⟩
  | 111 => ⟨S4x1024, .f32⟩
  | 112 => ⟨S4x1024, .f32⟩
  | 113 => ⟨S4x1024, .f32⟩
  | 114 => ⟨S4x1024, .f32⟩
  | 115 => ⟨S4x1, .f32⟩
  | 116 => ⟨S4x1024, .f32⟩
  | 117 => ⟨S4x1024, .f32⟩
  | 118 => ⟨S_, .f32⟩
  | 119 => ⟨S4, .f32⟩
  | 120 => ⟨S_, .f32⟩
  | 121 => ⟨S4, .f32⟩
  | 122 => ⟨S4, .f32⟩
  | 123 => ⟨S4x1, .f32⟩
  | 124 => ⟨S4x1024, .f32⟩
  | 125 => ⟨S4x1024, .f32⟩
  | 126 => ⟨S4x1024, .f32⟩
  | 127 => ⟨S_, .f32⟩
  | _ => ⟨S32x512, .f32⟩

abbrev hbmTy0_3 (i : Nat) : BufTy := match i % 128 with
  | 0 => ⟨S4, .f32⟩
  | 1 => ⟨S4x1, .f32⟩
  | 2 => ⟨S4x1024, .f32⟩
  | 3 => ⟨S4x1024, .f32⟩
  | 4 => ⟨S4x1, .f32⟩
  | 5 => ⟨S4x1024, .f32⟩
  | 6 => ⟨S4x1024, .f32⟩
  | 7 => ⟨S4x1, .f32⟩
  | 8 => ⟨S4x1024, .f32⟩
  | 9 => ⟨S4x1024, .f32⟩
  | 10 => ⟨S4x1024, .f32⟩
  | 11 => ⟨S4x1, .f32⟩
  | 12 => ⟨S4x1024, .f32⟩
  | 13 => ⟨S4x1024, .f32⟩
  | 14 => ⟨S4x1024, .f32⟩
  | 15 => ⟨S4x64, .f32⟩
  | 16 => ⟨S256, .f32⟩
  | 17 => ⟨S128, .f32⟩
  | 18 => ⟨S128, .f32⟩
  | 19 => ⟨S128, .f32⟩
  | 20 => ⟨S1x128, .f32⟩
  | 21 => ⟨S_, .i32⟩
  | 22 => ⟨S32x128, .f32⟩
  | 23 => ⟨S_, .i32⟩
  | 24 => ⟨S_, .i32⟩
  | 25 => ⟨S32x1x128, .f32⟩
  | _ => ⟨S32x512, .f32⟩

abbrev hbmTy (i : Nat) : BufTy := match i / 128 with
  | 0 => hbmTy0_0 i
  | 1 => hbmTy0_1 i
  | 2 => hbmTy0_2 i
  | 3 => hbmTy0_3 i
  | _ => ⟨S32x512, .f32⟩

abbrev bufTy : (tb : Table) → Fin (tcTables nBuf tb) → BufTy
  | .hbm, ⟨i, _⟩ => hbmTy i
  | _, _ => ⟨S32x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_cst_1 : Ref sig .tc := ⟨.hbm, 10, rfl⟩
abbrev main_v2 : Ref sig .tc := ⟨.hbm, 11, rfl⟩
abbrev main_cst_2 : Ref sig .tc := ⟨.hbm, 12, rfl⟩
abbrev main_v3 : Ref sig .tc := ⟨.hbm, 13, rfl⟩
abbrev main_cst_3 : Ref sig .tc := ⟨.hbm, 14, rfl⟩
abbrev main_v4 : Ref sig .tc := ⟨.hbm, 15, rfl⟩
abbrev main_cst_4 : Ref sig .tc := ⟨.hbm, 16, rfl⟩
abbrev main_v5 : Ref sig .tc := ⟨.hbm, 17, rfl⟩
abbrev main_cst_5 : Ref sig .tc := ⟨.hbm, 18, rfl⟩
abbrev main_v6 : Ref sig .tc := ⟨.hbm, 19, rfl⟩
abbrev main_cst_6 : Ref sig .tc := ⟨.hbm, 20, rfl⟩
abbrev main_v7 : Ref sig .tc := ⟨.hbm, 21, rfl⟩
abbrev main_cst_7 : Ref sig .tc := ⟨.hbm, 22, rfl⟩
abbrev main_v8 : Ref sig .tc := ⟨.hbm, 23, rfl⟩
abbrev main_c : Ref sig .tc := ⟨.hbm, 24, rfl⟩
abbrev main_v9_0 : Ref sig .tc := ⟨.hbm, 25, rfl⟩
abbrev main_v9_1 : Ref sig .tc := ⟨.hbm, 26, rfl⟩
abbrev main_v9_2 : Ref sig .tc := ⟨.hbm, 27, rfl⟩
abbrev main_v9_3 : Ref sig .tc := ⟨.hbm, 28, rfl⟩
abbrev main_v9_4 : Ref sig .tc := ⟨.hbm, 29, rfl⟩
abbrev main_v9_5 : Ref sig .tc := ⟨.hbm, 30, rfl⟩
abbrev main_v9_6 : Ref sig .tc := ⟨.hbm, 31, rfl⟩
abbrev main_v9_7 : Ref sig .tc := ⟨.hbm, 32, rfl⟩
abbrev main_v9_8 : Ref sig .tc := ⟨.hbm, 33, rfl⟩
abbrev main_v9_9 : Ref sig .tc := ⟨.hbm, 34, rfl⟩
abbrev main_v9_10 : Ref sig .tc := ⟨.hbm, 35, rfl⟩
abbrev main_v9_11 : Ref sig .tc := ⟨.hbm, 36, rfl⟩
abbrev main_v9_12 : Ref sig .tc := ⟨.hbm, 37, rfl⟩
abbrev main_v9_13 : Ref sig .tc := ⟨.hbm, 38, rfl⟩
abbrev main_v9_14 : Ref sig .tc := ⟨.hbm, 39, rfl⟩
abbrev main_v9_15 : Ref sig .tc := ⟨.hbm, 40, rfl⟩
abbrev main_while0c_c_23 : Ref sig .tc := ⟨.hbm, 41, rfl⟩
abbrev main_while0c_v11 : Ref sig .tc := ⟨.hbm, 42, rfl⟩
abbrev main_while0b_call0_c : Ref sig .tc := ⟨.hbm, 43, rfl⟩
abbrev main_while0b_call0_v0 : Ref sig .tc := ⟨.hbm, 44, rfl⟩
abbrev main_while0b_v11 : Ref sig .tc := ⟨.hbm, 45, rfl⟩
abbrev main_while0b_v12 : Ref sig .tc := ⟨.hbm, 46, rfl⟩
abbrev main_while0b_v13 : Ref sig .tc := ⟨.hbm, 47, rfl⟩
abbrev main_while0b_v14 : Ref sig .tc := ⟨.hbm, 48, rfl⟩
abbrev main_while0b_v15 : Ref sig .tc := ⟨.hbm, 49, rfl⟩
abbrev main_while0b_v16 : Ref sig .tc := ⟨.hbm, 50, rfl⟩
abbrev main_while0b_v17 : Ref sig .tc := ⟨.hbm, 51, rfl⟩
abbrev main_while0b_v18 : Ref sig .tc := ⟨.hbm, 52, rfl⟩
abbrev main_while0b_v19 : Ref sig .tc := ⟨.hbm, 53, rfl⟩
abbrev main_while0b_v20 : Ref sig .tc := ⟨.hbm, 54, rfl⟩
abbrev main_while0b_cst_23 : Ref sig .tc := ⟨.hbm, 55, rfl⟩
abbrev main_while0b_v21 : Ref sig .tc := ⟨.hbm, 56, rfl⟩
abbrev main_while0b_v22 : Ref sig .tc := ⟨.hbm, 57, rfl⟩
abbrev main_while0b_cst_24 : Ref sig .tc := ⟨.hbm, 58, rfl⟩
abbrev main_while0b_v23 : Ref sig .tc := ⟨.hbm, 59, rfl⟩
abbrev main_while0b_v24 : Ref sig .tc := ⟨.hbm, 60, rfl⟩
abbrev main_while0b_v25 : Ref sig .tc := ⟨.hbm, 61, rfl⟩
abbrev main_while0b_v26 : Ref sig .tc := ⟨.hbm, 62, rfl⟩
abbrev main_while0b_v27 : Ref sig .tc := ⟨.hbm, 63, rfl⟩
abbrev main_while0b_cst_25 : Ref sig .tc := ⟨.hbm, 64, rfl⟩
abbrev main_while0b_v28 : Ref sig .tc := ⟨.hbm, 65, rfl⟩
abbrev main_while0b_v29 : Ref sig .tc := ⟨.hbm, 66, rfl⟩
abbrev main_while0b_cst_26 : Ref sig .tc := ⟨.hbm, 67, rfl⟩
abbrev main_while0b_v30 : Ref sig .tc := ⟨.hbm, 68, rfl⟩
abbrev main_while0b_v31 : Ref sig .tc := ⟨.hbm, 69, rfl⟩
abbrev main_while0b_v32 : Ref sig .tc := ⟨.hbm, 70, rfl⟩
abbrev main_while0b_v33 : Ref sig .tc := ⟨.hbm, 71, rfl⟩
abbrev main_while0b_v34 : Ref sig .tc := ⟨.hbm, 72, rfl⟩
abbrev main_while0b_v35 : Ref sig .tc := ⟨.hbm, 73, rfl⟩
abbrev main_while0b_v36 : Ref sig .tc := ⟨.hbm, 74, rfl⟩
abbrev main_while0b_cst_27 : Ref sig .tc := ⟨.hbm, 75, rfl⟩
abbrev main_while0b_v37 : Ref sig .tc := ⟨.hbm, 76, rfl⟩
abbrev main_while0b_v38 : Ref sig .tc := ⟨.hbm, 77, rfl⟩
abbrev main_while0b_cst_28 : Ref sig .tc := ⟨.hbm, 78, rfl⟩
abbrev main_while0b_v39 : Ref sig .tc := ⟨.hbm, 79, rfl⟩
abbrev main_while0b_v40 : Ref sig .tc := ⟨.hbm, 80, rfl⟩
abbrev main_while0b_v41 : Ref sig .tc := ⟨.hbm, 81, rfl⟩
abbrev main_while0b_v42 : Ref sig .tc := ⟨.hbm, 82, rfl⟩
abbrev main_while0b_v43 : Ref sig .tc := ⟨.hbm, 83, rfl⟩
abbrev main_while0b_v44 : Ref sig .tc := ⟨.hbm, 84, rfl⟩
abbrev main_while0b_v45 : Ref sig .tc := ⟨.hbm, 85, rfl⟩
abbrev main_while0b_v46 : Ref sig .tc := ⟨.hbm, 86, rfl⟩
abbrev main_while0b_call1_cst : Ref sig .tc := ⟨.hbm, 87, rfl⟩
abbrev main_while0b_call1_v0 : Ref sig .tc := ⟨.hbm, 88, rfl⟩
abbrev main_while0b_call1_v1 : Ref sig .tc := ⟨.hbm, 89, rfl⟩
abbrev main_while0b_call1_v2 : Ref sig .tc := ⟨.hbm, 90, rfl⟩
abbrev main_while0b_call1_v3 : Ref sig .tc := ⟨.hbm, 91, rfl⟩
abbrev main_while0b_call1_v4 : Ref sig .tc := ⟨.hbm, 92, rfl⟩
abbrev main_while0b_call1_v5 : Ref sig .tc := ⟨.hbm, 93, rfl⟩
abbrev main_while0b_call1_v6 : Ref sig .tc := ⟨.hbm, 94, rfl⟩
abbrev main_while0b_call1_v7 : Ref sig .tc := ⟨.hbm, 95, rfl⟩
abbrev main_while0b_call1_v8 : Ref sig .tc := ⟨.hbm, 96, rfl⟩
abbrev main_while0b_call1_v9 : Ref sig .tc := ⟨.hbm, 97, rfl⟩
abbrev main_while0b_call1_v10 : Ref sig .tc := ⟨.hbm, 98, rfl⟩
abbrev main_while0b_call1_v11 : Ref sig .tc := ⟨.hbm, 99, rfl⟩
abbrev main_while0b_v47 : Ref sig .tc := ⟨.hbm, 100, rfl⟩
abbrev main_while0b_cst_29 : Ref sig .tc := ⟨.hbm, 101, rfl⟩
abbrev main_while0b_v48 : Ref sig .tc := ⟨.hbm, 102, rfl⟩
abbrev main_while0b_v49 : Ref sig .tc := ⟨.hbm, 103, rfl⟩
abbrev main_while0b_v50 : Ref sig .tc := ⟨.hbm, 104, rfl⟩
abbrev main_while0b_v51 : Ref sig .tc := ⟨.hbm, 105, rfl⟩
abbrev main_while0b_v52 : Ref sig .tc := ⟨.hbm, 106, rfl⟩
abbrev main_while0b_call2_cst : Ref sig .tc := ⟨.hbm, 107, rfl⟩
abbrev main_while0b_call2_v0 : Ref sig .tc := ⟨.hbm, 108, rfl⟩
abbrev main_while0b_call2_v1 : Ref sig .tc := ⟨.hbm, 109, rfl⟩
abbrev main_while0b_call2_v2 : Ref sig .tc := ⟨.hbm, 110, rfl⟩
abbrev main_while0b_call2_v3 : Ref sig .tc := ⟨.hbm, 111, rfl⟩
abbrev main_while0b_call2_v4 : Ref sig .tc := ⟨.hbm, 112, rfl⟩
abbrev main_while0b_call2_v5 : Ref sig .tc := ⟨.hbm, 113, rfl⟩
abbrev main_while0b_call2_v6 : Ref sig .tc := ⟨.hbm, 114, rfl⟩
abbrev main_while0b_call2_v7 : Ref sig .tc := ⟨.hbm, 115, rfl⟩
abbrev main_while0b_call2_v8 : Ref sig .tc := ⟨.hbm, 116, rfl⟩
abbrev main_while0b_v53 : Ref sig .tc := ⟨.hbm, 117, rfl⟩
abbrev main_while0b_cst_30 : Ref sig .tc := ⟨.hbm, 118, rfl⟩
abbrev main_while0b_v54 : Ref sig .tc := ⟨.hbm, 119, rfl⟩
abbrev main_while0b_v55 : Ref sig .tc := ⟨.hbm, 120, rfl⟩
abbrev main_while0b_v56 : Ref sig .tc := ⟨.hbm, 121, rfl⟩
abbrev main_while0b_v57 : Ref sig .tc := ⟨.hbm, 122, rfl⟩
abbrev main_while0b_cst_31 : Ref sig .tc := ⟨.hbm, 123, rfl⟩
abbrev main_while0b_v58 : Ref sig .tc := ⟨.hbm, 124, rfl⟩
abbrev main_while0b_v59 : Ref sig .tc := ⟨.hbm, 125, rfl⟩
abbrev main_while0b_cst_32 : Ref sig .tc := ⟨.hbm, 126, rfl⟩
abbrev main_while0b_v60 : Ref sig .tc := ⟨.hbm, 127, rfl⟩
abbrev main_while0b_v61 : Ref sig .tc := ⟨.hbm, 128, rfl⟩
abbrev main_while0b_v62 : Ref sig .tc := ⟨.hbm, 129, rfl⟩
abbrev main_while0b_v63 : Ref sig .tc := ⟨.hbm, 130, rfl⟩
abbrev main_while0b_v64 : Ref sig .tc := ⟨.hbm, 131, rfl⟩
abbrev main_while0b_v65 : Ref sig .tc := ⟨.hbm, 132, rfl⟩
abbrev main_while0b_cst_33 : Ref sig .tc := ⟨.hbm, 133, rfl⟩
abbrev main_while0b_v66 : Ref sig .tc := ⟨.hbm, 134, rfl⟩
abbrev main_while0b_v67 : Ref sig .tc := ⟨.hbm, 135, rfl⟩
abbrev main_while0b_cst_34 : Ref sig .tc := ⟨.hbm, 136, rfl⟩
abbrev main_while0b_v68 : Ref sig .tc := ⟨.hbm, 137, rfl⟩
abbrev main_while0b_v69 : Ref sig .tc := ⟨.hbm, 138, rfl⟩
abbrev main_while0b_v70 : Ref sig .tc := ⟨.hbm, 139, rfl⟩
abbrev main_while0b_v71 : Ref sig .tc := ⟨.hbm, 140, rfl⟩
abbrev main_while0b_v72 : Ref sig .tc := ⟨.hbm, 141, rfl⟩
abbrev main_while0b_v73 : Ref sig .tc := ⟨.hbm, 142, rfl⟩
abbrev main_while0b_cst_35 : Ref sig .tc := ⟨.hbm, 143, rfl⟩
abbrev main_while0b_v74 : Ref sig .tc := ⟨.hbm, 144, rfl⟩
abbrev main_while0b_cst_36 : Ref sig .tc := ⟨.hbm, 145, rfl⟩
abbrev main_while0b_v75 : Ref sig .tc := ⟨.hbm, 146, rfl⟩
abbrev main_while0b_v76 : Ref sig .tc := ⟨.hbm, 147, rfl⟩
abbrev main_while0b_v77 : Ref sig .tc := ⟨.hbm, 148, rfl⟩
abbrev main_while0b_v78 : Ref sig .tc := ⟨.hbm, 149, rfl⟩
abbrev main_while0b_v79 : Ref sig .tc := ⟨.hbm, 150, rfl⟩
abbrev main_while0b_cst_37 : Ref sig .tc := ⟨.hbm, 151, rfl⟩
abbrev main_while0b_v80 : Ref sig .tc := ⟨.hbm, 152, rfl⟩
abbrev main_while0b_cst_38 : Ref sig .tc := ⟨.hbm, 153, rfl⟩
abbrev main_while0b_v81 : Ref sig .tc := ⟨.hbm, 154, rfl⟩
abbrev main_while0b_v82 : Ref sig .tc := ⟨.hbm, 155, rfl⟩
abbrev main_while0b_v83 : Ref sig .tc := ⟨.hbm, 156, rfl⟩
abbrev main_while0b_cst_39 : Ref sig .tc := ⟨.hbm, 157, rfl⟩
abbrev main_while0b_v84 : Ref sig .tc := ⟨.hbm, 158, rfl⟩
abbrev main_while0b_cst_40 : Ref sig .tc := ⟨.hbm, 159, rfl⟩
abbrev main_while0b_v85 : Ref sig .tc := ⟨.hbm, 160, rfl⟩
abbrev main_while0b_v86 : Ref sig .tc := ⟨.hbm, 161, rfl⟩
abbrev main_while0b_v87 : Ref sig .tc := ⟨.hbm, 162, rfl⟩
abbrev main_while0b_v88 : Ref sig .tc := ⟨.hbm, 163, rfl⟩
abbrev main_while0b_v89 : Ref sig .tc := ⟨.hbm, 164, rfl⟩
abbrev main_while0b_v90 : Ref sig .tc := ⟨.hbm, 165, rfl⟩
abbrev main_while0b_cst_41 : Ref sig .tc := ⟨.hbm, 166, rfl⟩
abbrev main_while0b_v91 : Ref sig .tc := ⟨.hbm, 167, rfl⟩
abbrev main_while0b_v92 : Ref sig .tc := ⟨.hbm, 168, rfl⟩
abbrev main_while0b_v93 : Ref sig .tc := ⟨.hbm, 169, rfl⟩
abbrev main_while0b_v94 : Ref sig .tc := ⟨.hbm, 170, rfl⟩
abbrev main_while0b_v95 : Ref sig .tc := ⟨.hbm, 171, rfl⟩
abbrev main_while0b_v96 : Ref sig .tc := ⟨.hbm, 172, rfl⟩
abbrev main_while0b_v97 : Ref sig .tc := ⟨.hbm, 173, rfl⟩
abbrev main_while0b_cst_42 : Ref sig .tc := ⟨.hbm, 174, rfl⟩
abbrev main_while0b_v98 : Ref sig .tc := ⟨.hbm, 175, rfl⟩
abbrev main_while0b_v99 : Ref sig .tc := ⟨.hbm, 176, rfl⟩
abbrev main_while0b_v100 : Ref sig .tc := ⟨.hbm, 177, rfl⟩
abbrev main_while0b_v101 : Ref sig .tc := ⟨.hbm, 178, rfl⟩
abbrev main_while0b_v102 : Ref sig .tc := ⟨.hbm, 179, rfl⟩
abbrev main_while0b_v103 : Ref sig .tc := ⟨.hbm, 180, rfl⟩
abbrev main_while0b_v104 : Ref sig .tc := ⟨.hbm, 181, rfl⟩
abbrev main_while0b_v105 : Ref sig .tc := ⟨.hbm, 182, rfl⟩
abbrev main_while0b_v106 : Ref sig .tc := ⟨.hbm, 183, rfl⟩
abbrev main_while0b_v107 : Ref sig .tc := ⟨.hbm, 184, rfl⟩
abbrev main_while0b_v108 : Ref sig .tc := ⟨.hbm, 185, rfl⟩
abbrev main_while0b_v109 : Ref sig .tc := ⟨.hbm, 186, rfl⟩
abbrev main_while0b_v110 : Ref sig .tc := ⟨.hbm, 187, rfl⟩
abbrev main_while0b_v111 : Ref sig .tc := ⟨.hbm, 188, rfl⟩
abbrev main_while0b_v112 : Ref sig .tc := ⟨.hbm, 189, rfl⟩
abbrev main_while0b_v113 : Ref sig .tc := ⟨.hbm, 190, rfl⟩
abbrev main_while0b_v114 : Ref sig .tc := ⟨.hbm, 191, rfl⟩
abbrev main_while0b_call3_v0 : Ref sig .tc := ⟨.hbm, 192, rfl⟩
abbrev main_while0b_call3_v1_0 : Ref sig .tc := ⟨.hbm, 193, rfl⟩
abbrev main_while0b_v115 : Ref sig .tc := ⟨.hbm, 194, rfl⟩
abbrev main_while0b_c_43 : Ref sig .tc := ⟨.hbm, 195, rfl⟩
abbrev main_while0b_v116 : Ref sig .tc := ⟨.hbm, 196, rfl⟩
abbrev main_while0b_v117 : Ref sig .tc := ⟨.hbm, 197, rfl⟩
abbrev main_while0b_c_44 : Ref sig .tc := ⟨.hbm, 198, rfl⟩
abbrev main_while0b_v118 : Ref sig .tc := ⟨.hbm, 199, rfl⟩
abbrev main_while0b_v119 : Ref sig .tc := ⟨.hbm, 200, rfl⟩
abbrev main_while0b_v120 : Ref sig .tc := ⟨.hbm, 201, rfl⟩
abbrev main_while0b_v121 : Ref sig .tc := ⟨.hbm, 202, rfl⟩
abbrev main_while0b_v122 : Ref sig .tc := ⟨.hbm, 203, rfl⟩
abbrev main_while0b_cst_45 : Ref sig .tc := ⟨.hbm, 204, rfl⟩
abbrev main_while0b_v123 : Ref sig .tc := ⟨.hbm, 205, rfl⟩
abbrev main_while0b_cst_46 : Ref sig .tc := ⟨.hbm, 206, rfl⟩
abbrev main_while0b_v124 : Ref sig .tc := ⟨.hbm, 207, rfl⟩
abbrev main_while0b_v125 : Ref sig .tc := ⟨.hbm, 208, rfl⟩
abbrev main_while0b_v126 : Ref sig .tc := ⟨.hbm, 209, rfl⟩
abbrev main_while0b_v127 : Ref sig .tc := ⟨.hbm, 210, rfl⟩
abbrev main_while0b_cst_47 : Ref sig .tc := ⟨.hbm, 211, rfl⟩
abbrev main_while0b_v128 : Ref sig .tc := ⟨.hbm, 212, rfl⟩
abbrev main_while0b_v129 : Ref sig .tc := ⟨.hbm, 213, rfl⟩
abbrev main_while0b_v130 : Ref sig .tc := ⟨.hbm, 214, rfl⟩
abbrev main_while0b_v131 : Ref sig .tc := ⟨.hbm, 215, rfl⟩
abbrev main_while0b_cst_48 : Ref sig .tc := ⟨.hbm, 216, rfl⟩
abbrev main_while0b_v132 : Ref sig .tc := ⟨.hbm, 217, rfl⟩
abbrev main_while0b_v133 : Ref sig .tc := ⟨.hbm, 218, rfl⟩
abbrev main_while0b_v134 : Ref sig .tc := ⟨.hbm, 219, rfl⟩
abbrev main_while0b_v135 : Ref sig .tc := ⟨.hbm, 220, rfl⟩
abbrev main_while0b_cst_49 : Ref sig .tc := ⟨.hbm, 221, rfl⟩
abbrev main_while0b_v136 : Ref sig .tc := ⟨.hbm, 222, rfl⟩
abbrev main_while0b_v137 : Ref sig .tc := ⟨.hbm, 223, rfl⟩
abbrev main_while0b_v138 : Ref sig .tc := ⟨.hbm, 224, rfl⟩
abbrev main_while0b_v139 : Ref sig .tc := ⟨.hbm, 225, rfl⟩
abbrev main_while0b_cst_50 : Ref sig .tc := ⟨.hbm, 226, rfl⟩
abbrev main_while0b_v140 : Ref sig .tc := ⟨.hbm, 227, rfl⟩
abbrev main_while0b_v141 : Ref sig .tc := ⟨.hbm, 228, rfl⟩
abbrev main_while0b_v142 : Ref sig .tc := ⟨.hbm, 229, rfl⟩
abbrev main_while0b_v143 : Ref sig .tc := ⟨.hbm, 230, rfl⟩
abbrev main_while0b_cst_51 : Ref sig .tc := ⟨.hbm, 231, rfl⟩
abbrev main_while0b_v144 : Ref sig .tc := ⟨.hbm, 232, rfl⟩
abbrev main_while0b_v145 : Ref sig .tc := ⟨.hbm, 233, rfl⟩
abbrev main_while0b_v146 : Ref sig .tc := ⟨.hbm, 234, rfl⟩
abbrev main_while0b_v147 : Ref sig .tc := ⟨.hbm, 235, rfl⟩
abbrev main_while0b_cst_52 : Ref sig .tc := ⟨.hbm, 236, rfl⟩
abbrev main_while0b_v148 : Ref sig .tc := ⟨.hbm, 237, rfl⟩
abbrev main_while0b_v149 : Ref sig .tc := ⟨.hbm, 238, rfl⟩
abbrev main_while0b_v150 : Ref sig .tc := ⟨.hbm, 239, rfl⟩
abbrev main_while0b_v151 : Ref sig .tc := ⟨.hbm, 240, rfl⟩
abbrev main_while0b_cst_53 : Ref sig .tc := ⟨.hbm, 241, rfl⟩
abbrev main_while0b_v152 : Ref sig .tc := ⟨.hbm, 242, rfl⟩
abbrev main_while0b_v153 : Ref sig .tc := ⟨.hbm, 243, rfl⟩
abbrev main_while0b_v154 : Ref sig .tc := ⟨.hbm, 244, rfl⟩
abbrev main_while0b_v155 : Ref sig .tc := ⟨.hbm, 245, rfl⟩
abbrev main_while0b_cst_54 : Ref sig .tc := ⟨.hbm, 246, rfl⟩
abbrev main_while0b_v156 : Ref sig .tc := ⟨.hbm, 247, rfl⟩
abbrev main_while0b_v157 : Ref sig .tc := ⟨.hbm, 248, rfl⟩
abbrev main_while0b_v158 : Ref sig .tc := ⟨.hbm, 249, rfl⟩
abbrev main_while0b_v159 : Ref sig .tc := ⟨.hbm, 250, rfl⟩
abbrev main_while0b_cst_55 : Ref sig .tc := ⟨.hbm, 251, rfl⟩
abbrev main_while0b_v160 : Ref sig .tc := ⟨.hbm, 252, rfl⟩
abbrev main_while0b_v161 : Ref sig .tc := ⟨.hbm, 253, rfl⟩
abbrev main_while0b_v162 : Ref sig .tc := ⟨.hbm, 254, rfl⟩
abbrev main_while0b_v163 : Ref sig .tc := ⟨.hbm, 255, rfl⟩
abbrev main_while0b_v164 : Ref sig .tc := ⟨.hbm, 256, rfl⟩
abbrev main_while0b_v165 : Ref sig .tc := ⟨.hbm, 257, rfl⟩
abbrev main_while0b_cst_56 : Ref sig .tc := ⟨.hbm, 258, rfl⟩
abbrev main_while0b_v166 : Ref sig .tc := ⟨.hbm, 259, rfl⟩
abbrev main_while0b_cst_57 : Ref sig .tc := ⟨.hbm, 260, rfl⟩
abbrev main_while0b_v167 : Ref sig .tc := ⟨.hbm, 261, rfl⟩
abbrev main_while0b_v168 : Ref sig .tc := ⟨.hbm, 262, rfl⟩
abbrev main_while0b_v169 : Ref sig .tc := ⟨.hbm, 263, rfl⟩
abbrev main_while0b_c_58 : Ref sig .tc := ⟨.hbm, 264, rfl⟩
abbrev main_while0b_v170 : Ref sig .tc := ⟨.hbm, 265, rfl⟩
abbrev main_while0b_v171 : Ref sig .tc := ⟨.hbm, 266, rfl⟩
abbrev main_while0b_c_59 : Ref sig .tc := ⟨.hbm, 267, rfl⟩
abbrev main_while0b_v172 : Ref sig .tc := ⟨.hbm, 268, rfl⟩
abbrev main_while0b_v173 : Ref sig .tc := ⟨.hbm, 269, rfl⟩
abbrev main_while0b_v174 : Ref sig .tc := ⟨.hbm, 270, rfl⟩
abbrev main_while0b_v175 : Ref sig .tc := ⟨.hbm, 271, rfl⟩
abbrev main_while0b_v176 : Ref sig .tc := ⟨.hbm, 272, rfl⟩
abbrev main_while0b_v177 : Ref sig .tc := ⟨.hbm, 273, rfl⟩
abbrev main_while0b_call4_v0 : Ref sig .tc := ⟨.hbm, 274, rfl⟩
abbrev main_while0b_call4_cst : Ref sig .tc := ⟨.hbm, 275, rfl⟩
abbrev main_while0b_call4_v1 : Ref sig .tc := ⟨.hbm, 276, rfl⟩
abbrev main_while0b_v178 : Ref sig .tc := ⟨.hbm, 277, rfl⟩
abbrev main_while0b_call5_v0 : Ref sig .tc := ⟨.hbm, 278, rfl⟩
abbrev main_while0b_call5_cst : Ref sig .tc := ⟨.hbm, 279, rfl⟩
abbrev main_while0b_call5_v1 : Ref sig .tc := ⟨.hbm, 280, rfl⟩
abbrev main_while0b_v179 : Ref sig .tc := ⟨.hbm, 281, rfl⟩
abbrev main_while0b_v180 : Ref sig .tc := ⟨.hbm, 282, rfl⟩
abbrev main_while0b_v181 : Ref sig .tc := ⟨.hbm, 283, rfl⟩
abbrev main_while0b_cst_60 : Ref sig .tc := ⟨.hbm, 284, rfl⟩
abbrev main_while0b_v182 : Ref sig .tc := ⟨.hbm, 285, rfl⟩
abbrev main_while0b_v183 : Ref sig .tc := ⟨.hbm, 286, rfl⟩
abbrev main_while0b_v184 : Ref sig .tc := ⟨.hbm, 287, rfl⟩
abbrev main_while0b_v185 : Ref sig .tc := ⟨.hbm, 288, rfl⟩
abbrev main_while0b_v186 : Ref sig .tc := ⟨.hbm, 289, rfl⟩
abbrev main_while0b_cst_61 : Ref sig .tc := ⟨.hbm, 290, rfl⟩
abbrev main_while0b_v187 : Ref sig .tc := ⟨.hbm, 291, rfl⟩
abbrev main_while0b_cst_62 : Ref sig .tc := ⟨.hbm, 292, rfl⟩
abbrev main_while0b_v188 : Ref sig .tc := ⟨.hbm, 293, rfl⟩
abbrev main_while0b_v189 : Ref sig .tc := ⟨.hbm, 294, rfl⟩
abbrev main_while0b_v190 : Ref sig .tc := ⟨.hbm, 295, rfl⟩
abbrev main_while0b_v191 : Ref sig .tc := ⟨.hbm, 296, rfl⟩
abbrev main_while0b_v192 : Ref sig .tc := ⟨.hbm, 297, rfl⟩
abbrev main_while0b_cst_63 : Ref sig .tc := ⟨.hbm, 298, rfl⟩
abbrev main_while0b_v193 : Ref sig .tc := ⟨.hbm, 299, rfl⟩
abbrev main_while0b_v194 : Ref sig .tc := ⟨.hbm, 300, rfl⟩
abbrev main_while0b_v195 : Ref sig .tc := ⟨.hbm, 301, rfl⟩
abbrev main_while0b_v196 : Ref sig .tc := ⟨.hbm, 302, rfl⟩
abbrev main_while0b_v197 : Ref sig .tc := ⟨.hbm, 303, rfl⟩
abbrev main_while0b_v198 : Ref sig .tc := ⟨.hbm, 304, rfl⟩
abbrev main_while0b_cst_64 : Ref sig .tc := ⟨.hbm, 305, rfl⟩
abbrev main_while0b_v199 : Ref sig .tc := ⟨.hbm, 306, rfl⟩
abbrev main_while0b_v200 : Ref sig .tc := ⟨.hbm, 307, rfl⟩
abbrev main_while0b_v201 : Ref sig .tc := ⟨.hbm, 308, rfl⟩
abbrev main_while0b_v202 : Ref sig .tc := ⟨.hbm, 309, rfl⟩
abbrev main_while0b_v203 : Ref sig .tc := ⟨.hbm, 310, rfl⟩
abbrev main_while0b_v204 : Ref sig .tc := ⟨.hbm, 311, rfl⟩
abbrev main_while0b_v205 : Ref sig .tc := ⟨.hbm, 312, rfl⟩
abbrev main_while0b_v206 : Ref sig .tc := ⟨.hbm, 313, rfl⟩
abbrev main_while0b_v207 : Ref sig .tc := ⟨.hbm, 314, rfl⟩
abbrev main_while0b_v208 : Ref sig .tc := ⟨.hbm, 315, rfl⟩
abbrev main_while0b_v209 : Ref sig .tc := ⟨.hbm, 316, rfl⟩
abbrev main_while0b_cst_65 : Ref sig .tc := ⟨.hbm, 317, rfl⟩
abbrev main_while0b_v210 : Ref sig .tc := ⟨.hbm, 318, rfl⟩
abbrev main_while0b_v211 : Ref sig .tc := ⟨.hbm, 319, rfl⟩
abbrev main_while0b_v212 : Ref sig .tc := ⟨.hbm, 320, rfl⟩
abbrev main_while0b_v213 : Ref sig .tc := ⟨.hbm, 321, rfl⟩
abbrev main_while0b_v214 : Ref sig .tc := ⟨.hbm, 322, rfl⟩
abbrev main_while0b_v215 : Ref sig .tc := ⟨.hbm, 323, rfl⟩
abbrev main_while0b_v216 : Ref sig .tc := ⟨.hbm, 324, rfl⟩
abbrev main_while0b_v217 : Ref sig .tc := ⟨.hbm, 325, rfl⟩
abbrev main_while0b_v218 : Ref sig .tc := ⟨.hbm, 326, rfl⟩
abbrev main_while0b_cst_66 : Ref sig .tc := ⟨.hbm, 327, rfl⟩
abbrev main_while0b_v219 : Ref sig .tc := ⟨.hbm, 328, rfl⟩
abbrev main_while0b_cst_67 : Ref sig .tc := ⟨.hbm, 329, rfl⟩
abbrev main_while0b_v220 : Ref sig .tc := ⟨.hbm, 330, rfl⟩
abbrev main_while0b_v221 : Ref sig .tc := ⟨.hbm, 331, rfl⟩
abbrev main_while0b_v222 : Ref sig .tc := ⟨.hbm, 332, rfl⟩
abbrev main_while0b_v223 : Ref sig .tc := ⟨.hbm, 333, rfl⟩
abbrev main_while0b_v224 : Ref sig .tc := ⟨.hbm, 334, rfl⟩
abbrev main_while0b_cst_68 : Ref sig .tc := ⟨.hbm, 335, rfl⟩
abbrev main_while0b_v225 : Ref sig .tc := ⟨.hbm, 336, rfl⟩
abbrev main_while0b_v226 : Ref sig .tc := ⟨.hbm, 337, rfl⟩
abbrev main_while0b_v227 : Ref sig .tc := ⟨.hbm, 338, rfl⟩
abbrev main_while0b_v228 : Ref sig .tc := ⟨.hbm, 339, rfl⟩
abbrev main_while0b_v229 : Ref sig .tc := ⟨.hbm, 340, rfl⟩
abbrev main_while0b_v230 : Ref sig .tc := ⟨.hbm, 341, rfl⟩
abbrev main_while0b_v231 : Ref sig .tc := ⟨.hbm, 342, rfl⟩
abbrev main_while0b_v232 : Ref sig .tc := ⟨.hbm, 343, rfl⟩
abbrev main_while0b_v233 : Ref sig .tc := ⟨.hbm, 344, rfl⟩
abbrev main_while0b_v234 : Ref sig .tc := ⟨.hbm, 345, rfl⟩
abbrev main_while0b_v235 : Ref sig .tc := ⟨.hbm, 346, rfl⟩
abbrev main_while0b_v236 : Ref sig .tc := ⟨.hbm, 347, rfl⟩
abbrev main_while0b_v237 : Ref sig .tc := ⟨.hbm, 348, rfl⟩
abbrev main_while0b_v238 : Ref sig .tc := ⟨.hbm, 349, rfl⟩
abbrev main_while0b_v239 : Ref sig .tc := ⟨.hbm, 350, rfl⟩
abbrev main_while0b_v240 : Ref sig .tc := ⟨.hbm, 351, rfl⟩
abbrev main_while0b_v241 : Ref sig .tc := ⟨.hbm, 352, rfl⟩
abbrev main_while0b_call6_v0 : Ref sig .tc := ⟨.hbm, 353, rfl⟩
abbrev main_while0b_call6_cst : Ref sig .tc := ⟨.hbm, 354, rfl⟩
abbrev main_while0b_call6_v1 : Ref sig .tc := ⟨.hbm, 355, rfl⟩
abbrev main_while0b_v242 : Ref sig .tc := ⟨.hbm, 356, rfl⟩
abbrev main_while0b_call7_v0 : Ref sig .tc := ⟨.hbm, 357, rfl⟩
abbrev main_while0b_call7_cst : Ref sig .tc := ⟨.hbm, 358, rfl⟩
abbrev main_while0b_call7_v1 : Ref sig .tc := ⟨.hbm, 359, rfl⟩
abbrev main_while0b_v243 : Ref sig .tc := ⟨.hbm, 360, rfl⟩
abbrev main_while0b_v244 : Ref sig .tc := ⟨.hbm, 361, rfl⟩
abbrev main_while0b_v245 : Ref sig .tc := ⟨.hbm, 362, rfl⟩
abbrev main_while0b_v246 : Ref sig .tc := ⟨.hbm, 363, rfl⟩
abbrev main_while0b_v247 : Ref sig .tc := ⟨.hbm, 364, rfl⟩
abbrev main_while0b_v248 : Ref sig .tc := ⟨.hbm, 365, rfl⟩
abbrev main_while0b_cst_69 : Ref sig .tc := ⟨.hbm, 366, rfl⟩
abbrev main_while0b_v249 : Ref sig .tc := ⟨.hbm, 367, rfl⟩
abbrev main_while0b_v250 : Ref sig .tc := ⟨.hbm, 368, rfl⟩
abbrev main_while0b_v251 : Ref sig .tc := ⟨.hbm, 369, rfl⟩
abbrev main_while0b_v252 : Ref sig .tc := ⟨.hbm, 370, rfl⟩
abbrev main_while0b_v253 : Ref sig .tc := ⟨.hbm, 371, rfl⟩
abbrev main_while0b_v254 : Ref sig .tc := ⟨.hbm, 372, rfl⟩
abbrev main_while0b_v255 : Ref sig .tc := ⟨.hbm, 373, rfl⟩
abbrev main_while0b_cst_70 : Ref sig .tc := ⟨.hbm, 374, rfl⟩
abbrev main_while0b_v256 : Ref sig .tc := ⟨.hbm, 375, rfl⟩
abbrev main_while0b_cst_71 : Ref sig .tc := ⟨.hbm, 376, rfl⟩
abbrev main_while0b_v257 : Ref sig .tc := ⟨.hbm, 377, rfl⟩
abbrev main_while0b_v258 : Ref sig .tc := ⟨.hbm, 378, rfl⟩
abbrev main_while0b_v259 : Ref sig .tc := ⟨.hbm, 379, rfl⟩
abbrev main_while0b_v260 : Ref sig .tc := ⟨.hbm, 380, rfl⟩
abbrev main_while0b_v261 : Ref sig .tc := ⟨.hbm, 381, rfl⟩
abbrev main_while0b_v262 : Ref sig .tc := ⟨.hbm, 382, rfl⟩
abbrev main_while0b_cst_72 : Ref sig .tc := ⟨.hbm, 383, rfl⟩
abbrev main_while0b_v263 : Ref sig .tc := ⟨.hbm, 384, rfl⟩
abbrev main_while0b_v264 : Ref sig .tc := ⟨.hbm, 385, rfl⟩
abbrev main_while0b_v265 : Ref sig .tc := ⟨.hbm, 386, rfl⟩
abbrev main_while0b_v266 : Ref sig .tc := ⟨.hbm, 387, rfl⟩
abbrev main_while0b_v267 : Ref sig .tc := ⟨.hbm, 388, rfl⟩
abbrev main_while0b_v268 : Ref sig .tc := ⟨.hbm, 389, rfl⟩
abbrev main_while0b_v269 : Ref sig .tc := ⟨.hbm, 390, rfl⟩
abbrev main_while0b_v270 : Ref sig .tc := ⟨.hbm, 391, rfl⟩
abbrev main_while0b_v271 : Ref sig .tc := ⟨.hbm, 392, rfl⟩
abbrev main_while0b_v272 : Ref sig .tc := ⟨.hbm, 393, rfl⟩
abbrev main_while0b_v273 : Ref sig .tc := ⟨.hbm, 394, rfl⟩
abbrev main_while0b_v274 : Ref sig .tc := ⟨.hbm, 395, rfl⟩
abbrev main_while0b_v275 : Ref sig .tc := ⟨.hbm, 396, rfl⟩
abbrev main_while0b_v276 : Ref sig .tc := ⟨.hbm, 397, rfl⟩
abbrev main_while0b_v277 : Ref sig .tc := ⟨.hbm, 398, rfl⟩
abbrev main_while0b_v278 : Ref sig .tc := ⟨.hbm, 399, rfl⟩
abbrev main_while0b_v279 : Ref sig .tc := ⟨.hbm, 400, rfl⟩
abbrev main_while0b_v280 : Ref sig .tc := ⟨.hbm, 401, rfl⟩
abbrev main_while0b_v281 : Ref sig .tc := ⟨.hbm, 402, rfl⟩
abbrev main_while0b_v282 : Ref sig .tc := ⟨.hbm, 403, rfl⟩
abbrev main_while0b_call8_v0 : Ref sig .tc := ⟨.hbm, 404, rfl⟩
abbrev main_while0b_call8_c : Ref sig .tc := ⟨.hbm, 405, rfl⟩
abbrev main_while0b_v283 : Ref sig .tc := ⟨.hbm, 406, rfl⟩
abbrev main_while0b_c_73 : Ref sig .tc := ⟨.hbm, 407, rfl⟩
abbrev main_while0b_v284 : Ref sig .tc := ⟨.hbm, 408, rfl⟩
abbrev main_v10 : Ref sig .tc := ⟨.hbm, 409, rfl⟩

abbrev nD : Nat := 1
abbrev τ : Topo := Topo.v7x

variable {F : FTy → Type} [FloatOps F]

abbrev main_while0_count : Scf.Loop 32 := ⟨0#32, 32#32, 1#32⟩
-- ==== Proof.RefTripA.lean ====
/-
The reference's one trip of its loop, value by value (first half): at a valuation that holds a state, every value of the
trip is the corresponding value of the step on states.
-/
module

public import proofs.«01_k».proof.Proof.Gen.ReferenceIdeal.Run
public import proofs.«01_k».proof.Proof.Gen.ReferenceIdeal.Step

@[expose] public section

noncomputable section

namespace Cert.Proof.RefTrip

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_7 : V0 (Proc.devRef .tc main_v9_7) = s.main_v9_7
  f_8 : V0 (Proc.devRef .tc main_v9_8) = s.main_v9_8
  f_9 : V0 (Proc.devRef .tc main_v9_9) = s.main_v9_9
  f_10 : V0 (Proc.devRef .tc main_v9_10) = s.main_v9_10
  f_11 : V0 (Proc.devRef .tc main_v9_11) = s.main_v9_11
  f_12 : V0 (Proc.devRef .tc main_v9_12) = s.main_v9_12
  f_13 : V0 (Proc.devRef .tc main_v9_13) = s.main_v9_13
  f_14 : V0 (Proc.devRef .tc main_v9_14) = s.main_v9_14
  f_15 : V0 (Proc.devRef .tc main_v9_15) = s.main_v9_15
  f_0 : V0 (Proc.devRef .tc main_v9_0) = s.main_v9_0
  f_1 : V0 (Proc.devRef .tc main_v9_1) = s.main_v9_1
  f_2 : V0 (Proc.devRef .tc main_v9_2) = s.main_v9_2
  f_3 : V0 (Proc.devRef .tc main_v9_3) = s.main_v9_3
  f_4 : V0 (Proc.devRef .tc main_v9_4) = s.main_v9_4
  f_5 : V0 (Proc.devRef .tc main_v9_5) = s.main_v9_5
  n_6 : V0 (Proc.devRef .tc main_v9_6) = constantI S_ 32 (BitVec.ofNat 32 j)

variable {V0 s j}

set_option maxRecDepth 8192 in
/-- Value 0 of a trip is that of the step on states. -/
theorem al_0 (h : Holds V0 s j) : (constantI S_ 32 0#32 : (Proc.devRef .tc main_while0b_call0_c : DevRef τ sig).ty.Contents (Elt F)) = Cert.ReferenceIdeal.Step.b0 j s := by
  unfold Cert.ReferenceIdeal.Step.b0
  rfl

set_option maxRecDepth 8192 in
/-- Value 1 of a trip is that of the step on states. -/
theorem al_1 (h : Holds V0 s j) : (Host.dynamicSlice S1x512 (V0 (Proc.devRef .tc main_v9_0)) (fun k => (((![V0 (Proc.devRef .tc main_v9_6), constantI S_ 32 0#32] : Fin 2 → (⟨S_, .i32⟩ : BufTy).Contents (Elt F))) k (Shape.Idx.first h_S_)).toInt) sliceFits_S32x512_S1x512 : (Proc.devRef .tc main_while0b_call0_v0 : DevRef τ sig).ty.Contents (Elt F)) = Cert.ReferenceIdeal.Step.b1 j s := by
  unfold Cert.ReferenceIdeal.Step.b1
  rw [← al_0 h, h.f_0, h.n_6]
  try rfl

set_option maxRecDepth 8192 in
/-- Value 2 of a trip is that of the step on states. -/
theorem al_2 (h : Holds V0 s j) : (shapeCast S512 (Host.dynamicSlice S1x512 (V0 (Proc.devRef .tc main_v9_0)) (fun k => (((![V0 (Proc.devRef .tc main_v9_6), constantI S_ 32 0#32] : Fin 2 → (⟨S_, .i32⟩ : BufTy).Contents (Elt F))) k (Shape.Idx.first h_S_)).toInt) sliceFits_S32x512_S1x512) shapeCasts_S1x512_S512 : (Proc.devRef .tc main_while0b_v11 : DevRef τ sig).ty.Contents (Elt F)) = Cert.ReferenceIdeal.Step.b2 j s := by
  unfold Cert.ReferenceIdeal.Step.b2
  rw [← al_1 h]
  try rfl

set_option maxRecDepth 8192 in
/-- Value 3 of a trip is that of the step on states. -/
theorem al_3 (h : Holds V0 s j) : (concatenate S1024 0 [⟨S512, (shapeCast S512 (Host.dynamicSlice S1x512 (V0 (Proc.devRef .tc main_v9_0)) (fun k => (((![V0 (Proc.devRef .tc main_v9_6), constantI S_ 32 0#32] : Fin 2 → (⟨S_, .i32⟩ : BufTy).Contents (Elt F))) k (Shape.Idx.first h_S_)).toInt) sliceFits_S32x512_S1x512) shapeCasts_S1x512_S512)⟩, ⟨S512, (V0 (Proc.devRef .tc main_v9_7))⟩] concatenates_S512_S512_S1024_d0 : (Proc.devRef .tc main_while0b_v12 : DevRef τ sig).ty.Contents (Elt F)) = Cert.ReferenceIdeal.Step.b3 j s := by
  unfold Cert.ReferenceIdeal.Step.b3
  rw [← al_2 h, h.f_7]
  try rfl

set_option maxRecDepth 8192 in
/-- Value 4 of a trip is that of the step on states. -/
theorem al_4 (h : Holds V0 s j) : (Host.dotGeneral dot_S1024_S1024x2048_S2048_0_0_n_1_n_n none (concatenate S1024 0 [⟨S512, (shapeCast S512 (Host.dynamicSlice S1x512 (V0 (Proc.devRef .tc main_v9_0)) (fun k => (((![V0 (Proc.devRef .tc main_v9_6), constantI S_ 32 0#32] : Fin 2 → (⟨S_, .i32⟩ : BufTy).Contents (Elt F))) k (Shape.Idx.first h_S_)).toInt) sliceFits_S32x512_S1x512) shapeCasts_S1x512_S512)⟩, ⟨S512, (V0 (Proc.devRef .tc main_v9_7))⟩] concatenates_S512_S512_S1024_d0) (V0 (Proc.devRef .tc main_v9_1)) : (Proc.devRef .tc main_while0b_v13 : DevRef τ sig).ty.Contents (Elt F)) = Cert.ReferenceIdeal.Step.b4 j s := by
  unfold Cert.ReferenceIdeal.Step.b4
  rw [← al_3 h, h.f_1]
  try rfl

set_option maxRecDepth 8192 in
/-- Value 5 of a trip is that of the step on states. -/
theorem al_5 (h : Holds V0 s j) : (res_main_while0b_v14 V0 : (Proc.devRef .tc main_while0b_v14 : DevRef τ sig).ty.Contents (Elt F)) = Cert.ReferenceIdeal.Step.b5 j s := by
  unfold res_main_while0b_v14 Cert.ReferenceIdeal.Step.b5
  rw [← al_4 h, h.f_2]
  try rfl

set_option maxRecDepth 8192 in
/-- Value 6 of a trip is that of the step on states. -/
theorem al_6 (h : Holds V0 s j) : (extractStridedSlice S512 ![0] (res_main_while0b_v14 V0) slices_S2048_S512_0 : (Proc.devRef .tc main_while0b_v15 : DevRef τ sig).ty.Contents (Elt F)) = Cert.ReferenceIdeal.Step.b6 j s := by
  unfold Cert.ReferenceIdeal.Step.b6
  rw [← al_5 h]
  try rfl

set_option maxRecDepth 8192 in
/-- Value 7 of a trip is that of the step on states. -/
theorem al_7 (h : Holds V0 s j) : (extractStridedSlice S512 ![512] (res_main_while0b_v14 V0) slices_S2048_S512_512 : (Proc.devRef .tc main_while0b_v16 : DevRef τ sig).ty.Contents (Elt F)) = Cert.ReferenceIdeal.Step.b7 j s := by
  unfold Cert.ReferenceIdeal.Step.b7
  rw [← al_5 h]
  try rfl

set_option maxRecDepth 8192 in
/-- Value 8 of a trip is that of the step on states. -/
theorem al_8 (h : Holds V0 s j) : (extractStridedSlice S512 ![1024] (res_main_while0b_v14 V0) slices_S2048_S512_1024 : (Proc.devRef .tc main_while0b_v17 : DevRef τ sig).ty.Contents (Elt F)) = Cert.ReferenceIdeal.Step.b8 j s := by
  unfold Cert.ReferenceIdeal.Step.b8
  rw [← al_5 h]
  try rfl

set_option maxRecDepth 8192 in
/-- Value 9 of a trip is that of the step on states. -/
theorem al_9 (h : Holds V0 s j) : (extractStridedSlice S512 ![1536] (res_main_while0b_v14 V0) slices_S2048_S512_1536 : (Proc.devRef .tc main_while0b_v18 : DevRef τ sig).ty.Contents (Elt F)) = Cert.ReferenceIdeal.Step.b9 j s := by
  unfold Cert.ReferenceIdeal.Step.b9
  rw [← al_5 h]
  try rfl

set_option maxRecDepth 8192 in
/-- Value 10 of a trip is that of the step on states. -/
theorem al_10 (h : Holds V0 s j) : (Host.negf (extractStridedSlice S512 ![512] (res_main_while0b_v14 V0) slices_S2048_S512_512) : (Proc.devRef .tc main_while0b_v19 : DevRef τ sig).ty.Contents (Elt F)) = Cert.ReferenceIdeal.Step.b10 j s := by
  unfold Cert.ReferenceIdeal.Step.b10
  rw [← al_7 h]
  try rfl

set_option maxRecDepth 8192 in
/-- Value 11 of a trip is that of the step on states. -/
theorem al_11 (h : Holds V0 s j) : (Host.exp (Host.negf (extractStridedSlice S512 ![512] (res_main_while0b_v14 V0) slices_S2048_S512_512)) : (Proc.devRef .tc main_while0b_v20 : DevRef τ sig).ty.Contents (Elt F)) = Cert.ReferenceIdeal.Step.b11 j s := by
  unfold Cert.ReferenceIdeal.Step.b11
  rw [← al_10 h]
  try rfl

set_option maxRecDepth 8192 in
/-- Value 12 of a trip is that of the step on states. -/
theorem al_12 (h : Holds V0 s j) : (constant S_ .f32 0x3F800000#32 : (Proc.devRef .tc main_while0b_cst_23 : DevRef τ sig).ty.Contents (Elt F)) = Cert.ReferenceIdeal.Step.b12 j s := by
  unfold Cert.ReferenceIdeal.Step.b12
  rfl

set_option maxRecDepth 8192 in
/-- Value 13 of a trip is that of the step on states. -/
theorem al_13 (h : Holds V0 s j) : (broadcastInDim S512 ![] bcast_S_S512 (constant S_ .f32 0x3F800000#32) : (Proc.devRef .tc main_while0b_v21 : DevRef τ sig).ty.Contents (Elt F)) = Cert.ReferenceIdeal.Step.b13 j s := by
  unfold Cert.ReferenceIdeal.Step.b13
  rw [← al_12 h]
  try rfl

set_option maxRecDepth 8192 in
/-- Value 14 of a trip is that of the step on states. -/
theorem al_14 (h : Holds V0 s j) : (addf (broadcastInDim S512 ![] bcast_S_S512 (constant S_ .f32 0x3F800000#32)) (Host.exp (Host.negf (extractStridedSlice S512 ![512] (res_main_while0b_v14 V0) slices_S2048_S512_512))) : (Proc.devRef .tc main_while0b_v22 : DevRef τ sig).ty.Contents (Elt F)) = Cert.ReferenceIdeal.Step.b14 j s := by
  unfold Cert.ReferenceIdeal.Step.b14
  rw [← al_13 h, ← al_11 h]
  try rfl

set_option maxRecDepth 8192 in
/-- Value 15 of a trip is that of the step on states. -/
theorem al_15 (h : Holds V0 s j) : (constant S_ .f32 0x3F800000#32 : (Proc.devRef .tc main_while0b_cst_24 : DevRef τ sig).ty.Contents (Elt F)) = Cert.ReferenceIdeal.Step.b15 j s := by
  unfold Cert.ReferenceIdeal.Step.b15
  rfl

set_option maxRecDepth 8192 in
/-- Value 16 of a trip is that of the step on states. -/
theorem al_16 (h : Holds V0 s j) : (broadcastInDim S512 ![] bcast_S_S512 (constant S_ .f32 0x3F800000#32) : (Proc.devRef .tc main_while0b_v23 : DevRef τ sig).ty.Contents (Elt F)) = Cert.ReferenceIdeal.Step.b16 j s := by
  unfold Cert.ReferenceIdeal.Step.b16
  rw [← al_15 h]
  try rfl

set_option maxRecDepth 8192 in
/-- Value 17 of a trip is that of the step on states. -/
theorem al_17 (h : Holds V0 s j) : (Host.divf (broadcastInDim S512 ![] bcast_S_S512 (constant S_ .f32 0x3F800000#32)) (addf (broadcastInDim S512 ![] bcast_S_S512 (constant S_ .f32 0x3F800000#32)) (Host.exp (Host.negf (extractStridedSlice S512 ![512] (res_main_while0b_v14 V0) slices_S2048_S512_512)))) : (Proc.devRef .tc main_while0b_v24 : DevRef τ sig).ty.Contents (Elt F)) = Cert.ReferenceIdeal.Step.b17 j s := by
  unfold Cert.ReferenceIdeal.Step.b17
  rw [← al_16 h, ← al_14 h]
  try rfl

set_option maxRecDepth 8192 in
/-- Value 18 of a trip is that of the step on states. -/
theorem al_18 (h : Holds V0 s j) : (mulf (Host.divf (broadcastInDim S512 ![] bcast_S_S512 (constant S_ .f32 0x3F800000#32)) (addf (broadcastInDim S512 ![] bcast_S_S512 (constant S_ .f32 0x3F800000#32)) (Host.exp (Host.negf (extractStridedSlice S512 ![512] (res_main_while0b_v14 V0) slices_S2048_S512_512))))) (V0 (Proc.devRef .tc main_v9_8)) : (Proc.devRef .tc main_while0b_v25 : DevRef τ sig).ty.Contents (Elt F)) = Cert.ReferenceIdeal.Step.b18 j s := by
  unfold Cert.ReferenceIdeal.Step.b18
  rw [← al_17 h, h.f_8]
  try rfl

set_option maxRecDepth 8192 in
/-- Value 19 of a trip is that of the step on states. -/
theorem al_19 (h : Holds V0 s j) : (Host.negf (extractStridedSlice S512 ![0] (res_main_while0b_v14 V0) slices_S2048_S512_0) : (Proc.devRef .tc main_while0b_v26 : DevRef τ sig).ty.Contents (Elt F)) = Cert.ReferenceIdeal.Step.b19 j s := by
  unfold Cert.ReferenceIdeal.Step.b19
  rw [← al_6 h]
  try rfl

set_option maxRecDepth 8192 in
/-- Value 20 of a trip is that of the step on states. -/
theorem al_20 (h : Holds V0 s j) : (Host.exp (Host.negf (extractStridedSlice S512 ![0] (res_main_while0b_v14 V0) slices_S2048_S512_0)) : (Proc.devRef .tc main_while0b_v27 : DevRef τ sig).ty.Contents (Elt F)) = Cert.ReferenceIdeal.Step.b20 j s := by
  unfold Cert.ReferenceIdeal.Step.b20
  rw [← al_19 h]
  try rfl

set_option maxRecDepth 8192 in
/-- Value 21 of a trip is that of the step on states. -/
theorem al_21 (h : Holds V0 s j) : (constant S_ .f32 0x3F800000#32 : (Proc.devRef .tc main_while0b_cst_25 : DevRef τ sig).ty.Contents (Elt F)) = Cert.ReferenceIdeal.Step.b21 j s := by
  unfold Cert.ReferenceIdeal.Step.b21
  rfl

set_option maxRecDepth 8192 in
/-- Value 22 of a trip is that of the step on states. -/
theorem al_22 (h : Holds V0 s j) : (broadcastInDim S512 ![] bcast_S_S512 (constant S_ .f32 0x3F800000#32) : (Proc.devRef .tc main_while0b_v28 : DevRef τ sig).ty.Contents (Elt F)) = Cert.ReferenceIdeal.Step.b22 j s := by
  unfold Cert.ReferenceIdeal.Step.b22
  rw [← al_21 h]
  try rfl

set_option maxRecDepth 8192 in
/-- Value 23 of a trip is that of the step on states. -/
theorem al_23 (h : Holds V0 s j) : (addf (broadcastInDim S512 ![] bcast_S_S512 (constant S_ .f32 0x3F800000#32)) (Host.exp (Host.negf (extractStridedSlice S512 ![0] (res_main_while0b_v14 V0) slices_S2048_S512_0))) : (Proc.devRef .tc main_while0b_v29 : DevRef τ sig).ty.Contents (Elt F)) = Cert.ReferenceIdeal.Step.b23 j s := by
  unfold Cert.ReferenceIdeal.Step.b23
  rw [← al_22 h, ← al_20 h]
  try rfl

set_option maxRecDepth 8192 in
/-- Value 24 of a trip is that of the step on states. -/
theorem al_24 (h : Holds V0 s j) : (constant S_ .f32 0x3F800000#32 : (Proc.devRef .tc main_while0b_cst_26 : DevRef τ sig).ty.Contents (Elt F)) = Cert.ReferenceIdeal.Step.b24 j s := by
  unfold Cert.ReferenceIdeal.Step.b24
  rfl

set_option maxRecDepth 8192 in
/-- Value 25 of a trip is that of the step on states. -/
theorem al_25 (h : Holds V0 s j) : (broadcastInDim S512 ![] bcast_S_S512 (constant S_ .f32 0x3F800000#32) : (Proc.devRef .tc main_while0b_v30 : DevRef τ sig).ty.Contents (Elt F)) = Cert.ReferenceIdeal.Step.b25 j s := by
  unfold Cert.ReferenceIdeal.Step.b25
  rw [← al_24 h]
  try rfl

set_option maxRecDepth 8192 in
/-- Value 26 of a trip is that of the step on states. -/
theorem al_26 (h : Holds V0 s j) : (Host.divf (broadcastInDim S512 ![] bcast_S_S512 (constant S_ .f32 0x3F800000#32)) (addf (broadcastInDim S512 ![] bcast_S_S512 (constant S_ .f32 0x3F800000#32)) (Host.exp (Host.negf (extractStridedSlice S512 ![0] (res_main_while0b_v14 V0) slices_S2048_S512_0)))) : (Proc.devRef .tc main_while0b_v31 : DevRef τ sig).ty.Contents (Elt F)) = Cert.ReferenceIdeal.Step.b26 j s := by
  unfold Cert.ReferenceIdeal.Step.b26
  rw [← al_25 h, ← al_23 h]
  try rfl

set_option maxRecDepth 8192 in
/-- Value 27 of a trip is that of the step on states. -/
theorem al_27 (h : Holds V0 s j) : (Host.tanh (extractStridedSlice S512 ![1024] (res_main_while0b_v14 V0) slices_S2048_S512_1024) : (Proc.devRef .tc main_while0b_v32 : DevRef τ sig).ty.Contents (Elt F)) = Cert.ReferenceIdeal.Step.b27 j s := by
  unfold Cert.ReferenceIdeal.Step.b27
  rw [← al_8 h]
  try rfl

set_option maxRecDepth 8192 in
/-- Value 28 of a trip is that of the step on states. -/
theorem al_28 (h : Holds V0 s j) : (mulf (Host.divf (broadcastInDim S512 ![] bcast_S_S512 (constant S_ .f32 0x3F800000#32)) (addf (broadcastInDim S512 ![] bcast_S_S512 (constant S_ .f32 0x3F800000#32)) (Host.exp (Host.negf (extractStridedSlice S512 ![0] (res_main_while0b_v14 V0) slices_S2048_S512_0))))) (Host.tanh (extractStridedSlice S512 ![1024] (res_main_while0b_v14 V0) slices_S2048_S512_1024)) : (Proc.devRef .tc main_while0b_v33 : DevRef τ sig).ty.Contents (Elt F)) = Cert.ReferenceIdeal.Step.b28 j s := by
  unfold Cert.ReferenceIdeal.Step.b28
  rw [← al_26 h, ← al_27 h]
  try rfl

set_option maxRecDepth 8192 in
/-- Value 29 of a trip is that of the step on states. -/
theorem al_29 (h : Holds V0 s j) : (res_main_while0b_v34 V0 : (Proc.devRef .tc main_while0b_v34 : DevRef τ sig).ty.Contents (Elt F)) = Cert.ReferenceIdeal.Step.b29 j s := by
  unfold res_main_while0b_v34 Cert.ReferenceIdeal.Step.b29
  rw [← al_18 h, ← al_28 h]
  try rfl

set_option maxRecDepth 8192 in
/-- Value 30 of a trip is that of the step on states. -/
theorem al_30 (h : Holds V0 s j) : (Host.negf (extractStridedSlice S512 ![1536] (res_main_while0b_v14 V0) slices_S2048_S512_1536) : (Proc.devRef .tc main_while0b_v35 : DevRef τ sig).ty.Contents (Elt F)) = Cert.ReferenceIdeal.Step.b30 j s := by
  unfold Cert.ReferenceIdeal.Step.b30
  rw [← al_9 h]
  try rfl

set_option maxRecDepth 8192 in
/-- Value 31 of a trip is that of the step on states. -/
theorem al_31 (h : Holds V0 s j) : (Host.exp (Host.negf (extractStridedSlice S512 ![1536] (res_main_while0b_v14 V0) slices_S2048_S512_1536)) : (Proc.devRef .tc main_while0b_v36 : DevRef τ sig).ty.Contents (Elt F)) = Cert.ReferenceIdeal.Step.b31 j s := by
  unfold Cert.ReferenceIdeal.Step.b31
  rw [← al_30 h]
  try rfl

set_option maxRecDepth 8192 in
/-- Value 32 of a trip is that of the step on states. -/
theorem al_32 (h : Holds V0 s j) : (constant S_ .f32 0x3F800000#32 : (Proc.devRef .tc main_while0b_cst_27 : DevRef τ sig).ty.Contents (Elt F)) = Cert.ReferenceIdeal.Step.b32 j s := by
  unfold Cert.ReferenceIdeal.Step.b32
  rfl

set_option maxRecDepth 8192 in
/-- Value 33 of a trip is that of the step on states. -/
theorem al_33 (h : Holds V0 s j) : (broadcastInDim S512 ![] bcast_S_S512 (constant S_ .f32 0x3F800000#32) : (Proc.devRef .tc main_while0b_v37 : DevRef τ sig).ty.Contents (Elt F)) = Cert.ReferenceIdeal.Step.b33 j s := by
  unfold Cert.ReferenceIdeal.Step.b33
  rw [← al_32 h]
  try rfl

set_option maxRecDepth 8192 in
/-- Value 34 of a trip is that of the step on states. -/
theorem al_34 (h : Holds V0 s j) : (addf (broadcastInDim S512 ![] bcast_S_S512 (constant S_ .f32 0x3F800000#32)) (Host.exp (Host.negf (extractStridedSlice S512 ![1536] (res_main_while0b_v14 V0) slices_S2048_S512_1536))) : (Proc.devRef .tc main_while0b_v38 : DevRef τ sig).ty.Contents (Elt F)) = Cert.ReferenceIdeal.Step.b34 j s := by
  unfold Cert.ReferenceIdeal.Step.b34
  rw [← al_33 h, ← al_31 h]
  try rfl

set_option maxRecDepth 8192 in
/-- Value 35 of a trip is that of the step on states. -/
theorem al_35 (h : Holds V0 s j) : (constant S_ .f32 0x3F800000#32 : (Proc.devRef .tc main_while0b_cst_28 : DevRef τ sig).ty.Contents (Elt F)) = Cert.ReferenceIdeal.Step.b35 j s := by
  unfold Cert.ReferenceIdeal.Step.b35
  rfl

set_option maxRecDepth 8192 in
/-- Value 36 of a trip is that of the step on states. -/
theorem al_36 (h : Holds V0 s j) : (broadcastInDim S512 ![] bcast_S_S512 (constant S_ .f32 0x3F800000#32) : (Proc.devRef .tc main_while0b_v39 : DevRef τ sig).ty.Contents (Elt F)) = Cert.ReferenceIdeal.Step.b36 j s := by
  unfold Cert.ReferenceIdeal.Step.b36
  rw [← al_35 h]
  try rfl

set_option maxRecDepth 8192 in
/-- Value 37 of a trip is that of the step on states. -/
theorem al_37 (h : Holds V0 s j) : (Host.divf (broadcastInDim S512 ![] bcast_S_S512 (constant S_ .f32 0x3F800000#32)) (addf (broadcastInDim S512 ![] bcast_S_S512 (constant S_ .f32 0x3F800000#32)) (Host.exp (Host.negf (extractStridedSlice S512 ![1536] (res_main_while0b_v14 V0) slices_S2048_S512_1536)))) : (Proc.devRef .tc main_while0b_v40 : DevRef τ sig).ty.Contents (Elt F)) = Cert.ReferenceIdeal.Step.b37 j s := by
  unfold Cert.ReferenceIdeal.Step.b37
  rw [← al_36 h, ← al_34 h]
  try rfl

set_option maxRecDepth 8192 in
/-- Value 38 of a trip is that of the step on states. -/
theorem al_38 (h : Holds V0 s j) : (Host.tanh (res_main_while0b_v34 V0) : (Proc.devRef .tc main_while0b_v41 : DevRef τ sig).ty.Contents (Elt F)) = Cert.ReferenceIdeal.Step.b38 j s := by
  unfold Cert.ReferenceIdeal.Step.b38
  rw [← al_29 h]
  try rfl

set_option maxRecDepth 8192 in
/-- Value 39 of a trip is that of the step on states. -/
theorem al_39 (h : Holds V0 s j) : (res_main_while0b_v42 V0 : (Proc.devRef .tc main_while0b_v42 : DevRef τ sig).ty.Contents (Elt F)) = Cert.ReferenceIdeal.Step.b39 j s := by
  unfold res_main_while0b_v42 Cert.ReferenceIdeal.Step.b39
  rw [← al_37 h, ← al_38 h]
  try rfl

set_option maxRecDepth 8192 in
/-- Value 40 of a trip is that of the step on states. -/
theorem al_40 (h : Holds V0 s j) : (res_main_while0b_v43 V0 : (Proc.devRef .tc main_while0b_v43 : DevRef τ sig).ty.Contents (Elt F)) = Cert.ReferenceIdeal.Step.b40 j s := by
  unfold res_main_while0b_v43 Cert.ReferenceIdeal.Step.b40
  rw [← al_39 h, h.f_3]
  try rfl

set_option maxRecDepth 8192 in
/-- Value 41 of a trip is that of the step on states. -/
theorem al_41 (h : Holds V0 s j) : (extractStridedSlice S256 ![0] (res_main_while0b_v43 V0) slices_S471_S256_0 : (Proc.devRef .tc main_while0b_v44 : DevRef τ sig).ty.Contents (Elt F)) = Cert.ReferenceIdeal.Step.b41 j s := by
  unfold Cert.ReferenceIdeal.Step.b41
  rw [← al_40 h]
  try rfl

set_option maxRecDepth 8192 in
/-- Value 42 of a trip is that of the step on states. -/
theorem al_42 (h : Holds V0 s j) : (res_main_while0b_v45 V0 : (Proc.devRef .tc main_while0b_v45 : DevRef τ sig).ty.Contents (Elt F)) = Cert.ReferenceIdeal.Step.b42 j s := by
  unfold res_main_while0b_v45 Cert.ReferenceIdeal.Step.b42
  rw [← al_41 h]
  try rfl

set_option maxRecDepth 8192 in
/-- Value 43 of a trip is that of the step on states. -/
theorem al_43 (h : Holds V0 s j) : (res_main_while0b_v46 V0 : (Proc.devRef .tc main_while0b_v46 : DevRef τ sig).ty.Contents (Elt F)) = Cert.ReferenceIdeal.Step.b43 j s := by
  unfold res_main_while0b_v46 Cert.ReferenceIdeal.Step.b43
  rw [← al_40 h]
  try rfl

set_option maxRecDepth 8192 in
/-- Value 44 of a trip is that of the step on states. -/
theorem al_44 (h : Holds V0 s j) : (res_main_while0b_call1_cst V0 : (Proc.devRef .tc main_while0b_call1_cst : DevRef τ sig).ty.Contents (Elt F)) = Cert.ReferenceIdeal.Step.b44 j s := by
  unfold res_main_while0b_call1_cst Cert.ReferenceIdeal.Step.b44
  rfl

set_option maxRecDepth 8192 in
/-- Value 45 of a trip is that of the step on states. -/
theorem al_45 (h : Holds V0 s j) : (broadcastInDim S4 ![] bcast_S_S4 (res_main_while0b_call1_cst V0) : (Proc.devRef .tc main_while0b_call1_v0 : DevRef τ sig).ty.Contents (Elt F)) = Cert.ReferenceIdeal.Step.b45 j s := by
  unfold Cert.ReferenceIdeal.Step.b45
  rw [← al_44 h]
  try rfl

set_option maxRecDepth 8192 in
/-- Value 46 of a trip is that of the step on states. -/
theorem al_46 (h : Holds V0 s j) : (maximumf (res_main_while0b_v46 V0) (broadcastInDim S4 ![] bcast_S_S4 (res_main_while0b_call1_cst V0)) : (Proc.devRef .tc main_while0b_call1_v1 : DevRef τ sig).ty.Contents (Elt F)) = Cert.ReferenceIdeal.Step.b46 j s := by
  unfold Cert.ReferenceIdeal.Step.b46
  rw [← al_43 h, ← al_45 h]
  try rfl

set_option maxRecDepth 8192 in
/-- Value 47 of a trip is that of the step on states. -/
theorem al_47 (h : Holds V0 s j) : (broadcastInDim S4 ![] bcast_S_S4 (res_main_while0b_call1_cst V0) : (Proc.devRef .tc main_while0b_call1_v2 : DevRef τ sig).ty.Contents (Elt F)) = Cert.ReferenceIdeal.Step.b47 j s := by
  unfold Cert.ReferenceIdeal.Step.b47
  rw [← al_44 h]
  try rfl

set_option maxRecDepth 8192 in
/-- Value 48 of a trip is that of the step on states. -/
theorem al_48 (h : Holds V0 s j) : (res_main_while0b_call1_v3 V0 : (Proc.devRef .tc main_while0b_call1_v3 : DevRef τ sig).ty.Contents (Elt F)) = Cert.ReferenceIdeal.Step.b48 j s := by
  unfold res_main_while0b_call1_v3 Cert.ReferenceIdeal.Step.b48
  rw [← al_43 h, ← al_47 h]
  try rfl

set_option maxRecDepth 8192 in
/-- Value 49 of a trip is that of the step on states. -/
theorem al_49 (h : Holds V0 s j) : (cmpf .une (res_main_while0b_call1_v3 V0) (res_main_while0b_call1_v3 V0) : (Proc.devRef .tc main_while0b_call1_v4 : DevRef τ sig).ty.Contents (Elt F)) = Cert.ReferenceIdeal.Step.b49 j s := by
  unfold Cert.ReferenceIdeal.Step.b49
  rw [← al_48 h]
  try rfl

set_option maxRecDepth 8192 in
/-- Value 50 of a trip is that of the step on states. -/
theorem al_50 (h : Holds V0 s j) : (broadcastInDim S4 ![] bcast_S_S4 (res_main_while0b_call1_cst V0) : (Proc.devRef .tc main_while0b_call1_v5 : DevRef τ sig).ty.Contents (Elt F)) = Cert.ReferenceIdeal.Step.b50 j s := by
  unfold Cert.ReferenceIdeal.Step.b50
  rw [← al_44 h]
  try rfl

set_option maxRecDepth 8192 in
/-- Value 51 of a trip is that of the step on states. -/
theorem al_51 (h : Holds V0 s j) : (addf (res_main_while0b_v46 V0) (broadcastInDim S4 ![] bcast_S_S4 (res_main_while0b_call1_cst V0)) : (Proc.devRef .tc main_while0b_call1_v6 : DevRef τ sig).ty.Contents (Elt F)) = Cert.ReferenceIdeal.Step.b51 j s := by
  unfold Cert.ReferenceIdeal.Step.b51
  rw [← al_43 h, ← al_50 h]
  try rfl

set_option maxRecDepth 8192 in
/-- Value 52 of a trip is that of the step on states. -/
theorem al_52 (h : Holds V0 s j) : (Host.absf (res_main_while0b_call1_v3 V0) : (Proc.devRef .tc main_while0b_call1_v7 : DevRef τ sig).ty.Contents (Elt F)) = Cert.ReferenceIdeal.Step.b52 j s := by
  unfold Cert.ReferenceIdeal.Step.b52
  rw [← al_48 h]
  try rfl

set_option maxRecDepth 8192 in
/-- Value 53 of a trip is that of the step on states. -/
theorem al_53 (h : Holds V0 s j) : (Host.negf (Host.absf (res_main_while0b_call1_v3 V0)) : (Proc.devRef .tc main_while0b_call1_v8 : DevRef τ sig).ty.Contents (Elt F)) = Cert.ReferenceIdeal.Step.b53 j s := by
  unfold Cert.ReferenceIdeal.Step.b53
  rw [← al_52 h]
  try rfl

set_option maxRecDepth 8192 in
/-- Value 54 of a trip is that of the step on states. -/
theorem al_54 (h : Holds V0 s j) : (Host.exp (Host.negf (Host.absf (res_main_while0b_call1_v3 V0))) : (Proc.devRef .tc main_while0b_call1_v9 : DevRef τ sig).ty.Contents (Elt F)) = Cert.ReferenceIdeal.Step.b54 j s := by
  unfold Cert.ReferenceIdeal.Step.b54
  rw [← al_53 h]
  try rfl

set_option maxRecDepth 8192 in
/-- Value 55 of a trip is that of the step on states. -/
theorem al_55 (h : Holds V0 s j) : (Host.log1p (Host.exp (Host.negf (Host.absf (res_main_while0b_call1_v3 V0)))) : (Proc.devRef .tc main_while0b_call1_v10 : DevRef τ sig).ty.Contents (Elt F)) = Cert.ReferenceIdeal.Step.b55 j s := by
  unfold Cert.ReferenceIdeal.Step.b55
  rw [← al_54 h]
  try rfl

set_option maxRecDepth 8192 in
/-- Value 56 of a trip is that of the step on states. -/
theorem al_56 (h : Holds V0 s j) : (addf (maximumf (res_main_while0b_v46 V0) (broadcastInDim S4 ![] bcast_S_S4 (res_main_while0b_call1_cst V0))) (Host.log1p (Host.exp (Host.negf (Host.absf (res_main_while0b_call1_v3 V0))))) : (Proc.devRef .tc main_while0b_call1_v11 : DevRef τ sig).ty.Contents (Elt F)) = Cert.ReferenceIdeal.Step.b56 j s := by
  unfold Cert.ReferenceIdeal.Step.b56
  rw [← al_46 h, ← al_55 h]
  try rfl

set_option maxRecDepth 8192 in
/-- Value 57 of a trip is that of the step on states. -/
theorem al_57 (h : Holds V0 s j) : (select (cmpf .une (res_main_while0b_call1_v3 V0) (res_main_while0b_call1_v3 V0)) (addf (res_main_while0b_v46 V0) (broadcastInDim S4 ![] bcast_S_S4 (res_main_while0b_call1_cst V0))) (addf (maximumf (res_main_while0b_v46 V0) (broadcastInDim S4 ![] bcast_S_S4 (res_main_while0b_call1_cst V0))) (Host.log1p (Host.exp (Host.negf (Host.absf (res_main_while0b_call1_v3 V0)))))) : (Proc.devRef .tc main_while0b_v47 : DevRef τ sig).ty.Contents (Elt F)) = Cert.ReferenceIdeal.Step.b57 j s := by
  unfold Cert.ReferenceIdeal.Step.b57
  rw [← al_49 h, ← al_51 h, ← al_56 h]
  try rfl

set_option maxRecDepth 8192 in
/-- Value 58 of a trip is that of the step on states. -/
theorem al_58 (h : Holds V0 s j) : (constant S_ .f32 0x3F800000#32 : (Proc.devRef .tc main_while0b_cst_29 : DevRef τ sig).ty.Contents (Elt F)) = Cert.ReferenceIdeal.Step.b58 j s := by
  unfold Cert.ReferenceIdeal.Step.b58
  rfl

set_option maxRecDepth 8192 in
/-- Value 59 of a trip is that of the step on states. -/
theorem al_59 (h : Holds V0 s j) : (broadcastInDim S4 ![] bcast_S_S4 (constant S_ .f32 0x3F800000#32) : (Proc.devRef .tc main_while0b_v48 : DevRef τ sig).ty.Contents (Elt F)) = Cert.ReferenceIdeal.Step.b59 j s := by
  unfold Cert.ReferenceIdeal.Step.b59
  rw [← al_58 h]
  try rfl

set_option maxRecDepth 8192 in
/-- Value 60 of a trip is that of the step on states. -/
theorem al_60 (h : Holds V0 s j) : (addf (broadcastInDim S4 ![] bcast_S_S4 (constant S_ .f32 0x3F800000#32)) (select (cmpf .une (res_main_while0b_call1_v3 V0) (res_main_while0b_call1_v3 V0)) (addf (res_main_while0b_v46 V0) (broadcastInDim S4 ![] bcast_S_S4 (res_main_while0b_call1_cst V0))) (addf (maximumf (res_main_while0b_v46 V0) (broadcastInDim S4 ![] bcast_S_S4 (res_main_while0b_call1_cst V0))) (Host.log1p (Host.exp (Host.negf (Host.absf (res_main_while0b_call1_v3 V0))))))) : (Proc.devRef .tc main_while0b_v49 : DevRef τ sig).ty.Contents (Elt F)) = Cert.ReferenceIdeal.Step.b60 j s := by
  unfold Cert.ReferenceIdeal.Step.b60
  rw [← al_59 h, ← al_57 h]
  try rfl

set_option maxRecDepth 8192 in
/-- Value 61 of a trip is that of the step on states. -/
theorem al_61 (h : Holds V0 s j) : (res_main_while0b_v50 V0 : (Proc.devRef .tc main_while0b_v50 : DevRef τ sig).ty.Contents (Elt F)) = Cert.ReferenceIdeal.Step.b61 j s := by
  unfold res_main_while0b_v50 Cert.ReferenceIdeal.Step.b61
  rw [← al_40 h]
  try rfl

set_option maxRecDepth 8192 in
/-- Value 62 of a trip is that of the step on states. -/
theorem al_62 (h : Holds V0 s j) : (extractStridedSlice S1 ![324] (res_main_while0b_v43 V0) slices_S471_S1_324 : (Proc.devRef .tc main_while0b_v51 : DevRef τ sig).ty.Contents (Elt F)) = Cert.ReferenceIdeal.Step.b62 j s := by
  unfold Cert.ReferenceIdeal.Step.b62
  rw [← al_40 h]
  try rfl

set_option maxRecDepth 8192 in
/-- Value 63 of a trip is that of the step on states. -/
theorem al_63 (h : Holds V0 s j) : (res_main_while0b_v52 V0 : (Proc.devRef .tc main_while0b_v52 : DevRef τ sig).ty.Contents (Elt F)) = Cert.ReferenceIdeal.Step.b63 j s := by
  unfold res_main_while0b_v52 Cert.ReferenceIdeal.Step.b63
  rw [← al_62 h]
  try rfl

set_option maxRecDepth 8192 in
/-- Value 64 of a trip is that of the step on states. -/
theorem al_64 (h : Holds V0 s j) : (res_main_while0b_call2_cst V0 : (Proc.devRef .tc main_while0b_call2_cst : DevRef τ sig).ty.Contents (Elt F)) = Cert.ReferenceIdeal.Step.b64 j s := by
  unfold res_main_while0b_call2_cst Cert.ReferenceIdeal.Step.b64
  rfl

set_option maxRecDepth 8192 in
/-- Value 65 of a trip is that of the step on states. -/
theorem al_65 (h : Holds V0 s j) : (maximumf (res_main_while0b_v52 V0) (res_main_while0b_call2_cst V0) : (Proc.devRef .tc main_while0b_call2_v0 : DevRef τ sig).ty.Contents (Elt F)) = Cert.ReferenceIdeal.Step.b65 j s := by
  unfold Cert.ReferenceIdeal.Step.b65
  rw [← al_63 h, ← al_64 h]
  try rfl

set_option maxRecDepth 8192 in
/-- Value 66 of a trip is that of the step on states. -/
theorem al_66 (h : Holds V0 s j) : (res_main_while0b_call2_v1 V0 : (Proc.devRef .tc main_while0b_call2_v1 : DevRef τ sig).ty.Contents (Elt F)) = Cert.ReferenceIdeal.Step.b66 j s := by
  unfold res_main_while0b_call2_v1 Cert.ReferenceIdeal.Step.b66
  rw [← al_63 h, ← al_64 h]
  try rfl

set_option maxRecDepth 8192 in
/-- Value 67 of a trip is that of the step on states. -/
theorem al_67 (h : Holds V0 s j) : (cmpf .une (res_main_while0b_call2_v1 V0) (res_main_while0b_call2_v1 V0) : (Proc.devRef .tc main_while0b_call2_v2 : DevRef τ sig).ty.Contents (Elt F)) = Cert.ReferenceIdeal.Step.b67 j s := by
  unfold Cert.ReferenceIdeal.Step.b67
  rw [← al_66 h]
  try rfl

set_option maxRecDepth 8192 in
/-- Value 68 of a trip is that of the step on states. -/
theorem al_68 (h : Holds V0 s j) : (addf (res_main_while0b_v52 V0) (res_main_while0b_call2_cst V0) : (Proc.devRef .tc main_while0b_call2_v3 : DevRef τ sig).ty.Contents (Elt F)) = Cert.ReferenceIdeal.Step.b68 j s := by
  unfold Cert.ReferenceIdeal.Step.b68
  rw [← al_63 h, ← al_64 h]
  try rfl

set_option maxRecDepth 8192 in
/-- Value 69 of a trip is that of the step on states. -/
theorem al_69 (h : Holds V0 s j) : (Host.absf (res_main_while0b_call2_v1 V0) : (Proc.devRef .tc main_while0b_call2_v4 : DevRef τ sig).ty.Contents (Elt F)) = Cert.ReferenceIdeal.Step.b69 j s := by
  unfold Cert.ReferenceIdeal.Step.b69
  rw [← al_66 h]
  try rfl

set_option maxRecDepth 8192 in
/-- Value 70 of a trip is that of the step on states. -/
theorem al_70 (h : Holds V0 s j) : (Host.negf (Host.absf (res_main_while0b_call2_v1 V0)) : (Proc.devRef .tc main_while0b_call2_v5 : DevRef τ sig).ty.Contents (Elt F)) = Cert.ReferenceIdeal.Step.b70 j s := by
  unfold Cert.ReferenceIdeal.Step.b70
  rw [← al_69 h]
  try rfl

set_option maxRecDepth 8192 in
/-- Value 71 of a trip is that of the step on states. -/
theorem al_71 (h : Holds V0 s j) : (Host.exp (Host.negf (Host.absf (res_main_while0b_call2_v1 V0))) : (Proc.devRef .tc main_while0b_call2_v6 : DevRef τ sig).ty.Contents (Elt F)) = Cert.ReferenceIdeal.Step.b71 j s := by
  unfold Cert.ReferenceIdeal.Step.b71
  rw [← al_70 h]
  try rfl

set_option maxRecDepth 8192 in
/-- Value 72 of a trip is that of the step on states. -/
theorem al_72 (h : Holds V0 s j) : (Host.log1p (Host.exp (Host.negf (Host.absf (res_main_while0b_call2_v1 V0)))) : (Proc.devRef .tc main_while0b_call2_v7 : DevRef τ sig).ty.Contents (Elt F)) = Cert.ReferenceIdeal.Step.b72 j s := by
  unfold Cert.ReferenceIdeal.Step.b72
  rw [← al_71 h]
  try rfl

set_option maxRecDepth 8192 in
/-- Value 73 of a trip is that of the step on states. -/
theorem al_73 (h : Holds V0 s j) : (addf (maximumf (res_main_while0b_v52 V0) (res_main_while0b_call2_cst V0)) (Host.log1p (Host.exp (Host.negf (Host.absf (res_main_while0b_call2_v1 V0))))) : (Proc.devRef .tc main_while0b_call2_v8 : DevRef τ sig).ty.Contents (Elt F)) = Cert.ReferenceIdeal.Step.b73 j s := by
  unfold Cert.ReferenceIdeal.Step.b73
  rw [← al_65 h, ← al_72 h]
  try rfl

set_option maxRecDepth 8192 in
/-- Value 74 of a trip is that of the step on states. -/
theorem al_74 (h : Holds V0 s j) : (select (cmpf .une (res_main_while0b_call2_v1 V0) (res_main_while0b_call2_v1 V0)) (addf (res_main_while0b_v52 V0) (res_main_while0b_call2_cst V0)) (addf (maximumf (res_main_while0b_v52 V0) (res_main_while0b_call2_cst V0)) (Host.log1p (Host.exp (Host.negf (Host.absf (res_main_while0b_call2_v1 V0)))))) : (Proc.devRef .tc main_while0b_v53 : DevRef τ sig).ty.Contents (Elt F)) = Cert.ReferenceIdeal.Step.b74 j s := by
  unfold Cert.ReferenceIdeal.Step.b74
  rw [← al_67 h, ← al_68 h, ← al_73 h]
  try rfl

set_option maxRecDepth 8192 in
/-- Value 75 of a trip is that of the step on states. -/
theorem al_75 (h : Holds V0 s j) : (constant S_ .f32 0x3F800000#32 : (Proc.devRef .tc main_while0b_cst_30 : DevRef τ sig).ty.Contents (Elt F)) = Cert.ReferenceIdeal.Step.b75 j s := by
  unfold Cert.ReferenceIdeal.Step.b75
  rfl

set_option maxRecDepth 8192 in
/-- Value 76 of a trip is that of the step on states. -/
theorem al_76 (h : Holds V0 s j) : (addf (constant S_ .f32 0x3F800000#32) (select (cmpf .une (res_main_while0b_call2_v1 V0) (res_main_while0b_call2_v1 V0)) (addf (res_main_while0b_v52 V0) (res_main_while0b_call2_cst V0)) (addf (maximumf (res_main_while0b_v52 V0) (res_main_while0b_call2_cst V0)) (Host.log1p (Host.exp (Host.negf (Host.absf (res_main_while0b_call2_v1 V0))))))) : (Proc.devRef .tc main_while0b_v54 : DevRef τ sig).ty.Contents (Elt F)) = Cert.ReferenceIdeal.Step.b76 j s := by
  unfold Cert.ReferenceIdeal.Step.b76
  rw [← al_75 h, ← al_74 h]
  try rfl

set_option maxRecDepth 8192 in
/-- Value 77 of a trip is that of the step on states. -/
theorem al_77 (h : Holds V0 s j) : (extractStridedSlice S64 ![325] (res_main_while0b_v43 V0) slices_S471_S64_325 : (Proc.devRef .tc main_while0b_v55 : DevRef τ sig).ty.Contents (Elt F)) = Cert.ReferenceIdeal.Step.b77 j s := by
  unfold Cert.ReferenceIdeal.Step.b77
  rw [← al_40 h]
  try rfl

set_option maxRecDepth 8192 in
/-- Value 78 of a trip is that of the step on states. -/
theorem al_78 (h : Holds V0 s j) : (Host.negf (extractStridedSlice S64 ![325] (res_main_while0b_v43 V0) slices_S471_S64_325) : (Proc.devRef .tc main_while0b_v56 : DevRef τ sig).ty.Contents (Elt F)) = Cert.ReferenceIdeal.Step.b78 j s := by
  unfold Cert.ReferenceIdeal.Step.b78
  rw [← al_77 h]
  try rfl

set_option maxRecDepth 8192 in
/-- Value 79 of a trip is that of the step on states. -/
theorem al_79 (h : Holds V0 s j) : (Host.exp (Host.negf (extractStridedSlice S64 ![325] (res_main_while0b_v43 V0) slices_S471_S64_325)) : (Proc.devRef .tc main_while0b_v57 : DevRef τ sig).ty.Contents (Elt F)) = Cert.ReferenceIdeal.Step.b79 j s := by
  unfold Cert.ReferenceIdeal.Step.b79
  rw [← al_78 h]
  try rfl

set_option maxRecDepth 8192 in
/-- Value 80 of a trip is that of the step on states. -/
theorem al_80 (h : Holds V0 s j) : (constant S_ .f32 0x3F800000#32 : (Proc.devRef .tc main_while0b_cst_31 : DevRef τ sig).ty.Contents (Elt F)) = Cert.ReferenceIdeal.Step.b80 j s := by
  unfold Cert.ReferenceIdeal.Step.b80
  rfl

set_option maxRecDepth 8192 in
/-- Value 81 of a trip is that of the step on states. -/
theorem al_81 (h : Holds V0 s j) : (broadcastInDim S64 ![] bcast_S_S64 (constant S_ .f32 0x3F800000#32) : (Proc.devRef .tc main_while0b_v58 : DevRef τ sig).ty.Contents (Elt F)) = Cert.ReferenceIdeal.Step.b81 j s := by
  unfold Cert.ReferenceIdeal.Step.b81
  rw [← al_80 h]
  try rfl

set_option maxRecDepth 8192 in
/-- Value 82 of a trip is that of the step on states. -/
theorem al_82 (h : Holds V0 s j) : (addf (broadcastInDim S64 ![] bcast_S_S64 (constant S_ .f32 0x3F800000#32)) (Host.exp (Host.negf (extractStridedSlice S64 ![325] (res_main_while0b_v43 V0) slices_S471_S64_325))) : (Proc.devRef .tc main_while0b_v59 : DevRef τ sig).ty.Contents (Elt F)) = Cert.ReferenceIdeal.Step.b82 j s := by
  unfold Cert.ReferenceIdeal.Step.b82
  rw [← al_81 h, ← al_79 h]
  try rfl

set_option maxRecDepth 8192 in
/-- Value 83 of a trip is that of the step on states. -/
theorem al_83 (h : Holds V0 s j) : (constant S_ .f32 0x3F800000#32 : (Proc.devRef .tc main_while0b_cst_32 : DevRef τ sig).ty.Contents (Elt F)) = Cert.ReferenceIdeal.Step.b83 j s := by
  unfold Cert.ReferenceIdeal.Step.b83
  rfl

set_option maxRecDepth 8192 in
/-- Value 84 of a trip is that of the step on states. -/
theorem al_84 (h : Holds V0 s j) : (broadcastInDim S64 ![] bcast_S_S64 (constant S_ .f32 0x3F800000#32) : (Proc.devRef .tc main_while0b_v60 : DevRef τ sig).ty.Contents (Elt F)) = Cert.ReferenceIdeal.Step.b84 j s := by
  unfold Cert.ReferenceIdeal.Step.b84
  rw [← al_83 h]
  try rfl

set_option maxRecDepth 8192 in
/-- Value 85 of a trip is that of the step on states. -/
theorem al_85 (h : Holds V0 s j) : (Host.divf (broadcastInDim S64 ![] bcast_S_S64 (constant S_ .f32 0x3F800000#32)) (addf (broadcastInDim S64 ![] bcast_S_S64 (constant S_ .f32 0x3F800000#32)) (Host.exp (Host.negf (extractStridedSlice S64 ![325] (res_main_while0b_v43 V0) slices_S471_S64_325)))) : (Proc.devRef .tc main_while0b_v61 : DevRef τ sig).ty.Contents (Elt F)) = Cert.ReferenceIdeal.Step.b85 j s := by
  unfold Cert.ReferenceIdeal.Step.b85
  rw [← al_84 h, ← al_82 h]
  try rfl

set_option maxRecDepth 8192 in
/-- Value 86 of a trip is that of the step on states. -/
theorem al_86 (h : Holds V0 s j) : (extractStridedSlice S64 ![389] (res_main_while0b_v43 V0) slices_S471_S64_389 : (Proc.devRef .tc main_while0b_v62 : DevRef τ sig).ty.Contents (Elt F)) = Cert.ReferenceIdeal.Step.b86 j s := by
  unfold Cert.ReferenceIdeal.Step.b86
  rw [← al_40 h]
  try rfl

set_option maxRecDepth 8192 in
/-- Value 87 of a trip is that of the step on states. -/
theorem al_87 (h : Holds V0 s j) : (extractStridedSlice S4 ![453] (res_main_while0b_v43 V0) slices_S471_S4_453 : (Proc.devRef .tc main_while0b_v63 : DevRef τ sig).ty.Contents (Elt F)) = Cert.ReferenceIdeal.Step.b87 j s := by
  unfold Cert.ReferenceIdeal.Step.b87
  rw [← al_40 h]
  try rfl

set_option maxRecDepth 8192 in
/-- Value 88 of a trip is that of the step on states. -/
theorem al_88 (h : Holds V0 s j) : (Host.negf (extractStridedSlice S4 ![453] (res_main_while0b_v43 V0) slices_S471_S4_453) : (Proc.devRef .tc main_while0b_v64 : DevRef τ sig).ty.Contents (Elt F)) = Cert.ReferenceIdeal.Step.b88 j s := by
  unfold Cert.ReferenceIdeal.Step.b88
  rw [← al_87 h]
  try rfl

set_option maxRecDepth 8192 in
/-- Value 89 of a trip is that of the step on states. -/
theorem al_89 (h : Holds V0 s j) : (Host.exp (Host.negf (extractStridedSlice S4 ![453] (res_main_while0b_v43 V0) slices_S471_S4_453)) : (Proc.devRef .tc main_while0b_v65 : DevRef τ sig).ty.Contents (Elt F)) = Cert.ReferenceIdeal.Step.b89 j s := by
  unfold Cert.ReferenceIdeal.Step.b89
  rw [← al_88 h]
  try rfl

set_option maxRecDepth 8192 in
/-- Value 90 of a trip is that of the step on states. -/
theorem al_90 (h : Holds V0 s j) : (constant S_ .f32 0x3F800000#32 : (Proc.devRef .tc main_while0b_cst_33 : DevRef τ sig).ty.Contents (Elt F)) = Cert.ReferenceIdeal.Step.b90 j s := by
  unfold Cert.ReferenceIdeal.Step.b90
  rfl

set_option maxRecDepth 8192 in
/-- Value 91 of a trip is that of the step on states. -/
theorem al_91 (h : Holds V0 s j) : (broadcastInDim S4 ![] bcast_S_S4 (constant S_ .f32 0x3F800000#32) : (Proc.devRef .tc main_while0b_v66 : DevRef τ sig).ty.Contents (Elt F)) = Cert.ReferenceIdeal.Step.b91 j s := by
  unfold Cert.ReferenceIdeal.Step.b91
  rw [← al_90 h]
  try rfl

set_option maxRecDepth 8192 in
/-- Value 92 of a trip is that of the step on states. -/
theorem al_92 (h : Holds V0 s j) : (addf (broadcastInDim S4 ![] bcast_S_S4 (constant S_ .f32 0x3F800000#32)) (Host.exp (Host.negf (extractStridedSlice S4 ![453] (res_main_while0b_v43 V0) slices_S471_S4_453))) : (Proc.devRef .tc main_while0b_v67 : DevRef τ sig).ty.Contents (Elt F)) = Cert.ReferenceIdeal.Step.b92 j s := by
  unfold Cert.ReferenceIdeal.Step.b92
  rw [← al_91 h, ← al_89 h]
  try rfl

set_option maxRecDepth 8192 in
/-- Value 93 of a trip is that of the step on states. -/
theorem al_93 (h : Holds V0 s j) : (constant S_ .f32 0x3F800000#32 : (Proc.devRef .tc main_while0b_cst_34 : DevRef τ sig).ty.Contents (Elt F)) = Cert.ReferenceIdeal.Step.b93 j s := by
  unfold Cert.ReferenceIdeal.Step.b93
  rfl

set_option maxRecDepth 8192 in
/-- Value 94 of a trip is that of the step on states. -/
theorem al_94 (h : Holds V0 s j) : (broadcastInDim S4 ![] bcast_S_S4 (constant S_ .f32 0x3F800000#32) : (Proc.devRef .tc main_while0b_v68 : DevRef τ sig).ty.Contents (Elt F)) = Cert.ReferenceIdeal.Step.b94 j s := by
  unfold Cert.ReferenceIdeal.Step.b94
  rw [← al_93 h]
  try rfl

set_option maxRecDepth 8192 in
/-- Value 95 of a trip is that of the step on states. -/
theorem al_95 (h : Holds V0 s j) : (Host.divf (broadcastInDim S4 ![] bcast_S_S4 (constant S_ .f32 0x3F800000#32)) (addf (broadcastInDim S4 ![] bcast_S_S4 (constant S_ .f32 0x3F800000#32)) (Host.exp (Host.negf (extractStridedSlice S4 ![453] (res_main_while0b_v43 V0) slices_S471_S4_453)))) : (Proc.devRef .tc main_while0b_v69 : DevRef τ sig).ty.Contents (Elt F)) = Cert.ReferenceIdeal.Step.b95 j s := by
  unfold Cert.ReferenceIdeal.Step.b95
  rw [← al_94 h, ← al_92 h]
  try rfl

set_option maxRecDepth 8192 in
/-- Value 96 of a trip is that of the step on states. -/
theorem al_96 (h : Holds V0 s j) : (extractStridedSlice S1 ![457] (res_main_while0b_v43 V0) slices_S471_S1_457 : (Proc.devRef .tc main_while0b_v70 : DevRef τ sig).ty.Contents (Elt F)) = Cert.ReferenceIdeal.Step.b96 j s := by
  unfold Cert.ReferenceIdeal.Step.b96
  rw [← al_40 h]
  try rfl

set_option maxRecDepth 8192 in
/-- Value 97 of a trip is that of the step on states. -/
theorem al_97 (h : Holds V0 s j) : (shapeCast S_ (extractStridedSlice S1 ![457] (res_main_while0b_v43 V0) slices_S471_S1_457) shapeCasts_S1_S_ : (Proc.devRef .tc main_while0b_v71 : DevRef τ sig).ty.Contents (Elt F)) = Cert.ReferenceIdeal.Step.b97 j s := by
  unfold Cert.ReferenceIdeal.Step.b97
  rw [← al_96 h]
  try rfl

set_option maxRecDepth 8192 in
/-- Value 98 of a trip is that of the step on states. -/
theorem al_98 (h : Holds V0 s j) : (Host.negf (shapeCast S_ (extractStridedSlice S1 ![457] (res_main_while0b_v43 V0) slices_S471_S1_457) shapeCasts_S1_S_) : (Proc.devRef .tc main_while0b_v72 : DevRef τ sig).ty.Contents (Elt F)) = Cert.ReferenceIdeal.Step.b98 j s := by
  unfold Cert.ReferenceIdeal.Step.b98
  rw [← al_97 h]
  try rfl

set_option maxRecDepth 8192 in
/-- Value 99 of a trip is that of the step on states. -/
theorem al_99 (h : Holds V0 s j) : (Host.exp (Host.negf (shapeCast S_ (extractStridedSlice S1 ![457] (res_main_while0b_v43 V0) slices_S471_S1_457) shapeCasts_S1_S_)) : (Proc.devRef .tc main_while0b_v73 : DevRef τ sig).ty.Contents (Elt F)) = Cert.ReferenceIdeal.Step.b99 j s := by
  unfold Cert.ReferenceIdeal.Step.b99
  rw [← al_98 h]
  try rfl

set_option maxRecDepth 8192 in
/-- Value 100 of a trip is that of the step on states. -/
theorem al_100 (h : Holds V0 s j) : (constant S_ .f32 0x3F800000#32 : (Proc.devRef .tc main_while0b_cst_35 : DevRef τ sig).ty.Contents (Elt F)) = Cert.ReferenceIdeal.Step.b100 j s := by
  unfold Cert.ReferenceIdeal.Step.b100
  rfl

set_option maxRecDepth 8192 in
/-- Value 101 of a trip is that of the step on states. -/
theorem al_101 (h : Holds V0 s j) : (addf (constant S_ .f32 0x3F800000#32) (Host.exp (Host.negf (shapeCast S_ (extractStridedSlice S1 ![457] (res_main_while0b_v43 V0) slices_S471_S1_457) shapeCasts_S1_S_))) : (Proc.devRef .tc main_while0b_v74 : DevRef τ sig).ty.Contents (Elt F)) = Cert.ReferenceIdeal.Step.b101 j s := by
  unfold Cert.ReferenceIdeal.Step.b101
  rw [← al_100 h, ← al_99 h]
  try rfl

set_option maxRecDepth 8192 in
/-- Value 102 of a trip is that of the step on states. -/
theorem al_102 (h : Holds V0 s j) : (constant S_ .f32 0x3F800000#32 : (Proc.devRef .tc main_while0b_cst_36 : DevRef τ sig).ty.Contents (Elt F)) = Cert.ReferenceIdeal.Step.b102 j s := by
  unfold Cert.ReferenceIdeal.Step.b102
  rfl

set_option maxRecDepth 8192 in
/-- Value 103 of a trip is that of the step on states. -/
theorem al_103 (h : Holds V0 s j) : (res_main_while0b_v75 V0 : (Proc.devRef .tc main_while0b_v75 : DevRef τ sig).ty.Contents (Elt F)) = Cert.ReferenceIdeal.Step.b103 j s := by
  unfold res_main_while0b_v75 Cert.ReferenceIdeal.Step.b103
  rw [← al_102 h, ← al_101 h]
  try rfl

set_option maxRecDepth 8192 in
/-- Value 104 of a trip is that of the step on states. -/
theorem al_104 (h : Holds V0 s j) : (extractStridedSlice S1 ![458] (res_main_while0b_v43 V0) slices_S471_S1_458 : (Proc.devRef .tc main_while0b_v76 : DevRef τ sig).ty.Contents (Elt F)) = Cert.ReferenceIdeal.Step.b104 j s := by
  unfold Cert.ReferenceIdeal.Step.b104
  rw [← al_40 h]
  try rfl

set_option maxRecDepth 8192 in
/-- Value 105 of a trip is that of the step on states. -/
theorem al_105 (h : Holds V0 s j) : (shapeCast S_ (extractStridedSlice S1 ![458] (res_main_while0b_v43 V0) slices_S471_S1_458) shapeCasts_S1_S_ : (Proc.devRef .tc main_while0b_v77 : DevRef τ sig).ty.Contents (Elt F)) = Cert.ReferenceIdeal.Step.b105 j s := by
  unfold Cert.ReferenceIdeal.Step.b105
  rw [← al_104 h]
  try rfl

set_option maxRecDepth 8192 in
/-- Value 106 of a trip is that of the step on states. -/
theorem al_106 (h : Holds V0 s j) : (Host.negf (shapeCast S_ (extractStridedSlice S1 ![458] (res_main_while0b_v43 V0) slices_S471_S1_458) shapeCasts_S1_S_) : (Proc.devRef .tc main_while0b_v78 : DevRef τ sig).ty.Contents (Elt F)) = Cert.ReferenceIdeal.Step.b106 j s := by
  unfold Cert.ReferenceIdeal.Step.b106
  rw [← al_105 h]
  try rfl

set_option maxRecDepth 8192 in
/-- Value 107 of a trip is that of the step on states. -/
theorem al_107 (h : Holds V0 s j) : (Host.exp (Host.negf (shapeCast S_ (extractStridedSlice S1 ![458] (res_main_while0b_v43 V0) slices_S471_S1_458) shapeCasts_S1_S_)) : (Proc.devRef .tc main_while0b_v79 : DevRef τ sig).ty.Contents (Elt F)) = Cert.ReferenceIdeal.Step.b107 j s := by
  unfold Cert.ReferenceIdeal.Step.b107
  rw [← al_106 h]
  try rfl

set_option maxRecDepth 8192 in
/-- Value 108 of a trip is that of the step on states. -/
theorem al_108 (h : Holds V0 s j) : (constant S_ .f32 0x3F800000#32 : (Proc.devRef .tc main_while0b_cst_37 : DevRef τ sig).ty.Contents (Elt F)) = Cert.ReferenceIdeal.Step.b108 j s := by
  unfold Cert.ReferenceIdeal.Step.b108
  rfl

set_option maxRecDepth 8192 in
/-- Value 109 of a trip is that of the step on states. -/
theorem al_109 (h : Holds V0 s j) : (addf (constant S_ .f32 0x3F800000#32) (Host.exp (Host.negf (shapeCast S_ (extractStridedSlice S1 ![458] (res_main_while0b_v43 V0) slices_S471_S1_458) shapeCasts_S1_S_))) : (Proc.devRef .tc main_while0b_v80 : DevRef τ sig).ty.Contents (Elt F)) = Cert.ReferenceIdeal.Step.b109 j s := by
  unfold Cert.ReferenceIdeal.Step.b109
  rw [← al_108 h, ← al_107 h]
  try rfl

set_option maxRecDepth 8192 in
/-- Value 110 of a trip is that of the step on states. -/
theorem al_110 (h : Holds V0 s j) : (constant S_ .f32 0x3F800000#32 : (Proc.devRef .tc main_while0b_cst_38 : DevRef τ sig).ty.Contents (Elt F)) = Cert.ReferenceIdeal.Step.b110 j s := by
  unfold Cert.ReferenceIdeal.Step.b110
  rfl

set_option maxRecDepth 8192 in
/-- Value 111 of a trip is that of the step on states. -/
theorem al_111 (h : Holds V0 s j) : (Host.divf (constant S_ .f32 0x3F800000#32) (addf (constant S_ .f32 0x3F800000#32) (Host.exp (Host.negf (shapeCast S_ (extractStridedSlice S1 ![458] (res_main_while0b_v43 V0) slices_S471_S1_458) shapeCasts_S1_S_)))) : (Proc.devRef .tc main_while0b_v81 : DevRef τ sig).ty.Contents (Elt F)) = Cert.ReferenceIdeal.Step.b111 j s := by
  unfold Cert.ReferenceIdeal.Step.b111
  rw [← al_110 h, ← al_109 h]
  try rfl

set_option maxRecDepth 8192 in
/-- Value 112 of a trip is that of the step on states. -/
theorem al_112 (h : Holds V0 s j) : (extractStridedSlice S12 ![459] (res_main_while0b_v43 V0) slices_S471_S12_459 : (Proc.devRef .tc main_while0b_v82 : DevRef τ sig).ty.Contents (Elt F)) = Cert.ReferenceIdeal.Step.b112 j s := by
  unfold Cert.ReferenceIdeal.Step.b112
  rw [← al_40 h]
  try rfl

set_option maxRecDepth 8192 in
/-- Value 113 of a trip is that of the step on states. -/
theorem al_113 (h : Holds V0 s j) : (res_main_while0b_v83 V0 : (Proc.devRef .tc main_while0b_v83 : DevRef τ sig).ty.Contents (Elt F)) = Cert.ReferenceIdeal.Step.b113 j s := by
  unfold res_main_while0b_v83 Cert.ReferenceIdeal.Step.b113
  rw [← al_112 h]
  try rfl

set_option maxRecDepth 8192 in
/-- Value 114 of a trip is that of the step on states. -/
theorem al_114 (h : Holds V0 s j) : (constant S_ .f32 0xFF800000#32 : (Proc.devRef .tc main_while0b_cst_39 : DevRef τ sig).ty.Contents (Elt F)) = Cert.ReferenceIdeal.Step.b114 j s := by
  unfold Cert.ReferenceIdeal.Step.b114
  rfl

set_option maxRecDepth 8192 in
/-- Value 115 of a trip is that of the step on states. -/
theorem al_115 (h : Holds V0 s j) : (Host.reduce FloatOps.maximumf (res_main_while0b_v83 V0) (constant S_ .f32 0xFF800000#32) reducesTo_S4x3_S4_d1 h_S_ : (Proc.devRef .tc main_while0b_v84 : DevRef τ sig).ty.Contents (Elt F)) = Cert.ReferenceIdeal.Step.b115 j s := by
  unfold Cert.ReferenceIdeal.Step.b115
  rw [← al_113 h, ← al_114 h]
  try rfl

set_option maxRecDepth 8192 in
/-- Value 116 of a trip is that of the step on states. -/
theorem al_116 (h : Holds V0 s j) : (constant S_ .f32 0xFF800000#32 : (Proc.devRef .tc main_while0b_cst_40 : DevRef τ sig).ty.Contents (Elt F)) = Cert.ReferenceIdeal.Step.b116 j s := by
  unfold Cert.ReferenceIdeal.Step.b116
  rfl

set_option maxRecDepth 8192 in
/-- Value 117 of a trip is that of the step on states. -/
theorem al_117 (h : Holds V0 s j) : (broadcastInDim S4 ![] bcast_S_S4 (constant S_ .f32 0xFF800000#32) : (Proc.devRef .tc main_while0b_v85 : DevRef τ sig).ty.Contents (Elt F)) = Cert.ReferenceIdeal.Step.b117 j s := by
  unfold Cert.ReferenceIdeal.Step.b117
  rw [← al_116 h]
  try rfl

set_option maxRecDepth 8192 in
/-- Value 118 of a trip is that of the step on states. -/
theorem al_118 (h : Holds V0 s j) : (maximumf (broadcastInDim S4 ![] bcast_S_S4 (constant S_ .f32 0xFF800000#32)) (Host.reduce FloatOps.maximumf (res_main_while0b_v83 V0) (constant S_ .f32 0xFF800000#32) reducesTo_S4x3_S4_d1 h_S_) : (Proc.devRef .tc main_while0b_v86 : DevRef τ sig).ty.Contents (Elt F)) = Cert.ReferenceIdeal.Step.b118 j s := by
  unfold Cert.ReferenceIdeal.Step.b118
  rw [← al_117 h, ← al_115 h]
  try rfl

set_option maxRecDepth 8192 in
/-- Value 119 of a trip is that of the step on states. -/
theorem al_119 (h : Holds V0 s j) : (broadcastInDim S4x1 ![0] bcast_S4_S4x1_0 (maximumf (broadcastInDim S4 ![] bcast_S_S4 (constant S_ .f32 0xFF800000#32)) (Host.reduce FloatOps.maximumf (res_main_while0b_v83 V0) (constant S_ .f32 0xFF800000#32) reducesTo_S4x3_S4_d1 h_S_)) : (Proc.devRef .tc main_while0b_v87 : DevRef τ sig).ty.Contents (Elt F)) = Cert.ReferenceIdeal.Step.b119 j s := by
  unfold Cert.ReferenceIdeal.Step.b119
  rw [← al_118 h]
  try rfl

set_option maxRecDepth 8192 in
/-- Value 120 of a trip is that of the step on states. -/
theorem al_120 (h : Holds V0 s j) : (broadcastInDim S4x3 ![0, 1] bcast_S4x1_S4x3_0_1 (broadcastInDim S4x1 ![0] bcast_S4_S4x1_0 (maximumf (broadcastInDim S4 ![] bcast_S_S4 (constant S_ .f32 0xFF800000#32)) (Host.reduce FloatOps.maximumf (res_main_while0b_v83 V0) (constant S_ .f32 0xFF800000#32) reducesTo_S4x3_S4_d1 h_S_))) : (Proc.devRef .tc main_while0b_v88 : DevRef τ sig).ty.Contents (Elt F)) = Cert.ReferenceIdeal.Step.b120 j s := by
  unfold Cert.ReferenceIdeal.Step.b120
  rw [← al_119 h]
  try rfl

set_option maxRecDepth 8192 in
/-- Value 121 of a trip is that of the step on states. -/
theorem al_121 (h : Holds V0 s j) : (subf (res_main_while0b_v83 V0) (broadcastInDim S4x3 ![0, 1] bcast_S4x1_S4x3_0_1 (broadcastInDim S4x1 ![0] bcast_S4_S4x1_0 (maximumf (broadcastInDim S4 ![] bcast_S_S4 (constant S_ .f32 0xFF800000#32)) (Host.reduce FloatOps.maximumf (res_main_while0b_v83 V0) (constant S_ .f32 0xFF800000#32) reducesTo_S4x3_S4_d1 h_S_)))) : (Proc.devRef .tc main_while0b_v89 : DevRef τ sig).ty.Contents (Elt F)) = Cert.ReferenceIdeal.Step.b121 j s := by
  unfold Cert.ReferenceIdeal.Step.b121
  rw [← al_113 h, ← al_120 h]
  try rfl

set_option maxRecDepth 8192 in
/-- Value 122 of a trip is that of the step on states. -/
theorem al_122 (h : Holds V0 s j) : (res_main_while0b_v90 V0 : (Proc.devRef .tc main_while0b_v90 : DevRef τ sig).ty.Contents (Elt F)) = Cert.ReferenceIdeal.Step.b122 j s := by
  unfold res_main_while0b_v90 Cert.ReferenceIdeal.Step.b122
  rw [← al_121 h]
  try rfl

set_option maxRecDepth 8192 in
/-- Value 123 of a trip is that of the step on states. -/
theorem al_123 (h : Holds V0 s j) : (constant S_ .f32 0x00000000#32 : (Proc.devRef .tc main_while0b_cst_41 : DevRef τ sig).ty.Contents (Elt F)) = Cert.ReferenceIdeal.Step.b123 j s := by
  unfold Cert.ReferenceIdeal.Step.b123
  rfl

set_option maxRecDepth 8192 in
/-- Value 124 of a trip is that of the step on states. -/
theorem al_124 (h : Holds V0 s j) : (Host.reduceAdd (res_main_while0b_v90 V0) (constant S_ .f32 0x00000000#32) reducesTo_S4x3_S4_d1 h_S_ : (Proc.devRef .tc main_while0b_v91 : DevRef τ sig).ty.Contents (Elt F)) = Cert.ReferenceIdeal.Step.b124 j s := by
  unfold Cert.ReferenceIdeal.Step.b124
  rw [← al_122 h, ← al_123 h]
  try rfl

set_option maxRecDepth 8192 in
/-- Value 125 of a trip is that of the step on states. -/
theorem al_125 (h : Holds V0 s j) : (broadcastInDim S4x1 ![0] bcast_S4_S4x1_0 (Host.reduceAdd (res_main_while0b_v90 V0) (constant S_ .f32 0x00000000#32) reducesTo_S4x3_S4_d1 h_S_) : (Proc.devRef .tc main_while0b_v92 : DevRef τ sig).ty.Contents (Elt F)) = Cert.ReferenceIdeal.Step.b125 j s := by
  unfold Cert.ReferenceIdeal.Step.b125
  rw [← al_124 h]
  try rfl

set_option maxRecDepth 8192 in
/-- Value 126 of a trip is that of the step on states. -/
theorem al_126 (h : Holds V0 s j) : (broadcastInDim S4x3 ![0, 1] bcast_S4x1_S4x3_0_1 (broadcastInDim S4x1 ![0] bcast_S4_S4x1_0 (Host.reduceAdd (res_main_while0b_v90 V0) (constant S_ .f32 0x00000000#32) reducesTo_S4x3_S4_d1 h_S_)) : (Proc.devRef .tc main_while0b_v93 : DevRef τ sig).ty.Contents (Elt F)) = Cert.ReferenceIdeal.Step.b126 j s := by
  unfold Cert.ReferenceIdeal.Step.b126
  rw [← al_125 h]
  try rfl

set_option maxRecDepth 8192 in
/-- Value 127 of a trip is that of the step on states. -/
theorem al_127 (h : Holds V0 s j) : (res_main_while0b_v94 V0 : (Proc.devRef .tc main_while0b_v94 : DevRef τ sig).ty.Contents (Elt F)) = Cert.ReferenceIdeal.Step.b127 j s := by
  unfold res_main_while0b_v94 Cert.ReferenceIdeal.Step.b127
  rw [← al_122 h, ← al_126 h]
  try rfl

set_option maxRecDepth 8192 in
/-- Value 128 of a trip is that of the step on states. -/
theorem al_128 (h : Holds V0 s j) : (broadcastInDim S4x1 ![0] bcast_S4_S4x1_0 (Host.divf (broadcastInDim S4 ![] bcast_S_S4 (constant S_ .f32 0x3F800000#32)) (addf (broadcastInDim S4 ![] bcast_S_S4 (constant S_ .f32 0x3F800000#32)) (Host.exp (Host.negf (extractStridedSlice S4 ![453] (res_main_while0b_v43 V0) slices_S471_S4_453))))) : (Proc.devRef .tc main_while0b_v95 : DevRef τ sig).ty.Contents (Elt F)) = Cert.ReferenceIdeal.Step.b128 j s := by
  unfold Cert.ReferenceIdeal.Step.b128
  rw [← al_95 h]
  try rfl

set_option maxRecDepth 8192 in
/-- Value 129 of a trip is that of the step on states. -/
theorem al_129 (h : Holds V0 s j) : (broadcastInDim S4x1024 ![0, 1] bcast_S4x1_S4x1024_0_1 (broadcastInDim S4x1 ![0] bcast_S4_S4x1_0 (Host.divf (broadcastInDim S4 ![] bcast_S_S4 (constant S_ .f32 0x3F800000#32)) (addf (broadcastInDim S4 ![] bcast_S_S4 (constant S_ .f32 0x3F800000#32)) (Host.exp (Host.negf (extractStridedSlice S4 ![453] (res_main_while0b_v43 V0) slices_S471_S4_453)))))) : (Proc.devRef .tc main_while0b_v96 : DevRef τ sig).ty.Contents (Elt F)) = Cert.ReferenceIdeal.Step.b129 j s := by
  unfold Cert.ReferenceIdeal.Step.b129
  rw [← al_128 h]
  try rfl

set_option maxRecDepth 8192 in
/-- Value 130 of a trip is that of the step on states. -/
theorem al_130 (h : Holds V0 s j) : (mulf (broadcastInDim S4x1024 ![0, 1] bcast_S4x1_S4x1024_0_1 (broadcastInDim S4x1 ![0] bcast_S4_S4x1_0 (Host.divf (broadcastInDim S4 ![] bcast_S_S4 (constant S_ .f32 0x3F800000#32)) (addf (broadcastInDim S4 ![] bcast_S_S4 (constant S_ .f32 0x3F800000#32)) (Host.exp (Host.negf (extractStridedSlice S4 ![453] (res_main_while0b_v43 V0) slices_S471_S4_453))))))) (V0 (Proc.devRef .tc main_v9_14)) : (Proc.devRef .tc main_while0b_v97 : DevRef τ sig).ty.Contents (Elt F)) = Cert.ReferenceIdeal.Step.b130 j s := by
  unfold Cert.ReferenceIdeal.Step.b130
  rw [← al_129 h, h.f_14]
  try rfl

set_option maxRecDepth 8192 in
/-- Value 131 of a trip is that of the step on states. -/
theorem al_131 (h : Holds V0 s j) : (constant S_ .f32 0x3F800000#32 : (Proc.devRef .tc main_while0b_cst_42 : DevRef τ sig).ty.Contents (Elt F)) = Cert.ReferenceIdeal.Step.b131 j s := by
  unfold Cert.ReferenceIdeal.Step.b131
  rfl

set_option maxRecDepth 8192 in
/-- Value 132 of a trip is that of the step on states. -/
theorem al_132 (h : Holds V0 s j) : (broadcastInDim S4x1024 ![] bcast_S_S4x1024 (constant S_ .f32 0x3F800000#32) : (Proc.devRef .tc main_while0b_v98 : DevRef τ sig).ty.Contents (Elt F)) = Cert.ReferenceIdeal.Step.b132 j s := by
  unfold Cert.ReferenceIdeal.Step.b132
  rw [← al_131 h]
  try rfl

set_option maxRecDepth 8192 in
/-- Value 133 of a trip is that of the step on states. -/
theorem al_133 (h : Holds V0 s j) : (res_main_while0b_v99 V0 : (Proc.devRef .tc main_while0b_v99 : DevRef τ sig).ty.Contents (Elt F)) = Cert.ReferenceIdeal.Step.b133 j s := by
  unfold res_main_while0b_v99 Cert.ReferenceIdeal.Step.b133
  rw [← al_132 h, ← al_130 h]
  try rfl

set_option maxRecDepth 8192 in
/-- Value 134 of a trip is that of the step on states. -/
theorem al_134 (h : Holds V0 s j) : (extractStridedSlice S1x1024 ![0, 0] (res_main_while0b_v99 V0) slices_S4x1024_S1x1024_0_0 : (Proc.devRef .tc main_while0b_v100 : DevRef τ sig).ty.Contents (Elt F)) = Cert.ReferenceIdeal.Step.b134 j s := by
  unfold Cert.ReferenceIdeal.Step.b134
  rw [← al_133 h]
  try rfl

set_option maxRecDepth 8192 in
/-- Value 135 of a trip is that of the step on states. -/
theorem al_135 (h : Holds V0 s j) : (shapeCast S1024 (extractStridedSlice S1x1024 ![0, 0] (res_main_while0b_v99 V0) slices_S4x1024_S1x1024_0_0) shapeCasts_S1x1024_S1024 : (Proc.devRef .tc main_while0b_v101 : DevRef τ sig).ty.Contents (Elt F)) = Cert.ReferenceIdeal.Step.b135 j s := by
  unfold Cert.ReferenceIdeal.Step.b135
  rw [← al_134 h]
  try rfl

set_option maxRecDepth 8192 in
/-- Value 136 of a trip is that of the step on states. -/
theorem al_136 (h : Holds V0 s j) : (extractStridedSlice S1x1024 ![1, 0] (res_main_while0b_v99 V0) slices_S4x1024_S1x1024_1_0 : (Proc.devRef .tc main_while0b_v102 : DevRef τ sig).ty.Contents (Elt F)) = Cert.ReferenceIdeal.Step.b136 j s := by
  unfold Cert.ReferenceIdeal.Step.b136
  rw [← al_133 h]
  try rfl

set_option maxRecDepth 8192 in
/-- Value 137 of a trip is that of the step on states. -/
theorem al_137 (h : Holds V0 s j) : (shapeCast S1024 (extractStridedSlice S1x1024 ![1, 0] (res_main_while0b_v99 V0) slices_S4x1024_S1x1024_1_0) shapeCasts_S1x1024_S1024 : (Proc.devRef .tc main_while0b_v103 : DevRef τ sig).ty.Contents (Elt F)) = Cert.ReferenceIdeal.Step.b137 j s := by
  unfold Cert.ReferenceIdeal.Step.b137
  rw [← al_136 h]
  try rfl

set_option maxRecDepth 8192 in
/-- Value 138 of a trip is that of the step on states. -/
theorem al_138 (h : Holds V0 s j) : (mulf (shapeCast S1024 (extractStridedSlice S1x1024 ![0, 0] (res_main_while0b_v99 V0) slices_S4x1024_S1x1024_0_0) shapeCasts_S1x1024_S1024) (shapeCast S1024 (extractStridedSlice S1x1024 ![1, 0] (res_main_while0b_v99 V0) slices_S4x1024_S1x1024_1_0) shapeCasts_S1x1024_S1024) : (Proc.devRef .tc main_while0b_v104 : DevRef τ sig).ty.Contents (Elt F)) = Cert.ReferenceIdeal.Step.b138 j s := by
  unfold Cert.ReferenceIdeal.Step.b138
  rw [← al_135 h, ← al_137 h]
  try rfl

set_option maxRecDepth 8192 in
/-- Value 139 of a trip is that of the step on states. -/
theorem al_139 (h : Holds V0 s j) : (extractStridedSlice S1x1024 ![2, 0] (res_main_while0b_v99 V0) slices_S4x1024_S1x1024_2_0 : (Proc.devRef .tc main_while0b_v105 : DevRef τ sig).ty.Contents (Elt F)) = Cert.ReferenceIdeal.Step.b139 j s := by
  unfold Cert.ReferenceIdeal.Step.b139
  rw [← al_133 h]
  try rfl

set_option maxRecDepth 8192 in
/-- Value 140 of a trip is that of the step on states. -/
theorem al_140 (h : Holds V0 s j) : (shapeCast S1024 (extractStridedSlice S1x1024 ![2, 0] (res_main_while0b_v99 V0) slices_S4x1024_S1x1024_2_0) shapeCasts_S1x1024_S1024 : (Proc.devRef .tc main_while0b_v106 : DevRef τ sig).ty.Contents (Elt F)) = Cert.ReferenceIdeal.Step.b140 j s := by
  unfold Cert.ReferenceIdeal.Step.b140
  rw [← al_139 h]
  try rfl

set_option maxRecDepth 8192 in
/-- Value 141 of a trip is that of the step on states. -/
theorem al_141 (h : Holds V0 s j) : (mulf (mulf (shapeCast S1024 (extractStridedSlice S1x1024 ![0, 0] (res_main_while0b_v99 V0) slices_S4x1024_S1x1024_0_0) shapeCasts_S1x1024_S1024) (shapeCast S1024 (extractStridedSlice S1x1024 ![1, 0] (res_main_while0b_v99 V0) slices_S4x1024_S1x1024_1_0) shapeCasts_S1x1024_S1024)) (shapeCast S1024 (extractStridedSlice S1x1024 ![2, 0] (res_main_while0b_v99 V0) slices_S4x1024_S1x1024_2_0) shapeCasts_S1x1024_S1024) : (Proc.devRef .tc main_while0b_v107 : DevRef τ sig).ty.Contents (Elt F)) = Cert.ReferenceIdeal.Step.b141 j s := by
  unfold Cert.ReferenceIdeal.Step.b141
  rw [← al_138 h, ← al_140 h]
  try rfl

set_option maxRecDepth 8192 in
/-- Value 142 of a trip is that of the step on states. -/
theorem al_142 (h : Holds V0 s j) : (extractStridedSlice S1x1024 ![3, 0] (res_main_while0b_v99 V0) slices_S4x1024_S1x1024_3_0 : (Proc.devRef .tc main_while0b_v108 : DevRef τ sig).ty.Contents (Elt F)) = Cert.ReferenceIdeal.Step.b142 j s := by
  unfold Cert.ReferenceIdeal.Step.b142
  rw [← al_133 h]
  try rfl

set_option maxRecDepth 8192 in
/-- Value 143 of a trip is that of the step on states. -/
theorem al_143 (h : Holds V0 s j) : (shapeCast S1024 (extractStridedSlice S1x1024 ![3, 0] (res_main_while0b_v99 V0) slices_S4x1024_S1x1024_3_0) shapeCasts_S1x1024_S1024 : (Proc.devRef .tc main_while0b_v109 : DevRef τ sig).ty.Contents (Elt F)) = Cert.ReferenceIdeal.Step.b143 j s := by
  unfold Cert.ReferenceIdeal.Step.b143
  rw [← al_142 h]
  try rfl

set_option maxRecDepth 8192 in
/-- Value 144 of a trip is that of the step on states. -/
theorem al_144 (h : Holds V0 s j) : (mulf (mulf (mulf (shapeCast S1024 (extractStridedSlice S1x1024 ![0, 0] (res_main_while0b_v99 V0) slices_S4x1024_S1x1024_0_0) shapeCasts_S1x1024_S1024) (shapeCast S1024 (extractStridedSlice S1x1024 ![1, 0] (res_main_while0b_v99 V0) slices_S4x1024_S1x1024_1_0) shapeCasts_S1x1024_S1024)) (shapeCast S1024 (extractStridedSlice S1x1024 ![2, 0] (res_main_while0b_v99 V0) slices_S4x1024_S1x1024_2_0) shapeCasts_S1x1024_S1024)) (shapeCast S1024 (extractStridedSlice S1x1024 ![3, 0] (res_main_while0b_v99 V0) slices_S4x1024_S1x1024_3_0) shapeCasts_S1x1024_S1024) : (Proc.devRef .tc main_while0b_v110 : DevRef τ sig).ty.Contents (Elt F)) = Cert.ReferenceIdeal.Step.b144 j s := by
  unfold Cert.ReferenceIdeal.Step.b144
  rw [← al_141 h, ← al_143 h]
  try rfl

set_option maxRecDepth 8192 in
/-- Value 145 of a trip is that of the step on states. -/
theorem al_145 (h : Holds V0 s j) : (addf (V0 (Proc.devRef .tc main_v9_10)) (V0 (Proc.devRef .tc main_v9_11)) : (Proc.devRef .tc main_while0b_v111 : DevRef τ sig).ty.Contents (Elt F)) = Cert.ReferenceIdeal.Step.b145 j s := by
  unfold Cert.ReferenceIdeal.Step.b145
  rw [h.f_10, h.f_11]
  try rfl

set_option maxRecDepth 8192 in
/-- Value 146 of a trip is that of the step on states. -/
theorem al_146 (h : Holds V0 s j) : (mulf (V0 (Proc.devRef .tc main_v9_10)) (V0 (Proc.devRef .tc main_v9_11)) : (Proc.devRef .tc main_while0b_v112 : DevRef τ sig).ty.Contents (Elt F)) = Cert.ReferenceIdeal.Step.b146 j s := by
  unfold Cert.ReferenceIdeal.Step.b146
  rw [h.f_10, h.f_11]
  try rfl

set_option maxRecDepth 8192 in
/-- Value 147 of a trip is that of the step on states. -/
theorem al_147 (h : Holds V0 s j) : (subf (addf (V0 (Proc.devRef .tc main_v9_10)) (V0 (Proc.devRef .tc main_v9_11))) (mulf (V0 (Proc.devRef .tc main_v9_10)) (V0 (Proc.devRef .tc main_v9_11))) : (Proc.devRef .tc main_while0b_v113 : DevRef τ sig).ty.Contents (Elt F)) = Cert.ReferenceIdeal.Step.b147 j s := by
  unfold Cert.ReferenceIdeal.Step.b147
  rw [← al_145 h, ← al_146 h]
  try rfl

set_option maxRecDepth 8192 in
/-- Value 148 of a trip is that of the step on states. -/
theorem al_148 (h : Holds V0 s j) : (res_main_while0b_v114 V0 : (Proc.devRef .tc main_while0b_v114 : DevRef τ sig).ty.Contents (Elt F)) = Cert.ReferenceIdeal.Step.b148 j s := by
  unfold res_main_while0b_v114 Cert.ReferenceIdeal.Step.b148
  rw [← al_144 h, ← al_147 h]
  try rfl

set_option maxRecDepth 8192 in
/-- Value 149 of a trip is that of the step on states. -/
theorem al_149 (h : Holds V0 s j) : (res_main_while0b_call3_v0 V0 : (Proc.devRef .tc main_while0b_call3_v0 : DevRef τ sig).ty.Contents (Elt F)) = Cert.ReferenceIdeal.Step.b149 j s := by
  unfold res_main_while0b_call3_v0 Cert.ReferenceIdeal.Step.b149
  rfl

set_option maxRecDepth 8192 in
/-- Value 150 of a trip is that of the step on states. -/
theorem al_150 (h : Holds V0 s j) : ((Host.sort2 S1024 0 comparator_f32_i32_d0 (res_main_while0b_v114 V0) (res_main_while0b_call3_v0 V0)).1 : (Proc.devRef .tc main_while0b_call3_v1_0 : DevRef τ sig).ty.Contents (Elt F)) = Cert.ReferenceIdeal.Step.b150 j s := by
  unfold Cert.ReferenceIdeal.Step.b150
  rw [← al_148 h, ← al_149 h]
  try rfl

set_option maxRecDepth 8192 in
/-- Value 151 of a trip is that of the step on states. -/
theorem al_151 (h : Holds V0 s j) : (res_main_while0b_v115 V0 : (Proc.devRef .tc main_while0b_v115 : DevRef τ sig).ty.Contents (Elt F)) = Cert.ReferenceIdeal.Step.b151 j s := by
  unfold res_main_while0b_v115 Cert.ReferenceIdeal.Step.b151
  rw [← al_148 h, ← al_149 h]
  try rfl

set_option maxRecDepth 8192 in
/-- Value 152 of a trip is that of the step on states. -/
theorem al_152 (h : Holds V0 s j) : (constantI S_ 32 0#32 : (Proc.devRef .tc main_while0b_c_43 : DevRef τ sig).ty.Contents (Elt F)) = Cert.ReferenceIdeal.Step.b152 j s := by
  unfold Cert.ReferenceIdeal.Step.b152
  rfl

set_option maxRecDepth 8192 in
/-- Value 153 of a trip is that of the step on states. -/
theorem al_153 (h : Holds V0 s j) : (broadcastInDim S1024 ![] bcast_S_S1024 (constantI S_ 32 0#32) : (Proc.devRef .tc main_while0b_v116 : DevRef τ sig).ty.Contents (Elt F)) = Cert.ReferenceIdeal.Step.b153 j s := by
  unfold Cert.ReferenceIdeal.Step.b153
  rw [← al_152 h]
  try rfl

set_option maxRecDepth 8192 in
/-- Value 154 of a trip is that of the step on states. -/
theorem al_154 (h : Holds V0 s j) : (cmpi .slt (res_main_while0b_v115 V0) (broadcastInDim S1024 ![] bcast_S_S1024 (constantI S_ 32 0#32)) : (Proc.devRef .tc main_while0b_v117 : DevRef τ sig).ty.Contents (Elt F)) = Cert.ReferenceIdeal.Step.b154 j s := by
  unfold Cert.ReferenceIdeal.Step.b154
  rw [← al_151 h, ← al_153 h]
  try rfl

set_option maxRecDepth 8192 in
/-- Value 155 of a trip is that of the step on states. -/
theorem al_155 (h : Holds V0 s j) : (constantI S_ 32 1024#32 : (Proc.devRef .tc main_while0b_c_44 : DevRef τ sig).ty.Contents (Elt F)) = Cert.ReferenceIdeal.Step.b155 j s := by
  unfold Cert.ReferenceIdeal.Step.b155
  rfl

set_option maxRecDepth 8192 in
/-- Value 156 of a trip is that of the step on states. -/
theorem al_156 (h : Holds V0 s j) : (broadcastInDim S1024 ![] bcast_S_S1024 (constantI S_ 32 1024#32) : (Proc.devRef .tc main_while0b_v118 : DevRef τ sig).ty.Contents (Elt F)) = Cert.ReferenceIdeal.Step.b156 j s := by
  unfold Cert.ReferenceIdeal.Step.b156
  rw [← al_155 h]
  try rfl

set_option maxRecDepth 8192 in
/-- Value 157 of a trip is that of the step on states. -/
theorem al_157 (h : Holds V0 s j) : (addi (res_main_while0b_v115 V0) (broadcastInDim S1024 ![] bcast_S_S1024 (constantI S_ 32 1024#32)) : (Proc.devRef .tc main_while0b_v119 : DevRef τ sig).ty.Contents (Elt F)) = Cert.ReferenceIdeal.Step.b157 j s := by
  unfold Cert.ReferenceIdeal.Step.b157
  rw [← al_151 h, ← al_156 h]
  try rfl

set_option maxRecDepth 8192 in
/-- Value 158 of a trip is that of the step on states. -/
theorem al_158 (h : Holds V0 s j) : (select (cmpi .slt (res_main_while0b_v115 V0) (broadcastInDim S1024 ![] bcast_S_S1024 (constantI S_ 32 0#32))) (addi (res_main_while0b_v115 V0) (broadcastInDim S1024 ![] bcast_S_S1024 (constantI S_ 32 1024#32))) (res_main_while0b_v115 V0) : (Proc.devRef .tc main_while0b_v120 : DevRef τ sig).ty.Contents (Elt F)) = Cert.ReferenceIdeal.Step.b158 j s := by
  unfold Cert.ReferenceIdeal.Step.b158
  rw [← al_154 h, ← al_157 h, ← al_151 h]
  try rfl

set_option maxRecDepth 8192 in
/-- Value 159 of a trip is that of the step on states. -/
theorem al_159 (h : Holds V0 s j) : (broadcastInDim S1024x1 ![0] bcast_S1024_S1024x1_0 (select (cmpi .slt (res_main_while0b_v115 V0) (broadcastInDim S1024 ![] bcast_S_S1024 (constantI S_ 32 0#32))) (addi (res_main_while0b_v115 V0) (broadcastInDim S1024 ![] bcast_S_S1024 (constantI S_ 32 1024#32))) (res_main_while0b_v115 V0)) : (Proc.devRef .tc main_while0b_v121 : DevRef τ sig).ty.Contents (Elt F)) = Cert.ReferenceIdeal.Step.b159 j s := by
  unfold Cert.ReferenceIdeal.Step.b159
  rw [← al_158 h]
  try rfl
end Cert.Proof.RefTrip

end
-- ==== Proof.RefTrip.lean ====
/-
The reference's one trip of its loop, value by value (second half), and the reference's result as the step iterated 32
times.
-/
module

public import proofs.«01_k».proof.Proof.RefTripA

@[expose] public section

noncomputable section

namespace Cert.Proof.RefTrip

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

variable {V0 s j}

set_option maxRecDepth 8192 in
/-- Value 160 of a trip is that of the step on states. -/
theorem al_160 (h : Holds V0 s j) : (res_main_while0b_v122 V0 : (Proc.devRef .tc main_while0b_v122 : DevRef τ sig).ty.Contents (Elt F)) = Cert.ReferenceIdeal.Step.b160 j s := by
  unfold res_main_while0b_v122 Cert.ReferenceIdeal.Step.b160
  rw [← al_148 h, ← al_159 h]
  try rfl

set_option maxRecDepth 8192 in
/-- Value 161 of a trip is that of the step on states. -/
theorem al_161 (h : Holds V0 s j) : (constant S_ .f32 0x3F800000#32 : (Proc.devRef .tc main_while0b_cst_45 : DevRef τ sig).ty.Contents (Elt F)) = Cert.ReferenceIdeal.Step.b161 j s := by
  unfold Cert.ReferenceIdeal.Step.b161
  rfl

set_option maxRecDepth 8192 in
/-- Value 162 of a trip is that of the step on states. -/
theorem al_162 (h : Holds V0 s j) : (broadcastInDim S1 ![] bcast_S_S1 (constant S_ .f32 0x3F800000#32) : (Proc.devRef .tc main_while0b_v123 : DevRef τ sig).ty.Contents (Elt F)) = Cert.ReferenceIdeal.Step.b162 j s := by
  unfold Cert.ReferenceIdeal.Step.b162
  rw [← al_161 h]
  try rfl

set_option maxRecDepth 8192 in
/-- Value 163 of a trip is that of the step on states. -/
theorem al_163 (h : Holds V0 s j) : (constant S_ .f32 0x3F800000#32 : (Proc.devRef .tc main_while0b_cst_46 : DevRef τ sig).ty.Contents (Elt F)) = Cert.ReferenceIdeal.Step.b163 j s := by
  unfold Cert.ReferenceIdeal.Step.b163
  rfl

set_option maxRecDepth 8192 in
/-- Value 164 of a trip is that of the step on states. -/
theorem al_164 (h : Holds V0 s j) : (broadcastInDim S1 ![] bcast_S_S1 (constant S_ .f32 0x3F800000#32) : (Proc.devRef .tc main_while0b_v124 : DevRef τ sig).ty.Contents (Elt F)) = Cert.ReferenceIdeal.Step.b164 j s := by
  unfold Cert.ReferenceIdeal.Step.b164
  rw [← al_163 h]
  try rfl

set_option maxRecDepth 8192 in
/-- Value 165 of a trip is that of the step on states. -/
theorem al_165 (h : Holds V0 s j) : (extractStridedSlice S1023 ![0] (res_main_while0b_v122 V0) slices_S1024_S1023_0 : (Proc.devRef .tc main_while0b_v125 : DevRef τ sig).ty.Contents (Elt F)) = Cert.ReferenceIdeal.Step.b165 j s := by
  unfold Cert.ReferenceIdeal.Step.b165
  rw [← al_160 h]
  try rfl

set_option maxRecDepth 8192 in
/-- Value 166 of a trip is that of the step on states. -/
theorem al_166 (h : Holds V0 s j) : (concatenate S1024 0 [⟨S1, (broadcastInDim S1 ![] bcast_S_S1 (constant S_ .f32 0x3F800000#32))⟩, ⟨S1023, (extractStridedSlice S1023 ![0] (res_main_while0b_v122 V0) slices_S1024_S1023_0)⟩] concatenates_S1_S1023_S1024_d0 : (Proc.devRef .tc main_while0b_v126 : DevRef τ sig).ty.Contents (Elt F)) = Cert.ReferenceIdeal.Step.b166 j s := by
  unfold Cert.ReferenceIdeal.Step.b166
  rw [← al_164 h, ← al_165 h]
  try rfl

set_option maxRecDepth 8192 in
/-- Value 167 of a trip is that of the step on states. -/
theorem al_167 (h : Holds V0 s j) : (res_main_while0b_v127 V0 : (Proc.devRef .tc main_while0b_v127 : DevRef τ sig).ty.Contents (Elt F)) = Cert.ReferenceIdeal.Step.b167 j s := by
  unfold res_main_while0b_v127 Cert.ReferenceIdeal.Step.b167
  rw [← al_160 h, ← al_166 h]
  try rfl

set_option maxRecDepth 8192 in
/-- Value 168 of a trip is that of the step on states. -/
theorem al_168 (h : Holds V0 s j) : (constant S_ .f32 0x3F800000#32 : (Proc.devRef .tc main_while0b_cst_47 : DevRef τ sig).ty.Contents (Elt F)) = Cert.ReferenceIdeal.Step.b168 j s := by
  unfold Cert.ReferenceIdeal.Step.b168
  rfl

set_option maxRecDepth 8192 in
/-- Value 169 of a trip is that of the step on states. -/
theorem al_169 (h : Holds V0 s j) : (broadcastInDim S2 ![] bcast_S_S2 (constant S_ .f32 0x3F800000#32) : (Proc.devRef .tc main_while0b_v128 : DevRef τ sig).ty.Contents (Elt F)) = Cert.ReferenceIdeal.Step.b169 j s := by
  unfold Cert.ReferenceIdeal.Step.b169
  rw [← al_168 h]
  try rfl

set_option maxRecDepth 8192 in
/-- Value 170 of a trip is that of the step on states. -/
theorem al_170 (h : Holds V0 s j) : (extractStridedSlice S1022 ![0] (res_main_while0b_v127 V0) slices_S1024_S1022_0 : (Proc.devRef .tc main_while0b_v129 : DevRef τ sig).ty.Contents (Elt F)) = Cert.ReferenceIdeal.Step.b170 j s := by
  unfold Cert.ReferenceIdeal.Step.b170
  rw [← al_167 h]
  try rfl

set_option maxRecDepth 8192 in
/-- Value 171 of a trip is that of the step on states. -/
theorem al_171 (h : Holds V0 s j) : (concatenate S1024 0 [⟨S2, (broadcastInDim S2 ![] bcast_S_S2 (constant S_ .f32 0x3F800000#32))⟩, ⟨S1022, (extractStridedSlice S1022 ![0] (res_main_while0b_v127 V0) slices_S1024_S1022_0)⟩] concatenates_S2_S1022_S1024_d0 : (Proc.devRef .tc main_while0b_v130 : DevRef τ sig).ty.Contents (Elt F)) = Cert.ReferenceIdeal.Step.b171 j s := by
  unfold Cert.ReferenceIdeal.Step.b171
  rw [← al_169 h, ← al_170 h]
  try rfl

set_option maxRecDepth 8192 in
/-- Value 172 of a trip is that of the step on states. -/
theorem al_172 (h : Holds V0 s j) : (res_main_while0b_v131 V0 : (Proc.devRef .tc main_while0b_v131 : DevRef τ sig).ty.Contents (Elt F)) = Cert.ReferenceIdeal.Step.b172 j s := by
  unfold res_main_while0b_v131 Cert.ReferenceIdeal.Step.b172
  rw [← al_167 h, ← al_171 h]
  try rfl

set_option maxRecDepth 8192 in
/-- Value 173 of a trip is that of the step on states. -/
theorem al_173 (h : Holds V0 s j) : (constant S_ .f32 0x3F800000#32 : (Proc.devRef .tc main_while0b_cst_48 : DevRef τ sig).ty.Contents (Elt F)) = Cert.ReferenceIdeal.Step.b173 j s := by
  unfold Cert.ReferenceIdeal.Step.b173
  rfl

set_option maxRecDepth 8192 in
/-- Value 174 of a trip is that of the step on states. -/
theorem al_174 (h : Holds V0 s j) : (broadcastInDim S4 ![] bcast_S_S4 (constant S_ .f32 0x3F800000#32) : (Proc.devRef .tc main_while0b_v132 : DevRef τ sig).ty.Contents (Elt F)) = Cert.ReferenceIdeal.Step.b174 j s := by
  unfold Cert.ReferenceIdeal.Step.b174
  rw [← al_173 h]
  try rfl

set_option maxRecDepth 8192 in
/-- Value 175 of a trip is that of the step on states. -/
theorem al_175 (h : Holds V0 s j) : (extractStridedSlice S1020 ![0] (res_main_while0b_v131 V0) slices_S1024_S1020_0 : (Proc.devRef .tc main_while0b_v133 : DevRef τ sig).ty.Contents (Elt F)) = Cert.ReferenceIdeal.Step.b175 j s := by
  unfold Cert.ReferenceIdeal.Step.b175
  rw [← al_172 h]
  try rfl

set_option maxRecDepth 8192 in
/-- Value 176 of a trip is that of the step on states. -/
theorem al_176 (h : Holds V0 s j) : (concatenate S1024 0 [⟨S4, (broadcastInDim S4 ![] bcast_S_S4 (constant S_ .f32 0x3F800000#32))⟩, ⟨S1020, (extractStridedSlice S1020 ![0] (res_main_while0b_v131 V0) slices_S1024_S1020_0)⟩] concatenates_S4_S1020_S1024_d0 : (Proc.devRef .tc main_while0b_v134 : DevRef τ sig).ty.Contents (Elt F)) = Cert.ReferenceIdeal.Step.b176 j s := by
  unfold Cert.ReferenceIdeal.Step.b176
  rw [← al_174 h, ← al_175 h]
  try rfl

set_option maxRecDepth 8192 in
/-- Value 177 of a trip is that of the step on states. -/
theorem al_177 (h : Holds V0 s j) : (res_main_while0b_v135 V0 : (Proc.devRef .tc main_while0b_v135 : DevRef τ sig).ty.Contents (Elt F)) = Cert.ReferenceIdeal.Step.b177 j s := by
  unfold res_main_while0b_v135 Cert.ReferenceIdeal.Step.b177
  rw [← al_172 h, ← al_176 h]
  try rfl

set_option maxRecDepth 8192 in
/-- Value 178 of a trip is that of the step on states. -/
theorem al_178 (h : Holds V0 s j) : (constant S_ .f32 0x3F800000#32 : (Proc.devRef .tc main_while0b_cst_49 : DevRef τ sig).ty.Contents (Elt F)) = Cert.ReferenceIdeal.Step.b178 j s := by
  unfold Cert.ReferenceIdeal.Step.b178
  rfl

set_option maxRecDepth 8192 in
/-- Value 179 of a trip is that of the step on states. -/
theorem al_179 (h : Holds V0 s j) : (broadcastInDim S8 ![] bcast_S_S8 (constant S_ .f32 0x3F800000#32) : (Proc.devRef .tc main_while0b_v136 : DevRef τ sig).ty.Contents (Elt F)) = Cert.ReferenceIdeal.Step.b179 j s := by
  unfold Cert.ReferenceIdeal.Step.b179
  rw [← al_178 h]
  try rfl

set_option maxRecDepth 8192 in
/-- Value 180 of a trip is that of the step on states. -/
theorem al_180 (h : Holds V0 s j) : (extractStridedSlice S1016 ![0] (res_main_while0b_v135 V0) slices_S1024_S1016_0 : (Proc.devRef .tc main_while0b_v137 : DevRef τ sig).ty.Contents (Elt F)) = Cert.ReferenceIdeal.Step.b180 j s := by
  unfold Cert.ReferenceIdeal.Step.b180
  rw [← al_177 h]
  try rfl

set_option maxRecDepth 8192 in
/-- Value 181 of a trip is that of the step on states. -/
theorem al_181 (h : Holds V0 s j) : (concatenate S1024 0 [⟨S8, (broadcastInDim S8 ![] bcast_S_S8 (constant S_ .f32 0x3F800000#32))⟩, ⟨S1016, (extractStridedSlice S1016 ![0] (res_main_while0b_v135 V0) slices_S1024_S1016_0)⟩] concatenates_S8_S1016_S1024_d0 : (Proc.devRef .tc main_while0b_v138 : DevRef τ sig).ty.Contents (Elt F)) = Cert.ReferenceIdeal.Step.b181 j s := by
  unfold Cert.ReferenceIdeal.Step.b181
  rw [← al_179 h, ← al_180 h]
  try rfl

set_option maxRecDepth 8192 in
/-- Value 182 of a trip is that of the step on states. -/
theorem al_182 (h : Holds V0 s j) : (res_main_while0b_v139 V0 : (Proc.devRef .tc main_while0b_v139 : DevRef τ sig).ty.Contents (Elt F)) = Cert.ReferenceIdeal.Step.b182 j s := by
  unfold res_main_while0b_v139 Cert.ReferenceIdeal.Step.b182
  rw [← al_177 h, ← al_181 h]
  try rfl

set_option maxRecDepth 8192 in
/-- Value 183 of a trip is that of the step on states. -/
theorem al_183 (h : Holds V0 s j) : (constant S_ .f32 0x3F800000#32 : (Proc.devRef .tc main_while0b_cst_50 : DevRef τ sig).ty.Contents (Elt F)) = Cert.ReferenceIdeal.Step.b183 j s := by
  unfold Cert.ReferenceIdeal.Step.b183
  rfl

set_option maxRecDepth 8192 in
/-- Value 184 of a trip is that of the step on states. -/
theorem al_184 (h : Holds V0 s j) : (broadcastInDim S16 ![] bcast_S_S16 (constant S_ .f32 0x3F800000#32) : (Proc.devRef .tc main_while0b_v140 : DevRef τ sig).ty.Contents (Elt F)) = Cert.ReferenceIdeal.Step.b184 j s := by
  unfold Cert.ReferenceIdeal.Step.b184
  rw [← al_183 h]
  try rfl

set_option maxRecDepth 8192 in
/-- Value 185 of a trip is that of the step on states. -/
theorem al_185 (h : Holds V0 s j) : (extractStridedSlice S1008 ![0] (res_main_while0b_v139 V0) slices_S1024_S1008_0 : (Proc.devRef .tc main_while0b_v141 : DevRef τ sig).ty.Contents (Elt F)) = Cert.ReferenceIdeal.Step.b185 j s := by
  unfold Cert.ReferenceIdeal.Step.b185
  rw [← al_182 h]
  try rfl

set_option maxRecDepth 8192 in
/-- Value 186 of a trip is that of the step on states. -/
theorem al_186 (h : Holds V0 s j) : (concatenate S1024 0 [⟨S16, (broadcastInDim S16 ![] bcast_S_S16 (constant S_ .f32 0x3F800000#32))⟩, ⟨S1008, (extractStridedSlice S1008 ![0] (res_main_while0b_v139 V0) slices_S1024_S1008_0)⟩] concatenates_S16_S1008_S1024_d0 : (Proc.devRef .tc main_while0b_v142 : DevRef τ sig).ty.Contents (Elt F)) = Cert.ReferenceIdeal.Step.b186 j s := by
  unfold Cert.ReferenceIdeal.Step.b186
  rw [← al_184 h, ← al_185 h]
  try rfl

set_option maxRecDepth 8192 in
/-- Value 187 of a trip is that of the step on states. -/
theorem al_187 (h : Holds V0 s j) : (res_main_while0b_v143 V0 : (Proc.devRef .tc main_while0b_v143 : DevRef τ sig).ty.Contents (Elt F)) = Cert.ReferenceIdeal.Step.b187 j s := by
  unfold res_main_while0b_v143 Cert.ReferenceIdeal.Step.b187
  rw [← al_182 h, ← al_186 h]
  try rfl

set_option maxRecDepth 8192 in
/-- Value 188 of a trip is that of the step on states. -/
theorem al_188 (h : Holds V0 s j) : (constant S_ .f32 0x3F800000#32 : (Proc.devRef .tc main_while0b_cst_51 : DevRef τ sig).ty.Contents (Elt F)) = Cert.ReferenceIdeal.Step.b188 j s := by
  unfold Cert.ReferenceIdeal.Step.b188
  rfl

set_option maxRecDepth 8192 in
/-- Value 189 of a trip is that of the step on states. -/
theorem al_189 (h : Holds V0 s j) : (broadcastInDim S32 ![] bcast_S_S32 (constant S_ .f32 0x3F800000#32) : (Proc.devRef .tc main_while0b_v144 : DevRef τ sig).ty.Contents (Elt F)) = Cert.ReferenceIdeal.Step.b189 j s := by
  unfold Cert.ReferenceIdeal.Step.b189
  rw [← al_188 h]
  try rfl

set_option maxRecDepth 8192 in
/-- Value 190 of a trip is that of the step on states. -/
theorem al_190 (h : Holds V0 s j) : (extractStridedSlice S992 ![0] (res_main_while0b_v143 V0) slices_S1024_S992_0 : (Proc.devRef .tc main_while0b_v145 : DevRef τ sig).ty.Contents (Elt F)) = Cert.ReferenceIdeal.Step.b190 j s := by
  unfold Cert.ReferenceIdeal.Step.b190
  rw [← al_187 h]
  try rfl

set_option maxRecDepth 8192 in
/-- Value 191 of a trip is that of the step on states. -/
theorem al_191 (h : Holds V0 s j) : (concatenate S1024 0 [⟨S32, (broadcastInDim S32 ![] bcast_S_S32 (constant S_ .f32 0x3F800000#32))⟩, ⟨S992, (extractStridedSlice S992 ![0] (res_main_while0b_v143 V0) slices_S1024_S992_0)⟩] concatenates_S32_S992_S1024_d0 : (Proc.devRef .tc main_while0b_v146 : DevRef τ sig).ty.Contents (Elt F)) = Cert.ReferenceIdeal.Step.b191 j s := by
  unfold Cert.ReferenceIdeal.Step.b191
  rw [← al_189 h, ← al_190 h]
  try rfl

set_option maxRecDepth 8192 in
/-- Value 192 of a trip is that of the step on states. -/
theorem al_192 (h : Holds V0 s j) : (res_main_while0b_v147 V0 : (Proc.devRef .tc main_while0b_v147 : DevRef τ sig).ty.Contents (Elt F)) = Cert.ReferenceIdeal.Step.b192 j s := by
  unfold res_main_while0b_v147 Cert.ReferenceIdeal.Step.b192
  rw [← al_187 h, ← al_191 h]
  try rfl

set_option maxRecDepth 8192 in
/-- Value 193 of a trip is that of the step on states. -/
theorem al_193 (h : Holds V0 s j) : (constant S_ .f32 0x3F800000#32 : (Proc.devRef .tc main_while0b_cst_52 : DevRef τ sig).ty.Contents (Elt F)) = Cert.ReferenceIdeal.Step.b193 j s := by
  unfold Cert.ReferenceIdeal.Step.b193
  rfl

set_option maxRecDepth 8192 in
/-- Value 194 of a trip is that of the step on states. -/
theorem al_194 (h : Holds V0 s j) : (broadcastInDim S64 ![] bcast_S_S64 (constant S_ .f32 0x3F800000#32) : (Proc.devRef .tc main_while0b_v148 : DevRef τ sig).ty.Contents (Elt F)) = Cert.ReferenceIdeal.Step.b194 j s := by
  unfold Cert.ReferenceIdeal.Step.b194
  rw [← al_193 h]
  try rfl

set_option maxRecDepth 8192 in
/-- Value 195 of a trip is that of the step on states. -/
theorem al_195 (h : Holds V0 s j) : (extractStridedSlice S960 ![0] (res_main_while0b_v147 V0) slices_S1024_S960_0 : (Proc.devRef .tc main_while0b_v149 : DevRef τ sig).ty.Contents (Elt F)) = Cert.ReferenceIdeal.Step.b195 j s := by
  unfold Cert.ReferenceIdeal.Step.b195
  rw [← al_192 h]
  try rfl

set_option maxRecDepth 8192 in
/-- Value 196 of a trip is that of the step on states. -/
theorem al_196 (h : Holds V0 s j) : (concatenate S1024 0 [⟨S64, (broadcastInDim S64 ![] bcast_S_S64 (constant S_ .f32 0x3F800000#32))⟩, ⟨S960, (extractStridedSlice S960 ![0] (res_main_while0b_v147 V0) slices_S1024_S960_0)⟩] concatenates_S64_S960_S1024_d0 : (Proc.devRef .tc main_while0b_v150 : DevRef τ sig).ty.Contents (Elt F)) = Cert.ReferenceIdeal.Step.b196 j s := by
  unfold Cert.ReferenceIdeal.Step.b196
  rw [← al_194 h, ← al_195 h]
  try rfl

set_option maxRecDepth 8192 in
/-- Value 197 of a trip is that of the step on states. -/
theorem al_197 (h : Holds V0 s j) : (res_main_while0b_v151 V0 : (Proc.devRef .tc main_while0b_v151 : DevRef τ sig).ty.Contents (Elt F)) = Cert.ReferenceIdeal.Step.b197 j s := by
  unfold res_main_while0b_v151 Cert.ReferenceIdeal.Step.b197
  rw [← al_192 h, ← al_196 h]
  try rfl

set_option maxRecDepth 8192 in
/-- Value 198 of a trip is that of the step on states. -/
theorem al_198 (h : Holds V0 s j) : (constant S_ .f32 0x3F800000#32 : (Proc.devRef .tc main_while0b_cst_53 : DevRef τ sig).ty.Contents (Elt F)) = Cert.ReferenceIdeal.Step.b198 j s := by
  unfold Cert.ReferenceIdeal.Step.b198
  rfl

set_option maxRecDepth 8192 in
/-- Value 199 of a trip is that of the step on states. -/
theorem al_199 (h : Holds V0 s j) : (broadcastInDim S128 ![] bcast_S_S128 (constant S_ .f32 0x3F800000#32) : (Proc.devRef .tc main_while0b_v152 : DevRef τ sig).ty.Contents (Elt F)) = Cert.ReferenceIdeal.Step.b199 j s := by
  unfold Cert.ReferenceIdeal.Step.b199
  rw [← al_198 h]
  try rfl

set_option maxRecDepth 8192 in
/-- Value 200 of a trip is that of the step on states. -/
theorem al_200 (h : Holds V0 s j) : (extractStridedSlice S896 ![0] (res_main_while0b_v151 V0) slices_S1024_S896_0 : (Proc.devRef .tc main_while0b_v153 : DevRef τ sig).ty.Contents (Elt F)) = Cert.ReferenceIdeal.Step.b200 j s := by
  unfold Cert.ReferenceIdeal.Step.b200
  rw [← al_197 h]
  try rfl

set_option maxRecDepth 8192 in
/-- Value 201 of a trip is that of the step on states. -/
theorem al_201 (h : Holds V0 s j) : (concatenate S1024 0 [⟨S128, (broadcastInDim S128 ![] bcast_S_S128 (constant S_ .f32 0x3F800000#32))⟩, ⟨S896, (extractStridedSlice S896 ![0] (res_main_while0b_v151 V0) slices_S1024_S896_0)⟩] concatenates_S128_S896_S1024_d0 : (Proc.devRef .tc main_while0b_v154 : DevRef τ sig).ty.Contents (Elt F)) = Cert.ReferenceIdeal.Step.b201 j s := by
  unfold Cert.ReferenceIdeal.Step.b201
  rw [← al_199 h, ← al_200 h]
  try rfl

set_option maxRecDepth 8192 in
/-- Value 202 of a trip is that of the step on states. -/
theorem al_202 (h : Holds V0 s j) : (res_main_while0b_v155 V0 : (Proc.devRef .tc main_while0b_v155 : DevRef τ sig).ty.Contents (Elt F)) = Cert.ReferenceIdeal.Step.b202 j s := by
  unfold res_main_while0b_v155 Cert.ReferenceIdeal.Step.b202
  rw [← al_197 h, ← al_201 h]
  try rfl

set_option maxRecDepth 8192 in
/-- Value 203 of a trip is that of the step on states. -/
theorem al_203 (h : Holds V0 s j) : (constant S_ .f32 0x3F800000#32 : (Proc.devRef .tc main_while0b_cst_54 : DevRef τ sig).ty.Contents (Elt F)) = Cert.ReferenceIdeal.Step.b203 j s := by
  unfold Cert.ReferenceIdeal.Step.b203
  rfl

set_option maxRecDepth 8192 in
/-- Value 204 of a trip is that of the step on states. -/
theorem al_204 (h : Holds V0 s j) : (broadcastInDim S256 ![] bcast_S_S256 (constant S_ .f32 0x3F800000#32) : (Proc.devRef .tc main_while0b_v156 : DevRef τ sig).ty.Contents (Elt F)) = Cert.ReferenceIdeal.Step.b204 j s := by
  unfold Cert.ReferenceIdeal.Step.b204
  rw [← al_203 h]
  try rfl

set_option maxRecDepth 8192 in
/-- Value 205 of a trip is that of the step on states. -/
theorem al_205 (h : Holds V0 s j) : (extractStridedSlice S768 ![0] (res_main_while0b_v155 V0) slices_S1024_S768_0 : (Proc.devRef .tc main_while0b_v157 : DevRef τ sig).ty.Contents (Elt F)) = Cert.ReferenceIdeal.Step.b205 j s := by
  unfold Cert.ReferenceIdeal.Step.b205
  rw [← al_202 h]
  try rfl

set_option maxRecDepth 8192 in
/-- Value 206 of a trip is that of the step on states. -/
theorem al_206 (h : Holds V0 s j) : (concatenate S1024 0 [⟨S256, (broadcastInDim S256 ![] bcast_S_S256 (constant S_ .f32 0x3F800000#32))⟩, ⟨S768, (extractStridedSlice S768 ![0] (res_main_while0b_v155 V0) slices_S1024_S768_0)⟩] concatenates_S256_S768_S1024_d0 : (Proc.devRef .tc main_while0b_v158 : DevRef τ sig).ty.Contents (Elt F)) = Cert.ReferenceIdeal.Step.b206 j s := by
  unfold Cert.ReferenceIdeal.Step.b206
  rw [← al_204 h, ← al_205 h]
  try rfl

set_option maxRecDepth 8192 in
/-- Value 207 of a trip is that of the step on states. -/
theorem al_207 (h : Holds V0 s j) : (res_main_while0b_v159 V0 : (Proc.devRef .tc main_while0b_v159 : DevRef τ sig).ty.Contents (Elt F)) = Cert.ReferenceIdeal.Step.b207 j s := by
  unfold res_main_while0b_v159 Cert.ReferenceIdeal.Step.b207
  rw [← al_202 h, ← al_206 h]
  try rfl

set_option maxRecDepth 8192 in
/-- Value 208 of a trip is that of the step on states. -/
theorem al_208 (h : Holds V0 s j) : (constant S_ .f32 0x3F800000#32 : (Proc.devRef .tc main_while0b_cst_55 : DevRef τ sig).ty.Contents (Elt F)) = Cert.ReferenceIdeal.Step.b208 j s := by
  unfold Cert.ReferenceIdeal.Step.b208
  rfl

set_option maxRecDepth 8192 in
/-- Value 209 of a trip is that of the step on states. -/
theorem al_209 (h : Holds V0 s j) : (broadcastInDim S512 ![] bcast_S_S512 (constant S_ .f32 0x3F800000#32) : (Proc.devRef .tc main_while0b_v160 : DevRef τ sig).ty.Contents (Elt F)) = Cert.ReferenceIdeal.Step.b209 j s := by
  unfold Cert.ReferenceIdeal.Step.b209
  rw [← al_208 h]
  try rfl

set_option maxRecDepth 8192 in
/-- Value 210 of a trip is that of the step on states. -/
theorem al_210 (h : Holds V0 s j) : (extractStridedSlice S512 ![0] (res_main_while0b_v159 V0) slices_S1024_S512_0 : (Proc.devRef .tc main_while0b_v161 : DevRef τ sig).ty.Contents (Elt F)) = Cert.ReferenceIdeal.Step.b210 j s := by
  unfold Cert.ReferenceIdeal.Step.b210
  rw [← al_207 h]
  try rfl

set_option maxRecDepth 8192 in
/-- Value 211 of a trip is that of the step on states. -/
theorem al_211 (h : Holds V0 s j) : (concatenate S1024 0 [⟨S512, (broadcastInDim S512 ![] bcast_S_S512 (constant S_ .f32 0x3F800000#32))⟩, ⟨S512, (extractStridedSlice S512 ![0] (res_main_while0b_v159 V0) slices_S1024_S512_0)⟩] concatenates_S512_S512_S1024_d0 : (Proc.devRef .tc main_while0b_v162 : DevRef τ sig).ty.Contents (Elt F)) = Cert.ReferenceIdeal.Step.b211 j s := by
  unfold Cert.ReferenceIdeal.Step.b211
  rw [← al_209 h, ← al_210 h]
  try rfl

set_option maxRecDepth 8192 in
/-- Value 212 of a trip is that of the step on states. -/
theorem al_212 (h : Holds V0 s j) : (mulf (res_main_while0b_v159 V0) (concatenate S1024 0 [⟨S512, (broadcastInDim S512 ![] bcast_S_S512 (constant S_ .f32 0x3F800000#32))⟩, ⟨S512, (extractStridedSlice S512 ![0] (res_main_while0b_v159 V0) slices_S1024_S512_0)⟩] concatenates_S512_S512_S1024_d0) : (Proc.devRef .tc main_while0b_v163 : DevRef τ sig).ty.Contents (Elt F)) = Cert.ReferenceIdeal.Step.b212 j s := by
  unfold Cert.ReferenceIdeal.Step.b212
  rw [← al_207 h, ← al_211 h]
  try rfl

set_option maxRecDepth 8192 in
/-- Value 213 of a trip is that of the step on states. -/
theorem al_213 (h : Holds V0 s j) : (extractStridedSlice S1023 ![0] (mulf (res_main_while0b_v159 V0) (concatenate S1024 0 [⟨S512, (broadcastInDim S512 ![] bcast_S_S512 (constant S_ .f32 0x3F800000#32))⟩, ⟨S512, (extractStridedSlice S512 ![0] (res_main_while0b_v159 V0) slices_S1024_S512_0)⟩] concatenates_S512_S512_S1024_d0)) slices_S1024_S1023_0 : (Proc.devRef .tc main_while0b_v164 : DevRef τ sig).ty.Contents (Elt F)) = Cert.ReferenceIdeal.Step.b213 j s := by
  unfold Cert.ReferenceIdeal.Step.b213
  rw [← al_212 h]
  try rfl

set_option maxRecDepth 8192 in
/-- Value 214 of a trip is that of the step on states. -/
theorem al_214 (h : Holds V0 s j) : (concatenate S1024 0 [⟨S1, (broadcastInDim S1 ![] bcast_S_S1 (constant S_ .f32 0x3F800000#32))⟩, ⟨S1023, (extractStridedSlice S1023 ![0] (mulf (res_main_while0b_v159 V0) (concatenate S1024 0 [⟨S512, (broadcastInDim S512 ![] bcast_S_S512 (constant S_ .f32 0x3F800000#32))⟩, ⟨S512, (extractStridedSlice S512 ![0] (res_main_while0b_v159 V0) slices_S1024_S512_0)⟩] concatenates_S512_S512_S1024_d0)) slices_S1024_S1023_0)⟩] concatenates_S1_S1023_S1024_d0 : (Proc.devRef .tc main_while0b_v165 : DevRef τ sig).ty.Contents (Elt F)) = Cert.ReferenceIdeal.Step.b214 j s := by
  unfold Cert.ReferenceIdeal.Step.b214
  rw [← al_162 h, ← al_213 h]
  try rfl

set_option maxRecDepth 8192 in
/-- Value 215 of a trip is that of the step on states. -/
theorem al_215 (h : Holds V0 s j) : (constant S_ .f32 0x00000000#32 : (Proc.devRef .tc main_while0b_cst_56 : DevRef τ sig).ty.Contents (Elt F)) = Cert.ReferenceIdeal.Step.b215 j s := by
  unfold Cert.ReferenceIdeal.Step.b215
  rfl

set_option maxRecDepth 8192 in
/-- Value 216 of a trip is that of the step on states. -/
theorem al_216 (h : Holds V0 s j) : (broadcastInDim S1024 ![] bcast_S_S1024 (constant S_ .f32 0x00000000#32) : (Proc.devRef .tc main_while0b_v166 : DevRef τ sig).ty.Contents (Elt F)) = Cert.ReferenceIdeal.Step.b216 j s := by
  unfold Cert.ReferenceIdeal.Step.b216
  rw [← al_215 h]
  try rfl

set_option maxRecDepth 8192 in
/-- Value 217 of a trip is that of the step on states. -/
theorem al_217 (h : Holds V0 s j) : (constant S_ .f32 0x3F800000#32 : (Proc.devRef .tc main_while0b_cst_57 : DevRef τ sig).ty.Contents (Elt F)) = Cert.ReferenceIdeal.Step.b217 j s := by
  unfold Cert.ReferenceIdeal.Step.b217
  rfl

set_option maxRecDepth 8192 in
/-- Value 218 of a trip is that of the step on states. -/
theorem al_218 (h : Holds V0 s j) : (broadcastInDim S1024 ![] bcast_S_S1024 (constant S_ .f32 0x3F800000#32) : (Proc.devRef .tc main_while0b_v167 : DevRef τ sig).ty.Contents (Elt F)) = Cert.ReferenceIdeal.Step.b218 j s := by
  unfold Cert.ReferenceIdeal.Step.b218
  rw [← al_217 h]
  try rfl

set_option maxRecDepth 8192 in
/-- Value 219 of a trip is that of the step on states. -/
theorem al_219 (h : Holds V0 s j) : (subf (broadcastInDim S1024 ![] bcast_S_S1024 (constant S_ .f32 0x3F800000#32)) (res_main_while0b_v122 V0) : (Proc.devRef .tc main_while0b_v168 : DevRef τ sig).ty.Contents (Elt F)) = Cert.ReferenceIdeal.Step.b219 j s := by
  unfold Cert.ReferenceIdeal.Step.b219
  rw [← al_218 h, ← al_160 h]
  try rfl

set_option maxRecDepth 8192 in
/-- Value 220 of a trip is that of the step on states. -/
theorem al_220 (h : Holds V0 s j) : (mulf (subf (broadcastInDim S1024 ![] bcast_S_S1024 (constant S_ .f32 0x3F800000#32)) (res_main_while0b_v122 V0)) (concatenate S1024 0 [⟨S1, (broadcastInDim S1 ![] bcast_S_S1 (constant S_ .f32 0x3F800000#32))⟩, ⟨S1023, (extractStridedSlice S1023 ![0] (mulf (res_main_while0b_v159 V0) (concatenate S1024 0 [⟨S512, (broadcastInDim S512 ![] bcast_S_S512 (constant S_ .f32 0x3F800000#32))⟩, ⟨S512, (extractStridedSlice S512 ![0] (res_main_while0b_v159 V0) slices_S1024_S512_0)⟩] concatenates_S512_S512_S1024_d0)) slices_S1024_S1023_0)⟩] concatenates_S1_S1023_S1024_d0) : (Proc.devRef .tc main_while0b_v169 : DevRef τ sig).ty.Contents (Elt F)) = Cert.ReferenceIdeal.Step.b220 j s := by
  unfold Cert.ReferenceIdeal.Step.b220
  rw [← al_219 h, ← al_214 h]
  try rfl

set_option maxRecDepth 8192 in
/-- Value 221 of a trip is that of the step on states. -/
theorem al_221 (h : Holds V0 s j) : (constantI S_ 32 0#32 : (Proc.devRef .tc main_while0b_c_58 : DevRef τ sig).ty.Contents (Elt F)) = Cert.ReferenceIdeal.Step.b221 j s := by
  unfold Cert.ReferenceIdeal.Step.b221
  rfl

set_option maxRecDepth 8192 in
/-- Value 222 of a trip is that of the step on states. -/
theorem al_222 (h : Holds V0 s j) : (broadcastInDim S1024 ![] bcast_S_S1024 (constantI S_ 32 0#32) : (Proc.devRef .tc main_while0b_v170 : DevRef τ sig).ty.Contents (Elt F)) = Cert.ReferenceIdeal.Step.b222 j s := by
  unfold Cert.ReferenceIdeal.Step.b222
  rw [← al_221 h]
  try rfl

set_option maxRecDepth 8192 in
/-- Value 223 of a trip is that of the step on states. -/
theorem al_223 (h : Holds V0 s j) : (cmpi .slt (res_main_while0b_v115 V0) (broadcastInDim S1024 ![] bcast_S_S1024 (constantI S_ 32 0#32)) : (Proc.devRef .tc main_while0b_v171 : DevRef τ sig).ty.Contents (Elt F)) = Cert.ReferenceIdeal.Step.b223 j s := by
  unfold Cert.ReferenceIdeal.Step.b223
  rw [← al_151 h, ← al_222 h]
  try rfl

set_option maxRecDepth 8192 in
/-- Value 224 of a trip is that of the step on states. -/
theorem al_224 (h : Holds V0 s j) : (constantI S_ 32 1024#32 : (Proc.devRef .tc main_while0b_c_59 : DevRef τ sig).ty.Contents (Elt F)) = Cert.ReferenceIdeal.Step.b224 j s := by
  unfold Cert.ReferenceIdeal.Step.b224
  rfl

set_option maxRecDepth 8192 in
/-- Value 225 of a trip is that of the step on states. -/
theorem al_225 (h : Holds V0 s j) : (broadcastInDim S1024 ![] bcast_S_S1024 (constantI S_ 32 1024#32) : (Proc.devRef .tc main_while0b_v172 : DevRef τ sig).ty.Contents (Elt F)) = Cert.ReferenceIdeal.Step.b225 j s := by
  unfold Cert.ReferenceIdeal.Step.b225
  rw [← al_224 h]
  try rfl

set_option maxRecDepth 8192 in
/-- Value 226 of a trip is that of the step on states. -/
theorem al_226 (h : Holds V0 s j) : (addi (res_main_while0b_v115 V0) (broadcastInDim S1024 ![] bcast_S_S1024 (constantI S_ 32 1024#32)) : (Proc.devRef .tc main_while0b_v173 : DevRef τ sig).ty.Contents (Elt F)) = Cert.ReferenceIdeal.Step.b226 j s := by
  unfold Cert.ReferenceIdeal.Step.b226
  rw [← al_151 h, ← al_225 h]
  try rfl

set_option maxRecDepth 8192 in
/-- Value 227 of a trip is that of the step on states. -/
theorem al_227 (h : Holds V0 s j) : (select (cmpi .slt (res_main_while0b_v115 V0) (broadcastInDim S1024 ![] bcast_S_S1024 (constantI S_ 32 0#32))) (addi (res_main_while0b_v115 V0) (broadcastInDim S1024 ![] bcast_S_S1024 (constantI S_ 32 1024#32))) (res_main_while0b_v115 V0) : (Proc.devRef .tc main_while0b_v174 : DevRef τ sig).ty.Contents (Elt F)) = Cert.ReferenceIdeal.Step.b227 j s := by
  unfold Cert.ReferenceIdeal.Step.b227
  rw [← al_223 h, ← al_226 h, ← al_151 h]
  try rfl

set_option maxRecDepth 8192 in
/-- Value 228 of a trip is that of the step on states. -/
theorem al_228 (h : Holds V0 s j) : (broadcastInDim S1024x1 ![0] bcast_S1024_S1024x1_0 (select (cmpi .slt (res_main_while0b_v115 V0) (broadcastInDim S1024 ![] bcast_S_S1024 (constantI S_ 32 0#32))) (addi (res_main_while0b_v115 V0) (broadcastInDim S1024 ![] bcast_S_S1024 (constantI S_ 32 1024#32))) (res_main_while0b_v115 V0)) : (Proc.devRef .tc main_while0b_v175 : DevRef τ sig).ty.Contents (Elt F)) = Cert.ReferenceIdeal.Step.b228 j s := by
  unfold Cert.ReferenceIdeal.Step.b228
  rw [← al_227 h]
  try rfl

set_option maxRecDepth 8192 in
/-- Value 229 of a trip is that of the step on states. -/
theorem al_229 (h : Holds V0 s j) : (Host.scatter scatter_S1024_S1024x1_S1024_n_0_0_1 (fun _ b => b) (broadcastInDim S1024 ![] bcast_S_S1024 (constant S_ .f32 0x00000000#32)) (broadcastInDim S1024x1 ![0] bcast_S1024_S1024x1_0 (select (cmpi .slt (res_main_while0b_v115 V0) (broadcastInDim S1024 ![] bcast_S_S1024 (constantI S_ 32 0#32))) (addi (res_main_while0b_v115 V0) (broadcastInDim S1024 ![] bcast_S_S1024 (constantI S_ 32 1024#32))) (res_main_while0b_v115 V0))) (mulf (subf (broadcastInDim S1024 ![] bcast_S_S1024 (constant S_ .f32 0x3F800000#32)) (res_main_while0b_v122 V0)) (concatenate S1024 0 [⟨S1, (broadcastInDim S1 ![] bcast_S_S1 (constant S_ .f32 0x3F800000#32))⟩, ⟨S1023, (extractStridedSlice S1023 ![0] (mulf (res_main_while0b_v159 V0) (concatenate S1024 0 [⟨S512, (broadcastInDim S512 ![] bcast_S_S512 (constant S_ .f32 0x3F800000#32))⟩, ⟨S512, (extractStridedSlice S512 ![0] (res_main_while0b_v159 V0) slices_S1024_S512_0)⟩] concatenates_S512_S512_S1024_d0)) slices_S1024_S1023_0)⟩] concatenates_S1_S1023_S1024_d0)) : (Proc.devRef .tc main_while0b_v176 : DevRef τ sig).ty.Contents (Elt F)) = Cert.ReferenceIdeal.Step.b229 j s := by
  unfold Cert.ReferenceIdeal.Step.b229
  rw [← al_216 h, ← al_228 h, ← al_220 h]
  try rfl

set_option maxRecDepth 8192 in
/-- Value 230 of a trip is that of the step on states. -/
theorem al_230 (h : Holds V0 s j) : (Host.dotGeneral dot_S1024x64_S64_S1024_1_0_0_n_n_n none (V0 (Proc.devRef .tc main_v9_9)) (res_main_while0b_v50 V0) : (Proc.devRef .tc main_while0b_v177 : DevRef τ sig).ty.Contents (Elt F)) = Cert.ReferenceIdeal.Step.b230 j s := by
  unfold Cert.ReferenceIdeal.Step.b230
  rw [← al_61 h, h.f_9]
  try rfl

set_option maxRecDepth 8192 in
/-- Value 231 of a trip is that of the step on states. -/
theorem al_231 (h : Holds V0 s j) : (mulf (V0 (Proc.devRef .tc main_v9_9)) (V0 (Proc.devRef .tc main_v9_9)) : (Proc.devRef .tc main_while0b_call4_v0 : DevRef τ sig).ty.Contents (Elt F)) = Cert.ReferenceIdeal.Step.b231 j s := by
  unfold Cert.ReferenceIdeal.Step.b231
  rw [h.f_9]
  try rfl

set_option maxRecDepth 8192 in
/-- Value 232 of a trip is that of the step on states. -/
theorem al_232 (h : Holds V0 s j) : (constant S_ .f32 0x00000000#32 : (Proc.devRef .tc main_while0b_call4_cst : DevRef τ sig).ty.Contents (Elt F)) = Cert.ReferenceIdeal.Step.b232 j s := by
  unfold Cert.ReferenceIdeal.Step.b232
  rfl

set_option maxRecDepth 8192 in
/-- Value 233 of a trip is that of the step on states. -/
theorem al_233 (h : Holds V0 s j) : (Host.reduceAdd (mulf (V0 (Proc.devRef .tc main_v9_9)) (V0 (Proc.devRef .tc main_v9_9))) (constant S_ .f32 0x00000000#32) reducesTo_S1024x64_S1024_d1 h_S_ : (Proc.devRef .tc main_while0b_call4_v1 : DevRef τ sig).ty.Contents (Elt F)) = Cert.ReferenceIdeal.Step.b233 j s := by
  unfold Cert.ReferenceIdeal.Step.b233
  rw [← al_231 h, ← al_232 h]
  try rfl

set_option maxRecDepth 8192 in
/-- Value 234 of a trip is that of the step on states. -/
theorem al_234 (h : Holds V0 s j) : (Host.sqrt (Host.reduceAdd (mulf (V0 (Proc.devRef .tc main_v9_9)) (V0 (Proc.devRef .tc main_v9_9))) (constant S_ .f32 0x00000000#32) reducesTo_S1024x64_S1024_d1 h_S_) : (Proc.devRef .tc main_while0b_v178 : DevRef τ sig).ty.Contents (Elt F)) = Cert.ReferenceIdeal.Step.b234 j s := by
  unfold Cert.ReferenceIdeal.Step.b234
  rw [← al_233 h]
  try rfl

set_option maxRecDepth 8192 in
/-- Value 235 of a trip is that of the step on states. -/
theorem al_235 (h : Holds V0 s j) : (mulf (res_main_while0b_v50 V0) (res_main_while0b_v50 V0) : (Proc.devRef .tc main_while0b_call5_v0 : DevRef τ sig).ty.Contents (Elt F)) = Cert.ReferenceIdeal.Step.b235 j s := by
  unfold Cert.ReferenceIdeal.Step.b235
  rw [← al_61 h]
  try rfl

set_option maxRecDepth 8192 in
/-- Value 236 of a trip is that of the step on states. -/
theorem al_236 (h : Holds V0 s j) : (constant S_ .f32 0x00000000#32 : (Proc.devRef .tc main_while0b_call5_cst : DevRef τ sig).ty.Contents (Elt F)) = Cert.ReferenceIdeal.Step.b236 j s := by
  unfold Cert.ReferenceIdeal.Step.b236
  rfl

set_option maxRecDepth 8192 in
/-- Value 237 of a trip is that of the step on states. -/
theorem al_237 (h : Holds V0 s j) : (Host.reduceAdd (mulf (res_main_while0b_v50 V0) (res_main_while0b_v50 V0)) (constant S_ .f32 0x00000000#32) reducesTo_S64_S_d0 h_S_ : (Proc.devRef .tc main_while0b_call5_v1 : DevRef τ sig).ty.Contents (Elt F)) = Cert.ReferenceIdeal.Step.b237 j s := by
  unfold Cert.ReferenceIdeal.Step.b237
  rw [← al_235 h, ← al_236 h]
  try rfl

set_option maxRecDepth 8192 in
/-- Value 238 of a trip is that of the step on states. -/
theorem al_238 (h : Holds V0 s j) : (Host.sqrt (Host.reduceAdd (mulf (res_main_while0b_v50 V0) (res_main_while0b_v50 V0)) (constant S_ .f32 0x00000000#32) reducesTo_S64_S_d0 h_S_) : (Proc.devRef .tc main_while0b_v179 : DevRef τ sig).ty.Contents (Elt F)) = Cert.ReferenceIdeal.Step.b238 j s := by
  unfold Cert.ReferenceIdeal.Step.b238
  rw [← al_237 h]
  try rfl

set_option maxRecDepth 8192 in
/-- Value 239 of a trip is that of the step on states. -/
theorem al_239 (h : Holds V0 s j) : (broadcastInDim S1024 ![] bcast_S_S1024 (Host.sqrt (Host.reduceAdd (mulf (res_main_while0b_v50 V0) (res_main_while0b_v50 V0)) (constant S_ .f32 0x00000000#32) reducesTo_S64_S_d0 h_S_)) : (Proc.devRef .tc main_while0b_v180 : DevRef τ sig).ty.Contents (Elt F)) = Cert.ReferenceIdeal.Step.b239 j s := by
  unfold Cert.ReferenceIdeal.Step.b239
  rw [← al_238 h]
  try rfl

set_option maxRecDepth 8192 in
/-- Value 240 of a trip is that of the step on states. -/
theorem al_240 (h : Holds V0 s j) : (mulf (Host.sqrt (Host.reduceAdd (mulf (V0 (Proc.devRef .tc main_v9_9)) (V0 (Proc.devRef .tc main_v9_9))) (constant S_ .f32 0x00000000#32) reducesTo_S1024x64_S1024_d1 h_S_)) (broadcastInDim S1024 ![] bcast_S_S1024 (Host.sqrt (Host.reduceAdd (mulf (res_main_while0b_v50 V0) (res_main_while0b_v50 V0)) (constant S_ .f32 0x00000000#32) reducesTo_S64_S_d0 h_S_))) : (Proc.devRef .tc main_while0b_v181 : DevRef τ sig).ty.Contents (Elt F)) = Cert.ReferenceIdeal.Step.b240 j s := by
  unfold Cert.ReferenceIdeal.Step.b240
  rw [← al_234 h, ← al_239 h]
  try rfl

set_option maxRecDepth 8192 in
/-- Value 241 of a trip is that of the step on states. -/
theorem al_241 (h : Holds V0 s j) : (constant S_ .f32 0x322BCC77#32 : (Proc.devRef .tc main_while0b_cst_60 : DevRef τ sig).ty.Contents (Elt F)) = Cert.ReferenceIdeal.Step.b241 j s := by
  unfold Cert.ReferenceIdeal.Step.b241
  rfl

set_option maxRecDepth 8192 in
/-- Value 242 of a trip is that of the step on states. -/
theorem al_242 (h : Holds V0 s j) : (broadcastInDim S1024 ![] bcast_S_S1024 (constant S_ .f32 0x322BCC77#32) : (Proc.devRef .tc main_while0b_v182 : DevRef τ sig).ty.Contents (Elt F)) = Cert.ReferenceIdeal.Step.b242 j s := by
  unfold Cert.ReferenceIdeal.Step.b242
  rw [← al_241 h]
  try rfl

set_option maxRecDepth 8192 in
/-- Value 243 of a trip is that of the step on states. -/
theorem al_243 (h : Holds V0 s j) : (addf (mulf (Host.sqrt (Host.reduceAdd (mulf (V0 (Proc.devRef .tc main_v9_9)) (V0 (Proc.devRef .tc main_v9_9))) (constant S_ .f32 0x00000000#32) reducesTo_S1024x64_S1024_d1 h_S_)) (broadcastInDim S1024 ![] bcast_S_S1024 (Host.sqrt (Host.reduceAdd (mulf (res_main_while0b_v50 V0) (res_main_while0b_v50 V0)) (constant S_ .f32 0x00000000#32) reducesTo_S64_S_d0 h_S_)))) (broadcastInDim S1024 ![] bcast_S_S1024 (constant S_ .f32 0x322BCC77#32)) : (Proc.devRef .tc main_while0b_v183 : DevRef τ sig).ty.Contents (Elt F)) = Cert.ReferenceIdeal.Step.b243 j s := by
  unfold Cert.ReferenceIdeal.Step.b243
  rw [← al_240 h, ← al_242 h]
  try rfl

set_option maxRecDepth 8192 in
/-- Value 244 of a trip is that of the step on states. -/
theorem al_244 (h : Holds V0 s j) : (Host.divf (Host.dotGeneral dot_S1024x64_S64_S1024_1_0_0_n_n_n none (V0 (Proc.devRef .tc main_v9_9)) (res_main_while0b_v50 V0)) (addf (mulf (Host.sqrt (Host.reduceAdd (mulf (V0 (Proc.devRef .tc main_v9_9)) (V0 (Proc.devRef .tc main_v9_9))) (constant S_ .f32 0x00000000#32) reducesTo_S1024x64_S1024_d1 h_S_)) (broadcastInDim S1024 ![] bcast_S_S1024 (Host.sqrt (Host.reduceAdd (mulf (res_main_while0b_v50 V0) (res_main_while0b_v50 V0)) (constant S_ .f32 0x00000000#32) reducesTo_S64_S_d0 h_S_)))) (broadcastInDim S1024 ![] bcast_S_S1024 (constant S_ .f32 0x322BCC77#32))) : (Proc.devRef .tc main_while0b_v184 : DevRef τ sig).ty.Contents (Elt F)) = Cert.ReferenceIdeal.Step.b244 j s := by
  unfold Cert.ReferenceIdeal.Step.b244
  rw [← al_230 h, ← al_243 h]
  try rfl

set_option maxRecDepth 8192 in
/-- Value 245 of a trip is that of the step on states. -/
theorem al_245 (h : Holds V0 s j) : (broadcastInDim S1024 ![] bcast_S_S1024 (addf (constant S_ .f32 0x3F800000#32) (select (cmpf .une (res_main_while0b_call2_v1 V0) (res_main_while0b_call2_v1 V0)) (addf (res_main_while0b_v52 V0) (res_main_while0b_call2_cst V0)) (addf (maximumf (res_main_while0b_v52 V0) (res_main_while0b_call2_cst V0)) (Host.log1p (Host.exp (Host.negf (Host.absf (res_main_while0b_call2_v1 V0)))))))) : (Proc.devRef .tc main_while0b_v185 : DevRef τ sig).ty.Contents (Elt F)) = Cert.ReferenceIdeal.Step.b245 j s := by
  unfold Cert.ReferenceIdeal.Step.b245
  rw [← al_76 h]
  try rfl

set_option maxRecDepth 8192 in
/-- Value 246 of a trip is that of the step on states. -/
theorem al_246 (h : Holds V0 s j) : (res_main_while0b_v186 V0 : (Proc.devRef .tc main_while0b_v186 : DevRef τ sig).ty.Contents (Elt F)) = Cert.ReferenceIdeal.Step.b246 j s := by
  unfold res_main_while0b_v186 Cert.ReferenceIdeal.Step.b246
  rw [← al_245 h, ← al_244 h]
  try rfl

set_option maxRecDepth 8192 in
/-- Value 247 of a trip is that of the step on states. -/
theorem al_247 (h : Holds V0 s j) : (constant S_ .f32 0xFF800000#32 : (Proc.devRef .tc main_while0b_cst_61 : DevRef τ sig).ty.Contents (Elt F)) = Cert.ReferenceIdeal.Step.b247 j s := by
  unfold Cert.ReferenceIdeal.Step.b247
  rfl

set_option maxRecDepth 8192 in
/-- Value 248 of a trip is that of the step on states. -/
theorem al_248 (h : Holds V0 s j) : (Host.reduce FloatOps.maximumf (res_main_while0b_v186 V0) (constant S_ .f32 0xFF800000#32) reducesTo_S1024_S_d0 h_S_ : (Proc.devRef .tc main_while0b_v187 : DevRef τ sig).ty.Contents (Elt F)) = Cert.ReferenceIdeal.Step.b248 j s := by
  unfold Cert.ReferenceIdeal.Step.b248
  rw [← al_246 h, ← al_247 h]
  try rfl

set_option maxRecDepth 8192 in
/-- Value 249 of a trip is that of the step on states. -/
theorem al_249 (h : Holds V0 s j) : (constant S_ .f32 0xFF800000#32 : (Proc.devRef .tc main_while0b_cst_62 : DevRef τ sig).ty.Contents (Elt F)) = Cert.ReferenceIdeal.Step.b249 j s := by
  unfold Cert.ReferenceIdeal.Step.b249
  rfl

set_option maxRecDepth 8192 in
/-- Value 250 of a trip is that of the step on states. -/
theorem al_250 (h : Holds V0 s j) : (maximumf (constant S_ .f32 0xFF800000#32) (Host.reduce FloatOps.maximumf (res_main_while0b_v186 V0) (constant S_ .f32 0xFF800000#32) reducesTo_S1024_S_d0 h_S_) : (Proc.devRef .tc main_while0b_v188 : DevRef τ sig).ty.Contents (Elt F)) = Cert.ReferenceIdeal.Step.b250 j s := by
  unfold Cert.ReferenceIdeal.Step.b250
  rw [← al_249 h, ← al_248 h]
  try rfl

set_option maxRecDepth 8192 in
/-- Value 251 of a trip is that of the step on states. -/
theorem al_251 (h : Holds V0 s j) : (broadcastInDim S1 ![] bcast_S_S1 (maximumf (constant S_ .f32 0xFF800000#32) (Host.reduce FloatOps.maximumf (res_main_while0b_v186 V0) (constant S_ .f32 0xFF800000#32) reducesTo_S1024_S_d0 h_S_)) : (Proc.devRef .tc main_while0b_v189 : DevRef τ sig).ty.Contents (Elt F)) = Cert.ReferenceIdeal.Step.b251 j s := by
  unfold Cert.ReferenceIdeal.Step.b251
  rw [← al_250 h]
  try rfl

set_option maxRecDepth 8192 in
/-- Value 252 of a trip is that of the step on states. -/
theorem al_252 (h : Holds V0 s j) : (broadcastInDim S1024 ![0] bcast_S1_S1024_0 (broadcastInDim S1 ![] bcast_S_S1 (maximumf (constant S_ .f32 0xFF800000#32) (Host.reduce FloatOps.maximumf (res_main_while0b_v186 V0) (constant S_ .f32 0xFF800000#32) reducesTo_S1024_S_d0 h_S_))) : (Proc.devRef .tc main_while0b_v190 : DevRef τ sig).ty.Contents (Elt F)) = Cert.ReferenceIdeal.Step.b252 j s := by
  unfold Cert.ReferenceIdeal.Step.b252
  rw [← al_251 h]
  try rfl

set_option maxRecDepth 8192 in
/-- Value 253 of a trip is that of the step on states. -/
theorem al_253 (h : Holds V0 s j) : (subf (res_main_while0b_v186 V0) (broadcastInDim S1024 ![0] bcast_S1_S1024_0 (broadcastInDim S1 ![] bcast_S_S1 (maximumf (constant S_ .f32 0xFF800000#32) (Host.reduce FloatOps.maximumf (res_main_while0b_v186 V0) (constant S_ .f32 0xFF800000#32) reducesTo_S1024_S_d0 h_S_)))) : (Proc.devRef .tc main_while0b_v191 : DevRef τ sig).ty.Contents (Elt F)) = Cert.ReferenceIdeal.Step.b253 j s := by
  unfold Cert.ReferenceIdeal.Step.b253
  rw [← al_246 h, ← al_252 h]
  try rfl

set_option maxRecDepth 8192 in
/-- Value 254 of a trip is that of the step on states. -/
theorem al_254 (h : Holds V0 s j) : (res_main_while0b_v192 V0 : (Proc.devRef .tc main_while0b_v192 : DevRef τ sig).ty.Contents (Elt F)) = Cert.ReferenceIdeal.Step.b254 j s := by
  unfold res_main_while0b_v192 Cert.ReferenceIdeal.Step.b254
  rw [← al_253 h]
  try rfl

set_option maxRecDepth 8192 in
/-- Value 255 of a trip is that of the step on states. -/
theorem al_255 (h : Holds V0 s j) : (constant S_ .f32 0x00000000#32 : (Proc.devRef .tc main_while0b_cst_63 : DevRef τ sig).ty.Contents (Elt F)) = Cert.ReferenceIdeal.Step.b255 j s := by
  unfold Cert.ReferenceIdeal.Step.b255
  rfl

set_option maxRecDepth 8192 in
/-- Value 256 of a trip is that of the step on states. -/
theorem al_256 (h : Holds V0 s j) : (Host.reduceAdd (res_main_while0b_v192 V0) (constant S_ .f32 0x00000000#32) reducesTo_S1024_S_d0 h_S_ : (Proc.devRef .tc main_while0b_v193 : DevRef τ sig).ty.Contents (Elt F)) = Cert.ReferenceIdeal.Step.b256 j s := by
  unfold Cert.ReferenceIdeal.Step.b256
  rw [← al_254 h, ← al_255 h]
  try rfl

set_option maxRecDepth 8192 in
/-- Value 257 of a trip is that of the step on states. -/
theorem al_257 (h : Holds V0 s j) : (broadcastInDim S1 ![] bcast_S_S1 (Host.reduceAdd (res_main_while0b_v192 V0) (constant S_ .f32 0x00000000#32) reducesTo_S1024_S_d0 h_S_) : (Proc.devRef .tc main_while0b_v194 : DevRef τ sig).ty.Contents (Elt F)) = Cert.ReferenceIdeal.Step.b257 j s := by
  unfold Cert.ReferenceIdeal.Step.b257
  rw [← al_256 h]
  try rfl

set_option maxRecDepth 8192 in
/-- Value 258 of a trip is that of the step on states. -/
theorem al_258 (h : Holds V0 s j) : (broadcastInDim S1024 ![0] bcast_S1_S1024_0 (broadcastInDim S1 ![] bcast_S_S1 (Host.reduceAdd (res_main_while0b_v192 V0) (constant S_ .f32 0x00000000#32) reducesTo_S1024_S_d0 h_S_)) : (Proc.devRef .tc main_while0b_v195 : DevRef τ sig).ty.Contents (Elt F)) = Cert.ReferenceIdeal.Step.b258 j s := by
  unfold Cert.ReferenceIdeal.Step.b258
  rw [← al_257 h]
  try rfl

set_option maxRecDepth 8192 in
/-- Value 259 of a trip is that of the step on states. -/
theorem al_259 (h : Holds V0 s j) : (Host.divf (res_main_while0b_v192 V0) (broadcastInDim S1024 ![0] bcast_S1_S1024_0 (broadcastInDim S1 ![] bcast_S_S1 (Host.reduceAdd (res_main_while0b_v192 V0) (constant S_ .f32 0x00000000#32) reducesTo_S1024_S_d0 h_S_))) : (Proc.devRef .tc main_while0b_v196 : DevRef τ sig).ty.Contents (Elt F)) = Cert.ReferenceIdeal.Step.b259 j s := by
  unfold Cert.ReferenceIdeal.Step.b259
  rw [← al_254 h, ← al_258 h]
  try rfl

set_option maxRecDepth 8192 in
/-- Value 260 of a trip is that of the step on states. -/
theorem al_260 (h : Holds V0 s j) : (broadcastInDim S1024 ![] bcast_S_S1024 (res_main_while0b_v75 V0) : (Proc.devRef .tc main_while0b_v197 : DevRef τ sig).ty.Contents (Elt F)) = Cert.ReferenceIdeal.Step.b260 j s := by
  unfold Cert.ReferenceIdeal.Step.b260
  rw [← al_103 h]
  try rfl

set_option maxRecDepth 8192 in
/-- Value 261 of a trip is that of the step on states. -/
theorem al_261 (h : Holds V0 s j) : (mulf (broadcastInDim S1024 ![] bcast_S_S1024 (res_main_while0b_v75 V0)) (Host.scatter scatter_S1024_S1024x1_S1024_n_0_0_1 (fun _ b => b) (broadcastInDim S1024 ![] bcast_S_S1024 (constant S_ .f32 0x00000000#32)) (broadcastInDim S1024x1 ![0] bcast_S1024_S1024x1_0 (select (cmpi .slt (res_main_while0b_v115 V0) (broadcastInDim S1024 ![] bcast_S_S1024 (constantI S_ 32 0#32))) (addi (res_main_while0b_v115 V0) (broadcastInDim S1024 ![] bcast_S_S1024 (constantI S_ 32 1024#32))) (res_main_while0b_v115 V0))) (mulf (subf (broadcastInDim S1024 ![] bcast_S_S1024 (constant S_ .f32 0x3F800000#32)) (res_main_while0b_v122 V0)) (concatenate S1024 0 [⟨S1, (broadcastInDim S1 ![] bcast_S_S1 (constant S_ .f32 0x3F800000#32))⟩, ⟨S1023, (extractStridedSlice S1023 ![0] (mulf (res_main_while0b_v159 V0) (concatenate S1024 0 [⟨S512, (broadcastInDim S512 ![] bcast_S_S512 (constant S_ .f32 0x3F800000#32))⟩, ⟨S512, (extractStridedSlice S512 ![0] (res_main_while0b_v159 V0) slices_S1024_S512_0)⟩] concatenates_S512_S512_S1024_d0)) slices_S1024_S1023_0)⟩] concatenates_S1_S1023_S1024_d0))) : (Proc.devRef .tc main_while0b_v198 : DevRef τ sig).ty.Contents (Elt F)) = Cert.ReferenceIdeal.Step.b261 j s := by
  unfold Cert.ReferenceIdeal.Step.b261
  rw [← al_260 h, ← al_229 h]
  try rfl

set_option maxRecDepth 8192 in
/-- Value 262 of a trip is that of the step on states. -/
theorem al_262 (h : Holds V0 s j) : (constant S_ .f32 0x3F800000#32 : (Proc.devRef .tc main_while0b_cst_64 : DevRef τ sig).ty.Contents (Elt F)) = Cert.ReferenceIdeal.Step.b262 j s := by
  unfold Cert.ReferenceIdeal.Step.b262
  rfl

set_option maxRecDepth 8192 in
/-- Value 263 of a trip is that of the step on states. -/
theorem al_263 (h : Holds V0 s j) : (subf (constant S_ .f32 0x3F800000#32) (res_main_while0b_v75 V0) : (Proc.devRef .tc main_while0b_v199 : DevRef τ sig).ty.Contents (Elt F)) = Cert.ReferenceIdeal.Step.b263 j s := by
  unfold Cert.ReferenceIdeal.Step.b263
  rw [← al_262 h, ← al_103 h]
  try rfl

set_option maxRecDepth 8192 in
/-- Value 264 of a trip is that of the step on states. -/
theorem al_264 (h : Holds V0 s j) : (broadcastInDim S1024 ![] bcast_S_S1024 (subf (constant S_ .f32 0x3F800000#32) (res_main_while0b_v75 V0)) : (Proc.devRef .tc main_while0b_v200 : DevRef τ sig).ty.Contents (Elt F)) = Cert.ReferenceIdeal.Step.b264 j s := by
  unfold Cert.ReferenceIdeal.Step.b264
  rw [← al_263 h]
  try rfl

set_option maxRecDepth 8192 in
/-- Value 265 of a trip is that of the step on states. -/
theorem al_265 (h : Holds V0 s j) : (mulf (broadcastInDim S1024 ![] bcast_S_S1024 (subf (constant S_ .f32 0x3F800000#32) (res_main_while0b_v75 V0))) (Host.divf (res_main_while0b_v192 V0) (broadcastInDim S1024 ![0] bcast_S1_S1024_0 (broadcastInDim S1 ![] bcast_S_S1 (Host.reduceAdd (res_main_while0b_v192 V0) (constant S_ .f32 0x00000000#32) reducesTo_S1024_S_d0 h_S_)))) : (Proc.devRef .tc main_while0b_v201 : DevRef τ sig).ty.Contents (Elt F)) = Cert.ReferenceIdeal.Step.b265 j s := by
  unfold Cert.ReferenceIdeal.Step.b265
  rw [← al_264 h, ← al_259 h]
  try rfl

set_option maxRecDepth 8192 in
/-- Value 266 of a trip is that of the step on states. -/
theorem al_266 (h : Holds V0 s j) : (addf (mulf (broadcastInDim S1024 ![] bcast_S_S1024 (res_main_while0b_v75 V0)) (Host.scatter scatter_S1024_S1024x1_S1024_n_0_0_1 (fun _ b => b) (broadcastInDim S1024 ![] bcast_S_S1024 (constant S_ .f32 0x00000000#32)) (broadcastInDim S1024x1 ![0] bcast_S1024_S1024x1_0 (select (cmpi .slt (res_main_while0b_v115 V0) (broadcastInDim S1024 ![] bcast_S_S1024 (constantI S_ 32 0#32))) (addi (res_main_while0b_v115 V0) (broadcastInDim S1024 ![] bcast_S_S1024 (constantI S_ 32 1024#32))) (res_main_while0b_v115 V0))) (mulf (subf (broadcastInDim S1024 ![] bcast_S_S1024 (constant S_ .f32 0x3F800000#32)) (res_main_while0b_v122 V0)) (concatenate S1024 0 [⟨S1, (broadcastInDim S1 ![] bcast_S_S1 (constant S_ .f32 0x3F800000#32))⟩, ⟨S1023, (extractStridedSlice S1023 ![0] (mulf (res_main_while0b_v159 V0) (concatenate S1024 0 [⟨S512, (broadcastInDim S512 ![] bcast_S_S512 (constant S_ .f32 0x3F800000#32))⟩, ⟨S512, (extractStridedSlice S512 ![0] (res_main_while0b_v159 V0) slices_S1024_S512_0)⟩] concatenates_S512_S512_S1024_d0)) slices_S1024_S1023_0)⟩] concatenates_S1_S1023_S1024_d0)))) (mulf (broadcastInDim S1024 ![] bcast_S_S1024 (subf (constant S_ .f32 0x3F800000#32) (res_main_while0b_v75 V0))) (Host.divf (res_main_while0b_v192 V0) (broadcastInDim S1024 ![0] bcast_S1_S1024_0 (broadcastInDim S1 ![] bcast_S_S1 (Host.reduceAdd (res_main_while0b_v192 V0) (constant S_ .f32 0x00000000#32) reducesTo_S1024_S_d0 h_S_))))) : (Proc.devRef .tc main_while0b_v202 : DevRef τ sig).ty.Contents (Elt F)) = Cert.ReferenceIdeal.Step.b266 j s := by
  unfold Cert.ReferenceIdeal.Step.b266
  rw [← al_261 h, ← al_265 h]
  try rfl

set_option maxRecDepth 8192 in
/-- Value 267 of a trip is that of the step on states. -/
theorem al_267 (h : Holds V0 s j) : (broadcastInDim S1024 ![] bcast_S_S1024 (Host.divf (constant S_ .f32 0x3F800000#32) (addf (constant S_ .f32 0x3F800000#32) (Host.exp (Host.negf (shapeCast S_ (extractStridedSlice S1 ![458] (res_main_while0b_v43 V0) slices_S471_S1_458) shapeCasts_S1_S_))))) : (Proc.devRef .tc main_while0b_v203 : DevRef τ sig).ty.Contents (Elt F)) = Cert.ReferenceIdeal.Step.b267 j s := by
  unfold Cert.ReferenceIdeal.Step.b267
  rw [← al_111 h]
  try rfl

set_option maxRecDepth 8192 in
/-- Value 268 of a trip is that of the step on states. -/
theorem al_268 (h : Holds V0 s j) : (res_main_while0b_v204 V0 : (Proc.devRef .tc main_while0b_v204 : DevRef τ sig).ty.Contents (Elt F)) = Cert.ReferenceIdeal.Step.b268 j s := by
  unfold res_main_while0b_v204 Cert.ReferenceIdeal.Step.b268
  rw [← al_267 h, ← al_266 h]
  try rfl

set_option maxRecDepth 8192 in
/-- Value 269 of a trip is that of the step on states. -/
theorem al_269 (h : Holds V0 s j) : (broadcastInDim S1024x1 ![0] bcast_S1024_S1024x1_0 (res_main_while0b_v204 V0) : (Proc.devRef .tc main_while0b_v205 : DevRef τ sig).ty.Contents (Elt F)) = Cert.ReferenceIdeal.Step.b269 j s := by
  unfold Cert.ReferenceIdeal.Step.b269
  rw [← al_268 h]
  try rfl

set_option maxRecDepth 8192 in
/-- Value 270 of a trip is that of the step on states. -/
theorem al_270 (h : Holds V0 s j) : (broadcastInDim S1x64 ![1] bcast_S64_S1x64_1 (Host.divf (broadcastInDim S64 ![] bcast_S_S64 (constant S_ .f32 0x3F800000#32)) (addf (broadcastInDim S64 ![] bcast_S_S64 (constant S_ .f32 0x3F800000#32)) (Host.exp (Host.negf (extractStridedSlice S64 ![325] (res_main_while0b_v43 V0) slices_S471_S64_325))))) : (Proc.devRef .tc main_while0b_v206 : DevRef τ sig).ty.Contents (Elt F)) = Cert.ReferenceIdeal.Step.b270 j s := by
  unfold Cert.ReferenceIdeal.Step.b270
  rw [← al_85 h]
  try rfl

set_option maxRecDepth 8192 in
/-- Value 271 of a trip is that of the step on states. -/
theorem al_271 (h : Holds V0 s j) : (broadcastInDim S1024x64 ![0, 1] bcast_S1024x1_S1024x64_0_1 (broadcastInDim S1024x1 ![0] bcast_S1024_S1024x1_0 (res_main_while0b_v204 V0)) : (Proc.devRef .tc main_while0b_v207 : DevRef τ sig).ty.Contents (Elt F)) = Cert.ReferenceIdeal.Step.b271 j s := by
  unfold Cert.ReferenceIdeal.Step.b271
  rw [← al_269 h]
  try rfl

set_option maxRecDepth 8192 in
/-- Value 272 of a trip is that of the step on states. -/
theorem al_272 (h : Holds V0 s j) : (broadcastInDim S1024x64 ![0, 1] bcast_S1x64_S1024x64_0_1 (broadcastInDim S1x64 ![1] bcast_S64_S1x64_1 (Host.divf (broadcastInDim S64 ![] bcast_S_S64 (constant S_ .f32 0x3F800000#32)) (addf (broadcastInDim S64 ![] bcast_S_S64 (constant S_ .f32 0x3F800000#32)) (Host.exp (Host.negf (extractStridedSlice S64 ![325] (res_main_while0b_v43 V0) slices_S471_S64_325)))))) : (Proc.devRef .tc main_while0b_v208 : DevRef τ sig).ty.Contents (Elt F)) = Cert.ReferenceIdeal.Step.b272 j s := by
  unfold Cert.ReferenceIdeal.Step.b272
  rw [← al_270 h]
  try rfl

set_option maxRecDepth 8192 in
/-- Value 273 of a trip is that of the step on states. -/
theorem al_273 (h : Holds V0 s j) : (mulf (broadcastInDim S1024x64 ![0, 1] bcast_S1024x1_S1024x64_0_1 (broadcastInDim S1024x1 ![0] bcast_S1024_S1024x1_0 (res_main_while0b_v204 V0))) (broadcastInDim S1024x64 ![0, 1] bcast_S1x64_S1024x64_0_1 (broadcastInDim S1x64 ![1] bcast_S64_S1x64_1 (Host.divf (broadcastInDim S64 ![] bcast_S_S64 (constant S_ .f32 0x3F800000#32)) (addf (broadcastInDim S64 ![] bcast_S_S64 (constant S_ .f32 0x3F800000#32)) (Host.exp (Host.negf (extractStridedSlice S64 ![325] (res_main_while0b_v43 V0) slices_S471_S64_325))))))) : (Proc.devRef .tc main_while0b_v209 : DevRef τ sig).ty.Contents (Elt F)) = Cert.ReferenceIdeal.Step.b273 j s := by
  unfold Cert.ReferenceIdeal.Step.b273
  rw [← al_271 h, ← al_272 h]
  try rfl

set_option maxRecDepth 8192 in
/-- Value 274 of a trip is that of the step on states. -/
theorem al_274 (h : Holds V0 s j) : (constant S_ .f32 0x3F800000#32 : (Proc.devRef .tc main_while0b_cst_65 : DevRef τ sig).ty.Contents (Elt F)) = Cert.ReferenceIdeal.Step.b274 j s := by
  unfold Cert.ReferenceIdeal.Step.b274
  rfl

set_option maxRecDepth 8192 in
/-- Value 275 of a trip is that of the step on states. -/
theorem al_275 (h : Holds V0 s j) : (broadcastInDim S1024x64 ![] bcast_S_S1024x64 (constant S_ .f32 0x3F800000#32) : (Proc.devRef .tc main_while0b_v210 : DevRef τ sig).ty.Contents (Elt F)) = Cert.ReferenceIdeal.Step.b275 j s := by
  unfold Cert.ReferenceIdeal.Step.b275
  rw [← al_274 h]
  try rfl

set_option maxRecDepth 8192 in
/-- Value 276 of a trip is that of the step on states. -/
theorem al_276 (h : Holds V0 s j) : (subf (broadcastInDim S1024x64 ![] bcast_S_S1024x64 (constant S_ .f32 0x3F800000#32)) (mulf (broadcastInDim S1024x64 ![0, 1] bcast_S1024x1_S1024x64_0_1 (broadcastInDim S1024x1 ![0] bcast_S1024_S1024x1_0 (res_main_while0b_v204 V0))) (broadcastInDim S1024x64 ![0, 1] bcast_S1x64_S1024x64_0_1 (broadcastInDim S1x64 ![1] bcast_S64_S1x64_1 (Host.divf (broadcastInDim S64 ![] bcast_S_S64 (constant S_ .f32 0x3F800000#32)) (addf (broadcastInDim S64 ![] bcast_S_S64 (constant S_ .f32 0x3F800000#32)) (Host.exp (Host.negf (extractStridedSlice S64 ![325] (res_main_while0b_v43 V0) slices_S471_S64_325)))))))) : (Proc.devRef .tc main_while0b_v211 : DevRef τ sig).ty.Contents (Elt F)) = Cert.ReferenceIdeal.Step.b276 j s := by
  unfold Cert.ReferenceIdeal.Step.b276
  rw [← al_275 h, ← al_273 h]
  try rfl

set_option maxRecDepth 8192 in
/-- Value 277 of a trip is that of the step on states. -/
theorem al_277 (h : Holds V0 s j) : (mulf (V0 (Proc.devRef .tc main_v9_9)) (subf (broadcastInDim S1024x64 ![] bcast_S_S1024x64 (constant S_ .f32 0x3F800000#32)) (mulf (broadcastInDim S1024x64 ![0, 1] bcast_S1024x1_S1024x64_0_1 (broadcastInDim S1024x1 ![0] bcast_S1024_S1024x1_0 (res_main_while0b_v204 V0))) (broadcastInDim S1024x64 ![0, 1] bcast_S1x64_S1024x64_0_1 (broadcastInDim S1x64 ![1] bcast_S64_S1x64_1 (Host.divf (broadcastInDim S64 ![] bcast_S_S64 (constant S_ .f32 0x3F800000#32)) (addf (broadcastInDim S64 ![] bcast_S_S64 (constant S_ .f32 0x3F800000#32)) (Host.exp (Host.negf (extractStridedSlice S64 ![325] (res_main_while0b_v43 V0) slices_S471_S64_325))))))))) : (Proc.devRef .tc main_while0b_v212 : DevRef τ sig).ty.Contents (Elt F)) = Cert.ReferenceIdeal.Step.b277 j s := by
  unfold Cert.ReferenceIdeal.Step.b277
  rw [← al_276 h, h.f_9]
  try rfl

set_option maxRecDepth 8192 in
/-- Value 278 of a trip is that of the step on states. -/
theorem al_278 (h : Holds V0 s j) : (broadcastInDim S1024x1 ![0] bcast_S1024_S1024x1_0 (res_main_while0b_v204 V0) : (Proc.devRef .tc main_while0b_v213 : DevRef τ sig).ty.Contents (Elt F)) = Cert.ReferenceIdeal.Step.b278 j s := by
  unfold Cert.ReferenceIdeal.Step.b278
  rw [← al_268 h]
  try rfl

set_option maxRecDepth 8192 in
/-- Value 279 of a trip is that of the step on states. -/
theorem al_279 (h : Holds V0 s j) : (broadcastInDim S1x64 ![1] bcast_S64_S1x64_1 (extractStridedSlice S64 ![389] (res_main_while0b_v43 V0) slices_S471_S64_389) : (Proc.devRef .tc main_while0b_v214 : DevRef τ sig).ty.Contents (Elt F)) = Cert.ReferenceIdeal.Step.b279 j s := by
  unfold Cert.ReferenceIdeal.Step.b279
  rw [← al_86 h]
  try rfl

set_option maxRecDepth 8192 in
/-- Value 280 of a trip is that of the step on states. -/
theorem al_280 (h : Holds V0 s j) : (broadcastInDim S1024x64 ![0, 1] bcast_S1024x1_S1024x64_0_1 (broadcastInDim S1024x1 ![0] bcast_S1024_S1024x1_0 (res_main_while0b_v204 V0)) : (Proc.devRef .tc main_while0b_v215 : DevRef τ sig).ty.Contents (Elt F)) = Cert.ReferenceIdeal.Step.b280 j s := by
  unfold Cert.ReferenceIdeal.Step.b280
  rw [← al_278 h]
  try rfl

set_option maxRecDepth 8192 in
/-- Value 281 of a trip is that of the step on states. -/
theorem al_281 (h : Holds V0 s j) : (broadcastInDim S1024x64 ![0, 1] bcast_S1x64_S1024x64_0_1 (broadcastInDim S1x64 ![1] bcast_S64_S1x64_1 (extractStridedSlice S64 ![389] (res_main_while0b_v43 V0) slices_S471_S64_389)) : (Proc.devRef .tc main_while0b_v216 : DevRef τ sig).ty.Contents (Elt F)) = Cert.ReferenceIdeal.Step.b281 j s := by
  unfold Cert.ReferenceIdeal.Step.b281
  rw [← al_279 h]
  try rfl

set_option maxRecDepth 8192 in
/-- Value 282 of a trip is that of the step on states. -/
theorem al_282 (h : Holds V0 s j) : (mulf (broadcastInDim S1024x64 ![0, 1] bcast_S1024x1_S1024x64_0_1 (broadcastInDim S1024x1 ![0] bcast_S1024_S1024x1_0 (res_main_while0b_v204 V0))) (broadcastInDim S1024x64 ![0, 1] bcast_S1x64_S1024x64_0_1 (broadcastInDim S1x64 ![1] bcast_S64_S1x64_1 (extractStridedSlice S64 ![389] (res_main_while0b_v43 V0) slices_S471_S64_389))) : (Proc.devRef .tc main_while0b_v217 : DevRef τ sig).ty.Contents (Elt F)) = Cert.ReferenceIdeal.Step.b282 j s := by
  unfold Cert.ReferenceIdeal.Step.b282
  rw [← al_280 h, ← al_281 h]
  try rfl

set_option maxRecDepth 8192 in
/-- Value 283 of a trip is that of the step on states. -/
theorem al_283 (h : Holds V0 s j) : (res_main_while0b_v218 V0 : (Proc.devRef .tc main_while0b_v218 : DevRef τ sig).ty.Contents (Elt F)) = Cert.ReferenceIdeal.Step.b283 j s := by
  unfold res_main_while0b_v218 Cert.ReferenceIdeal.Step.b283
  rw [← al_277 h, ← al_282 h]
  try rfl

set_option maxRecDepth 8192 in
/-- Value 284 of a trip is that of the step on states. -/
theorem al_284 (h : Holds V0 s j) : (constant S_ .f32 0x00000000#32 : (Proc.devRef .tc main_while0b_cst_66 : DevRef τ sig).ty.Contents (Elt F)) = Cert.ReferenceIdeal.Step.b284 j s := by
  unfold Cert.ReferenceIdeal.Step.b284
  rfl

set_option maxRecDepth 8192 in
/-- Value 285 of a trip is that of the step on states. -/
theorem al_285 (h : Holds V0 s j) : (Host.reduceAdd (res_main_while0b_v204 V0) (constant S_ .f32 0x00000000#32) reducesTo_S1024_S_d0 h_S_ : (Proc.devRef .tc main_while0b_v219 : DevRef τ sig).ty.Contents (Elt F)) = Cert.ReferenceIdeal.Step.b285 j s := by
  unfold Cert.ReferenceIdeal.Step.b285
  rw [← al_268 h, ← al_284 h]
  try rfl

set_option maxRecDepth 8192 in
/-- Value 286 of a trip is that of the step on states. -/
theorem al_286 (h : Holds V0 s j) : (constant S_ .f32 0x3F800000#32 : (Proc.devRef .tc main_while0b_cst_67 : DevRef τ sig).ty.Contents (Elt F)) = Cert.ReferenceIdeal.Step.b286 j s := by
  unfold Cert.ReferenceIdeal.Step.b286
  rfl

set_option maxRecDepth 8192 in
/-- Value 287 of a trip is that of the step on states. -/
theorem al_287 (h : Holds V0 s j) : (subf (constant S_ .f32 0x3F800000#32) (Host.reduceAdd (res_main_while0b_v204 V0) (constant S_ .f32 0x00000000#32) reducesTo_S1024_S_d0 h_S_) : (Proc.devRef .tc main_while0b_v220 : DevRef τ sig).ty.Contents (Elt F)) = Cert.ReferenceIdeal.Step.b287 j s := by
  unfold Cert.ReferenceIdeal.Step.b287
  rw [← al_286 h, ← al_285 h]
  try rfl

set_option maxRecDepth 8192 in
/-- Value 288 of a trip is that of the step on states. -/
theorem al_288 (h : Holds V0 s j) : (broadcastInDim S1024 ![] bcast_S_S1024 (subf (constant S_ .f32 0x3F800000#32) (Host.reduceAdd (res_main_while0b_v204 V0) (constant S_ .f32 0x00000000#32) reducesTo_S1024_S_d0 h_S_)) : (Proc.devRef .tc main_while0b_v221 : DevRef τ sig).ty.Contents (Elt F)) = Cert.ReferenceIdeal.Step.b288 j s := by
  unfold Cert.ReferenceIdeal.Step.b288
  rw [← al_287 h]
  try rfl

set_option maxRecDepth 8192 in
/-- Value 289 of a trip is that of the step on states. -/
theorem al_289 (h : Holds V0 s j) : (mulf (V0 (Proc.devRef .tc main_v9_13)) (broadcastInDim S1024 ![] bcast_S_S1024 (subf (constant S_ .f32 0x3F800000#32) (Host.reduceAdd (res_main_while0b_v204 V0) (constant S_ .f32 0x00000000#32) reducesTo_S1024_S_d0 h_S_))) : (Proc.devRef .tc main_while0b_v222 : DevRef τ sig).ty.Contents (Elt F)) = Cert.ReferenceIdeal.Step.b289 j s := by
  unfold Cert.ReferenceIdeal.Step.b289
  rw [← al_288 h, h.f_13]
  try rfl

set_option maxRecDepth 8192 in
/-- Value 290 of a trip is that of the step on states. -/
theorem al_290 (h : Holds V0 s j) : (res_main_while0b_v223 V0 : (Proc.devRef .tc main_while0b_v223 : DevRef τ sig).ty.Contents (Elt F)) = Cert.ReferenceIdeal.Step.b290 j s := by
  unfold res_main_while0b_v223 Cert.ReferenceIdeal.Step.b290
  rw [← al_289 h, ← al_268 h]
  try rfl

set_option maxRecDepth 8192 in
/-- Value 291 of a trip is that of the step on states. -/
theorem al_291 (h : Holds V0 s j) : (broadcastInDim S1024x1 ![0] bcast_S1024_S1024x1_0 (res_main_while0b_v204 V0) : (Proc.devRef .tc main_while0b_v224 : DevRef τ sig).ty.Contents (Elt F)) = Cert.ReferenceIdeal.Step.b291 j s := by
  unfold Cert.ReferenceIdeal.Step.b291
  rw [← al_268 h]
  try rfl

set_option maxRecDepth 8192 in
/-- Value 292 of a trip is that of the step on states. -/
theorem al_292 (h : Holds V0 s j) : (constant S_ .f32 0x3F800000#32 : (Proc.devRef .tc main_while0b_cst_68 : DevRef τ sig).ty.Contents (Elt F)) = Cert.ReferenceIdeal.Step.b292 j s := by
  unfold Cert.ReferenceIdeal.Step.b292
  rfl

set_option maxRecDepth 8192 in
/-- Value 293 of a trip is that of the step on states. -/
theorem al_293 (h : Holds V0 s j) : (broadcastInDim S1024x1 ![] bcast_S_S1024x1 (constant S_ .f32 0x3F800000#32) : (Proc.devRef .tc main_while0b_v225 : DevRef τ sig).ty.Contents (Elt F)) = Cert.ReferenceIdeal.Step.b293 j s := by
  unfold Cert.ReferenceIdeal.Step.b293
  rw [← al_292 h]
  try rfl

set_option maxRecDepth 8192 in
/-- Value 294 of a trip is that of the step on states. -/
theorem al_294 (h : Holds V0 s j) : (subf (broadcastInDim S1024x1 ![] bcast_S_S1024x1 (constant S_ .f32 0x3F800000#32)) (broadcastInDim S1024x1 ![0] bcast_S1024_S1024x1_0 (res_main_while0b_v204 V0)) : (Proc.devRef .tc main_while0b_v226 : DevRef τ sig).ty.Contents (Elt F)) = Cert.ReferenceIdeal.Step.b294 j s := by
  unfold Cert.ReferenceIdeal.Step.b294
  rw [← al_293 h, ← al_291 h]
  try rfl

set_option maxRecDepth 8192 in
/-- Value 295 of a trip is that of the step on states. -/
theorem al_295 (h : Holds V0 s j) : (broadcastInDim S1x1024 ![1] bcast_S1024_S1x1024_1 (res_main_while0b_v204 V0) : (Proc.devRef .tc main_while0b_v227 : DevRef τ sig).ty.Contents (Elt F)) = Cert.ReferenceIdeal.Step.b295 j s := by
  unfold Cert.ReferenceIdeal.Step.b295
  rw [← al_268 h]
  try rfl

set_option maxRecDepth 8192 in
/-- Value 296 of a trip is that of the step on states. -/
theorem al_296 (h : Holds V0 s j) : (broadcastInDim S1024x1024 ![0, 1] bcast_S1024x1_S1024x1024_0_1 (subf (broadcastInDim S1024x1 ![] bcast_S_S1024x1 (constant S_ .f32 0x3F800000#32)) (broadcastInDim S1024x1 ![0] bcast_S1024_S1024x1_0 (res_main_while0b_v204 V0))) : (Proc.devRef .tc main_while0b_v228 : DevRef τ sig).ty.Contents (Elt F)) = Cert.ReferenceIdeal.Step.b296 j s := by
  unfold Cert.ReferenceIdeal.Step.b296
  rw [← al_294 h]
  try rfl

set_option maxRecDepth 8192 in
/-- Value 297 of a trip is that of the step on states. -/
theorem al_297 (h : Holds V0 s j) : (broadcastInDim S1024x1024 ![0, 1] bcast_S1x1024_S1024x1024_0_1 (broadcastInDim S1x1024 ![1] bcast_S1024_S1x1024_1 (res_main_while0b_v204 V0)) : (Proc.devRef .tc main_while0b_v229 : DevRef τ sig).ty.Contents (Elt F)) = Cert.ReferenceIdeal.Step.b297 j s := by
  unfold Cert.ReferenceIdeal.Step.b297
  rw [← al_295 h]
  try rfl

set_option maxRecDepth 8192 in
/-- Value 298 of a trip is that of the step on states. -/
theorem al_298 (h : Holds V0 s j) : (subf (broadcastInDim S1024x1024 ![0, 1] bcast_S1024x1_S1024x1024_0_1 (subf (broadcastInDim S1024x1 ![] bcast_S_S1024x1 (constant S_ .f32 0x3F800000#32)) (broadcastInDim S1024x1 ![0] bcast_S1024_S1024x1_0 (res_main_while0b_v204 V0)))) (broadcastInDim S1024x1024 ![0, 1] bcast_S1x1024_S1024x1024_0_1 (broadcastInDim S1x1024 ![1] bcast_S1024_S1x1024_1 (res_main_while0b_v204 V0))) : (Proc.devRef .tc main_while0b_v230 : DevRef τ sig).ty.Contents (Elt F)) = Cert.ReferenceIdeal.Step.b298 j s := by
  unfold Cert.ReferenceIdeal.Step.b298
  rw [← al_296 h, ← al_297 h]
  try rfl

set_option maxRecDepth 8192 in
/-- Value 299 of a trip is that of the step on states. -/
theorem al_299 (h : Holds V0 s j) : (mulf (V0 (Proc.devRef .tc main_v9_12)) (subf (broadcastInDim S1024x1024 ![0, 1] bcast_S1024x1_S1024x1024_0_1 (subf (broadcastInDim S1024x1 ![] bcast_S_S1024x1 (constant S_ .f32 0x3F800000#32)) (broadcastInDim S1024x1 ![0] bcast_S1024_S1024x1_0 (res_main_while0b_v204 V0)))) (broadcastInDim S1024x1024 ![0, 1] bcast_S1x1024_S1024x1024_0_1 (broadcastInDim S1x1024 ![1] bcast_S1024_S1x1024_1 (res_main_while0b_v204 V0)))) : (Proc.devRef .tc main_while0b_v231 : DevRef τ sig).ty.Contents (Elt F)) = Cert.ReferenceIdeal.Step.b299 j s := by
  unfold Cert.ReferenceIdeal.Step.b299
  rw [← al_298 h, h.f_12]
  try rfl

set_option maxRecDepth 8192 in
/-- Value 300 of a trip is that of the step on states. -/
theorem al_300 (h : Holds V0 s j) : (broadcastInDim S1024x1 ![0] bcast_S1024_S1024x1_0 (res_main_while0b_v204 V0) : (Proc.devRef .tc main_while0b_v232 : DevRef τ sig).ty.Contents (Elt F)) = Cert.ReferenceIdeal.Step.b300 j s := by
  unfold Cert.ReferenceIdeal.Step.b300
  rw [← al_268 h]
  try rfl

set_option maxRecDepth 8192 in
/-- Value 301 of a trip is that of the step on states. -/
theorem al_301 (h : Holds V0 s j) : (broadcastInDim S1x1024 ![1] bcast_S1024_S1x1024_1 (res_main_while0b_v223 V0) : (Proc.devRef .tc main_while0b_v233 : DevRef τ sig).ty.Contents (Elt F)) = Cert.ReferenceIdeal.Step.b301 j s := by
  unfold Cert.ReferenceIdeal.Step.b301
  rw [← al_290 h]
  try rfl

set_option maxRecDepth 8192 in
/-- Value 302 of a trip is that of the step on states. -/
theorem al_302 (h : Holds V0 s j) : (broadcastInDim S1024x1024 ![0, 1] bcast_S1024x1_S1024x1024_0_1 (broadcastInDim S1024x1 ![0] bcast_S1024_S1024x1_0 (res_main_while0b_v204 V0)) : (Proc.devRef .tc main_while0b_v234 : DevRef τ sig).ty.Contents (Elt F)) = Cert.ReferenceIdeal.Step.b302 j s := by
  unfold Cert.ReferenceIdeal.Step.b302
  rw [← al_300 h]
  try rfl

set_option maxRecDepth 8192 in
/-- Value 303 of a trip is that of the step on states. -/
theorem al_303 (h : Holds V0 s j) : (broadcastInDim S1024x1024 ![0, 1] bcast_S1x1024_S1024x1024_0_1 (broadcastInDim S1x1024 ![1] bcast_S1024_S1x1024_1 (res_main_while0b_v223 V0)) : (Proc.devRef .tc main_while0b_v235 : DevRef τ sig).ty.Contents (Elt F)) = Cert.ReferenceIdeal.Step.b303 j s := by
  unfold Cert.ReferenceIdeal.Step.b303
  rw [← al_301 h]
  try rfl

set_option maxRecDepth 8192 in
/-- Value 304 of a trip is that of the step on states. -/
theorem al_304 (h : Holds V0 s j) : (mulf (broadcastInDim S1024x1024 ![0, 1] bcast_S1024x1_S1024x1024_0_1 (broadcastInDim S1024x1 ![0] bcast_S1024_S1024x1_0 (res_main_while0b_v204 V0))) (broadcastInDim S1024x1024 ![0, 1] bcast_S1x1024_S1024x1024_0_1 (broadcastInDim S1x1024 ![1] bcast_S1024_S1x1024_1 (res_main_while0b_v223 V0))) : (Proc.devRef .tc main_while0b_v236 : DevRef τ sig).ty.Contents (Elt F)) = Cert.ReferenceIdeal.Step.b304 j s := by
  unfold Cert.ReferenceIdeal.Step.b304
  rw [← al_302 h, ← al_303 h]
  try rfl

set_option maxRecDepth 8192 in
/-- Value 305 of a trip is that of the step on states. -/
theorem al_305 (h : Holds V0 s j) : (res_main_while0b_v237 V0 : (Proc.devRef .tc main_while0b_v237 : DevRef τ sig).ty.Contents (Elt F)) = Cert.ReferenceIdeal.Step.b305 j s := by
  unfold res_main_while0b_v237 Cert.ReferenceIdeal.Step.b305
  rw [← al_299 h, ← al_304 h]
  try rfl

set_option maxRecDepth 8192 in
/-- Value 306 of a trip is that of the step on states. -/
theorem al_306 (h : Holds V0 s j) : (Host.dotGeneral dot_S4x1024_S1024x1024_S4x1024_1_0_0_1_n_n none (V0 (Proc.devRef .tc main_v9_14)) (res_main_while0b_v237 V0) : (Proc.devRef .tc main_while0b_v238 : DevRef τ sig).ty.Contents (Elt F)) = Cert.ReferenceIdeal.Step.b306 j s := by
  unfold Cert.ReferenceIdeal.Step.b306
  rw [← al_305 h, h.f_14]
  try rfl

set_option maxRecDepth 8192 in
/-- Value 307 of a trip is that of the step on states. -/
theorem al_307 (h : Holds V0 s j) : (transpose S1024x1024 [1, 0] (res_main_while0b_v237 V0) transposes_S1024x1024_S1024x1024_1_0 : (Proc.devRef .tc main_while0b_v239 : DevRef τ sig).ty.Contents (Elt F)) = Cert.ReferenceIdeal.Step.b307 j s := by
  unfold Cert.ReferenceIdeal.Step.b307
  rw [← al_305 h]
  try rfl

set_option maxRecDepth 8192 in
/-- Value 308 of a trip is that of the step on states. -/
theorem al_308 (h : Holds V0 s j) : (Host.dotGeneral dot_S4x1024_S1024x1024_S4x1024_1_0_0_1_n_n none (V0 (Proc.devRef .tc main_v9_14)) (transpose S1024x1024 [1, 0] (res_main_while0b_v237 V0) transposes_S1024x1024_S1024x1024_1_0) : (Proc.devRef .tc main_while0b_v240 : DevRef τ sig).ty.Contents (Elt F)) = Cert.ReferenceIdeal.Step.b308 j s := by
  unfold Cert.ReferenceIdeal.Step.b308
  rw [← al_307 h, h.f_14]
  try rfl

set_option maxRecDepth 8192 in
/-- Value 309 of a trip is that of the step on states. -/
theorem al_309 (h : Holds V0 s j) : (Host.dotGeneral dot_S1024x64_S4x64_S1024x4_1_1_0_0_n_n none (res_main_while0b_v218 V0) (res_main_while0b_v45 V0) : (Proc.devRef .tc main_while0b_v241 : DevRef τ sig).ty.Contents (Elt F)) = Cert.ReferenceIdeal.Step.b309 j s := by
  unfold Cert.ReferenceIdeal.Step.b309
  rw [← al_283 h, ← al_42 h]
  try rfl

set_option maxRecDepth 8192 in
/-- Value 310 of a trip is that of the step on states. -/
theorem al_310 (h : Holds V0 s j) : (mulf (res_main_while0b_v218 V0) (res_main_while0b_v218 V0) : (Proc.devRef .tc main_while0b_call6_v0 : DevRef τ sig).ty.Contents (Elt F)) = Cert.ReferenceIdeal.Step.b310 j s := by
  unfold Cert.ReferenceIdeal.Step.b310
  rw [← al_283 h]
  try rfl

set_option maxRecDepth 8192 in
/-- Value 311 of a trip is that of the step on states. -/
theorem al_311 (h : Holds V0 s j) : (constant S_ .f32 0x00000000#32 : (Proc.devRef .tc main_while0b_call6_cst : DevRef τ sig).ty.Contents (Elt F)) = Cert.ReferenceIdeal.Step.b311 j s := by
  unfold Cert.ReferenceIdeal.Step.b311
  rfl

set_option maxRecDepth 8192 in
/-- Value 312 of a trip is that of the step on states. -/
theorem al_312 (h : Holds V0 s j) : (Host.reduceAdd (mulf (res_main_while0b_v218 V0) (res_main_while0b_v218 V0)) (constant S_ .f32 0x00000000#32) reducesTo_S1024x64_S1024_d1 h_S_ : (Proc.devRef .tc main_while0b_call6_v1 : DevRef τ sig).ty.Contents (Elt F)) = Cert.ReferenceIdeal.Step.b312 j s := by
  unfold Cert.ReferenceIdeal.Step.b312
  rw [← al_310 h, ← al_311 h]
  try rfl

set_option maxRecDepth 8192 in
/-- Value 313 of a trip is that of the step on states. -/
theorem al_313 (h : Holds V0 s j) : (Host.sqrt (Host.reduceAdd (mulf (res_main_while0b_v218 V0) (res_main_while0b_v218 V0)) (constant S_ .f32 0x00000000#32) reducesTo_S1024x64_S1024_d1 h_S_) : (Proc.devRef .tc main_while0b_v242 : DevRef τ sig).ty.Contents (Elt F)) = Cert.ReferenceIdeal.Step.b313 j s := by
  unfold Cert.ReferenceIdeal.Step.b313
  rw [← al_312 h]
  try rfl

set_option maxRecDepth 8192 in
/-- Value 314 of a trip is that of the step on states. -/
theorem al_314 (h : Holds V0 s j) : (mulf (res_main_while0b_v45 V0) (res_main_while0b_v45 V0) : (Proc.devRef .tc main_while0b_call7_v0 : DevRef τ sig).ty.Contents (Elt F)) = Cert.ReferenceIdeal.Step.b314 j s := by
  unfold Cert.ReferenceIdeal.Step.b314
  rw [← al_42 h]
  try rfl

set_option maxRecDepth 8192 in
/-- Value 315 of a trip is that of the step on states. -/
theorem al_315 (h : Holds V0 s j) : (constant S_ .f32 0x00000000#32 : (Proc.devRef .tc main_while0b_call7_cst : DevRef τ sig).ty.Contents (Elt F)) = Cert.ReferenceIdeal.Step.b315 j s := by
  unfold Cert.ReferenceIdeal.Step.b315
  rfl

set_option maxRecDepth 8192 in
/-- Value 316 of a trip is that of the step on states. -/
theorem al_316 (h : Holds V0 s j) : (Host.reduceAdd (mulf (res_main_while0b_v45 V0) (res_main_while0b_v45 V0)) (constant S_ .f32 0x00000000#32) reducesTo_S4x64_S4_d1 h_S_ : (Proc.devRef .tc main_while0b_call7_v1 : DevRef τ sig).ty.Contents (Elt F)) = Cert.ReferenceIdeal.Step.b316 j s := by
  unfold Cert.ReferenceIdeal.Step.b316
  rw [← al_314 h, ← al_315 h]
  try rfl

set_option maxRecDepth 8192 in
/-- Value 317 of a trip is that of the step on states. -/
theorem al_317 (h : Holds V0 s j) : (Host.sqrt (Host.reduceAdd (mulf (res_main_while0b_v45 V0) (res_main_while0b_v45 V0)) (constant S_ .f32 0x00000000#32) reducesTo_S4x64_S4_d1 h_S_) : (Proc.devRef .tc main_while0b_v243 : DevRef τ sig).ty.Contents (Elt F)) = Cert.ReferenceIdeal.Step.b317 j s := by
  unfold Cert.ReferenceIdeal.Step.b317
  rw [← al_316 h]
  try rfl

set_option maxRecDepth 8192 in
/-- Value 318 of a trip is that of the step on states. -/
theorem al_318 (h : Holds V0 s j) : (broadcastInDim S1x1024 ![1] bcast_S1024_S1x1024_1 (Host.sqrt (Host.reduceAdd (mulf (res_main_while0b_v218 V0) (res_main_while0b_v218 V0)) (constant S_ .f32 0x00000000#32) reducesTo_S1024x64_S1024_d1 h_S_)) : (Proc.devRef .tc main_while0b_v244 : DevRef τ sig).ty.Contents (Elt F)) = Cert.ReferenceIdeal.Step.b318 j s := by
  unfold Cert.ReferenceIdeal.Step.b318
  rw [← al_313 h]
  try rfl

set_option maxRecDepth 8192 in
/-- Value 319 of a trip is that of the step on states. -/
theorem al_319 (h : Holds V0 s j) : (broadcastInDim S4x1 ![0] bcast_S4_S4x1_0 (Host.sqrt (Host.reduceAdd (mulf (res_main_while0b_v45 V0) (res_main_while0b_v45 V0)) (constant S_ .f32 0x00000000#32) reducesTo_S4x64_S4_d1 h_S_)) : (Proc.devRef .tc main_while0b_v245 : DevRef τ sig).ty.Contents (Elt F)) = Cert.ReferenceIdeal.Step.b319 j s := by
  unfold Cert.ReferenceIdeal.Step.b319
  rw [← al_317 h]
  try rfl

set_option maxRecDepth 8192 in
/-- Value 320 of a trip is that of the step on states. -/
theorem al_320 (h : Holds V0 s j) : (broadcastInDim S4x1024 ![0, 1] bcast_S1x1024_S4x1024_0_1 (broadcastInDim S1x1024 ![1] bcast_S1024_S1x1024_1 (Host.sqrt (Host.reduceAdd (mulf (res_main_while0b_v218 V0) (res_main_while0b_v218 V0)) (constant S_ .f32 0x00000000#32) reducesTo_S1024x64_S1024_d1 h_S_))) : (Proc.devRef .tc main_while0b_v246 : DevRef τ sig).ty.Contents (Elt F)) = Cert.ReferenceIdeal.Step.b320 j s := by
  unfold Cert.ReferenceIdeal.Step.b320
  rw [← al_318 h]
  try rfl

set_option maxRecDepth 8192 in
/-- Value 321 of a trip is that of the step on states. -/
theorem al_321 (h : Holds V0 s j) : (broadcastInDim S4x1024 ![0, 1] bcast_S4x1_S4x1024_0_1 (broadcastInDim S4x1 ![0] bcast_S4_S4x1_0 (Host.sqrt (Host.reduceAdd (mulf (res_main_while0b_v45 V0) (res_main_while0b_v45 V0)) (constant S_ .f32 0x00000000#32) reducesTo_S4x64_S4_d1 h_S_))) : (Proc.devRef .tc main_while0b_v247 : DevRef τ sig).ty.Contents (Elt F)) = Cert.ReferenceIdeal.Step.b321 j s := by
  unfold Cert.ReferenceIdeal.Step.b321
  rw [← al_319 h]
  try rfl

set_option maxRecDepth 8192 in
/-- Value 322 of a trip is that of the step on states. -/
theorem al_322 (h : Holds V0 s j) : (mulf (broadcastInDim S4x1024 ![0, 1] bcast_S1x1024_S4x1024_0_1 (broadcastInDim S1x1024 ![1] bcast_S1024_S1x1024_1 (Host.sqrt (Host.reduceAdd (mulf (res_main_while0b_v218 V0) (res_main_while0b_v218 V0)) (constant S_ .f32 0x00000000#32) reducesTo_S1024x64_S1024_d1 h_S_)))) (broadcastInDim S4x1024 ![0, 1] bcast_S4x1_S4x1024_0_1 (broadcastInDim S4x1 ![0] bcast_S4_S4x1_0 (Host.sqrt (Host.reduceAdd (mulf (res_main_while0b_v45 V0) (res_main_while0b_v45 V0)) (constant S_ .f32 0x00000000#32) reducesTo_S4x64_S4_d1 h_S_)))) : (Proc.devRef .tc main_while0b_v248 : DevRef τ sig).ty.Contents (Elt F)) = Cert.ReferenceIdeal.Step.b322 j s := by
  unfold Cert.ReferenceIdeal.Step.b322
  rw [← al_320 h, ← al_321 h]
  try rfl

set_option maxRecDepth 8192 in
/-- Value 323 of a trip is that of the step on states. -/
theorem al_323 (h : Holds V0 s j) : (constant S_ .f32 0x322BCC77#32 : (Proc.devRef .tc main_while0b_cst_69 : DevRef τ sig).ty.Contents (Elt F)) = Cert.ReferenceIdeal.Step.b323 j s := by
  unfold Cert.ReferenceIdeal.Step.b323
  rfl

set_option maxRecDepth 8192 in
/-- Value 324 of a trip is that of the step on states. -/
theorem al_324 (h : Holds V0 s j) : (broadcastInDim S4x1024 ![] bcast_S_S4x1024 (constant S_ .f32 0x322BCC77#32) : (Proc.devRef .tc main_while0b_v249 : DevRef τ sig).ty.Contents (Elt F)) = Cert.ReferenceIdeal.Step.b324 j s := by
  unfold Cert.ReferenceIdeal.Step.b324
  rw [← al_323 h]
  try rfl

set_option maxRecDepth 8192 in
/-- Value 325 of a trip is that of the step on states. -/
theorem al_325 (h : Holds V0 s j) : (addf (mulf (broadcastInDim S4x1024 ![0, 1] bcast_S1x1024_S4x1024_0_1 (broadcastInDim S1x1024 ![1] bcast_S1024_S1x1024_1 (Host.sqrt (Host.reduceAdd (mulf (res_main_while0b_v218 V0) (res_main_while0b_v218 V0)) (constant S_ .f32 0x00000000#32) reducesTo_S1024x64_S1024_d1 h_S_)))) (broadcastInDim S4x1024 ![0, 1] bcast_S4x1_S4x1024_0_1 (broadcastInDim S4x1 ![0] bcast_S4_S4x1_0 (Host.sqrt (Host.reduceAdd (mulf (res_main_while0b_v45 V0) (res_main_while0b_v45 V0)) (constant S_ .f32 0x00000000#32) reducesTo_S4x64_S4_d1 h_S_))))) (broadcastInDim S4x1024 ![] bcast_S_S4x1024 (constant S_ .f32 0x322BCC77#32)) : (Proc.devRef .tc main_while0b_v250 : DevRef τ sig).ty.Contents (Elt F)) = Cert.ReferenceIdeal.Step.b325 j s := by
  unfold Cert.ReferenceIdeal.Step.b325
  rw [← al_322 h, ← al_324 h]
  try rfl

set_option maxRecDepth 8192 in
/-- Value 326 of a trip is that of the step on states. -/
theorem al_326 (h : Holds V0 s j) : (transpose S4x1024 [1, 0] (Host.dotGeneral dot_S1024x64_S4x64_S1024x4_1_1_0_0_n_n none (res_main_while0b_v218 V0) (res_main_while0b_v45 V0)) transposes_S1024x4_S4x1024_1_0 : (Proc.devRef .tc main_while0b_v251 : DevRef τ sig).ty.Contents (Elt F)) = Cert.ReferenceIdeal.Step.b326 j s := by
  unfold Cert.ReferenceIdeal.Step.b326
  rw [← al_309 h]
  try rfl

set_option maxRecDepth 8192 in
/-- Value 327 of a trip is that of the step on states. -/
theorem al_327 (h : Holds V0 s j) : (Host.divf (transpose S4x1024 [1, 0] (Host.dotGeneral dot_S1024x64_S4x64_S1024x4_1_1_0_0_n_n none (res_main_while0b_v218 V0) (res_main_while0b_v45 V0)) transposes_S1024x4_S4x1024_1_0) (addf (mulf (broadcastInDim S4x1024 ![0, 1] bcast_S1x1024_S4x1024_0_1 (broadcastInDim S1x1024 ![1] bcast_S1024_S1x1024_1 (Host.sqrt (Host.reduceAdd (mulf (res_main_while0b_v218 V0) (res_main_while0b_v218 V0)) (constant S_ .f32 0x00000000#32) reducesTo_S1024x64_S1024_d1 h_S_)))) (broadcastInDim S4x1024 ![0, 1] bcast_S4x1_S4x1024_0_1 (broadcastInDim S4x1 ![0] bcast_S4_S4x1_0 (Host.sqrt (Host.reduceAdd (mulf (res_main_while0b_v45 V0) (res_main_while0b_v45 V0)) (constant S_ .f32 0x00000000#32) reducesTo_S4x64_S4_d1 h_S_))))) (broadcastInDim S4x1024 ![] bcast_S_S4x1024 (constant S_ .f32 0x322BCC77#32))) : (Proc.devRef .tc main_while0b_v252 : DevRef τ sig).ty.Contents (Elt F)) = Cert.ReferenceIdeal.Step.b327 j s := by
  unfold Cert.ReferenceIdeal.Step.b327
  rw [← al_326 h, ← al_325 h]
  try rfl

set_option maxRecDepth 8192 in
/-- Value 328 of a trip is that of the step on states. -/
theorem al_328 (h : Holds V0 s j) : (broadcastInDim S4x1 ![0] bcast_S4_S4x1_0 (addf (broadcastInDim S4 ![] bcast_S_S4 (constant S_ .f32 0x3F800000#32)) (select (cmpf .une (res_main_while0b_call1_v3 V0) (res_main_while0b_call1_v3 V0)) (addf (res_main_while0b_v46 V0) (broadcastInDim S4 ![] bcast_S_S4 (res_main_while0b_call1_cst V0))) (addf (maximumf (res_main_while0b_v46 V0) (broadcastInDim S4 ![] bcast_S_S4 (res_main_while0b_call1_cst V0))) (Host.log1p (Host.exp (Host.negf (Host.absf (res_main_while0b_call1_v3 V0)))))))) : (Proc.devRef .tc main_while0b_v253 : DevRef τ sig).ty.Contents (Elt F)) = Cert.ReferenceIdeal.Step.b328 j s := by
  unfold Cert.ReferenceIdeal.Step.b328
  rw [← al_60 h]
  try rfl

set_option maxRecDepth 8192 in
/-- Value 329 of a trip is that of the step on states. -/
theorem al_329 (h : Holds V0 s j) : (broadcastInDim S4x1024 ![0, 1] bcast_S4x1_S4x1024_0_1 (broadcastInDim S4x1 ![0] bcast_S4_S4x1_0 (addf (broadcastInDim S4 ![] bcast_S_S4 (constant S_ .f32 0x3F800000#32)) (select (cmpf .une (res_main_while0b_call1_v3 V0) (res_main_while0b_call1_v3 V0)) (addf (res_main_while0b_v46 V0) (broadcastInDim S4 ![] bcast_S_S4 (res_main_while0b_call1_cst V0))) (addf (maximumf (res_main_while0b_v46 V0) (broadcastInDim S4 ![] bcast_S_S4 (res_main_while0b_call1_cst V0))) (Host.log1p (Host.exp (Host.negf (Host.absf (res_main_while0b_call1_v3 V0))))))))) : (Proc.devRef .tc main_while0b_v254 : DevRef τ sig).ty.Contents (Elt F)) = Cert.ReferenceIdeal.Step.b329 j s := by
  unfold Cert.ReferenceIdeal.Step.b329
  rw [← al_328 h]
  try rfl

set_option maxRecDepth 8192 in
/-- Value 330 of a trip is that of the step on states. -/
theorem al_330 (h : Holds V0 s j) : (res_main_while0b_v255 V0 : (Proc.devRef .tc main_while0b_v255 : DevRef τ sig).ty.Contents (Elt F)) = Cert.ReferenceIdeal.Step.b330 j s := by
  unfold res_main_while0b_v255 Cert.ReferenceIdeal.Step.b330
  rw [← al_329 h, ← al_327 h]
  try rfl

set_option maxRecDepth 8192 in
/-- Value 331 of a trip is that of the step on states. -/
theorem al_331 (h : Holds V0 s j) : (constant S_ .f32 0xFF800000#32 : (Proc.devRef .tc main_while0b_cst_70 : DevRef τ sig).ty.Contents (Elt F)) = Cert.ReferenceIdeal.Step.b331 j s := by
  unfold Cert.ReferenceIdeal.Step.b331
  rfl

set_option maxRecDepth 8192 in
/-- Value 332 of a trip is that of the step on states. -/
theorem al_332 (h : Holds V0 s j) : (Host.reduce FloatOps.maximumf (res_main_while0b_v255 V0) (constant S_ .f32 0xFF800000#32) reducesTo_S4x1024_S4_d1 h_S_ : (Proc.devRef .tc main_while0b_v256 : DevRef τ sig).ty.Contents (Elt F)) = Cert.ReferenceIdeal.Step.b332 j s := by
  unfold Cert.ReferenceIdeal.Step.b332
  rw [← al_330 h, ← al_331 h]
  try rfl

set_option maxRecDepth 8192 in
/-- Value 333 of a trip is that of the step on states. -/
theorem al_333 (h : Holds V0 s j) : (constant S_ .f32 0xFF800000#32 : (Proc.devRef .tc main_while0b_cst_71 : DevRef τ sig).ty.Contents (Elt F)) = Cert.ReferenceIdeal.Step.b333 j s := by
  unfold Cert.ReferenceIdeal.Step.b333
  rfl

set_option maxRecDepth 8192 in
/-- Value 334 of a trip is that of the step on states. -/
theorem al_334 (h : Holds V0 s j) : (broadcastInDim S4 ![] bcast_S_S4 (constant S_ .f32 0xFF800000#32) : (Proc.devRef .tc main_while0b_v257 : DevRef τ sig).ty.Contents (Elt F)) = Cert.ReferenceIdeal.Step.b334 j s := by
  unfold Cert.ReferenceIdeal.Step.b334
  rw [← al_333 h]
  try rfl

set_option maxRecDepth 8192 in
/-- Value 335 of a trip is that of the step on states. -/
theorem al_335 (h : Holds V0 s j) : (maximumf (broadcastInDim S4 ![] bcast_S_S4 (constant S_ .f32 0xFF800000#32)) (Host.reduce FloatOps.maximumf (res_main_while0b_v255 V0) (constant S_ .f32 0xFF800000#32) reducesTo_S4x1024_S4_d1 h_S_) : (Proc.devRef .tc main_while0b_v258 : DevRef τ sig).ty.Contents (Elt F)) = Cert.ReferenceIdeal.Step.b335 j s := by
  unfold Cert.ReferenceIdeal.Step.b335
  rw [← al_334 h, ← al_332 h]
  try rfl

set_option maxRecDepth 8192 in
/-- Value 336 of a trip is that of the step on states. -/
theorem al_336 (h : Holds V0 s j) : (broadcastInDim S4x1 ![0] bcast_S4_S4x1_0 (maximumf (broadcastInDim S4 ![] bcast_S_S4 (constant S_ .f32 0xFF800000#32)) (Host.reduce FloatOps.maximumf (res_main_while0b_v255 V0) (constant S_ .f32 0xFF800000#32) reducesTo_S4x1024_S4_d1 h_S_)) : (Proc.devRef .tc main_while0b_v259 : DevRef τ sig).ty.Contents (Elt F)) = Cert.ReferenceIdeal.Step.b336 j s := by
  unfold Cert.ReferenceIdeal.Step.b336
  rw [← al_335 h]
  try rfl

set_option maxRecDepth 8192 in
/-- Value 337 of a trip is that of the step on states. -/
theorem al_337 (h : Holds V0 s j) : (broadcastInDim S4x1024 ![0, 1] bcast_S4x1_S4x1024_0_1 (broadcastInDim S4x1 ![0] bcast_S4_S4x1_0 (maximumf (broadcastInDim S4 ![] bcast_S_S4 (constant S_ .f32 0xFF800000#32)) (Host.reduce FloatOps.maximumf (res_main_while0b_v255 V0) (constant S_ .f32 0xFF800000#32) reducesTo_S4x1024_S4_d1 h_S_))) : (Proc.devRef .tc main_while0b_v260 : DevRef τ sig).ty.Contents (Elt F)) = Cert.ReferenceIdeal.Step.b337 j s := by
  unfold Cert.ReferenceIdeal.Step.b337
  rw [← al_336 h]
  try rfl

set_option maxRecDepth 8192 in
/-- Value 338 of a trip is that of the step on states. -/
theorem al_338 (h : Holds V0 s j) : (subf (res_main_while0b_v255 V0) (broadcastInDim S4x1024 ![0, 1] bcast_S4x1_S4x1024_0_1 (broadcastInDim S4x1 ![0] bcast_S4_S4x1_0 (maximumf (broadcastInDim S4 ![] bcast_S_S4 (constant S_ .f32 0xFF800000#32)) (Host.reduce FloatOps.maximumf (res_main_while0b_v255 V0) (constant S_ .f32 0xFF800000#32) reducesTo_S4x1024_S4_d1 h_S_)))) : (Proc.devRef .tc main_while0b_v261 : DevRef τ sig).ty.Contents (Elt F)) = Cert.ReferenceIdeal.Step.b338 j s := by
  unfold Cert.ReferenceIdeal.Step.b338
  rw [← al_330 h, ← al_337 h]
  try rfl

set_option maxRecDepth 8192 in
/-- Value 339 of a trip is that of the step on states. -/
theorem al_339 (h : Holds V0 s j) : (res_main_while0b_v262 V0 : (Proc.devRef .tc main_while0b_v262 : DevRef τ sig).ty.Contents (Elt F)) = Cert.ReferenceIdeal.Step.b339 j s := by
  unfold res_main_while0b_v262 Cert.ReferenceIdeal.Step.b339
  rw [← al_338 h]
  try rfl

set_option maxRecDepth 8192 in
/-- Value 340 of a trip is that of the step on states. -/
theorem al_340 (h : Holds V0 s j) : (constant S_ .f32 0x00000000#32 : (Proc.devRef .tc main_while0b_cst_72 : DevRef τ sig).ty.Contents (Elt F)) = Cert.ReferenceIdeal.Step.b340 j s := by
  unfold Cert.ReferenceIdeal.Step.b340
  rfl

set_option maxRecDepth 8192 in
/-- Value 341 of a trip is that of the step on states. -/
theorem al_341 (h : Holds V0 s j) : (Host.reduceAdd (res_main_while0b_v262 V0) (constant S_ .f32 0x00000000#32) reducesTo_S4x1024_S4_d1 h_S_ : (Proc.devRef .tc main_while0b_v263 : DevRef τ sig).ty.Contents (Elt F)) = Cert.ReferenceIdeal.Step.b341 j s := by
  unfold Cert.ReferenceIdeal.Step.b341
  rw [← al_339 h, ← al_340 h]
  try rfl

set_option maxRecDepth 8192 in
/-- Value 342 of a trip is that of the step on states. -/
theorem al_342 (h : Holds V0 s j) : (broadcastInDim S4x1 ![0] bcast_S4_S4x1_0 (Host.reduceAdd (res_main_while0b_v262 V0) (constant S_ .f32 0x00000000#32) reducesTo_S4x1024_S4_d1 h_S_) : (Proc.devRef .tc main_while0b_v264 : DevRef τ sig).ty.Contents (Elt F)) = Cert.ReferenceIdeal.Step.b342 j s := by
  unfold Cert.ReferenceIdeal.Step.b342
  rw [← al_341 h]
  try rfl

set_option maxRecDepth 8192 in
/-- Value 343 of a trip is that of the step on states. -/
theorem al_343 (h : Holds V0 s j) : (broadcastInDim S4x1024 ![0, 1] bcast_S4x1_S4x1024_0_1 (broadcastInDim S4x1 ![0] bcast_S4_S4x1_0 (Host.reduceAdd (res_main_while0b_v262 V0) (constant S_ .f32 0x00000000#32) reducesTo_S4x1024_S4_d1 h_S_)) : (Proc.devRef .tc main_while0b_v265 : DevRef τ sig).ty.Contents (Elt F)) = Cert.ReferenceIdeal.Step.b343 j s := by
  unfold Cert.ReferenceIdeal.Step.b343
  rw [← al_342 h]
  try rfl

set_option maxRecDepth 8192 in
/-- Value 344 of a trip is that of the step on states. -/
theorem al_344 (h : Holds V0 s j) : (Host.divf (res_main_while0b_v262 V0) (broadcastInDim S4x1024 ![0, 1] bcast_S4x1_S4x1024_0_1 (broadcastInDim S4x1 ![0] bcast_S4_S4x1_0 (Host.reduceAdd (res_main_while0b_v262 V0) (constant S_ .f32 0x00000000#32) reducesTo_S4x1024_S4_d1 h_S_))) : (Proc.devRef .tc main_while0b_v266 : DevRef τ sig).ty.Contents (Elt F)) = Cert.ReferenceIdeal.Step.b344 j s := by
  unfold Cert.ReferenceIdeal.Step.b344
  rw [← al_339 h, ← al_343 h]
  try rfl

set_option maxRecDepth 8192 in
/-- Value 345 of a trip is that of the step on states. -/
theorem al_345 (h : Holds V0 s j) : (extractStridedSlice S4x1 ![0, 0] (res_main_while0b_v94 V0) slices_S4x3_S4x1_0_0 : (Proc.devRef .tc main_while0b_v267 : DevRef τ sig).ty.Contents (Elt F)) = Cert.ReferenceIdeal.Step.b345 j s := by
  unfold Cert.ReferenceIdeal.Step.b345
  rw [← al_127 h]
  try rfl

set_option maxRecDepth 8192 in
/-- Value 346 of a trip is that of the step on states. -/
theorem al_346 (h : Holds V0 s j) : (broadcastInDim S4x1024 ![0, 1] bcast_S4x1_S4x1024_0_1 (extractStridedSlice S4x1 ![0, 0] (res_main_while0b_v94 V0) slices_S4x3_S4x1_0_0) : (Proc.devRef .tc main_while0b_v268 : DevRef τ sig).ty.Contents (Elt F)) = Cert.ReferenceIdeal.Step.b346 j s := by
  unfold Cert.ReferenceIdeal.Step.b346
  rw [← al_345 h]
  try rfl

set_option maxRecDepth 8192 in
/-- Value 347 of a trip is that of the step on states. -/
theorem al_347 (h : Holds V0 s j) : (mulf (broadcastInDim S4x1024 ![0, 1] bcast_S4x1_S4x1024_0_1 (extractStridedSlice S4x1 ![0, 0] (res_main_while0b_v94 V0) slices_S4x3_S4x1_0_0)) (Host.dotGeneral dot_S4x1024_S1024x1024_S4x1024_1_0_0_1_n_n none (V0 (Proc.devRef .tc main_v9_14)) (transpose S1024x1024 [1, 0] (res_main_while0b_v237 V0) transposes_S1024x1024_S1024x1024_1_0)) : (Proc.devRef .tc main_while0b_v269 : DevRef τ sig).ty.Contents (Elt F)) = Cert.ReferenceIdeal.Step.b347 j s := by
  unfold Cert.ReferenceIdeal.Step.b347
  rw [← al_346 h, ← al_308 h]
  try rfl

set_option maxRecDepth 8192 in
/-- Value 348 of a trip is that of the step on states. -/
theorem al_348 (h : Holds V0 s j) : (extractStridedSlice S4x1 ![0, 1] (res_main_while0b_v94 V0) slices_S4x3_S4x1_0_1 : (Proc.devRef .tc main_while0b_v270 : DevRef τ sig).ty.Contents (Elt F)) = Cert.ReferenceIdeal.Step.b348 j s := by
  unfold Cert.ReferenceIdeal.Step.b348
  rw [← al_127 h]
  try rfl

set_option maxRecDepth 8192 in
/-- Value 349 of a trip is that of the step on states. -/
theorem al_349 (h : Holds V0 s j) : (broadcastInDim S4x1024 ![0, 1] bcast_S4x1_S4x1024_0_1 (extractStridedSlice S4x1 ![0, 1] (res_main_while0b_v94 V0) slices_S4x3_S4x1_0_1) : (Proc.devRef .tc main_while0b_v271 : DevRef τ sig).ty.Contents (Elt F)) = Cert.ReferenceIdeal.Step.b349 j s := by
  unfold Cert.ReferenceIdeal.Step.b349
  rw [← al_348 h]
  try rfl

set_option maxRecDepth 8192 in
/-- Value 350 of a trip is that of the step on states. -/
theorem al_350 (h : Holds V0 s j) : (mulf (broadcastInDim S4x1024 ![0, 1] bcast_S4x1_S4x1024_0_1 (extractStridedSlice S4x1 ![0, 1] (res_main_while0b_v94 V0) slices_S4x3_S4x1_0_1)) (Host.divf (res_main_while0b_v262 V0) (broadcastInDim S4x1024 ![0, 1] bcast_S4x1_S4x1024_0_1 (broadcastInDim S4x1 ![0] bcast_S4_S4x1_0 (Host.reduceAdd (res_main_while0b_v262 V0) (constant S_ .f32 0x00000000#32) reducesTo_S4x1024_S4_d1 h_S_)))) : (Proc.devRef .tc main_while0b_v272 : DevRef τ sig).ty.Contents (Elt F)) = Cert.ReferenceIdeal.Step.b350 j s := by
  unfold Cert.ReferenceIdeal.Step.b350
  rw [← al_349 h, ← al_344 h]
  try rfl

set_option maxRecDepth 8192 in
/-- Value 351 of a trip is that of the step on states. -/
theorem al_351 (h : Holds V0 s j) : (addf (mulf (broadcastInDim S4x1024 ![0, 1] bcast_S4x1_S4x1024_0_1 (extractStridedSlice S4x1 ![0, 0] (res_main_while0b_v94 V0) slices_S4x3_S4x1_0_0)) (Host.dotGeneral dot_S4x1024_S1024x1024_S4x1024_1_0_0_1_n_n none (V0 (Proc.devRef .tc main_v9_14)) (transpose S1024x1024 [1, 0] (res_main_while0b_v237 V0) transposes_S1024x1024_S1024x1024_1_0))) (mulf (broadcastInDim S4x1024 ![0, 1] bcast_S4x1_S4x1024_0_1 (extractStridedSlice S4x1 ![0, 1] (res_main_while0b_v94 V0) slices_S4x3_S4x1_0_1)) (Host.divf (res_main_while0b_v262 V0) (broadcastInDim S4x1024 ![0, 1] bcast_S4x1_S4x1024_0_1 (broadcastInDim S4x1 ![0] bcast_S4_S4x1_0 (Host.reduceAdd (res_main_while0b_v262 V0) (constant S_ .f32 0x00000000#32) reducesTo_S4x1024_S4_d1 h_S_))))) : (Proc.devRef .tc main_while0b_v273 : DevRef τ sig).ty.Contents (Elt F)) = Cert.ReferenceIdeal.Step.b351 j s := by
  unfold Cert.ReferenceIdeal.Step.b351
  rw [← al_347 h, ← al_350 h]
  try rfl

set_option maxRecDepth 8192 in
/-- Value 352 of a trip is that of the step on states. -/
theorem al_352 (h : Holds V0 s j) : (extractStridedSlice S4x1 ![0, 2] (res_main_while0b_v94 V0) slices_S4x3_S4x1_0_2 : (Proc.devRef .tc main_while0b_v274 : DevRef τ sig).ty.Contents (Elt F)) = Cert.ReferenceIdeal.Step.b352 j s := by
  unfold Cert.ReferenceIdeal.Step.b352
  rw [← al_127 h]
  try rfl

set_option maxRecDepth 8192 in
/-- Value 353 of a trip is that of the step on states. -/
theorem al_353 (h : Holds V0 s j) : (broadcastInDim S4x1024 ![0, 1] bcast_S4x1_S4x1024_0_1 (extractStridedSlice S4x1 ![0, 2] (res_main_while0b_v94 V0) slices_S4x3_S4x1_0_2) : (Proc.devRef .tc main_while0b_v275 : DevRef τ sig).ty.Contents (Elt F)) = Cert.ReferenceIdeal.Step.b353 j s := by
  unfold Cert.ReferenceIdeal.Step.b353
  rw [← al_352 h]
  try rfl

set_option maxRecDepth 8192 in
/-- Value 354 of a trip is that of the step on states. -/
theorem al_354 (h : Holds V0 s j) : (mulf (broadcastInDim S4x1024 ![0, 1] bcast_S4x1_S4x1024_0_1 (extractStridedSlice S4x1 ![0, 2] (res_main_while0b_v94 V0) slices_S4x3_S4x1_0_2)) (Host.dotGeneral dot_S4x1024_S1024x1024_S4x1024_1_0_0_1_n_n none (V0 (Proc.devRef .tc main_v9_14)) (res_main_while0b_v237 V0)) : (Proc.devRef .tc main_while0b_v276 : DevRef τ sig).ty.Contents (Elt F)) = Cert.ReferenceIdeal.Step.b354 j s := by
  unfold Cert.ReferenceIdeal.Step.b354
  rw [← al_353 h, ← al_306 h]
  try rfl

set_option maxRecDepth 8192 in
/-- Value 355 of a trip is that of the step on states. -/
theorem al_355 (h : Holds V0 s j) : (res_main_while0b_v277 V0 : (Proc.devRef .tc main_while0b_v277 : DevRef τ sig).ty.Contents (Elt F)) = Cert.ReferenceIdeal.Step.b355 j s := by
  unfold res_main_while0b_v277 Cert.ReferenceIdeal.Step.b355
  rw [← al_351 h, ← al_354 h]
  try rfl

set_option maxRecDepth 8192 in
/-- Value 356 of a trip is that of the step on states. -/
theorem al_356 (h : Holds V0 s j) : (Host.dotGeneral dot_S4x1024_S1024x64_S4x64_1_0_0_1_n_n none (res_main_while0b_v277 V0) (res_main_while0b_v218 V0) : (Proc.devRef .tc main_while0b_v278 : DevRef τ sig).ty.Contents (Elt F)) = Cert.ReferenceIdeal.Step.b356 j s := by
  unfold Cert.ReferenceIdeal.Step.b356
  rw [← al_355 h, ← al_283 h]
  try rfl

set_option maxRecDepth 8192 in
/-- Value 357 of a trip is that of the step on states. -/
theorem al_357 (h : Holds V0 s j) : (shapeCast S256 (Host.dotGeneral dot_S4x1024_S1024x64_S4x64_1_0_0_1_n_n none (res_main_while0b_v277 V0) (res_main_while0b_v218 V0)) shapeCasts_S4x64_S256 : (Proc.devRef .tc main_while0b_v279 : DevRef τ sig).ty.Contents (Elt F)) = Cert.ReferenceIdeal.Step.b357 j s := by
  unfold Cert.ReferenceIdeal.Step.b357
  rw [← al_356 h]
  try rfl

set_option maxRecDepth 8192 in
/-- Value 358 of a trip is that of the step on states. -/
theorem al_358 (h : Holds V0 s j) : (Host.dotGeneral dot_S512_S512x128_S128_0_0_n_1_n_n none (res_main_while0b_v42 V0) (V0 (Proc.devRef .tc main_v9_4)) : (Proc.devRef .tc main_while0b_v280 : DevRef τ sig).ty.Contents (Elt F)) = Cert.ReferenceIdeal.Step.b358 j s := by
  unfold Cert.ReferenceIdeal.Step.b358
  rw [← al_39 h, h.f_4]
  try rfl

set_option maxRecDepth 8192 in
/-- Value 359 of a trip is that of the step on states. -/
theorem al_359 (h : Holds V0 s j) : (Host.dotGeneral dot_S256_S256x128_S128_0_0_n_1_n_n none (shapeCast S256 (Host.dotGeneral dot_S4x1024_S1024x64_S4x64_1_0_0_1_n_n none (res_main_while0b_v277 V0) (res_main_while0b_v218 V0)) shapeCasts_S4x64_S256) (V0 (Proc.devRef .tc main_v9_5)) : (Proc.devRef .tc main_while0b_v281 : DevRef τ sig).ty.Contents (Elt F)) = Cert.ReferenceIdeal.Step.b359 j s := by
  unfold Cert.ReferenceIdeal.Step.b359
  rw [← al_357 h, h.f_5]
  try rfl

set_option maxRecDepth 8192 in
/-- Value 360 of a trip is that of the step on states. -/
theorem al_360 (h : Holds V0 s j) : (addf (Host.dotGeneral dot_S512_S512x128_S128_0_0_n_1_n_n none (res_main_while0b_v42 V0) (V0 (Proc.devRef .tc main_v9_4))) (Host.dotGeneral dot_S256_S256x128_S128_0_0_n_1_n_n none (shapeCast S256 (Host.dotGeneral dot_S4x1024_S1024x64_S4x64_1_0_0_1_n_n none (res_main_while0b_v277 V0) (res_main_while0b_v218 V0)) shapeCasts_S4x64_S256) (V0 (Proc.devRef .tc main_v9_5))) : (Proc.devRef .tc main_while0b_v282 : DevRef τ sig).ty.Contents (Elt F)) = Cert.ReferenceIdeal.Step.b360 j s := by
  unfold Cert.ReferenceIdeal.Step.b360
  rw [← al_358 h, ← al_359 h]
  try rfl

set_option maxRecDepth 8192 in
/-- Value 361 of a trip is that of the step on states. -/
theorem al_361 (h : Holds V0 s j) : (broadcastInDim S1x128 ![1] bcast_S128_S1x128_1 (addf (Host.dotGeneral dot_S512_S512x128_S128_0_0_n_1_n_n none (res_main_while0b_v42 V0) (V0 (Proc.devRef .tc main_v9_4))) (Host.dotGeneral dot_S256_S256x128_S128_0_0_n_1_n_n none (shapeCast S256 (Host.dotGeneral dot_S4x1024_S1024x64_S4x64_1_0_0_1_n_n none (res_main_while0b_v277 V0) (res_main_while0b_v218 V0)) shapeCasts_S4x64_S256) (V0 (Proc.devRef .tc main_v9_5)))) : (Proc.devRef .tc main_while0b_call8_v0 : DevRef τ sig).ty.Contents (Elt F)) = Cert.ReferenceIdeal.Step.b361 j s := by
  unfold Cert.ReferenceIdeal.Step.b361
  rw [← al_360 h]
  try rfl

set_option maxRecDepth 8192 in
/-- Value 362 of a trip is that of the step on states. -/
theorem al_362 (h : Holds V0 s j) : (constantI S_ 32 0#32 : (Proc.devRef .tc main_while0b_call8_c : DevRef τ sig).ty.Contents (Elt F)) = Cert.ReferenceIdeal.Step.b362 j s := by
  unfold Cert.ReferenceIdeal.Step.b362
  rfl

set_option maxRecDepth 8192 in
/-- Value 363 of a trip is that of the step on states. -/
theorem al_363 (h : Holds V0 s j) : (Host.dynamicUpdateSlice (V0 (Proc.devRef .tc main_v9_15)) (broadcastInDim S1x128 ![1] bcast_S128_S1x128_1 (addf (Host.dotGeneral dot_S512_S512x128_S128_0_0_n_1_n_n none (res_main_while0b_v42 V0) (V0 (Proc.devRef .tc main_v9_4))) (Host.dotGeneral dot_S256_S256x128_S128_0_0_n_1_n_n none (shapeCast S256 (Host.dotGeneral dot_S4x1024_S1024x64_S4x64_1_0_0_1_n_n none (res_main_while0b_v277 V0) (res_main_while0b_v218 V0)) shapeCasts_S4x64_S256) (V0 (Proc.devRef .tc main_v9_5))))) (fun k => (((![V0 (Proc.devRef .tc main_v9_6), constantI S_ 32 0#32] : Fin 2 → (⟨S_, .i32⟩ : BufTy).Contents (Elt F))) k (Shape.Idx.first h_S_)).toInt) updateFits_S32x128_S1x128 : (Proc.devRef .tc main_while0b_v283 : DevRef τ sig).ty.Contents (Elt F)) = Cert.ReferenceIdeal.Step.b363 j s := by
  unfold Cert.ReferenceIdeal.Step.b363
  rw [← al_361 h, ← al_362 h, h.f_15, h.n_6]
  try rfl

/-! One trip's step of the carried values is `step`, field by field; a counter steps to the next number. -/

/-- Part 7 of the state after a trip is that of the step on states. -/
theorem step_7 (h : Holds V0 s j) : step_main_v9_7 V0 = (step j s).main_v9_7 := by
  unfold step_main_v9_7 Cert.ReferenceIdeal.Step.step
  show id (res_main_while0b_v42 V0) = _
  rw [al_39 h]
  try rfl

/-- Part 8 of the state after a trip is that of the step on states. -/
theorem step_8 (h : Holds V0 s j) : step_main_v9_8 V0 = (step j s).main_v9_8 := by
  unfold step_main_v9_8 Cert.ReferenceIdeal.Step.step
  show id (res_main_while0b_v34 V0) = _
  rw [al_29 h]
  try rfl

/-- Part 9 of the state after a trip is that of the step on states. -/
theorem step_9 (h : Holds V0 s j) : step_main_v9_9 V0 = (step j s).main_v9_9 := by
  unfold step_main_v9_9 Cert.ReferenceIdeal.Step.step
  show id (res_main_while0b_v218 V0) = _
  rw [al_283 h]
  try rfl

/-- Part 10 of the state after a trip is that of the step on states. -/
theorem step_10 (h : Holds V0 s j) : step_main_v9_10 V0 = (step j s).main_v9_10 := by
  unfold step_main_v9_10 Cert.ReferenceIdeal.Step.step
  show id (res_main_while0b_v114 V0) = _
  rw [al_148 h]
  try rfl

/-- Part 11 of the state after a trip is that of the step on states. -/
theorem step_11 (h : Holds V0 s j) : step_main_v9_11 V0 = (step j s).main_v9_11 := by
  unfold step_main_v9_11 Cert.ReferenceIdeal.Step.step
  show id (res_main_while0b_v204 V0) = _
  rw [al_268 h]
  try rfl

/-- Part 12 of the state after a trip is that of the step on states. -/
theorem step_12 (h : Holds V0 s j) : step_main_v9_12 V0 = (step j s).main_v9_12 := by
  unfold step_main_v9_12 Cert.ReferenceIdeal.Step.step
  show id (res_main_while0b_v237 V0) = _
  rw [al_305 h]
  try rfl

/-- Part 13 of the state after a trip is that of the step on states. -/
theorem step_13 (h : Holds V0 s j) : step_main_v9_13 V0 = (step j s).main_v9_13 := by
  unfold step_main_v9_13 Cert.ReferenceIdeal.Step.step
  show id (res_main_while0b_v223 V0) = _
  rw [al_290 h]
  try rfl

/-- Part 14 of the state after a trip is that of the step on states. -/
theorem step_14 (h : Holds V0 s j) : step_main_v9_14 V0 = (step j s).main_v9_14 := by
  unfold step_main_v9_14 Cert.ReferenceIdeal.Step.step
  show id (res_main_while0b_v277 V0) = _
  rw [al_355 h]
  try rfl

/-- Part 15 of the state after a trip is that of the step on states. -/
theorem step_15 (h : Holds V0 s j) : step_main_v9_15 V0 = (step j s).main_v9_15 := by
  unfold step_main_v9_15 Cert.ReferenceIdeal.Step.step
  show id (Host.dynamicUpdateSlice (V0 (Proc.devRef .tc main_v9_15)) (broadcastInDim S1x128 ![1] bcast_S128_S1x128_1 (addf (Host.dotGeneral dot_S512_S512x128_S128_0_0_n_1_n_n none (res_main_while0b_v42 V0) (V0 (Proc.devRef .tc main_v9_4))) (Host.dotGeneral dot_S256_S256x128_S128_0_0_n_1_n_n none (shapeCast S256 (Host.dotGeneral dot_S4x1024_S1024x64_S4x64_1_0_0_1_n_n none (res_main_while0b_v277 V0) (res_main_while0b_v218 V0)) shapeCasts_S4x64_S256) (V0 (Proc.devRef .tc main_v9_5))))) (fun k => (((![V0 (Proc.devRef .tc main_v9_6), constantI S_ 32 0#32] : Fin 2 → (⟨S_, .i32⟩ : BufTy).Contents (Elt F))) k (Shape.Idx.first h_S_)).toInt) updateFits_S32x128_S1x128) = _
  exact al_363 h

/-- The counter after a trip. -/
theorem step_6 (h : Holds V0 s j) : step_main_v9_6 V0 = constantI S_ 32 (BitVec.ofNat 32 (j + 1)) := by
  unfold step_main_v9_6
  rw [h.n_6]
  funext i
  show BitVec.ofNat 32 j + 1#32 = BitVec.ofNat 32 (j + 1)
  simp only [BitVec.ofNat_add]

set_option maxRecDepth 8192 in
/-- The result, at a valuation that holds the state. -/
theorem out_main_v10_holds (h : Holds V0 s j) : out_main_v10 V0 = Cert.ReferenceIdeal.Step.R_main_v10 s := by
  unfold out_main_v10 Cert.ReferenceIdeal.Step.R_main_v10
  rw [h.f_15]
  try rfl

/-- One trip keeps the valuation holding: `step` of the state, the same set-up values, the next number. -/
theorem holds_step (h : Holds V0 s j) : Holds (STEP V0) (step j s) (j + 1) where
  f_7 := (STEP_main_v9_7 V0).trans (step_7 h)
  f_8 := (STEP_main_v9_8 V0).trans (step_8 h)
  f_9 := (STEP_main_v9_9 V0).trans (step_9 h)
  f_10 := (STEP_main_v9_10 V0).trans (step_10 h)
  f_11 := (STEP_main_v9_11 V0).trans (step_11 h)
  f_12 := (STEP_main_v9_12 V0).trans (step_12 h)
  f_13 := (STEP_main_v9_13 V0).trans (step_13 h)
  f_14 := (STEP_main_v9_14 V0).trans (step_14 h)
  f_15 := (STEP_main_v9_15 V0).trans (step_15 h)
  n_6 := (STEP_main_v9_6 V0).trans (step_6 h)
  f_0 := (STEP_main_v9_0 V0).trans h.f_0
  f_1 := (STEP_main_v9_1 V0).trans h.f_1
  f_2 := (STEP_main_v9_2 V0).trans h.f_2
  f_3 := (STEP_main_v9_3 V0).trans h.f_3
  f_4 := (STEP_main_v9_4 V0).trans h.f_4
  f_5 := (STEP_main_v9_5 V0).trans h.f_5

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))

variable (m : (ℓ : Loc nD τ sig) → Buf (Elt F) ℓ) (c : Dev nD)

set_option maxRecDepth 65536 in
set_option maxHeartbeats 600000 in

/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 32 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v10) = Cert.ReferenceIdeal.Step.R_main_v10 (it c 32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    have hk := holds_iter m c (it c) (h0 c) (hs c) 32
    ⟨(h c).1.trans (out_main_v10_holds hk), (h c).2.1, (h c).2.2.1, (h c).2.2.2.1, (h c).2.2.2.2.1, (h c).2.2.2.2.2.1, (h c).2.2.2.2.2.2⟩) (Value.run m ρ)

end Cert.Proof.RefTrip

end
-- ==== Proof.StageAdvance.lean ====
module

public import proofs.«01_k».proof.Proof.Gen.ReferenceIdeal.Step
public import Idealize.ShloMosaic.PureOps.Ideal
public import proofs.«01_k».proof.Proof.Gen.Pre_usage_stays_nonnegative

/-! # One call of the predicate's function is one step of the reference -/

@[expose] public section
set_option maxRecDepth 16384
noncomputable section
namespace Cert.Proof.Stage
open Idealize.ShloMosaic
open Cert.Pre_usage_stays_nonnegative Cert.Pre_usage_stays_nonnegative.Facts
open Cert.ReferenceIdeal.Step

variable (j : ℕ) (s : State Ideal) (ok : IVec S1024 1)

/-- Operations of one call up to the end of stretch 0, in the names of the step. -/
theorem advance_0 : fn_advance (F := Ideal) s.main_v9_7 s.main_v9_8 s.main_v9_9 s.main_v9_10 s.main_v9_11 s.main_v9_12 s.main_v9_13 s.main_v9_14 ok (b2 j s) s.main_v9_1 s.main_v9_2 s.main_v9_3 s.main_v9_4 s.main_v9_5
    = fn_advance_part1 (F := Ideal) s.main_v9_9 s.main_v9_10 s.main_v9_11 s.main_v9_12 s.main_v9_13 s.main_v9_14 ok s.main_v9_3 s.main_v9_4 s.main_v9_5 (b8 j s) (b9 j s) (b18 j s) (b26 j s) := rfl

/-- Operations of one call up to the end of stretch 1, in the names of the step. -/
theorem advance_1 : fn_advance_part1 (F := Ideal) s.main_v9_9 s.main_v9_10 s.main_v9_11 s.main_v9_12 s.main_v9_13 s.main_v9_14 ok s.main_v9_3 s.main_v9_4 s.main_v9_5 (b8 j s) (b9 j s) (b18 j s) (b26 j s)
    = fn_advance_part2 (F := Ideal) s.main_v9_9 s.main_v9_10 s.main_v9_11 s.main_v9_12 s.main_v9_13 s.main_v9_14 ok s.main_v9_4 s.main_v9_5 (b29 j s) (b39 j s) (b40 j s) (b42 j s) (b60 j s) (b61 j s) (b63 j s) := rfl

/-- Operations of one call up to the end of stretch 2, in the names of the step. -/
theorem advance_2 : fn_advance_part2 (F := Ideal) s.main_v9_9 s.main_v9_10 s.main_v9_11 s.main_v9_12 s.main_v9_13 s.main_v9_14 ok s.main_v9_4 s.main_v9_5 (b29 j s) (b39 j s) (b40 j s) (b42 j s) (b60 j s) (b61 j s) (b63 j s)
    = fn_advance_part3 (F := Ideal) s.main_v9_9 s.main_v9_10 s.main_v9_11 s.main_v9_12 s.main_v9_13 s.main_v9_14 ok s.main_v9_4 s.main_v9_5 (b29 j s) (b39 j s) (b40 j s) (b42 j s) (b60 j s) (b61 j s) (b76 j s) (b85 j s) (b86 j s) (b95 j s) (b97 j s) := rfl

/-- Operations of one call up to the end of stretch 3, in the names of the step. -/
theorem advance_3 : fn_advance_part3 (F := Ideal) s.main_v9_9 s.main_v9_10 s.main_v9_11 s.main_v9_12 s.main_v9_13 s.main_v9_14 ok s.main_v9_4 s.main_v9_5 (b29 j s) (b39 j s) (b40 j s) (b42 j s) (b60 j s) (b61 j s) (b76 j s) (b85 j s) (b86 j s) (b95 j s) (b97 j s)
    = fn_advance_part4 (F := Ideal) s.main_v9_9 s.main_v9_10 s.main_v9_11 s.main_v9_12 s.main_v9_13 s.main_v9_14 ok s.main_v9_4 s.main_v9_5 (b29 j s) (b39 j s) (b42 j s) (b60 j s) (b61 j s) (b76 j s) (b85 j s) (b86 j s) (b95 j s) (b103 j s) (b111 j s) (b121 j s) := rfl

/-- Operations of one call up to the end of stretch 4, in the names of the step. -/
theorem advance_4 : fn_advance_part4 (F := Ideal) s.main_v9_9 s.main_v9_10 s.main_v9_11 s.main_v9_12 s.main_v9_13 s.main_v9_14 ok s.main_v9_4 s.main_v9_5 (b29 j s) (b39 j s) (b42 j s) (b60 j s) (b61 j s) (b76 j s) (b85 j s) (b86 j s) (b95 j s) (b103 j s) (b111 j s) (b121 j s)
    = fn_advance_part5 (F := Ideal) s.main_v9_9 s.main_v9_10 s.main_v9_11 s.main_v9_12 s.main_v9_13 s.main_v9_14 ok s.main_v9_4 s.main_v9_5 (b29 j s) (b39 j s) (b42 j s) (b60 j s) (b61 j s) (b76 j s) (b85 j s) (b86 j s) (b103 j s) (b111 j s) (b127 j s) (b144 j s) (b145 j s) := rfl

/-- Operations of one call up to the end of stretch 5, in the names of the step. -/
theorem advance_5 : fn_advance_part5 (F := Ideal) s.main_v9_9 s.main_v9_10 s.main_v9_11 s.main_v9_12 s.main_v9_13 s.main_v9_14 ok s.main_v9_4 s.main_v9_5 (b29 j s) (b39 j s) (b42 j s) (b60 j s) (b61 j s) (b76 j s) (b85 j s) (b86 j s) (b103 j s) (b111 j s) (b127 j s) (b144 j s) (b145 j s)
    = fn_advance_part6 (F := Ideal) s.main_v9_9 s.main_v9_12 s.main_v9_13 s.main_v9_14 ok s.main_v9_4 s.main_v9_5 (b29 j s) (b39 j s) (b42 j s) (b60 j s) (b61 j s) (b76 j s) (b85 j s) (b86 j s) (b103 j s) (b111 j s) (b127 j s) (b148 j s) (b151 j s) (b160 j s) (b162 j s) (b167 j s) (b171 j s) := rfl

/-- Operations of one call up to the end of stretch 6, in the names of the step. -/
theorem advance_6 : fn_advance_part6 (F := Ideal) s.main_v9_9 s.main_v9_12 s.main_v9_13 s.main_v9_14 ok s.main_v9_4 s.main_v9_5 (b29 j s) (b39 j s) (b42 j s) (b60 j s) (b61 j s) (b76 j s) (b85 j s) (b86 j s) (b103 j s) (b111 j s) (b127 j s) (b148 j s) (b151 j s) (b160 j s) (b162 j s) (b167 j s) (b171 j s)
    = fn_advance_part7 (F := Ideal) s.main_v9_9 s.main_v9_12 s.main_v9_13 s.main_v9_14 ok s.main_v9_4 s.main_v9_5 (b29 j s) (b39 j s) (b42 j s) (b60 j s) (b61 j s) (b76 j s) (b85 j s) (b86 j s) (b103 j s) (b111 j s) (b127 j s) (b148 j s) (b151 j s) (b160 j s) (b162 j s) (b192 j s) (b81 j s) (b195 j s) := rfl

/-- Operations of one call up to the end of stretch 7, in the names of the step. -/
theorem advance_7 : fn_advance_part7 (F := Ideal) s.main_v9_9 s.main_v9_12 s.main_v9_13 s.main_v9_14 ok s.main_v9_4 s.main_v9_5 (b29 j s) (b39 j s) (b42 j s) (b60 j s) (b61 j s) (b76 j s) (b85 j s) (b86 j s) (b103 j s) (b111 j s) (b127 j s) (b148 j s) (b151 j s) (b160 j s) (b162 j s) (b192 j s) (b81 j s) (b195 j s)
    = fn_advance_part8 (F := Ideal) s.main_v9_9 s.main_v9_12 s.main_v9_13 s.main_v9_14 ok s.main_v9_4 s.main_v9_5 (b29 j s) (b39 j s) (b42 j s) (b60 j s) (b61 j s) (b76 j s) (b85 j s) (b86 j s) (b103 j s) (b111 j s) (b127 j s) (b148 j s) (b151 j s) (b214 j s) (b216 j s) (b219 j s) := rfl

/-- Operations of one call up to the end of stretch 8, in the names of the step. -/
theorem advance_8 : fn_advance_part8 (F := Ideal) s.main_v9_9 s.main_v9_12 s.main_v9_13 s.main_v9_14 ok s.main_v9_4 s.main_v9_5 (b29 j s) (b39 j s) (b42 j s) (b60 j s) (b61 j s) (b76 j s) (b85 j s) (b86 j s) (b103 j s) (b111 j s) (b127 j s) (b148 j s) (b151 j s) (b214 j s) (b216 j s) (b219 j s)
    = fn_advance_part9 (F := Ideal) s.main_v9_9 s.main_v9_12 s.main_v9_13 s.main_v9_14 ok s.main_v9_4 s.main_v9_5 (b29 j s) (b39 j s) (b42 j s) (b60 j s) (b85 j s) (b86 j s) (b103 j s) (b111 j s) (b127 j s) (b148 j s) (b229 j s) (b246 j s) (b248 j s) (b114 j s) := rfl

/-- Operations of one call up to the end of stretch 9, in the names of the step. -/
theorem advance_9 : fn_advance_part9 (F := Ideal) s.main_v9_9 s.main_v9_12 s.main_v9_13 s.main_v9_14 ok s.main_v9_4 s.main_v9_5 (b29 j s) (b39 j s) (b42 j s) (b60 j s) (b85 j s) (b86 j s) (b103 j s) (b111 j s) (b127 j s) (b148 j s) (b229 j s) (b246 j s) (b248 j s) (b114 j s)
    = fn_advance_part10 (F := Ideal) s.main_v9_9 s.main_v9_12 s.main_v9_13 s.main_v9_14 ok s.main_v9_4 s.main_v9_5 (b29 j s) (b39 j s) (b42 j s) (b60 j s) (b86 j s) (b127 j s) (b148 j s) (b268 j s) (b273 j s) := rfl

/-- Operations of one call up to the end of stretch 10, in the names of the step. -/
theorem advance_10 : fn_advance_part10 (F := Ideal) s.main_v9_9 s.main_v9_12 s.main_v9_13 s.main_v9_14 ok s.main_v9_4 s.main_v9_5 (b29 j s) (b39 j s) (b42 j s) (b60 j s) (b86 j s) (b127 j s) (b148 j s) (b268 j s) (b273 j s)
    = fn_advance_part11 (F := Ideal) s.main_v9_12 s.main_v9_14 ok s.main_v9_4 s.main_v9_5 (b29 j s) (b39 j s) (b42 j s) (b60 j s) (b127 j s) (b148 j s) (b268 j s) (b283 j s) (b290 j s) (b296 j s) (b297 j s) := rfl

/-- Operations of one call up to the end of stretch 11, in the names of the step. -/
theorem advance_11 : fn_advance_part11 (F := Ideal) s.main_v9_12 s.main_v9_14 ok s.main_v9_4 s.main_v9_5 (b29 j s) (b39 j s) (b42 j s) (b60 j s) (b127 j s) (b148 j s) (b268 j s) (b283 j s) (b290 j s) (b296 j s) (b297 j s)
    = fn_advance_part12 (F := Ideal) ok s.main_v9_4 s.main_v9_5 (b29 j s) (b39 j s) (b60 j s) (b127 j s) (b148 j s) (b268 j s) (b283 j s) (b290 j s) (b305 j s) (b306 j s) (b308 j s) (b327 j s) := rfl

/-- Operations of one call up to the end of stretch 12, in the names of the step. -/
theorem advance_12 : fn_advance_part12 (F := Ideal) ok s.main_v9_4 s.main_v9_5 (b29 j s) (b39 j s) (b60 j s) (b127 j s) (b148 j s) (b268 j s) (b283 j s) (b290 j s) (b305 j s) (b306 j s) (b308 j s) (b327 j s)
    = fn_advance_part13 (F := Ideal) ok s.main_v9_4 s.main_v9_5 (b29 j s) (b39 j s) (b127 j s) (b148 j s) (b268 j s) (b283 j s) (b290 j s) (b305 j s) (b306 j s) (b351 j s) := rfl

/-- Operations of one call up to the end of stretch 13, in the names of the step. -/
theorem advance_13 : fn_advance_part13 (F := Ideal) ok s.main_v9_4 s.main_v9_5 (b29 j s) (b39 j s) (b127 j s) (b148 j s) (b268 j s) (b283 j s) (b290 j s) (b305 j s) (b306 j s) (b351 j s)
    = ((b39 j s), (b29 j s), (b283 j s), (b148 j s), (b268 j s), (b305 j s), (b290 j s), (b355 j s), andi ok (cmpf (F := Ideal) .oge (b148 j s) (broadcastInDim S1024 ![] bcast_S_S1024 (constant (F := Ideal) S_ .f32 0x00000000#32)))) := rfl

/-- One call of the predicate is one step of the reference. -/
theorem advance : fn_advance (F := Ideal) s.main_v9_7 s.main_v9_8 s.main_v9_9 s.main_v9_10 s.main_v9_11 s.main_v9_12 s.main_v9_13 s.main_v9_14 ok (b2 j s) s.main_v9_1 s.main_v9_2 s.main_v9_3 s.main_v9_4 s.main_v9_5
    = ((b39 j s), (b29 j s), (b283 j s), (b148 j s), (b268 j s), (b305 j s), (b290 j s), (b355 j s), andi ok (cmpf (F := Ideal) .oge (b148 j s) (broadcastInDim S1024 ![] bcast_S_S1024 (constant (F := Ideal) S_ .f32 0x00000000#32)))) :=
  ((((((((((((((advance_0 j s ok).trans (advance_1 j s ok)).trans (advance_2 j s ok)).trans (advance_3 j s ok)).trans (advance_4 j s ok)).trans (advance_5 j s ok)).trans (advance_6 j s ok)).trans (advance_7 j s ok)).trans (advance_8 j s ok)).trans (advance_9 j s ok)).trans (advance_10 j s ok)).trans (advance_11 j s ok)).trans (advance_12 j s ok)).trans (advance_13 j s ok))

end Cert.Proof.Stage
-- ==== Proof.StageIv.lean ====
/-
The parts of the interface vector: what the kernel cuts out of its row of 512 columns is what the reference cuts out of
its vector of 471.
-/
module

public import proofs.«01_k».proof.Proof.Gen.KernelIdeal.Skeleton
public import proofs.«01_k».proof.Proof.Gen.KernelIdeal
public import proofs.«01_k».proof.Proof.Gen.ReferenceIdeal.Step
public import proofs.«01_k».proof.Proof.Gen.ReferenceIdeal
public import Idealize.ShloMosaic.Lib.Pointwise
public import Idealize.ShloMosaic.Lib.Pipeline.ValueKit

@[expose] public section

set_option backward.proofsInPublic true
set_option maxRecDepth 16384

noncomputable section

namespace Cert.Proof.Stage

open Idealize.ShloMosaic
open Cert.KernelIdeal Cert.KernelIdeal.Gen
open Cert.ReferenceIdeal.Step

/-- The kernel's row holds the reference's interface vector in its first 471 columns. -/
def IvAgree (j : ℕ) (s : State Ideal) (v : Vec Ideal S1x512 .f32) : Prop :=
  ∀ (a : Fin 512) (b : Fin 471), (a : ℕ) = b → v (ix2 0 a) = b40 j s (ix1 b)

/-- Taking the start of a maximum once more changes nothing. -/
theorem max_fold {n : ℕ} (a : EReal) (f : Fin n → EReal) :
    max a (Finset.univ.fold max a f) = Finset.univ.fold max a f :=
  max_eq_right ((Finset.le_fold_max _).2 (Or.inl le_rfl))

variable {j : ℕ} {s : State Ideal} {v : Vec Ideal S1x512 .f32} (h : IvAgree j s v)

include h

/-- The strengths of the read keys. -/
theorem strengths (r : Fin 4) : k0_pay31 v (ix2 0 r) = b60 j s (ix1 r) := by
  have e := h ⟨256 + r, by omega⟩ ⟨256 + r, by omega⟩ rfl
  pointwise [k0_pay31, b60, b59, b58, b57, b56, b55, b54, b53, b52, b51, b50, b49, b48, b47, b46, b45, b44, b43, e]
  simp [sub_eq_add_neg, add_assoc]

/-- The write key. -/
theorem write_key (r : Fin 64) : k0_pay32 v (ix2 0 r) = b61 j s (ix1 r) := by
  have e := h ⟨260 + r, by omega⟩ ⟨260 + r, by omega⟩ rfl
  pointwise [k0_pay32, b61, e]

/-- The strength of the write key. -/
theorem write_strength : k0_pay36 (k0_pay34 v) (k0_pay35 v) (Scalar.ofBits .f32 0x00000000#32) (ix2 0 0)
    = b76 j s ix0 := by
  have e := h 324 324 rfl
  pointwise [k0_pay36, k0_pay34, k0_pay35, k0_pay33, b76, b75, b74, b73, b72, b71, b70, b69, b68, b67, b66, b65, b64, b63, b62, e]
  simp [sub_eq_add_neg, add_assoc]

/-- The erase vector. -/
theorem erase (r : Fin 64) : k0_pay37 v (ix2 0 r) = b85 j s (ix1 r) := by
  have e := h ⟨325 + r, by omega⟩ ⟨325 + r, by omega⟩ rfl
  pointwise [k0_pay37, b85, b84, b83, b82, b81, b80, b79, b78, b77, e]
  rfl

/-- The vector written. -/
theorem write_vector (r : Fin 64) : k0_pay38 v (ix2 0 r) = b86 j s (ix1 r) := by
  have e := h ⟨389 + r, by omega⟩ ⟨389 + r, by omega⟩ rfl
  pointwise [k0_pay38, b86, e]

/-- The gate of the allocation. -/
theorem alloc_gate : k0_pay39 v (ix2 0 0) = b103 j s ix0 := by
  have e := h 457 457 rfl
  pointwise [k0_pay39, b103, b102, b101, b100, b99, b98, b97, b96, e]
  rfl

/-- The gate of the write. -/
theorem write_gate : k0_pay40 v (ix2 0 0) = b111 j s ix0 := by
  have e := h 458 458 rfl
  pointwise [k0_pay40, b111, b110, b109, b108, b107, b106, b105, b104, e]
  rfl

/-- The new usage. -/
theorem usage {v92 : Vec Ideal S4x1024 .f32} {v93 v94 : Vec Ideal S1x1024 .f32}
    (hrw : ∀ r n, v92 (ix2 r n) = s.main_v9_14 (ix2 r n)) (hu : ∀ n, v93 (ix2 0 n) = s.main_v9_10 (ix1 n))
    (hw : ∀ n, v94 (ix2 0 n) = s.main_v9_11 (ix1 n)) (n : Fin 1024) :
    k0_pay41 v v92 v93 v94 (ix2 0 n) = b148 j s (ix1 n) := by
  have e0 := h 453 453 rfl
  have e1 := h 454 454 rfl
  have e2 := h 455 455 rfl
  have e3 := h 456 456 rfl
  pointwise [k0_pay41, b148, b147, b146, b145, b144, b143, b142, b141, b140, b139, b138, b137, b136, b135, b134, b133,
    b132, b131, b130, b129, b128, b95, b94, b93, b92, b91, b90, b89, b88, b87, e0, e1, e2, e3, hrw, hu, hw]
  rfl

/-- The softmax of the first head's modes. -/
theorem modes0 (k : Fin 3) : k0_pay73 (k0_pay71 v) (k0_pay72 v) (ix2 0 k) = b127 j s (ix2 0 k) := by
  have e (k : Fin 3) := h ⟨459 + k, by omega⟩ ⟨459 + k, by omega⟩ rfl
  pointwise [k0_pay73, k0_pay71, k0_pay72, b127, b126, b125, b124, b123, b122, b121, b120, b119, b118, b117, b116, b115,
    b114, b113, b112, e]
  simp only [max_fold]

/-- The softmax of the second head's modes. -/
theorem modes1 (k : Fin 3) : k0_pay74 v (ix2 0 k) = b127 j s (ix2 1 k) := by
  have e (k : Fin 3) := h ⟨462 + k, by omega⟩ ⟨459 + (3 + k), by omega⟩ (by simp only []; omega)
  pointwise [k0_pay74, b127, b126, b125, b124, b123, b122, b121, b120, b119, b118, b117, b116, b115,
    b114, b113, b112, e]
  simp only [max_fold]

/-- The softmax of the third head's modes. -/
theorem modes2 (k : Fin 3) : k0_pay75 v (ix2 0 k) = b127 j s (ix2 2 k) := by
  have e (k : Fin 3) := h ⟨465 + k, by omega⟩ ⟨459 + (6 + k), by omega⟩ (by simp only []; omega)
  pointwise [k0_pay75, b127, b126, b125, b124, b123, b122, b121, b120, b119, b118, b117, b116, b115,
    b114, b113, b112, e]
  simp only [max_fold]

/-- The softmax of the fourth head's modes. -/
theorem modes3 (k : Fin 3) : k0_pay76 v (ix2 0 k) = b127 j s (ix2 3 k) := by
  have e (k : Fin 3) := h ⟨468 + k, by omega⟩ ⟨459 + (9 + k), by omega⟩ (by simp only []; omega)
  pointwise [k0_pay76, b127, b126, b125, b124, b123, b122, b121, b120, b119, b118, b117, b116, b115,
    b114, b113, b112, e]
  simp only [max_fold]

/-- The read keys. -/
theorem keys (r : Fin 4) (k : Fin 64) (a : Fin 256) (ha : (a : ℕ) = r * 64 + k) : k0_pay30 v (ix2 0 a) = b42 j s (ix2 r k) := by
  have e := h ⟨a, by omega⟩ ⟨r * 64 + k, by omega⟩ ha
  pointwise [k0_pay30, b42, b41, e]

/-- The share of the content weighting in each head's mode. -/
theorem mode_content (r : Fin 4) : k0_pay77 v (k0_pay71 v) (k0_pay72 v) (ix2 r 0) = b348 j s (ix2 r 0) := by
  pointwise [k0_pay77, b348]
  fin_cases r
  exacts [modes0 h 1, modes1 h 1, modes2 h 1, modes3 h 1]

/-- The share of the forward weighting in each head's mode. -/
theorem mode_forward (r : Fin 4) : k0_pay78 v (k0_pay71 v) (k0_pay72 v) (ix2 r 0) = b352 j s (ix2 r 0) := by
  pointwise [k0_pay78, b352]
  fin_cases r
  exacts [modes0 h 2, modes1 h 2, modes2 h 2, modes3 h 2]

/-- The backward weighting times its share in each head's mode. -/
theorem mode_backward {bw : Vec Ideal S4x1024 .f32} (hb : ∀ r n, bw (ix2 r n) = b308 j s (ix2 r n)) (r : Fin 4)
    (n : Fin 1024) : k0_pay79 v bw (k0_pay71 v) (k0_pay72 v) (ix2 r n) = b347 j s (ix2 r n) := by
  pointwise [k0_pay79, b347, b346, b345, hb]
  congr 1
  fin_cases r
  exacts [modes0 h 0, modes1 h 0, modes2 h 0, modes3 h 0]

end Cert.Proof.Stage
-- ==== Proof.StageLstm.lean ====
module

public import proofs.«01_k».proof.Proof.StageIv
public import Idealize.ShloMosaic.Lib.WordArith

/-! # The recurrent cell

The cell's product of the row and the hidden row with one matrix is the sum of two products.
The kernel takes the first for all rows at the start, and the second with the matrix given as a
rounded half and what is left of it, which over the extended reals is nothing. -/

@[expose] public section
set_option backward.proofsInPublic true
set_option maxRecDepth 16384
noncomputable section
namespace Cert.Proof.Stage
open Idealize.ShloMosaic
open Cert.KernelIdeal Cert.KernelIdeal.Gen
open Cert.ReferenceIdeal.Step

/-- A logistic is a real number. -/
theorem logistic_real (x : EReal) : ∃ r : ℝ, Ideal.div 1 (1 + Ideal.exp (-x)) = r := by
  induction x using EReal.rec with
  | bot => exact ⟨0, by simp [Ideal.div, EReal.inv_top, show (1 : EReal) + ⊤ = ⊤ from EReal.coe_add_top 1]⟩
  | top => exact ⟨1, by simp [Ideal.div]⟩
  | coe r =>
    have e : (1 : EReal) + Ideal.exp (-(r : EReal)) = ((1 + Real.exp (-r) : ℝ) : EReal) := by
      rw [← EReal.coe_neg, Ideal.exp_coe, EReal.coe_add, EReal.coe_one]
    have h0 : (1 + Real.exp (-r) : ℝ) ≠ 0 := by positivity
    refine ⟨1 * (1 + Real.exp (-r))⁻¹, ?_⟩
    rw [e, Ideal.div, if_neg (by exact_mod_cast h0), EReal.coe_mul, EReal.coe_one, EReal.coe_inv]

/-- A hyperbolic tangent is a real number. -/
theorem tanh_real (x : EReal) : ∃ r : ℝ, Ideal.tanh x = r := by
  induction x using EReal.rec with
  | bot => exact ⟨-1, by simp⟩
  | top => exact ⟨1, by simp⟩
  | coe r => exact ⟨Real.tanh r, by simp⟩

variable {j : ℕ} {s : State Ideal}

/-- The hidden row is made of real numbers, so that it is nothing less itself. -/
theorem hidden_sub (k : Fin 512) : b39 j s (ix1 k) - b39 j s (ix1 k) = 0 := by
  pointwise [b39, b38, b37, b36, b35, b34, b33, b32, b31, b30]
  obtain ⟨x, hx⟩ := logistic_real (b9 j s (ix1 k))
  obtain ⟨y, hy⟩ := tanh_real (b29 j s (ix1 k))
  rw [hx, hy, ← EReal.coe_mul, ← EReal.coe_sub, sub_self, EReal.coe_zero]

section
variable (hj : j < 32) {hh cc : Vec Ideal S1x512 .f32} {xw : Vec Ideal S1x2048 .f32} {wh wl : Vec Ideal S512x2048 .bf16}
  (hx : ∀ g, xw (ix2 0 g) = ∑ k : Fin 512, s.main_v9_0 (ix2 ⟨j, hj⟩ k) * s.main_v9_1 (ix2 ⟨(k : ℕ), by omega⟩ g) + s.main_v9_2 (ix1 g))
  (hh' : ∀ k, hh (ix2 0 k) = s.main_v9_7 (ix1 k)) (hz : ∀ k, s.main_v9_7 (ix1 k) - s.main_v9_7 (ix1 k) = 0)
  (hc : ∀ k, cc (ix2 0 k) = s.main_v9_8 (ix1 k))
  (hw : ∀ k g, wh (ix2 k g) = s.main_v9_1 (ix2 ⟨512 + (k : ℕ), by omega⟩ g)) (hl : ∀ k g, wl (ix2 k g) = 0)
include hx hh' hz hw hl

/-- The gates before they are squashed. -/
theorem gates (g : Fin 2048) : k0_pay24 hh xw wh wl (ix2 0 g) = b5 j s (ix1 g) := by
  pointwise [k0_pay24, hx, hh', hz, hw, hl]
  have c0 : Host.clampedStart ReferenceIdeal.S32x512 ReferenceIdeal.S1x512 rfl
      (fun k => BitVec.toInt (![constantI ReferenceIdeal.S_ 32 (BitVec.ofNat 32 j), constantI ReferenceIdeal.S_ 32 0#32] k
        (Shape.Idx.first Cert.ReferenceIdeal.Gen.h_S_))) 0 = j := by
    simp [Host.clampedStart]
    rw [show (constantI ReferenceIdeal.S_ 32 (BitVec.ofNat 32 j) (Shape.Idx.first Cert.ReferenceIdeal.Gen.h_S_)).toInt = j from
      WordArith.toInt_ofNat_small _ (by omega)]
    omega
  have c1 : Host.clampedStart ReferenceIdeal.S32x512 ReferenceIdeal.S1x512 rfl
      (fun k => BitVec.toInt (![constantI ReferenceIdeal.S_ 32 (BitVec.ofNat 32 j), constantI ReferenceIdeal.S_ 32 0#32] k
        (Shape.Idx.first Cert.ReferenceIdeal.Gen.h_S_))) 1 = 0 := by
    simp [Host.clampedStart]
  pointwise [b5, b4, b3, b2, b1, b0, c0, c1]
  simp only [mul_zero, zero_mul, Finset.sum_const_zero, add_zero, zero_add]
  rw [add_right_comm]

include hc
/-- The cell's state. -/
theorem cell (k : Fin 512) : k0_pay25 hh cc xw wh wl (ix2 0 k) = b29 j s (ix1 k) := by
  have e := gates hj hx hh' hz hw hl
  pointwise [k0_pay25, e, hc]
  pointwise [b29, b28, b27, b26, b25, b24, b23, b22, b21, b20, b19, b18, b17, b16, b15, b14, b13, b12, b11, b10, b8, b7, b6]
  rfl

/-- The hidden row. -/
theorem hidden (k : Fin 512) : k0_pay26 hh cc xw wh wl (ix2 0 k) = b39 j s (ix1 k) := by
  have e := gates hj hx hh' hz hw hl
  have e' := cell hj hx hh' hz hc hw hl
  pointwise [k0_pay26, e, e']
  pointwise [b39, b38, b37, b36, b35, b34, b33, b32, b31, b30, b9]
  rfl
end

/-- The interface row. -/
theorem interface {hh : Vec Ideal S1x512 .f32} {ih il : Vec Ideal S512x512 .bf16} (hh' : ∀ k, hh (ix2 0 k) = b39 j s (ix1 k))
    (hi : ∀ (k : Fin 512) (a : Fin 512) (b : Fin 471), (a : ℕ) = b → ih (ix2 k a) = s.main_v9_3 (ix2 k b))
    (hl : ∀ k a, il (ix2 k a) = 0) : IvAgree j s (k0_pay29 hh ih il) := by
  intro a b hab
  have hz := hidden_sub (j := j) (s := s)
  have hi' (k : Fin 512) := hi k a b hab
  pointwise [k0_pay29, hh', hz, hi', hl]
  pointwise [b40]
  simp only [mul_zero, zero_mul, Finset.sum_const_zero, add_zero]

end Cert.Proof.Stage
-- ==== Proof.StagePre.lean ====
module

public import proofs.«01_k».proof.Proof.StageAdvance
public import Idealize.ShloMosaic.Lib.Pipeline.ValueKit
public import proofs.«01_k».proof.Proof.StageLstm

/-! # What the predicate says of the steps

The predicate's function calls the step's operations 32 times; so its results, when they are all
ones, say that no usage of the 32 steps is negative and that the weights are finite. -/

@[expose] public section
set_option maxRecDepth 16384
set_option backward.proofsInPublic true
noncomputable section
namespace Cert.Proof.Stage
open Idealize.ShloMosaic
open Cert.Pre_usage_stays_nonnegative Cert.Pre_usage_stays_nonnegative.Facts
open Cert.ReferenceIdeal.Step

/-- The states of the steps, and what the predicate has gathered before each. -/
structure Runs (x : FVec Ideal S32x512 .f32) (W : FVec Ideal S1024x2048 .f32) (b : FVec Ideal S2048 .f32)
    (IM : FVec Ideal S512x471 .f32) (VM : FVec Ideal S512x128 .f32) (RM : FVec Ideal S256x128 .f32)
    (I : ℕ → State Ideal) (O : ℕ → IVec S1024 1) : Prop where
  i0 : I 0 = init x W b IM VM RM
  i1 : ∀ n, I (n + 1) = step n (I n)
  o0 : O 0 = broadcastInDim S1024 ![] bcast_S_S1024 (constantI S_ 1 1#1)
  o1 : ∀ n, O (n + 1) = andi (O n) (cmpf (F := Ideal) .oge (b148 n (I n)) (broadcastInDim S1024 ![] bcast_S_S1024 (constant (F := Ideal) S_ .f32 0x00000000#32)))

variable {x : FVec Ideal S32x512 .f32} {W : FVec Ideal S1024x2048 .f32} {b : FVec Ideal S2048 .f32}
  {IM : FVec Ideal S512x471 .f32} {VM : FVec Ideal S512x128 .f32} {RM : FVec Ideal S256x128 .f32}
  {I : ℕ → State Ideal} {O : ℕ → IVec S1024 1} (R : Runs x W b IM VM RM I O)
include R

/-- The steps leave the arguments. -/
theorem Runs.args (n : ℕ) : (I n).main_v9_0 = x ∧ (I n).main_v9_1 = W ∧ (I n).main_v9_2 = b ∧ (I n).main_v9_3 = IM
    ∧ (I n).main_v9_4 = VM ∧ (I n).main_v9_5 = RM := by
  induction n with
  | zero => rw [R.i0]; exact ⟨rfl, rfl, rfl, rfl, rfl, rfl⟩
  | succ n ih => rw [R.i1]; exact ih

omit R in
/-- A row of the input, cut at a fixed place, is the row a step cuts. -/
theorem row_fixed (j : ℕ) (hj : j < 32) (s : State Ideal) (hs : Shape.Slices S32x512 ![j, 0] S1x512) :
    shapeCast S512 (extractStridedSlice S1x512 ![j, 0] s.main_v9_0 hs) shapeCasts_S1x512_S512 = b2 j s := by
  funext i
  obtain ⟨k, rfl⟩ : ∃ k, i = ix1 k := ⟨i 0, eq_ix1 i⟩
  have c0 : Host.clampedStart ReferenceIdeal.S32x512 ReferenceIdeal.S1x512 rfl
      (fun k => BitVec.toInt (![constantI ReferenceIdeal.S_ 32 (BitVec.ofNat 32 j), constantI ReferenceIdeal.S_ 32 0#32] k
        (Shape.Idx.first Cert.ReferenceIdeal.Gen.h_S_))) 0 = j := by
    simp [Host.clampedStart]
    rw [show (constantI ReferenceIdeal.S_ 32 (BitVec.ofNat 32 j) (Shape.Idx.first Cert.ReferenceIdeal.Gen.h_S_)).toInt = j from
      WordArith.toInt_ofNat_small _ (by omega)]
    omega
  have c1 : Host.clampedStart ReferenceIdeal.S32x512 ReferenceIdeal.S1x512 rfl
      (fun k => BitVec.toInt (![constantI ReferenceIdeal.S_ 32 (BitVec.ofNat 32 j), constantI ReferenceIdeal.S_ 32 0#32] k
        (Shape.Idx.first Cert.ReferenceIdeal.Gen.h_S_))) 1 = 0 := by
    simp [Host.clampedStart]
  pointwise [b2, b1, b0, c0, c1]

/-- One call. -/
theorem Runs.call (j : ℕ) (hj : j < 32) (hs : Shape.Slices S32x512 ![j, 0] S1x512) :
    fn_advance (F := Ideal) (I j).main_v9_7 (I j).main_v9_8 (I j).main_v9_9 (I j).main_v9_10 (I j).main_v9_11 (I j).main_v9_12
      (I j).main_v9_13 (I j).main_v9_14 (O j) (shapeCast S512 (extractStridedSlice S1x512 ![j, 0] x hs) shapeCasts_S1x512_S512) W b IM VM RM
    = ((I (j + 1)).main_v9_7, (I (j + 1)).main_v9_8, (I (j + 1)).main_v9_9, (I (j + 1)).main_v9_10, (I (j + 1)).main_v9_11,
      (I (j + 1)).main_v9_12, (I (j + 1)).main_v9_13, (I (j + 1)).main_v9_14, O (j + 1)) := by
  obtain ⟨e0, e1, e2, e3, e4, e5⟩ := R.args j
  rw [R.i1, R.o1, ← e0, ← e1, ← e2, ← e3, ← e4, ← e5, row_fixed j hj _ hs]
  exact advance j (I j) (O j)

/-- The first call, from nothing. -/
theorem Runs.call_first :
    fn_advance (F := Ideal) (broadcastInDim S512 ![] bcast_S_S512 (constant (F := Ideal) S_ .f32 0x00000000#32)) (broadcastInDim S512 ![] bcast_S_S512 (constant (F := Ideal) S_ .f32 0x00000000#32)) (broadcastInDim S1024x64 ![] bcast_S_S1024x64 (constant (F := Ideal) S_ .f32 0x00000000#32)) (broadcastInDim S1024 ![] bcast_S_S1024 (constant (F := Ideal) S_ .f32 0x00000000#32)) (broadcastInDim S1024 ![] bcast_S_S1024 (constant (F := Ideal) S_ .f32 0x00000000#32)) (broadcastInDim S1024x1024 ![] bcast_S_S1024x1024 (constant (F := Ideal) S_ .f32 0x00000000#32)) (broadcastInDim S1024 ![] bcast_S_S1024 (constant (F := Ideal) S_ .f32 0x00000000#32)) (broadcastInDim S4x1024 ![] bcast_S_S4x1024 (constant (F := Ideal) S_ .f32 0x00000000#32)) (broadcastInDim S1024 ![] bcast_S_S1024 (constantI S_ 1 1#1)) (shapeCast S512 (extractStridedSlice S1x512 ![0, 0] x slices_S32x512_S1x512_0_0) shapeCasts_S1x512_S512) W b IM VM RM
    = ((I 1).main_v9_7, (I 1).main_v9_8, (I 1).main_v9_9, (I 1).main_v9_10, (I 1).main_v9_11,
      (I 1).main_v9_12, (I 1).main_v9_13, (I 1).main_v9_14, O 1) := by
  have h := R.call 0 (by omega) slices_S32x512_S1x512_0_0
  rw [R.i0, R.o0] at h
  exact h

omit R in
/-- The number the predicate starts its states from is nothing. -/
theorem start_zero (b : FVec Ideal S2048 .f32) :
    minimumf (Host.absf (shapeCast S_ (extractStridedSlice S1 ![0] b slices_S2048_S1_0) shapeCasts_S1_S_)) (constant (F := Ideal) S_ .f32 0x00000000#32) = (constant (F := Ideal) S_ .f32 0x00000000#32) := by
  funext i
  pointwise
  exact min_eq_right (le_max_iff.mpr ((le_total 0 _).imp id (fun h => EReal.neg_nonneg.mpr h)))

/-- Stretch 0 of the predicate. -/
theorem Runs.stretch_0 : fn (F := Ideal) x W b IM VM RM
    = fn_part1 (F := Ideal) x W b IM VM RM (broadcastInDim S512 ![] bcast_S_S512 (constant (F := Ideal) S_ .f32 0x00000000#32)) (broadcastInDim S512 ![] bcast_S_S512 (constant (F := Ideal) S_ .f32 0x00000000#32)) (broadcastInDim S1024x64 ![] bcast_S_S1024x64 (constant (F := Ideal) S_ .f32 0x00000000#32)) (broadcastInDim S1024 ![] bcast_S_S1024 (constant (F := Ideal) S_ .f32 0x00000000#32)) (broadcastInDim S1024 ![] bcast_S_S1024 (constant (F := Ideal) S_ .f32 0x00000000#32)) (broadcastInDim S1024x1024 ![] bcast_S_S1024x1024 (constant (F := Ideal) S_ .f32 0x00000000#32)) (broadcastInDim S1024 ![] bcast_S_S1024 (constant (F := Ideal) S_ .f32 0x00000000#32)) (broadcastInDim S4x1024 ![] bcast_S_S4x1024 (constant (F := Ideal) S_ .f32 0x00000000#32)) (broadcastInDim S1024 ![] bcast_S_S1024 (constantI S_ 1 1#1)) (shapeCast S512 (extractStridedSlice S1x512 ![0, 0] x slices_S32x512_S1x512_0_0) shapeCasts_S1x512_S512) (I 1).main_v9_7 (I 1).main_v9_8 (I 1).main_v9_9 (I 1).main_v9_10 (I 1).main_v9_11 (I 1).main_v9_12 (I 1).main_v9_13 := by
  unfold fn
  simp only [start_zero, R.call_first]

/-- Stretch 1 of the predicate. -/
theorem Runs.stretch_1 : fn_part1 (F := Ideal) x W b IM VM RM (broadcastInDim S512 ![] bcast_S_S512 (constant (F := Ideal) S_ .f32 0x00000000#32)) (broadcastInDim S512 ![] bcast_S_S512 (constant (F := Ideal) S_ .f32 0x00000000#32)) (broadcastInDim S1024x64 ![] bcast_S_S1024x64 (constant (F := Ideal) S_ .f32 0x00000000#32)) (broadcastInDim S1024 ![] bcast_S_S1024 (constant (F := Ideal) S_ .f32 0x00000000#32)) (broadcastInDim S1024 ![] bcast_S_S1024 (constant (F := Ideal) S_ .f32 0x00000000#32)) (broadcastInDim S1024x1024 ![] bcast_S_S1024x1024 (constant (F := Ideal) S_ .f32 0x00000000#32)) (broadcastInDim S1024 ![] bcast_S_S1024 (constant (F := Ideal) S_ .f32 0x00000000#32)) (broadcastInDim S4x1024 ![] bcast_S_S4x1024 (constant (F := Ideal) S_ .f32 0x00000000#32)) (broadcastInDim S1024 ![] bcast_S_S1024 (constantI S_ 1 1#1)) (shapeCast S512 (extractStridedSlice S1x512 ![0, 0] x slices_S32x512_S1x512_0_0) shapeCasts_S1x512_S512) (I 1).main_v9_7 (I 1).main_v9_8 (I 1).main_v9_9 (I 1).main_v9_10 (I 1).main_v9_11 (I 1).main_v9_12 (I 1).main_v9_13
    = fn_part2 (F := Ideal) x W b IM VM RM (I 3).main_v9_7 (I 3).main_v9_8 (I 3).main_v9_9 (I 3).main_v9_10 (I 3).main_v9_11 (I 3).main_v9_12 (I 3).main_v9_13 (I 3).main_v9_14 (O 3) := by
  unfold fn_part1
  simp only [R.call_first, R.call 1 (by omega) slices_S32x512_S1x512_1_0, R.call 2 (by omega) slices_S32x512_S1x512_2_0]

/-- Stretch 2 of the predicate. -/
theorem Runs.stretch_2 : fn_part2 (F := Ideal) x W b IM VM RM (I 3).main_v9_7 (I 3).main_v9_8 (I 3).main_v9_9 (I 3).main_v9_10 (I 3).main_v9_11 (I 3).main_v9_12 (I 3).main_v9_13 (I 3).main_v9_14 (O 3)
    = fn_part3 (F := Ideal) x W b IM VM RM (I 5).main_v9_7 (I 5).main_v9_8 (I 5).main_v9_9 (I 5).main_v9_10 (I 5).main_v9_11 (I 5).main_v9_12 (I 5).main_v9_13 (I 5).main_v9_14 (O 5) (shapeCast S512 (extractStridedSlice S1x512 ![5, 0] x slices_S32x512_S1x512_5_0) shapeCasts_S1x512_S512) := by
  unfold fn_part2
  simp only [R.call 3 (by omega) slices_S32x512_S1x512_3_0, R.call 4 (by omega) slices_S32x512_S1x512_4_0]

/-- Stretch 3 of the predicate. -/
theorem Runs.stretch_3 : fn_part3 (F := Ideal) x W b IM VM RM (I 5).main_v9_7 (I 5).main_v9_8 (I 5).main_v9_9 (I 5).main_v9_10 (I 5).main_v9_11 (I 5).main_v9_12 (I 5).main_v9_13 (I 5).main_v9_14 (O 5) (shapeCast S512 (extractStridedSlice S1x512 ![5, 0] x slices_S32x512_S1x512_5_0) shapeCasts_S1x512_S512)
    = fn_part4 (F := Ideal) x W b IM VM RM (I 7).main_v9_7 (I 7).main_v9_8 (I 7).main_v9_9 (I 7).main_v9_10 (I 7).main_v9_11 (I 7).main_v9_12 (I 7).main_v9_13 (I 7).main_v9_14 (O 7) (shapeCast S512 (extractStridedSlice S1x512 ![7, 0] x slices_S32x512_S1x512_7_0) shapeCasts_S1x512_S512) (I 8).main_v9_7 (I 8).main_v9_8 := by
  unfold fn_part3
  simp only [R.call 5 (by omega) slices_S32x512_S1x512_5_0, R.call 6 (by omega) slices_S32x512_S1x512_6_0, R.call 7 (by omega) slices_S32x512_S1x512_7_0]

/-- Stretch 4 of the predicate. -/
theorem Runs.stretch_4 : fn_part4 (F := Ideal) x W b IM VM RM (I 7).main_v9_7 (I 7).main_v9_8 (I 7).main_v9_9 (I 7).main_v9_10 (I 7).main_v9_11 (I 7).main_v9_12 (I 7).main_v9_13 (I 7).main_v9_14 (O 7) (shapeCast S512 (extractStridedSlice S1x512 ![7, 0] x slices_S32x512_S1x512_7_0) shapeCasts_S1x512_S512) (I 8).main_v9_7 (I 8).main_v9_8
    = fn_part5 (F := Ideal) x W b IM VM RM (I 9).main_v9_7 (I 9).main_v9_8 (I 9).main_v9_9 (I 9).main_v9_10 (I 9).main_v9_11 (I 9).main_v9_12 (I 9).main_v9_13 (I 9).main_v9_14 (O 9) (shapeCast S512 (extractStridedSlice S1x512 ![9, 0] x slices_S32x512_S1x512_9_0) shapeCasts_S1x512_S512) (I 10).main_v9_7 (I 10).main_v9_8 (I 10).main_v9_9 (I 10).main_v9_10 := by
  unfold fn_part4
  simp only [R.call 7 (by omega) slices_S32x512_S1x512_7_0, R.call 8 (by omega) slices_S32x512_S1x512_8_0, R.call 9 (by omega) slices_S32x512_S1x512_9_0]

/-- Stretch 5 of the predicate. -/
theorem Runs.stretch_5 : fn_part5 (F := Ideal) x W b IM VM RM (I 9).main_v9_7 (I 9).main_v9_8 (I 9).main_v9_9 (I 9).main_v9_10 (I 9).main_v9_11 (I 9).main_v9_12 (I 9).main_v9_13 (I 9).main_v9_14 (O 9) (shapeCast S512 (extractStridedSlice S1x512 ![9, 0] x slices_S32x512_S1x512_9_0) shapeCasts_S1x512_S512) (I 10).main_v9_7 (I 10).main_v9_8 (I 10).main_v9_9 (I 10).main_v9_10
    = fn_part6 (F := Ideal) x W b IM VM RM (I 11).main_v9_7 (I 11).main_v9_8 (I 11).main_v9_9 (I 11).main_v9_10 (I 11).main_v9_11 (I 11).main_v9_12 (I 11).main_v9_13 (I 11).main_v9_14 (O 11) (shapeCast S512 (extractStridedSlice S1x512 ![11, 0] x slices_S32x512_S1x512_11_0) shapeCasts_S1x512_S512) (I 12).main_v9_7 (I 12).main_v9_8 (I 12).main_v9_9 (I 12).main_v9_10 (I 12).main_v9_11 (I 12).main_v9_12 := by
  unfold fn_part5
  simp only [R.call 9 (by omega) slices_S32x512_S1x512_9_0, R.call 10 (by omega) slices_S32x512_S1x512_10_0, R.call 11 (by omega) slices_S32x512_S1x512_11_0]

/-- Stretch 6 of the predicate. -/
theorem Runs.stretch_6 : fn_part6 (F := Ideal) x W b IM VM RM (I 11).main_v9_7 (I 11).main_v9_8 (I 11).main_v9_9 (I 11).main_v9_10 (I 11).main_v9_11 (I 11).main_v9_12 (I 11).main_v9_13 (I 11).main_v9_14 (O 11) (shapeCast S512 (extractStridedSlice S1x512 ![11, 0] x slices_S32x512_S1x512_11_0) shapeCasts_S1x512_S512) (I 12).main_v9_7 (I 12).main_v9_8 (I 12).main_v9_9 (I 12).main_v9_10 (I 12).main_v9_11 (I 12).main_v9_12
    = fn_part7 (F := Ideal) x W b IM VM RM (I 13).main_v9_7 (I 13).main_v9_8 (I 13).main_v9_9 (I 13).main_v9_10 (I 13).main_v9_11 (I 13).main_v9_12 (I 13).main_v9_13 (I 13).main_v9_14 (O 13) (shapeCast S512 (extractStridedSlice S1x512 ![13, 0] x slices_S32x512_S1x512_13_0) shapeCasts_S1x512_S512) (I 14).main_v9_7 (I 14).main_v9_8 (I 14).main_v9_9 (I 14).main_v9_10 (I 14).main_v9_11 (I 14).main_v9_12 (I 14).main_v9_13 (I 14).main_v9_14 := by
  unfold fn_part6
  simp only [R.call 11 (by omega) slices_S32x512_S1x512_11_0, R.call 12 (by omega) slices_S32x512_S1x512_12_0, R.call 13 (by omega) slices_S32x512_S1x512_13_0]

/-- Stretch 7 of the predicate. -/
theorem Runs.stretch_7 : fn_part7 (F := Ideal) x W b IM VM RM (I 13).main_v9_7 (I 13).main_v9_8 (I 13).main_v9_9 (I 13).main_v9_10 (I 13).main_v9_11 (I 13).main_v9_12 (I 13).main_v9_13 (I 13).main_v9_14 (O 13) (shapeCast S512 (extractStridedSlice S1x512 ![13, 0] x slices_S32x512_S1x512_13_0) shapeCasts_S1x512_S512) (I 14).main_v9_7 (I 14).main_v9_8 (I 14).main_v9_9 (I 14).main_v9_10 (I 14).main_v9_11 (I 14).main_v9_12 (I 14).main_v9_13 (I 14).main_v9_14
    = fn_part8 (F := Ideal) x W b IM VM RM (I 16).main_v9_7 (I 16).main_v9_8 (I 16).main_v9_9 (I 16).main_v9_10 (I 16).main_v9_11 (I 16).main_v9_12 (I 16).main_v9_13 (I 16).main_v9_14 (O 16) (extractStridedSlice S1x512 ![16, 0] x slices_S32x512_S1x512_16_0) := by
  unfold fn_part7
  simp only [R.call 13 (by omega) slices_S32x512_S1x512_13_0, R.call 14 (by omega) slices_S32x512_S1x512_14_0, R.call 15 (by omega) slices_S32x512_S1x512_15_0]

/-- Stretch 8 of the predicate. -/
theorem Runs.stretch_8 : fn_part8 (F := Ideal) x W b IM VM RM (I 16).main_v9_7 (I 16).main_v9_8 (I 16).main_v9_9 (I 16).main_v9_10 (I 16).main_v9_11 (I 16).main_v9_12 (I 16).main_v9_13 (I 16).main_v9_14 (O 16) (extractStridedSlice S1x512 ![16, 0] x slices_S32x512_S1x512_16_0)
    = fn_part9 (F := Ideal) x W b IM VM RM (I 18).main_v9_7 (I 18).main_v9_8 (I 18).main_v9_9 (I 18).main_v9_10 (I 18).main_v9_11 (I 18).main_v9_12 (I 18).main_v9_13 (I 18).main_v9_14 (O 18) (shapeCast S512 (extractStridedSlice S1x512 ![18, 0] x slices_S32x512_S1x512_18_0) shapeCasts_S1x512_S512) (I 19).main_v9_7 := by
  unfold fn_part8
  simp only [R.call 16 (by omega) slices_S32x512_S1x512_16_0, R.call 17 (by omega) slices_S32x512_S1x512_17_0, R.call 18 (by omega) slices_S32x512_S1x512_18_0]

/-- Stretch 9 of the predicate. -/
theorem Runs.stretch_9 : fn_part9 (F := Ideal) x W b IM VM RM (I 18).main_v9_7 (I 18).main_v9_8 (I 18).main_v9_9 (I 18).main_v9_10 (I 18).main_v9_11 (I 18).main_v9_12 (I 18).main_v9_13 (I 18).main_v9_14 (O 18) (shapeCast S512 (extractStridedSlice S1x512 ![18, 0] x slices_S32x512_S1x512_18_0) shapeCasts_S1x512_S512) (I 19).main_v9_7
    = fn_part10 (F := Ideal) x W b IM VM RM (I 20).main_v9_7 (I 20).main_v9_8 (I 20).main_v9_9 (I 20).main_v9_10 (I 20).main_v9_11 (I 20).main_v9_12 (I 20).main_v9_13 (I 20).main_v9_14 (O 20) (shapeCast S512 (extractStridedSlice S1x512 ![20, 0] x slices_S32x512_S1x512_20_0) shapeCasts_S1x512_S512) (I 21).main_v9_7 (I 21).main_v9_8 (I 21).main_v9_9 := by
  unfold fn_part9
  simp only [R.call 18 (by omega) slices_S32x512_S1x512_18_0, R.call 19 (by omega) slices_S32x512_S1x512_19_0, R.call 20 (by omega) slices_S32x512_S1x512_20_0]

/-- Stretch 10 of the predicate. -/
theorem Runs.stretch_10 : fn_part10 (F := Ideal) x W b IM VM RM (I 20).main_v9_7 (I 20).main_v9_8 (I 20).main_v9_9 (I 20).main_v9_10 (I 20).main_v9_11 (I 20).main_v9_12 (I 20).main_v9_13 (I 20).main_v9_14 (O 20) (shapeCast S512 (extractStridedSlice S1x512 ![20, 0] x slices_S32x512_S1x512_20_0) shapeCasts_S1x512_S512) (I 21).main_v9_7 (I 21).main_v9_8 (I 21).main_v9_9
    = fn_part11 (F := Ideal) x W b IM VM RM (I 22).main_v9_7 (I 22).main_v9_8 (I 22).main_v9_9 (I 22).main_v9_10 (I 22).main_v9_11 (I 22).main_v9_12 (I 22).main_v9_13 (I 22).main_v9_14 (O 22) (shapeCast S512 (extractStridedSlice S1x512 ![22, 0] x slices_S32x512_S1x512_22_0) shapeCasts_S1x512_S512) (I 23).main_v9_7 (I 23).main_v9_8 (I 23).main_v9_9 (I 23).main_v9_10 (I 23).main_v9_11 := by
  unfold fn_part10
  simp only [R.call 20 (by omega) slices_S32x512_S1x512_20_0, R.call 21 (by omega) slices_S32x512_S1x512_21_0, R.call 22 (by omega) slices_S32x512_S1x512_22_0]

/-- Stretch 11 of the predicate. -/
theorem Runs.stretch_11 : fn_part11 (F := Ideal) x W b IM VM RM (I 22).main_v9_7 (I 22).main_v9_8 (I 22).main_v9_9 (I 22).main_v9_10 (I 22).main_v9_11 (I 22).main_v9_12 (I 22).main_v9_13 (I 22).main_v9_14 (O 22) (shapeCast S512 (extractStridedSlice S1x512 ![22, 0] x slices_S32x512_S1x512_22_0) shapeCasts_S1x512_S512) (I 23).main_v9_7 (I 23).main_v9_8 (I 23).main_v9_9 (I 23).main_v9_10 (I 23).main_v9_11
    = fn_part12 (F := Ideal) x W b IM VM RM (I 24).main_v9_7 (I 24).main_v9_8 (I 24).main_v9_9 (I 24).main_v9_10 (I 24).main_v9_11 (I 24).main_v9_12 (I 24).main_v9_13 (I 24).main_v9_14 (O 24) (shapeCast S512 (extractStridedSlice S1x512 ![24, 0] x slices_S32x512_S1x512_24_0) shapeCasts_S1x512_S512) (I 25).main_v9_7 (I 25).main_v9_8 (I 25).main_v9_9 (I 25).main_v9_10 (I 25).main_v9_11 (I 25).main_v9_12 (I 25).main_v9_13 := by
  unfold fn_part11
  simp only [R.call 22 (by omega) slices_S32x512_S1x512_22_0, R.call 23 (by omega) slices_S32x512_S1x512_23_0, R.call 24 (by omega) slices_S32x512_S1x512_24_0]

/-- Stretch 12 of the predicate. -/
theorem Runs.stretch_12 : fn_part12 (F := Ideal) x W b IM VM RM (I 24).main_v9_7 (I 24).main_v9_8 (I 24).main_v9_9 (I 24).main_v9_10 (I 24).main_v9_11 (I 24).main_v9_12 (I 24).main_v9_13 (I 24).main_v9_14 (O 24) (shapeCast S512 (extractStridedSlice S1x512 ![24, 0] x slices_S32x512_S1x512_24_0) shapeCasts_S1x512_S512) (I 25).main_v9_7 (I 25).main_v9_8 (I 25).main_v9_9 (I 25).main_v9_10 (I 25).main_v9_11 (I 25).main_v9_12 (I 25).main_v9_13
    = fn_part13 (F := Ideal) x W b IM VM RM (I 27).main_v9_7 (I 27).main_v9_8 (I 27).main_v9_9 (I 27).main_v9_10 (I 27).main_v9_11 (I 27).main_v9_12 (I 27).main_v9_13 (I 27).main_v9_14 (O 27) := by
  unfold fn_part12
  simp only [R.call 24 (by omega) slices_S32x512_S1x512_24_0, R.call 25 (by omega) slices_S32x512_S1x512_25_0, R.call 26 (by omega) slices_S32x512_S1x512_26_0]

/-- Stretch 13 of the predicate. -/
theorem Runs.stretch_13 : fn_part13 (F := Ideal) x W b IM VM RM (I 27).main_v9_7 (I 27).main_v9_8 (I 27).main_v9_9 (I 27).main_v9_10 (I 27).main_v9_11 (I 27).main_v9_12 (I 27).main_v9_13 (I 27).main_v9_14 (O 27)
    = fn_part14 (F := Ideal) x W b IM VM RM (I 29).main_v9_7 (I 29).main_v9_8 (I 29).main_v9_9 (I 29).main_v9_10 (I 29).main_v9_11 (I 29).main_v9_12 (I 29).main_v9_13 (I 29).main_v9_14 (O 29) (shapeCast S512 (extractStridedSlice S1x512 ![29, 0] x slices_S32x512_S1x512_29_0) shapeCasts_S1x512_S512) := by
  unfold fn_part13
  simp only [R.call 27 (by omega) slices_S32x512_S1x512_27_0, R.call 28 (by omega) slices_S32x512_S1x512_28_0]

/-- Stretch 14 of the predicate. -/
theorem Runs.stretch_14 : fn_part14 (F := Ideal) x W b IM VM RM (I 29).main_v9_7 (I 29).main_v9_8 (I 29).main_v9_9 (I 29).main_v9_10 (I 29).main_v9_11 (I 29).main_v9_12 (I 29).main_v9_13 (I 29).main_v9_14 (O 29) (shapeCast S512 (extractStridedSlice S1x512 ![29, 0] x slices_S32x512_S1x512_29_0) shapeCasts_S1x512_S512)
    = fn_part15 (F := Ideal) W b IM VM RM (I 31).main_v9_7 (I 31).main_v9_8 (I 31).main_v9_9 (I 31).main_v9_10 (I 31).main_v9_11 (I 31).main_v9_12 (I 31).main_v9_13 (I 31).main_v9_14 (O 31) (shapeCast S512 (extractStridedSlice S1x512 ![31, 0] x slices_S32x512_S1x512_31_0) shapeCasts_S1x512_S512) := by
  unfold fn_part14
  simp only [R.call 29 (by omega) slices_S32x512_S1x512_29_0, R.call 30 (by omega) slices_S32x512_S1x512_30_0, R.call 31 (by omega) slices_S32x512_S1x512_31_0]

/-- The predicate up to its last stretch. -/
theorem Runs.stretches : fn (F := Ideal) x W b IM VM RM
    = fn_part15 (F := Ideal) W b IM VM RM (I 31).main_v9_7 (I 31).main_v9_8 (I 31).main_v9_9 (I 31).main_v9_10 (I 31).main_v9_11 (I 31).main_v9_12 (I 31).main_v9_13 (I 31).main_v9_14 (O 31) (shapeCast S512 (extractStridedSlice S1x512 ![31, 0] x slices_S32x512_S1x512_31_0) shapeCasts_S1x512_S512) :=
  ((((((((((((((R.stretch_0.trans R.stretch_1).trans R.stretch_2).trans R.stretch_3).trans R.stretch_4).trans R.stretch_5).trans R.stretch_6).trans R.stretch_7).trans R.stretch_8).trans R.stretch_9).trans R.stretch_10).trans R.stretch_11).trans R.stretch_12).trans R.stretch_13).trans R.stretch_14)

omit R in
/-- A conjunction of two bits is one only when both are. -/
theorem bits_and {a b : BitVec 1} (h : a &&& b = 1#1) : a = 1#1 ∧ b = 1#1 := by
  revert a b; decide

omit R in
/-- A comparison's bit is one only when it holds. -/
theorem of_bit {p : Prop} [Decidable p] (h : BitVec.ofBool (decide p) = 1#1) : p := by
  by_contra hp
  simp [hp] at h

/-- What the predicate gathers is the comparisons of all steps. -/
theorem Runs.gathered (n : ℕ) (i : S1024.Idx) (h : O n i = 1#1) (j : ℕ) (hj : j < n) : 0 ≤ b148 j (I j) i := by
  induction n with
  | zero => omega
  | succ n ih =>
    rw [R.o1] at h
    obtain ⟨h1, h2⟩ := bits_and h
    rcases Nat.lt_succ_iff_lt_or_eq.mp hj with hlt | rfl
    · exact ih h1 hlt
    · have h3 : BitVec.ofBool (decide ((0 : EReal) ≤ b148 j (I j) i)) = 1#1 := by
        pointwise at h2
        exact h2
      exact of_bit h3

/-- No usage is negative. -/
theorem Runs.usage (h : (fn (F := Ideal) x W b IM VM RM).1 = fun _ => 1#1) (j : ℕ) (hj : j < 32) (n : Fin 1024) :
    0 ≤ b148 j (I j) (ix1 n) := by
  refine R.gathered 32 (ix1 n) ?_ j hj
  rw [R.stretches] at h
  unfold fn_part15 at h
  simp only [R.call 31 (by omega) slices_S32x512_S1x512_31_0] at h
  exact congrFun h (ix1 n)

omit R in
/-- A number whose magnitude is below infinity leaves nothing when taken from itself. -/
theorem sub_self_of_bound (v : EReal) (h : max v (-v) < ⊤) : v - v = 0 := by
  induction v with
  | bot => simp at h
  | top => simp at h
  | coe r => exact_mod_cast (by simp : (r - r : ℝ) = 0)

omit R in
/-- The predicate's test for a finite number, passed, leaves nothing of the number taken from itself. -/
theorem sub_self_of_test (v : EReal)
    (h : BitVec.ofBool (decide (FloatOps.absf (F := Ideal) (φ := .f32) v < Ideal.ofBits .f32 0x7F800000#32)) = 1#1) : v - v = 0 := by
  refine sub_self_of_bound v ?_
  have e : Ideal.ofBits .f32 0x7F800000#32 = ⊤ := by simp [Ideal.ofBits, Ideal.ieee]
  have h2 := of_bit h
  rw [e] at h2
  exact h2

/-- The lower half of the controller's weights is finite. -/
theorem Runs.finite_W (h : (fn (F := Ideal) x W b IM VM RM).2.1 = fun _ => 1#1) (k : Fin 512) (g : Fin 2048) :
    W (ix2 ⟨512 + (k : ℕ), by omega⟩ g) - W (ix2 ⟨512 + (k : ℕ), by omega⟩ g) = (0 : EReal) := by
  rw [R.stretches] at h
  unfold fn_part15 at h
  have h2 := congrFun h (ix2 k g)
  pointwise at h2
  exact sub_self_of_test _ h2

/-- The interface weights are finite. -/
theorem Runs.finite_IM (h : (fn (F := Ideal) x W b IM VM RM).2.2.1 = fun _ => 1#1) (k : Fin 512) (g : Fin 471) :
    IM (ix2 k g) - IM (ix2 k g) = (0 : EReal) := by
  rw [R.stretches] at h
  unfold fn_part15 at h
  have h2 := congrFun h (ix2 k g)
  pointwise at h2
  exact sub_self_of_test _ h2

/-- The output weights are finite. -/
theorem Runs.finite_VM (h : (fn (F := Ideal) x W b IM VM RM).2.2.2.1 = fun _ => 1#1) (k : Fin 512) (g : Fin 128) :
    VM (ix2 k g) - VM (ix2 k g) = (0 : EReal) := by
  rw [R.stretches] at h
  unfold fn_part15 at h
  have h2 := congrFun h (ix2 k g)
  pointwise at h2
  exact sub_self_of_test _ h2

/-- The read weights are finite. -/
theorem Runs.finite_RM (h : (fn (F := Ideal) x W b IM VM RM).2.2.2.2 = fun _ => 1#1) (k : Fin 256) (g : Fin 128) :
    RM (ix2 k g) - RM (ix2 k g) = (0 : EReal) := by
  rw [R.stretches] at h
  unfold fn_part15 at h
  have h2 := congrFun h (ix2 k g)
  pointwise at h2
  exact sub_self_of_test _ h2

end Cert.Proof.Stage
-- ==== Proof.Alloc.lean ====
/-
Allocation weights, as plain mathematics over the extended reals: the product of the usages that come before a slot in
the stable order of increasing usage, computed on one side through the sort and a running product and on the other as
the exponential of a masked sum of logarithms.
-/
module

public import Idealize.ShloMosaic.Lib.SortPrefix
public import Idealize.ShloMosaic.PureOps.Ideal

@[expose] public section

noncomputable section

namespace Cert.Proof.Alloc

open Idealize.ShloMosaic

/-- The exponential takes sums to products, at the infinities too. -/
theorem exp_add (a b : EReal) : Ideal.exp (a + b) = Ideal.exp a * Ideal.exp b := by
  induction a with
  | bot =>
    rw [EReal.bot_add]
    show (0 : EReal) = 0 * _
    rw [zero_mul]
  | top =>
    induction b with
    | bot =>
      rw [EReal.add_bot]
      show (0 : EReal) = _ * 0
      rw [mul_zero]
    | top => rfl
    | coe y =>
      rw [EReal.top_add_coe]
      show (⊤ : EReal) = ⊤ * ((Real.exp y : ℝ) : EReal)
      rw [EReal.top_mul_coe_of_pos (Real.exp_pos y)]
  | coe x =>
    induction b with
    | bot =>
      rw [EReal.add_bot]
      show (0 : EReal) = _ * 0
      rw [mul_zero]
    | top =>
      rw [EReal.coe_add_top]
      show (⊤ : EReal) = ((Real.exp x : ℝ) : EReal) * ⊤
      rw [EReal.coe_mul_top_of_pos (Real.exp_pos x)]
    | coe y =>
      rw [← EReal.coe_add]
      show ((Real.exp (x + y) : ℝ) : EReal) = ((Real.exp x : ℝ) : EReal) * ((Real.exp y : ℝ) : EReal)
      rw [Real.exp_add, EReal.coe_mul]

/-- The exponential of zero is one. -/
theorem exp_zero : Ideal.exp 0 = 1 := by
  show ((Real.exp 0 : ℝ) : EReal) = 1
  rw [Real.exp_zero]; rfl

/-- The exponential takes a finite sum to the product. -/
theorem exp_sum {ι : Type} (s : Finset ι) (f : ι → EReal) : Ideal.exp (∑ k ∈ s, f k) = ∏ k ∈ s, Ideal.exp (f k) := by
  classical
  induction s using Finset.induction_on with
  | empty => simp [exp_zero]
  | insert a s ha ih => rw [Finset.sum_insert ha, Finset.prod_insert ha, exp_add, ih]

/-- The exponential undoes the logarithm on the positive values. -/
theorem exp_log (x : EReal) (h : 0 < x) : Ideal.exp (Ideal.log x) = x := by
  induction x with
  | bot => exact absurd h (by simp)
  | top => rfl
  | coe x =>
    have hx : 0 < x := by exact_mod_cast h
    show Ideal.exp (if x ≤ 0 then ⊥ else ((Real.log x : ℝ) : EReal)) = _
    rw [if_neg (not_le.mpr hx)]
    show ((Real.exp (Real.log x) : ℝ) : EReal) = _
    rw [Real.exp_log hx]

/-- The masked sum of logarithms, a zero usage counting as minus infinity, exponentiates to the masked product. -/
theorem exp_masked_log {n : ℕ} (u : Fin n → EReal) (hu : ∀ k, 0 ≤ u k) (P : Fin n → Prop) [DecidablePred P] :
    Ideal.exp (∑ k, if P k then (if 0 < u k then Ideal.log (u k) else ⊥) else 0) = ∏ k, if P k then u k else 1 := by
  rw [exp_sum]
  refine Finset.prod_congr rfl fun k _ => ?_
  by_cases hP : P k
  · rw [if_pos hP, if_pos hP]
    by_cases h0 : 0 < u k
    · rw [if_pos h0, exp_log _ h0]
    · rw [if_neg h0, show u k = 0 from le_antisymm (not_lt.mp h0) (hu k)]; rfl
  · rw [if_neg hP, if_neg hP, exp_zero]

/-- Slot `a` comes before slot `b`: it is used less, or as much and it is the earlier slot. -/
def before {n : ℕ} (u : Fin n → EReal) (a b : Fin n) : Prop := u a < u b ∨ (u a = u b ∧ a < b)

instance {n : ℕ} (u : Fin n → EReal) (a b : Fin n) : Decidable (before u a b) := by
  classical exact Classical.propDecidable _

/-- The order of the slots is a strict total order. -/
theorem before_total {n : ℕ} (u : Fin n → EReal) : StrictTotalBefore fun a b => decide (before u a b) where
  irrefl a := by simp [before]
  trans a b c hab hbc := by
    rw [decide_eq_true_eq] at hab hbc ⊢
    unfold before at hab hbc ⊢
    rcases hab with h | ⟨e, h⟩ <;> rcases hbc with h' | ⟨e', h'⟩
    · exact Or.inl (h.trans h')
    · exact Or.inl (e' ▸ h)
    · exact Or.inl (e ▸ h')
    · exact Or.inr ⟨e.trans e', h.trans h'⟩
  total a b hne := by
    rw [decide_eq_true_eq, decide_eq_true_eq]
    unfold before
    rcases lt_trichotomy (u a) (u b) with h | h | h
    · exact Or.inl (Or.inl h)
    · rcases lt_or_gt_of_ne hne with h' | h'
      · exact Or.inl (Or.inr ⟨h, h'⟩)
      · exact Or.inr (Or.inr ⟨h.symm, h'⟩)
    · exact Or.inr (Or.inl h)

/-- A stable sort by the usage alone of slots listed in order is the sort by usage and then slot. -/
theorem stableSort_eq {n : ℕ} (u : Fin n → EReal) (l : List (Fin n)) (hl : l.Pairwise (· < ·)) :
    stableSort (fun a b => decide (u a < u b)) l = stableSort (fun a b => decide (before u a b)) l := by
  induction l with
  | nil => rfl
  | cons a l ih =>
    rw [List.pairwise_cons] at hl
    show insertBefore _ a (stableSort _ l) = insertBefore _ a (stableSort _ l)
    rw [ih hl.2]
    refine insertBefore_congr _ _ a _ fun b hb => ?_
    have hb' : a < b := hl.1 b ((perm_stableSort _ l).mem_iff.mp hb)
    have : ¬ (b < a) := not_lt.mpr hb'.le
    simp [before, this]

/-- The slot the stable sort by usage puts in place `k`. -/
def place {n : ℕ} (u : Fin n → EReal) (k : Fin n) : Fin n := sortedFrom (fun a b => decide (u a < u b)) k

/-- The places are a bijection with the slots. -/
theorem place_bijective {n : ℕ} (u : Fin n → EReal) : Function.Bijective (place u) :=
  ⟨sortedFrom_injective _, sortedFrom_surjective _⟩

/-- Earlier places hold exactly the slots that come before. -/
theorem place_lt_iff {n : ℕ} (u : Fin n → EReal) (i k : Fin n) : i < k ↔ before u (place u i) (place u k) := by
  have e : ∀ k, place u k = sortedFrom (fun a b => decide (before u a b)) k := fun k => by
    have := stableSort_eq u (List.finRange n) (List.pairwise_lt_finRange n)
    unfold place sortedFrom sortPositions
    simp only [List.get_eq_getElem, this]
    rfl
  have hno : ∀ i k : Fin n, i < k → ¬ before u (place u k) (place u i) := fun i k hik h => by
    have hs := (before_total u).sorted_stableSort (List.finRange n)
    have := List.pairwise_iff_get.mp hs
      (i.cast (length_sortPositions n _).symm) (k.cast (length_sortPositions n _).symm) (show i.val < k.val from hik)
    rw [e, e] at h
    have h2 : decide (before u (sortedFrom (fun a b => decide (before u a b)) k)
        (sortedFrom (fun a b => decide (before u a b)) i)) = false := this
    simp [h] at h2
  constructor
  · intro hik
    have hne : place u i ≠ place u k := fun h => (ne_of_lt hik) ((place_bijective u).1 h)
    rcases (before_total u).total _ _ hne with h | h
    · simpa using h
    · exact absurd (by simpa using h) (hno i k hik)
  · intro h
    rcases lt_trichotomy i k with h' | h' | h'
    · exact h'
    · subst h'
      have := (before_total u).irrefl (place u i)
      simp [h] at this
    · exact absurd h (hno k i h')

/-- The product over the earlier places is the product over the slots that come before. -/
theorem prod_place {n : ℕ} (u : Fin n → EReal) (k : Fin n) :
    (∏ i, if i < k then u (place u i) else 1) = ∏ b, if before u b (place u k) then u b else 1 := by
  rw [← (place_bijective u).prod_comp fun b => if before u b (place u k) then u b else 1]
  exact Finset.prod_congr rfl fun i _ => by simp only [place_lt_iff u i k]

/-- The running product over the last `d` places ending at place `k`. -/
def run (w : ℕ → EReal) (d k : ℕ) : EReal := ∏ i ∈ Finset.range d, if i ≤ k then w (k - i) else 1

/-- Doubling: the last `d` places, times the `d` places before those. -/
theorem run_double (w : ℕ → EReal) (d k : ℕ) :
    run w (d + d) k = run w d k * (if k < d then 1 else run w d (k - d)) := by
  unfold run
  rw [Finset.prod_range_add]
  congr 1
  by_cases h : k < d
  · rw [if_pos h]
    exact Finset.prod_eq_one fun i _ => if_neg (by omega)
  · rw [if_neg h]
    refine Finset.prod_congr rfl fun i _ => ?_
    by_cases h' : i ≤ k - d
    · rw [if_pos h', if_pos (by omega), show k - (d + i) = k - d - i by omega]
    · rw [if_neg h', if_neg (by omega)]

/-- The last one place. -/
theorem run_one (w : ℕ → EReal) (k : ℕ) : run w 1 k = w k := by simp [run]

/-- Once the window reaches back to the first place, the running product is the product of all places so far. -/
theorem run_full (w : ℕ → EReal) (d k : ℕ) (h : k < d) : run w d k = ∏ i ∈ Finset.range (k + 1), w i := by
  unfold run
  rw [show d = (k + 1) + (d - (k + 1)) by omega, Finset.prod_range_add]
  rw [Finset.prod_eq_one (s := Finset.range (d - (k + 1))) fun i _ => if_neg (by omega), mul_one,
    ← Finset.prod_range_reflect]
  refine Finset.prod_congr rfl fun i hi => ?_
  rw [Finset.mem_range] at hi
  rw [if_pos (by omega)]
  congr 1
  omega

/-- The product of the first `k` places as a masked product over all of them. -/
theorem prod_range_mask {n : ℕ} (w : ℕ → EReal) (k : Fin n) :
    (∏ i ∈ Finset.range k.val, w i) = ∏ i : Fin n, if i < k then w i.val else 1 := by
  obtain ⟨k, hk⟩ := k
  have h := Fin.prod_univ_eq_prod_range (fun i => if i < k then w i else 1) n
  rw [show (∏ i : Fin n, if i < (⟨k, hk⟩ : Fin n) then w i.val else 1) = ∏ i : Fin n, if i.val < k then w i.val else 1 from
    Finset.prod_congr rfl fun i _ => by simp only [Fin.lt_def]]
  rw [h]
  obtain ⟨e, rfl⟩ : ∃ e, n = k + e := ⟨n - k, by omega⟩
  rw [Finset.prod_range_add, Finset.prod_eq_one (s := Finset.range e) fun i _ => if_neg (by omega), mul_one]
  exact Finset.prod_congr rfl fun i hi => by rw [Finset.mem_range] at hi; rw [if_pos hi]

end Cert.Proof.Alloc

end
-- ==== Proof.RefAlloc.lean ====
/-
The reference's allocation weighting, read at a slot: one minus the slot's usage times the product of the usages that
come before it in the stable order of increasing usage.
-/
module

public import proofs.«01_k».proof.Proof.Gen.ReferenceIdeal.Step
public import proofs.«01_k».proof.Proof.Gen.ReferenceIdeal
public import proofs.«01_k».proof.Proof.Alloc
public import Idealize.ShloMosaic.Lib.Pointwise
public import Idealize.ShloMosaic.Lib.Pipeline.ValueKit
public import Idealize.ShloMosaic.Lib.Routing.OpsPair
public import Idealize.ShloMosaic.Lib.DynamicIndex

@[expose] public section

set_option maxRecDepth 16384

noncomputable section

namespace Cert.Proof.RefAlloc

open Idealize.ShloMosaic
open Cert.ReferenceIdeal Cert.ReferenceIdeal.Gen
open Cert.ReferenceIdeal.Step
open Cert.Proof.Alloc

variable (j : ℕ) (s : State Ideal)

/-- The new usage of a slot. -/
def u (k : Fin 1024) : EReal := b148 j s (ix1 k)

/-- The printed comparison of two entries compares their usages. -/
theorem compare_eq (l r : Ideal .f32 × BitVec 32) :
    (comparator_f32_i32_d0 (F := Ideal) l r == 1#1) = decide ((l.1 : EReal) < r.1) := by
  have hz : ∀ x z : EReal, Scalar.select (Ideal.cmp .oeq x z) z x = x := by
    intro x z
    by_cases h : x = z <;> simp [Ideal.cmp, Scalar.select, h]
  have hn : ∀ x y : EReal, Scalar.select (Ideal.cmp .une x x) y x = x := by
    intro x y; simp [Ideal.cmp, Scalar.select]
  have e : comparator_f32_i32_d0 (F := Ideal) l r = Ideal.cmp .olt (l.1 : EReal) r.1 := by
    obtain ⟨a, i⟩ := l
    obtain ⟨b, k⟩ := r
    show Ideal.cmp .olt (Scalar.select (Ideal.cmp .une (a : EReal) a) _ (Scalar.select (Ideal.cmp .oeq (a : EReal) _) _ a))
      (Scalar.select (Ideal.cmp .une (b : EReal) b) _ (Scalar.select (Ideal.cmp .oeq (b : EReal) _) _ b)) = _
    rw [hz, hz, hn, hn]
  rw [e]
  by_cases h : (l.1 : EReal) < r.1 <;> simp [Ideal.cmp, h]

/-- A stable sort of two vectors, read at a place: both through one map of the positions. -/
theorem sort2_snd {n : Nat} {α β : Type} (cmp : α × β → α × β → BitVec 1) (x : (⟨1, ![n]⟩ : Shape).Idx → α)
    (y : (⟨1, ![n]⟩ : Shape).Idx → β) (k : Fin n) :
    (Host.sort2 ⟨1, ![n]⟩ 0 cmp x y).2 (ix1 k)
      = y (ix1 (sortedFrom (fun a b => cmp (x (ix1 a), y (ix1 a)) (x (ix1 b), y (ix1 b)) == 1#1) k)) := by
  have e : ∀ k : Fin n, Shape.Idx.ofFin k = ix1 k := fun k => (eq_ix1 _).trans (congrArg ix1 (Shape.Idx.ofFin_zero k))
  unfold Host.sort2
  simp [e]

/-- The sorted slot numbers: place `k` holds the slot the stable order by usage puts there. -/
theorem b151_apply (k : Fin 1024) : b151 j s (ix1 k) = BitVec.ofNat 32 (place (u j s) k).val := by
  unfold b151
  refine (sort2_snd _ _ _ k).trans ?_
  simp only [compare_eq]
  rfl

/-- The sorted slot numbers are not negative, so the printed wrap leaves them. -/
theorem b158_apply (k : Fin 1024) : b158 j s (ix1 k) = BitVec.ofNat 32 (place (u j s) k).val := by
  unfold b158 b154
  have h : 0 ≤ (b151 j s (ix1 k)).toInt := by
    rw [b151_apply, toInt_ofNat_of_lt (by have := (place (u j s) k).isLt; omega)]; omega
  exact (select_slt_zero_of_nonneg (b151 j s) _ _ (ix1 k) h).trans (b151_apply j s k)

/-- The same of the slot numbers the result is scattered by. -/
theorem b227_apply (k : Fin 1024) : b227 j s (ix1 k) = BitVec.ofNat 32 (place (u j s) k).val := by
  unfold b227 b223
  have h : 0 ≤ (b151 j s (ix1 k)).toInt := by
    rw [b151_apply, toInt_ofNat_of_lt (by have := (place (u j s) k).isLt; omega)]; omega
  exact (select_slt_zero_of_nonneg (b151 j s) _ _ (ix1 k) h).trans (b151_apply j s k)

/-- A gather of single entries by a column of slot numbers, read at a place. -/
theorem gather_apply (x : S1024.Idx → EReal) (idx : IVec S1024x1 32) (k : Fin 1024) (p : Fin 1024)
    (h : idx (ix2 k 0) = BitVec.ofNat 32 p.val) :
    Host.gather gather_S1024_S1024x1_S1024_n_0_n_n_0_1_1 x idx (ix1 k) = x (ix1 p) := by
  have hp : (BitVec.ofNat 32 p.val).toInt = p.val := toInt_ofNat_of_lt (by have := p.isLt; omega)
  unfold Host.gather
  congr 1
  funext a
  match a with
  | ⟨0, _⟩ =>
    refine Fin.ext ?_
    show GatherDims.start _ (ix1 k) idx 0 + GatherDims.batchCoord _ (ix1 k) 0 + GatherDims.offCoord _ (ix1 k) 0 = p.val
    rw [GatherDims.batchCoord_eq_zero _ _ _ (by decide), GatherDims.offCoord_eq_zero _ _ _ (by decide)]
    unfold GatherDims.start
    rw [dif_pos (by decide)]
    have hi : GatherDims.siIdx gather_S1024_S1024x1_S1024_n_0_n_n_0_1_1 (ix1 k) ⟨0, by decide⟩ = ix2 k 0 := by
      funext b
      match b with
      | ⟨0, _⟩ => rfl
      | ⟨1, _⟩ => rfl
    show min (idx (GatherDims.siIdx gather_S1024_S1024x1_S1024_n_0_n_n_0_1_1 (ix1 k) ⟨0, by decide⟩)).toInt.toNat (1024 - 1) + 0 + 0 = p.val
    rw [hi, h, hp]
    have := p.isLt
    simp only [Int.toNat_natCast]
    omega

/-- A scatter of single entries by a column of slot numbers that lists every slot once, read at the slot of a place. -/
theorem scatter_apply (x : S1024.Idx → EReal) (idx : IVec S1024x1 32) (v : S1024.Idx → EReal) (σ : Fin 1024 → Fin 1024)
    (hσ : Function.Injective σ) (h : ∀ k, idx (ix2 k 0) = BitVec.ofNat 32 (σ k).val) (k : Fin 1024) :
    Host.scatter scatter_S1024_S1024x1_S1024_n_0_0_1 (fun _ b => b) x idx v (ix1 (σ k)) = v (ix1 k) := by
  have hl : ∀ i : Fin 1024, ∀ q : Fin 1024,
      ScatterDims.resultIdx? scatter_S1024_S1024x1_S1024_n_0_0_1 (ix1 i) idx = some (ix1 q) ↔ σ i = q := by
    intro i q
    have hp : (BitVec.ofNat 32 (σ i).val).toInt = (σ i).val := toInt_ofNat_of_lt (by have := (σ i).isLt; omega)
    have hi : ScatterDims.siIdx scatter_S1024_S1024x1_S1024_n_0_0_1 (ix1 i) ⟨0, by decide⟩ = ix2 i 0 := by
      funext b
      match b with
      | ⟨0, _⟩ => rfl
      | ⟨1, _⟩ => rfl
    have hs : ScatterDims.start scatter_S1024_S1024x1_S1024_n_0_0_1 (ix1 i) idx 0 = ((σ i).val : Int) := by
      unfold ScatterDims.start
      rw [dif_pos (by decide)]
      show (idx (ScatterDims.siIdx scatter_S1024_S1024x1_S1024_n_0_0_1 (ix1 i) ⟨0, by decide⟩)).toInt = _
      rw [hi, h, hp]
    have hw : ScatterDims.window scatter_S1024_S1024x1_S1024_n_0_0_1 (ix1 i) 0 = 0 := by
      unfold ScatterDims.window
      rw [dif_neg (by decide)]
    rw [Routing.resultIdx?_eq_some]
    constructor
    · intro e
      have := e 0
      rw [hs, hw] at this
      exact Fin.ext (by simpa using this)
    · intro e a
      match a with
      | ⟨0, _⟩ =>
        rw [← e]
        show ScatterDims.start scatter_S1024_S1024x1_S1024_n_0_0_1 (ix1 i) idx 0 + ((ScatterDims.window scatter_S1024_S1024x1_S1024_n_0_0_1 (ix1 i) 0 : ℕ) : Int) = _
        rw [hs, hw]
        rfl
  rw [Routing.scatter_at]
  have hfold : ∀ (L : List (Fin S1024.numel)) (a : EReal), (L.Nodup) →
      L.foldl (fun a n => if ScatterDims.resultIdx? scatter_S1024_S1024x1_S1024_n_0_0_1 (S1024.rowMajor.symm n) idx = some (ix1 (σ k))
        then v (S1024.rowMajor.symm n) else a) a
      = if S1024.rowMajor (ix1 k) ∈ L then v (ix1 k) else a := by
    intro L
    induction L with
    | nil => intro a _; simp
    | cons n L ih =>
      intro a hnd
      rw [List.nodup_cons] at hnd
      rw [List.foldl_cons, ih _ hnd.2]
      have hiff : (ScatterDims.resultIdx? scatter_S1024_S1024x1_S1024_n_0_0_1 (S1024.rowMajor.symm n) idx = some (ix1 (σ k))) ↔ S1024.rowMajor (ix1 k) = n := by
        obtain ⟨i, e⟩ : ∃ i : Fin 1024, S1024.rowMajor.symm n = ix1 i := ⟨_, eq_ix1 _⟩
        rw [e, hl, hσ.eq_iff]
        constructor
        · intro h'
          rw [← h', ← e, Equiv.apply_symm_apply]
        · intro h'
          have h2 : ix1 i = ix1 k := by rw [← e, ← h', Equiv.symm_apply_apply]
          exact (ix1_inj _ _).mp h2
      by_cases hm : S1024.rowMajor (ix1 k) = n
      · rw [if_pos (hiff.mpr hm), ← hm]
        simp
      · rw [if_neg (fun h' => hm (hiff.mp h'))]
        simp [hm]
  exact (hfold _ _ (List.nodup_finRange _)).trans (if_pos (List.mem_finRange _))

/-- The usage at a place. -/
def w (k : ℕ) : EReal := if h : k < 1024 then u j s (place (u j s) ⟨k, h⟩) else 1

/-- The gathered usages are the usages in sorted order. -/
theorem b160_apply (k : Fin 1024) : b160 j s (ix1 k) = w j s k.val := by
  unfold b160
  refine (gather_apply _ _ k (place (u j s) k) ?_).trans ?_
  · have h := b158_apply j s k
    pointwise [b159, h]
  · unfold w
    rw [dif_pos k.isLt]
    rfl

/-- Doubling the window to 2 places. -/
theorem b167_apply (k : Fin 1024) : b167 j s (ix1 k) = run (w j s) 2 k.val := by
  have h := b160_apply j s
  refine Eq.trans ?_ (run_double (w j s) 1 k.val).symm
  pointwise [b167, b166, b165, b164, b163, h, run_one]
  by_cases hk : k.val < 1 <;> simp [hk]

/-- Doubling the window to 4 places. -/
theorem b172_apply (k : Fin 1024) : b172 j s (ix1 k) = run (w j s) 4 k.val := by
  have h := b167_apply j s
  refine Eq.trans ?_ (run_double (w j s) 2 k.val).symm
  pointwise [b172, b171, b170, b169, b168, h]
  by_cases hk : k.val < 2 <;> simp [hk]

/-- Doubling the window to 8 places. -/
theorem b177_apply (k : Fin 1024) : b177 j s (ix1 k) = run (w j s) 8 k.val := by
  have h := b172_apply j s
  refine Eq.trans ?_ (run_double (w j s) 4 k.val).symm
  pointwise [b177, b176, b175, b174, b173, h]
  by_cases hk : k.val < 4 <;> simp [hk]

/-- Doubling the window to 16 places. -/
theorem b182_apply (k : Fin 1024) : b182 j s (ix1 k) = run (w j s) 16 k.val := by
  have h := b177_apply j s
  refine Eq.trans ?_ (run_double (w j s) 8 k.val).symm
  pointwise [b182, b181, b180, b179, b178, h]
  by_cases hk : k.val < 8 <;> simp [hk]

/-- Doubling the window to 32 places. -/
theorem b187_apply (k : Fin 1024) : b187 j s (ix1 k) = run (w j s) 32 k.val := by
  have h := b182_apply j s
  refine Eq.trans ?_ (run_double (w j s) 16 k.val).symm
  pointwise [b187, b186, b185, b184, b183, h]
  by_cases hk : k.val < 16 <;> simp [hk]

/-- Doubling the window to 64 places. -/
theorem b192_apply (k : Fin 1024) : b192 j s (ix1 k) = run (w j s) 64 k.val := by
  have h := b187_apply j s
  refine Eq.trans ?_ (run_double (w j s) 32 k.val).symm
  pointwise [b192, b191, b190, b189, b188, h]
  by_cases hk : k.val < 32 <;> simp [hk]

/-- Doubling the window to 128 places. -/
theorem b197_apply (k : Fin 1024) : b197 j s (ix1 k) = run (w j s) 128 k.val := by
  have h := b192_apply j s
  refine Eq.trans ?_ (run_double (w j s) 64 k.val).symm
  pointwise [b197, b196, b195, b194, b193, h]
  by_cases hk : k.val < 64 <;> simp [hk]

/-- Doubling the window to 256 places. -/
theorem b202_apply (k : Fin 1024) : b202 j s (ix1 k) = run (w j s) 256 k.val := by
  have h := b197_apply j s
  refine Eq.trans ?_ (run_double (w j s) 128 k.val).symm
  pointwise [b202, b201, b200, b199, b198, h]
  by_cases hk : k.val < 128 <;> simp [hk]

/-- Doubling the window to 512 places. -/
theorem b207_apply (k : Fin 1024) : b207 j s (ix1 k) = run (w j s) 512 k.val := by
  have h := b202_apply j s
  refine Eq.trans ?_ (run_double (w j s) 256 k.val).symm
  pointwise [b207, b206, b205, b204, b203, h]
  by_cases hk : k.val < 256 <;> simp [hk]

/-- Doubling the window to 1024 places. -/
theorem b212_apply (k : Fin 1024) : b212 j s (ix1 k) = run (w j s) 1024 k.val := by
  have h := b207_apply j s
  refine Eq.trans ?_ (run_double (w j s) 512 k.val).symm
  pointwise [b212, b211, b210, b209, b208, h]
  by_cases hk : k.val < 512 <;> simp [hk]

/-- The product of the usages at the earlier places. -/
theorem b214_apply (k : Fin 1024) : b214 j s (ix1 k) = ∏ i, if i < k then u j s (place (u j s) i) else 1 := by
  have h := b212_apply j s
  have hr : ∀ k : Fin 1024, run (w j s) 1024 k.val = ∏ i ∈ Finset.range (k.val + 1), w j s i :=
    fun k => run_full _ _ _ k.isLt
  have hm : (∏ i, if i < k then u j s (place (u j s) i) else 1) = ∏ i ∈ Finset.range k.val, w j s i := by
    rw [prod_range_mask]
    refine Finset.prod_congr rfl fun i _ => ?_
    unfold w
    rw [dif_pos i.isLt]
  rw [hm]
  pointwise [b214, b213, b162, b161, h]
  by_cases hk : k.val < 1
  · have h0 : k.val = 0 := by omega
    simp [h0]
  · have e : ∀ p : k.val - 1 < 1024, run (w j s) 1024 (k.val - 1) = ∏ i ∈ Finset.range (k.val - 1 + 1), w j s i :=
      fun p => run_full _ _ _ p
    rw [dif_neg hk, e (by have := k.isLt; omega), show k.val - 1 + 1 = k.val by omega]

/-- The reference's allocation weight of a slot. -/
theorem b229_apply (i : Fin 1024) :
    b229 j s (ix1 i) = (1 - u j s i) * ∏ b, if before (u j s) b i then u j s b else 1 := by
  obtain ⟨k, rfl⟩ := (place_bijective (u j s)).2 i
  unfold b229
  refine (scatter_apply _ _ _ (place (u j s)) (place_bijective (u j s)).1 (fun k => ?_) k).trans ?_
  · have h := b227_apply j s k
    pointwise [b228, h]
  · have h := b214_apply j s k
    have h' : b160 j s (ix1 k) = u j s (place (u j s) k) := by
      rw [b160_apply]; unfold w; rw [dif_pos k.isLt]
    rw [prod_place] at h
    pointwise [b220, b219, b218, b217, h, h']

end Cert.Proof.RefAlloc

end
-- ==== Proof.StageWrite.lean ====
/-
The write weighting: the kernel's sum of logarithms under a mask against the reference's product along the sorted slots,
and the content weighting of the write key.
-/
module

public import proofs.«01_k».proof.Proof.StageIv
public import proofs.«01_k».proof.Proof.RefAlloc
public import Idealize.ShloMosaic.Lib.WordArith

@[expose] public section

set_option backward.proofsInPublic true
set_option maxRecDepth 16384

noncomputable section

namespace Cert.Proof.Stage

open Idealize.ShloMosaic
open Cert.KernelIdeal Cert.KernelIdeal.Gen
open Cert.ReferenceIdeal.Step
open Cert.Proof.Alloc

/-- The write weighting the kernel computes from its interface row and its state. -/
def kww (v : Vec Ideal S1x512 .f32) (rw : Vec Ideal S4x1024 .f32) (us ww : Vec Ideal S1x1024 .f32)
    (M : Vec Ideal S1024x64 .f32) (mn : Vec Ideal S1x1024 .f32) : Vec Ideal S1x1024 .f32 :=
  k0_pay47 (k0_pay32 v) (k0_pay36 (k0_pay34 v) (k0_pay35 v) (Scalar.ofBits .f32 0x00000000#32)) (k0_pay39 v) (k0_pay40 v)
    (k0_pay41 v rw us ww) (k0_pay43 v rw us ww) (k0_pay44 v rw us ww) (k0_pay45 v rw us ww) k0_pay46 M mn

/-- A quotient of a product by something nonzero is the product with the quotient. -/
theorem mul_div_of_ne (a b : EReal) {c : EReal} (hc : c ≠ 0) : Ideal.div (a * b) c = a * Ideal.div b c := by
  unfold Ideal.div; rw [if_neg hc, if_neg hc, mul_assoc]

/-- A root of something nonnegative is nonnegative. -/
theorem sqrt_nonneg {x : EReal} (hx : 0 ≤ x) : 0 ≤ Ideal.sqrt x := by
  induction x using EReal.rec with
  | bot => simp at hx
  | top => simp
  | coe r =>
    have hr : 0 ≤ r := by exact_mod_cast hx
    rw [Ideal.sqrt_coe, if_neg (not_lt.2 hr)]
    exact_mod_cast Real.sqrt_nonneg r

/-- A square is nonnegative. -/
theorem sq_nonneg (x : EReal) : 0 ≤ x * x := by
  induction x using EReal.rec with
  | bot => simp
  | top => simp
  | coe r => rw [← EReal.coe_mul]; exact_mod_cast mul_self_nonneg r

/-- A norm, the root of a sum of squares, is nonnegative. -/
theorem norm_nonneg {n : ℕ} (f : Fin n → EReal) : 0 ≤ Ideal.sqrt (∑ x, f x * f x) :=
  sqrt_nonneg (Finset.sum_nonneg fun x _ => sq_nonneg (f x))

/-- The word that keeps the quotients of the cosines away from zero is a positive number. -/
theorem eps_pos : (0 : EReal) < Ideal.ofBits .f32 0x322BCC77#32 := by
  have : Ideal.ofBits .f32 0x322BCC77#32 = (((11258999 : ℝ) / 2 ^ 50 : ℝ) : EReal) := by
    simp [Ideal.ofBits, Ideal.ieee, -EReal.coe_mul]; norm_num
  rw [this]; exact_mod_cast (by norm_num : (0 : ℝ) < 11258999 / 2 ^ 50)

/-- The denominator of a cosine is not zero. -/
theorem den_ne {a b : EReal} (ha : 0 ≤ a) (hb : 0 ≤ b) : a * b + Ideal.ofBits .f32 0x322BCC77#32 ≠ 0 :=
  ne_of_gt (lt_of_lt_of_le eps_pos (le_add_of_nonneg_left (mul_nonneg ha hb)))

/-- The constant that stands for the logarithm of nothing is minus infinity. -/
theorem log0_eq : Named.named (F := Ideal) (φ := .f32) κ "log0" 0xC7C35000#32 = (⊥ : EReal) :=
  IdealRules.named_const.ideal_named_scalar _ _ _ _ rfl

/-- The kernel's mask names the slots that come before a slot. -/
theorem mask_eq (u : Fin 1024 → EReal) (x n : Fin 1024) (a b : EReal) :
    Scalar.select (IntOp.ori (BitVec.ofBool (decide (u x < u n)))
      (IntOp.andi (BitVec.ofBool (decide (u x = u n))) (IntOp.cmpi .slt (BitVec.ofNat 32 x) (BitVec.ofNat 32 n)))) a b
    = if before u x n then a else b := by
  have hs : IntOp.cmpi .slt (BitVec.ofNat 32 x) (BitVec.ofNat 32 n) = BitVec.ofBool (decide (x < n)) := by
    unfold IntOp.cmpi
    congr 1
    rw [Bool.eq_iff_iff, BitVec.slt_iff_toInt_lt, WordArith.toInt_ofNat_small _ (by omega), WordArith.toInt_ofNat_small _ (by omega),
      decide_eq_true_iff, Fin.lt_def]
    exact Int.ofNat_lt
  rw [hs, WordArith.andi_ofBool, WordArith.ori_ofBool]
  unfold Scalar.select before
  simp only [WordArith.ofBool_eq_numeral_one_iff, Bool.or_eq_true, Bool.and_eq_true, decide_eq_true_iff]
  congr

variable {j : ℕ} {s : State Ideal} {v : Vec Ideal S1x512 .f32} (h : IvAgree j s v)
variable {rw : Vec Ideal S4x1024 .f32} {us ww : Vec Ideal S1x1024 .f32} {M : Vec Ideal S1024x64 .f32}
  {mn : Vec Ideal S1x1024 .f32}

include h

/-- The write weighting is the reference's, where the new usage is nonnegative. -/
theorem write_weight (hrw : ∀ r n, rw (ix2 r n) = s.main_v9_14 (ix2 r n))
    (hu : ∀ n, us (ix2 0 n) = s.main_v9_10 (ix1 n)) (hw : ∀ n, ww (ix2 0 n) = s.main_v9_11 (ix1 n))
    (hM : ∀ n k, M (ix2 n k) = s.main_v9_9 (ix2 n k)) (hmn : ∀ n, mn (ix2 0 n) = b234 j s (ix1 n))
    (hpos : ∀ n, 0 ≤ b148 j s (ix1 n)) (n : Fin 1024) :
    kww v rw us ww M mn (ix2 0 n) = b268 j s (ix1 n) := by
  have eu := usage h hrw hu hw
  have ek := write_key h
  have es : k0_pay36 (k0_pay34 v) (k0_pay35 v) (0 : EReal) (ix2 0 0) = b76 j s ix0 := by
    refine Eq.trans ?_ (write_strength h)
    congr 1; exact Ideal.ofBits_zero_f32.symm
  have ea := alloc_gate h
  have ew := write_gate h
  have hn (x : Fin 1024) : 0 ≤ b234 j s (ix1 x) := by
    pointwise [b234, b233, b232, b231]
    exact norm_nonneg _
  have hsim (x : Fin 1024) :
      Ideal.div (b76 j s ix0 * ∑ k, b61 j s (ix1 k) * s.main_v9_9 (ix2 x k))
        (b234 j s (ix1 x) * Ideal.sqrt (∑ k, b61 j s (ix1 k) * b61 j s (ix1 k)) + Ideal.ofBits .f32 0x322BCC77#32)
      = b76 j s ix0 * Ideal.div (∑ k, s.main_v9_9 (ix2 x k) * b61 j s (ix1 k))
        (b234 j s (ix1 x) * Ideal.sqrt (∑ k, b61 j s (ix1 k) * b61 j s (ix1 k)) + Ideal.ofBits .f32 0x322BCC77#32) := by
    rw [mul_div_of_ne _ _ (den_ne (hn x) (norm_nonneg fun k => b61 j s (ix1 k)))]
    simp only [mul_comm]
  have ha := Cert.Proof.RefAlloc.b229_apply j s n
  have hmask := exp_masked_log (fun k => b148 j s (ix1 k)) hpos (fun k => before (fun k => b148 j s (ix1 k)) k n)
  unfold Cert.Proof.RefAlloc.u at ha
  rw [← hmask] at ha
  have hmask' (x : Fin 1024) (a b : EReal) := mask_eq (fun k => b148 j s (ix1 k)) x n a b
  pointwise [kww, k0_pay47, k0_pay46, k0_pay45, k0_pay44, k0_pay43, k0_pay42, eu, ek, ea, ew, hM, hmn]
  pointwise [b268, b267, b266, b265, b264, b263, b262, b261, b260, b259, b258, b257, b256, b255, b254, b253,
      b252, b251, b250, b249, b248, b247, b246, b245, b244, b243, b242, b241, b240, b239, b238, b237, b236, b235, b230]
  simp only [es, hsim, hmask', log0_eq, ha]

end Cert.Proof.Stage
-- ==== Proof.StageMem.lean ====
module

public import proofs.«01_k».proof.Proof.StageWrite

/-! # The memory, its norms, the precedence and the links after one step

The memory is erased and written by the write weighting, the precedence decays by the
weight written, and the links are moved by both.  The kernel keeps the links in one array
and moves them in four blocks of 256 rows; each block is the reference's at its own rows. -/

@[expose] public section
set_option backward.proofsInPublic true
set_option maxRecDepth 16384
noncomputable section
namespace Cert.Proof.Stage
open Idealize.ShloMosaic
open Cert.KernelIdeal Cert.KernelIdeal.Gen
open Cert.ReferenceIdeal.Step

variable {j : ℕ} {s : State Ideal} {e a : Vec Ideal S1x64 .f32} {M : Vec Ideal S1024x64 .f32}
  {w p : Vec Ideal S1x1024 .f32}

/-- The memory after a step: erased and written by the write weighting. -/
theorem memory (he : ∀ k, e (ix2 0 k) = b85 j s (ix1 k)) (ha : ∀ k, a (ix2 0 k) = b86 j s (ix1 k))
    (hM : ∀ n k, M (ix2 n k) = s.main_v9_9 (ix2 n k)) (hw : ∀ n, w (ix2 0 n) = b268 j s (ix1 n)) (n : Fin 1024) (k : Fin 64) :
    k0_pay49 e a M w (ix2 n k) = b283 j s (ix2 n k) := by
  pointwise [k0_pay49, k0_pay48, he, ha, hM, hw]
  pointwise [b283, b282, b281, b280, b279, b278, b277, b276, b275, b274, b273, b272, b271, b270, b269]

/-- The precedence after a step. -/
theorem precedence (hw : ∀ n, w (ix2 0 n) = b268 j s (ix1 n)) (hp : ∀ n, p (ix2 0 n) = s.main_v9_13 (ix1 n)) (n : Fin 1024) :
    k0_pay50 w p (ix2 0 n) = b290 j s (ix1 n) := by
  pointwise [k0_pay50, hw, hp]
  pointwise [b290, b289, b288, b287, b286, b285, b284]
  simp

/-- The norms the kernel keeps of the rows of the memory are those the reference takes. -/
theorem norms (hM : ∀ n k, M (ix2 n k) = b283 j s (ix2 n k)) (n : Fin 1024) :
    k0_pay69 (F := Ideal) M (ix2 0 n) = b313 j s (ix1 n) := by
  pointwise [k0_pay69, hM]
  pointwise [b313, b312, b311, b310]

/-- The norms taken after one step are those the next step starts from. -/
theorem norms_next (i : ℕ) (n : Fin 1024) : b234 i (step j s) (ix1 n) = b313 j s (ix1 n) := by
  pointwise [b234, b233, b232, b231, step_main_v9_9]
  pointwise [b313, b312, b311, b310]

/-- The first block of links after a step holds the reference's links at its rows. -/
theorem links0 {L : Vec Ideal S256x1024 .f32} (hw : ∀ n, w (ix2 0 n) = b268 j s (ix1 n))
    (hp : ∀ n, p (ix2 0 n) = s.main_v9_13 (ix1 n))
    (hL : ∀ (r : Fin 256) (n : Fin 1024), L (ix2 r n) = s.main_v9_12 (ix2 ⟨(r : ℕ), by omega⟩ n)) (r : Fin 256) (n : Fin 1024) :
    k0_pay51 w p L (ix2 r n) = b305 j s (ix2 ⟨(r : ℕ), by omega⟩ n) := by
  have hq := precedence hw hp
  pointwise [k0_pay51, k0_pay48, hq, hw, hL]
  pointwise [b305, b304, b303, b302, b301, b300, b299, b298, b297, b296, b295, b294, b293, b292, b291]

/-- The second block of links after a step holds the reference's links at its rows. -/
theorem links1 {L : Vec Ideal S256x1024 .f32} (hw : ∀ n, w (ix2 0 n) = b268 j s (ix1 n))
    (hp : ∀ n, p (ix2 0 n) = s.main_v9_13 (ix1 n))
    (hL : ∀ (r : Fin 256) (n : Fin 1024), L (ix2 r n) = s.main_v9_12 (ix2 ⟨256 + (r : ℕ), by omega⟩ n)) (r : Fin 256) (n : Fin 1024) :
    k0_pay58 (k0_pay50 w p) (k0_pay55 w) L (k0_pay56 w) (k0_pay57 w) (ix2 r n) = b305 j s (ix2 ⟨256 + (r : ℕ), by omega⟩ n) := by
  have hq := precedence hw hp
  pointwise [k0_pay58, k0_pay57, k0_pay56, k0_pay55, k0_pay48, hq, hw, hL]
  pointwise [b305, b304, b303, b302, b301, b300, b299, b298, b297, b296, b295, b294, b293, b292, b291]

/-- The third block of links after a step holds the reference's links at its rows. -/
theorem links2 {L : Vec Ideal S256x1024 .f32} (hw : ∀ n, w (ix2 0 n) = b268 j s (ix1 n))
    (hp : ∀ n, p (ix2 0 n) = s.main_v9_13 (ix1 n))
    (hL : ∀ (r : Fin 256) (n : Fin 1024), L (ix2 r n) = s.main_v9_12 (ix2 ⟨512 + (r : ℕ), by omega⟩ n)) (r : Fin 256) (n : Fin 1024) :
    k0_pay61 w (k0_pay48 w) (k0_pay50 w p) L (ix2 r n) = b305 j s (ix2 ⟨512 + (r : ℕ), by omega⟩ n) := by
  have hq := precedence hw hp
  pointwise [k0_pay61, k0_pay48, hq, hw, hL]
  pointwise [b305, b304, b303, b302, b301, b300, b299, b298, b297, b296, b295, b294, b293, b292, b291]

/-- The fourth block of links after a step holds the reference's links at its rows. -/
theorem links3 {L : Vec Ideal S256x1024 .f32} (hw : ∀ n, w (ix2 0 n) = b268 j s (ix1 n))
    (hp : ∀ n, p (ix2 0 n) = s.main_v9_13 (ix1 n))
    (hL : ∀ (r : Fin 256) (n : Fin 1024), L (ix2 r n) = s.main_v9_12 (ix2 ⟨768 + (r : ℕ), by omega⟩ n)) (r : Fin 256) (n : Fin 1024) :
    k0_pay65 w (k0_pay48 w) (k0_pay50 w p) L (ix2 r n) = b305 j s (ix2 ⟨768 + (r : ℕ), by omega⟩ n) := by
  have hq := precedence hw hp
  pointwise [k0_pay65, k0_pay48, hq, hw, hL]
  pointwise [b305, b304, b303, b302, b301, b300, b299, b298, b297, b296, b295, b294, b293, b292, b291]

end Cert.Proof.Stage
-- ==== Proof.StageRead.lean ====
module

public import proofs.«01_k».proof.Proof.StageMem

/-! # The read weightings and the reads after one step

Each head goes along the links, against them, or to what its key is like, and reads the
memory where it stands.  The kernel goes along and against the links block by block. -/

@[expose] public section
set_option backward.proofsInPublic true
set_option maxRecDepth 16384
noncomputable section
namespace Cert.Proof.Stage
open Idealize.ShloMosaic
open Cert.KernelIdeal Cert.KernelIdeal.Gen
open Cert.ReferenceIdeal.Step

variable {j : ℕ} {s : State Ideal} {M : Vec Ideal S1024x64 .f32} {rw : Vec Ideal S4x1024 .f32}
  {w p : Vec Ideal S1x1024 .f32} {L0 L1 L2 L3 : Vec Ideal S256x1024 .f32}

/-- A sum over the slots is the sum over its four blocks. -/
theorem sum_blocks (f : Fin 1024 → EReal) :
    ∑ x, f x = ∑ r : Fin 256, f ⟨r, by omega⟩ + ∑ r : Fin 256, f ⟨256 + r, by omega⟩
      + ∑ r : Fin 256, f ⟨512 + r, by omega⟩ + ∑ r : Fin 256, f ⟨768 + r, by omega⟩ := by
  have h1 := Fin.sum_univ_add (a := 768) (b := 256) (fun x : Fin (768 + 256) => f x)
  have h2 := Fin.sum_univ_add (a := 512) (b := 256) (fun x : Fin (512 + 256) => f ⟨x, by omega⟩)
  have h3 := Fin.sum_univ_add (a := 256) (b := 256) (fun x : Fin (256 + 256) => f ⟨x, by omega⟩)
  refine h1.trans (congrArg₂ _ (h2.trans (congrArg₂ _ (h3.trans rfl) rfl)) rfl)

/-- What the heads find along the links. -/
def fw (rw : Vec Ideal S4x1024 .f32) (w p : Vec Ideal S1x1024 .f32) (L0 L1 L2 L3 : Vec Ideal S256x1024 .f32) : Vec Ideal S4x1024 .f32 :=
  k0_pay67 rw (k0_pay63 rw w (k0_pay48 w) (k0_pay50 w p) (k0_pay53 rw w p L0) (k0_pay55 w) L1 (k0_pay56 w) (k0_pay57 w) L2)
    (k0_pay65 w (k0_pay48 w) (k0_pay50 w p) L3)

/-- What the heads find against the links. -/
def bw (rw : Vec Ideal S4x1024 .f32) (w p : Vec Ideal S1x1024 .f32) (L0 L1 L2 L3 : Vec Ideal S256x1024 .f32) : Vec Ideal S4x1024 .f32 :=
  k0_pay68 rw (k0_pay54 rw w p L0) (k0_pay60 rw (k0_pay50 w p) (k0_pay55 w) L1 (k0_pay56 w) (k0_pay57 w))
    (k0_pay64 rw w (k0_pay48 w) (k0_pay50 w p) L2) (k0_pay65 w (k0_pay48 w) (k0_pay50 w p) L3)

section
variable (hw : ∀ n, w (ix2 0 n) = b268 j s (ix1 n)) (hp : ∀ n, p (ix2 0 n) = s.main_v9_13 (ix1 n))
  (hrw : ∀ r n, rw (ix2 r n) = s.main_v9_14 (ix2 r n))
  (h0 : ∀ (r : Fin 256) (n : Fin 1024), L0 (ix2 r n) = s.main_v9_12 (ix2 ⟨(r : ℕ), by omega⟩ n))
  (h1 : ∀ (r : Fin 256) (n : Fin 1024), L1 (ix2 r n) = s.main_v9_12 (ix2 ⟨256 + (r : ℕ), by omega⟩ n))
  (h2 : ∀ (r : Fin 256) (n : Fin 1024), L2 (ix2 r n) = s.main_v9_12 (ix2 ⟨512 + (r : ℕ), by omega⟩ n))
  (h3 : ∀ (r : Fin 256) (n : Fin 1024), L3 (ix2 r n) = s.main_v9_12 (ix2 ⟨768 + (r : ℕ), by omega⟩ n))
include hw hp hrw h0 h1 h2 h3

/-- Along the links, block by block, is along the links. -/
theorem forward (r : Fin 4) (n : Fin 1024) : fw rw w p L0 L1 L2 L3 (ix2 r n) = b306 j s (ix2 r n) := by
  have e0 := links0 hw hp h0
  have e1 := links1 hw hp h1
  have e2 := links2 hw hp h2
  have e3 := links3 hw hp h3
  pointwise [fw, k0_pay67, k0_pay63, k0_pay53, e0, e1, e2, e3, hrw]
  pointwise [b306]
  rw [sum_blocks]

/-- Against the links, block by block, is against the links. -/
theorem backward (r : Fin 4) (n : Fin 1024) : bw rw w p L0 L1 L2 L3 (ix2 r n) = b308 j s (ix2 r n) := by
  have e0 := links0 hw hp h0
  have e1 := links1 hw hp h1
  have e2 := links2 hw hp h2
  have e3 := links3 hw hp h3
  pointwise [b308, b307]
  pointwise [bw, k0_pay68, k0_pay54, k0_pay60, k0_pay64, e0, e1, e2, e3, hrw]
  have e (k : ℕ) (hk : k < 1024) (h : k = n) (x : Fin 1024) : b305 j s (ix2 ⟨k, hk⟩ x) = b305 j s (ix2 n x) := by
    subst h; rfl
  split_ifs <;> exact Finset.sum_congr rfl fun x _ => by rw [e _ _ (by omega)]

end

/-- The content weighting of the read keys. -/
theorem read_content {ks : Vec Ideal S1x256 .f32} {bs : Vec Ideal S1x4 .f32}
    (hk : ∀ (r : Fin 4) (k : Fin 64) (a : Fin 256), (a : ℕ) = r * 64 + k → ks (ix2 0 a) = b42 j s (ix2 r k))
    (hb : ∀ r, bs (ix2 0 r) = b60 j s (ix1 r)) (hM : ∀ n k, M (ix2 n k) = b283 j s (ix2 n k)) (r : Fin 4) (n : Fin 1024) :
    k0_pay70 (F := Ideal) ks bs M (ix2 r n) = b344 j s (ix2 r n) := by
  have hn := norms hM
  have k0 (k : Fin 64) := hk 0 k ⟨k, by omega⟩ (by simp)
  have k1 (k : Fin 64) := hk 1 k ⟨64 + k, by omega⟩ (by simp)
  have k2 (k : Fin 64) := hk 2 k ⟨128 + k, by omega⟩ (by simp)
  have k3 (k : Fin 64) := hk 3 k ⟨192 + k, by omega⟩ (by simp)
  have e (x : Fin 64) : (if h : (r : ℕ) < 1 then ks (ix2 ⟨r, h⟩ ⟨x, by omega⟩)
      else if h : (r : ℕ) - 1 < 1 then ks (ix2 ⟨(r : ℕ) - 1, h⟩ ⟨64 + x, by omega⟩)
      else if h : (r : ℕ) - 1 - 1 < 1 then ks (ix2 ⟨(r : ℕ) - 1 - 1, h⟩ ⟨128 + x, by omega⟩)
      else ks (ix2 ⟨(r : ℕ) - 1 - 1 - 1, by omega⟩ ⟨192 + x, by omega⟩)) = b42 j s (ix2 r x) := by
    fin_cases r
    exacts [k0 x, k1 x, k2 x, k3 x]
  pointwise [k0_pay70, hn, hb, hM]
  pointwise [b344, b343, b342, b341, b340, b339, b338, b337, b336, b335, b334, b333, b332, b331, b330, b329, b328,
    b327, b326, b325, b324, b323, b322, b321, b320, b319, b318, b317, b316, b315, b314, b309]
  simp only [e, mul_comm]

/-- The read weightings after a step. -/
theorem read_weights {f c b : Vec Ideal S4x1024 .f32} {mc mf : Vec Ideal S4x1 .f32} (hf : ∀ r n, f (ix2 r n) = b306 j s (ix2 r n))
    (hc : ∀ r n, c (ix2 r n) = b344 j s (ix2 r n)) (hmc : ∀ r, mc (ix2 r 0) = b348 j s (ix2 r 0))
    (hmf : ∀ r, mf (ix2 r 0) = b352 j s (ix2 r 0)) (hb : ∀ r n, b (ix2 r n) = b347 j s (ix2 r n)) (r : Fin 4) (n : Fin 1024) :
    k0_pay80 (F := Ideal) f c mc mf b (ix2 r n) = b355 j s (ix2 r n) := by
  pointwise [k0_pay80, hf, hc, hmc, hmf, hb]
  pointwise [b355, b354, b353, b351, b350, b349]

/-- What the heads read after a step. -/
theorem reads {f c b : Vec Ideal S4x1024 .f32} {mc mf : Vec Ideal S4x1 .f32} (hM : ∀ n k, M (ix2 n k) = b283 j s (ix2 n k))
    (hw : ∀ r n, k0_pay80 (F := Ideal) f c mc mf b (ix2 r n) = b355 j s (ix2 r n)) (r : Fin 4) (k : Fin 64) :
    k0_pay81 (F := Ideal) M f c mc mf b (ix2 r k) = b356 j s (ix2 r k) := by
  pointwise [k0_pay81, hM, hw]
  pointwise [b356]

/-- A sum over the columns of all heads is the sum over the heads. -/
theorem sum_heads (f : Fin 256 → EReal) :
    ∑ x, f x = ∑ r : Fin 64, f ⟨r, by omega⟩ + ∑ r : Fin 64, f ⟨64 + r, by omega⟩
      + ∑ r : Fin 64, f ⟨128 + r, by omega⟩ + ∑ r : Fin 64, f ⟨192 + r, by omega⟩ := by
  have h1 := Fin.sum_univ_add (a := 192) (b := 64) (fun x : Fin (192 + 64) => f x)
  have h2 := Fin.sum_univ_add (a := 128) (b := 64) (fun x : Fin (128 + 64) => f ⟨x, by omega⟩)
  have h3 := Fin.sum_univ_add (a := 64) (b := 64) (fun x : Fin (64 + 64) => f ⟨x, by omega⟩)
  refine h1.trans (congrArg₂ _ (h2.trans (congrArg₂ _ (h3.trans rfl) rfl)) rfl)

/-- The row the step writes: the hidden row and the reads through their matrices, each matrix
given as a rounded half and what is left of it, which over the extended reals is nothing. -/
theorem out_row {hh : Vec Ideal S1x512 .f32} {f c b : Vec Ideal S4x1024 .f32} {mc mf : Vec Ideal S4x1 .f32}
    {vh vl : Vec Ideal S512x128 .bf16} {a0 z0 a1 z1 a2 z2 a3 z3 : Vec Ideal S64x128 .bf16}
    (hr : ∀ r k, k0_pay81 (F := Ideal) M f c mc mf b (ix2 r k) = b356 j s (ix2 r k))
    (hh' : ∀ k, hh (ix2 0 k) = b39 j s (ix1 k)) (hz : ∀ k, b39 j s (ix1 k) - b39 j s (ix1 k) = 0)
    (hvh : ∀ k o, vh (ix2 k o) = s.main_v9_4 (ix2 k o)) (hvl : ∀ k o, vl (ix2 k o) = 0)
    (ha0 : ∀ k o, a0 (ix2 k o) = s.main_v9_5 (ix2 ⟨(k : ℕ), by omega⟩ o)) (hz0 : ∀ k o, z0 (ix2 k o) = 0)
    (ha1 : ∀ k o, a1 (ix2 k o) = s.main_v9_5 (ix2 ⟨64 + (k : ℕ), by omega⟩ o)) (hz1 : ∀ k o, z1 (ix2 k o) = 0)
    (ha2 : ∀ k o, a2 (ix2 k o) = s.main_v9_5 (ix2 ⟨128 + (k : ℕ), by omega⟩ o)) (hz2 : ∀ k o, z2 (ix2 k o) = 0)
    (ha3 : ∀ k o, a3 (ix2 k o) = s.main_v9_5 (ix2 ⟨192 + (k : ℕ), by omega⟩ o)) (hz3 : ∀ k o, z3 (ix2 k o) = 0) (o : Fin 128) :
    k0_pay83 (F := Ideal) (k0_pay81 M f c mc mf b) (k0_pay82 hh M f c mc mf b vh vl a0 z0 a1 z1) a2 z2 a3 z3 (ix3 0 0 o) = b360 j s (ix1 o) := by
  pointwise [k0_pay83, k0_pay82, hr, hh', hz, hvh, hvl, ha0, hz0, ha1, hz1, ha2, hz2, ha3, hz3]
  pointwise [b360, b359, b358, b357]
  rw [sum_heads]
  have i (q : Fin 4) (n : ℕ) (r : Fin 64) (h1 : n / 64 < 4) (h2 : n % 64 < 64) (e : n = 64 * q + r) :
      b356 j s (ix2 ⟨n / 64, h1⟩ ⟨n % 64, h2⟩) = b356 j s (ix2 q r) := by
    have e1 : (⟨n / 64, h1⟩ : Fin 4) = q := Fin.ext (by simp only []; omega)
    have e2 : (⟨n % 64, h2⟩ : Fin 64) = r := Fin.ext (by simp only []; omega)
    rw [e1, e2]
  have i0 (r : Fin 64) := i 0 r r (by omega) (by omega) (by simp)
  have i1 (r : Fin 64) := i 1 (64 + r) r (by omega) (by omega) (by simp)
  have i2 (r : Fin 64) := i 2 (128 + r) r (by omega) (by omega) (by simp)
  have i3 (r : Fin 64) := i 3 (192 + r) r (by omega) (by omega) (by simp)
  simp only [i0, i1, i2, i3, mul_zero, zero_mul, Finset.sum_const_zero, add_zero, add_assoc]

end Cert.Proof.Stage
-- ==== Proof.StagePoint.lean ====
module

public import proofs.«01_k».proof.Proof.Gen.KernelIdeal.Value
public import proofs.«01_k».proof.Proof.StageRead
public import proofs.«01_k».proof.Proof.StageLstm
public import Idealize.ShloMosaic.Lib.Pipeline.ValueKit
public import Idealize.ShloMosaic.Lib.Pipeline.ReadBack

/-! # What one grid point leaves, by name

The point takes the scratch the point before left, or at the first point what it puts there
itself, and leaves the next.  Here each array it leaves is named as a function of the scratch
it takes. -/

@[expose] public section
set_option maxRecDepth 16384
noncomputable section
namespace Cert.Proof.Stage
open Idealize.ShloMosaic
open Cert.KernelIdeal Cert.KernelIdeal.Gen Cert.KernelIdeal.Value

/-- The scratch carried from one grid point to the next. -/
structure Scr where
  /-- The product of the rows with their matrix, with the bias. -/
  xw : Vec Ideal S32x2048 .f32
  /-- The hidden row. -/
  h : Vec Ideal S1x512 .f32
  /-- The cell's state. -/
  c : Vec Ideal S1x512 .f32
  /-- The memory. -/
  M : Vec Ideal S1024x64 .f32
  /-- The usage. -/
  u : Vec Ideal S1x1024 .f32
  /-- The write weighting. -/
  w : Vec Ideal S1x1024 .f32
  /-- The links. -/
  L : Vec Ideal S1024x1024 .f32
  /-- The precedence. -/
  p : Vec Ideal S1x1024 .f32
  /-- The read weightings. -/
  r : Vec Ideal S4x1024 .f32
  /-- The norms of the memory's rows. -/
  mn : Vec Ideal S1x1024 .f32
  /-- The interface row. -/
  iv : Vec Ideal S1x512 .f32

namespace Scr
variable (σ : Scr)

/-- The usage after the step. -/
def u' : Vec Ideal S1x1024 .f32 := k0_pay41 (F := Ideal) σ.iv σ.r σ.u σ.w
/-- The write weighting after the step. -/
def w' : Vec Ideal S1x1024 .f32 := kww σ.iv σ.r σ.u σ.w σ.M σ.mn
/-- The memory after the step. -/
def M' : Vec Ideal S1024x64 .f32 := k0_pay49 (F := Ideal) (k0_pay37 σ.iv) (k0_pay38 σ.iv) σ.M σ.w'
/-- The first block of links before the step. -/
def L0 : Vec Ideal S256x1024 .f32 := View.ld σ.L (Rect.unit ![0, 0] ![256, 1024] inb_S1024x1024_S256x1024_0_0)
/-- The second block of links before the step. -/
def L1 : Vec Ideal S256x1024 .f32 := View.ld σ.L (Rect.unit ![256, 0] ![256, 1024] inb_S1024x1024_S256x1024_256_0)
/-- The third block of links before the step. -/
def L2 : Vec Ideal S256x1024 .f32 := View.ld σ.L (Rect.unit ![512, 0] ![256, 1024] inb_S1024x1024_S256x1024_512_0)
/-- The fourth block of links before the step. -/
def L3 : Vec Ideal S256x1024 .f32 := View.ld σ.L (Rect.unit ![768, 0] ![256, 1024] inb_S1024x1024_S256x1024_768_0)
/-- What the heads find along the links. -/
def f : Vec Ideal S4x1024 .f32 := fw σ.r σ.w' σ.p σ.L0 σ.L1 σ.L2 σ.L3
/-- What the heads find against the links. -/
def b : Vec Ideal S4x1024 .f32 := bw σ.r σ.w' σ.p σ.L0 σ.L1 σ.L2 σ.L3
/-- The content weightings of the read keys. -/
def rc : Vec Ideal S4x1024 .f32 := k0_pay70 (F := Ideal) (k0_pay30 σ.iv) (k0_pay31 σ.iv) σ.M'
/-- The share of content in each head's mode. -/
def mc : Vec Ideal S4x1 .f32 := k0_pay77 (F := Ideal) σ.iv (k0_pay71 σ.iv) (k0_pay72 σ.iv)
/-- The share of forward in each head's mode. -/
def mf : Vec Ideal S4x1 .f32 := k0_pay78 (F := Ideal) σ.iv (k0_pay71 σ.iv) (k0_pay72 σ.iv)
/-- Backward times its share in each head's mode. -/
def mb : Vec Ideal S4x1024 .f32 := k0_pay79 (F := Ideal) σ.iv σ.b (k0_pay71 σ.iv) (k0_pay72 σ.iv)
/-- The read weightings after the step. -/
def r' : Vec Ideal S4x1024 .f32 := k0_pay80 (F := Ideal) σ.f σ.rc σ.mc σ.mf σ.mb
end Scr

variable (m : (ℓ : Loc nD τ sig) → Buf (Elt Ideal) ℓ) (c : Dev nD) (t : Fin cfg0.N)

/-- The scratch the first point puts there itself. -/
def scr0 : Scr where
  xw := k0_pay5 (F := Ideal) (iblk m c 0 t) (iblk m c 1 t) (iblk m c 4 t)
  h := k0_pay9 (F := Ideal) (iblk m c 0 t) (iblk m c 1 t) (iblk m c 4 t)
  c := k0_pay10 (F := Ideal) (iblk m c 0 t) (iblk m c 1 t) (iblk m c 4 t)
  M := k0_pay16 (F := Ideal)
  u := k0_pay17 (F := Ideal)
  w := k0_pay18 (F := Ideal)
  L := k0_pay19 (F := Ideal)
  p := k0_pay20 (F := Ideal)
  r := k0_pay22 (F := Ideal) k0_pay21
  mn := k0_pay23 (F := Ideal)
  iv := k0_pay15 (F := Ideal) (k0_pay11 (iblk m c 5 t)) (k0_pay12 (iblk m c 6 t)) (k0_pay13 (iblk m c 0 t) (iblk m c 1 t) (iblk m c 4 t))
    (k0_pay14 (iblk m c 0 t) (iblk m c 1 t) (iblk m c 4 t))

/-- What a point leaves: the output block and the scratch. -/
abbrev Left := Vec Ideal S1x1x128 .f32 × Vec Ideal S32x2048 .f32 × Vec Ideal S1x512 .f32 × Vec Ideal S1x512 .f32 ×
  Vec Ideal S1024x64 .f32 × Vec Ideal S1x1024 .f32 × Vec Ideal S1x1024 .f32 × Vec Ideal S1024x1024 .f32 ×
  Vec Ideal S1x1024 .f32 × Vec Ideal S4x1024 .f32 × Vec Ideal S1x1024 .f32 × Vec Ideal S1x512 .f32

/-- The scratch in what a point leaves. -/
def scr (a : Left) : Scr where
  xw := a.2.1
  h := a.2.2.1
  c := a.2.2.2.1
  M := a.2.2.2.2.1
  u := a.2.2.2.2.2.1
  w := a.2.2.2.2.2.2.1
  L := a.2.2.2.2.2.2.2.1
  p := a.2.2.2.2.2.2.2.2.1
  r := a.2.2.2.2.2.2.2.2.2.1
  mn := a.2.2.2.2.2.2.2.2.2.2.1
  iv := a.2.2.2.2.2.2.2.2.2.2.2

/-- The row of products the cell takes for the next step. -/
def xrow (σ : Scr) : Vec Ideal S1x2048 .f32 :=
  View.ld σ.xw (Rect.unit (k0_off1 (grid0.coords t)) ![1, 2048] (k0_off1_inb (grid0.coords t)))

/-- The next hidden row. -/
def hnext (σ : Scr) : Vec Ideal S1x512 .f32 := k0_pay26 (F := Ideal) σ.h σ.c (xrow t σ) (iblk m c 2 t) (iblk m c 3 t)
/-- The next cell's state. -/
def cnext (σ : Scr) : Vec Ideal S1x512 .f32 := k0_pay25 (F := Ideal) σ.h σ.c (xrow t σ) (iblk m c 2 t) (iblk m c 3 t)

/-- The row the step writes. -/
def outrow (σ : Scr) : Vec Ideal S1x1x128 .f32 :=
  k0_pay83 (F := Ideal) (k0_pay81 σ.M' σ.f σ.rc σ.mc σ.mf σ.mb) (k0_pay82 σ.h σ.M' σ.f σ.rc σ.mc σ.mf σ.mb (iblk m c 7 t) (iblk m c 8 t)
    (View.ld (iblk m c 9 t) (Rect.unit ![0, 0] ![64, 128] inb_S256x128_S64x128_0_0))
    (View.ld (iblk m c 10 t) (Rect.unit ![0, 0] ![64, 128] inb_S256x128_S64x128_0_0))
    (View.ld (iblk m c 9 t) (Rect.unit ![64, 0] ![64, 128] inb_S256x128_S64x128_64_0))
    (View.ld (iblk m c 10 t) (Rect.unit ![64, 0] ![64, 128] inb_S256x128_S64x128_64_0)))
    (View.ld (iblk m c 9 t) (Rect.unit ![128, 0] ![64, 128] inb_S256x128_S64x128_128_0))
    (View.ld (iblk m c 10 t) (Rect.unit ![128, 0] ![64, 128] inb_S256x128_S64x128_128_0))
    (View.ld (iblk m c 9 t) (Rect.unit ![192, 0] ![64, 128] inb_S256x128_S64x128_192_0))
    (View.ld (iblk m c 10 t) (Rect.unit ![192, 0] ![64, 128] inb_S256x128_S64x128_192_0))

/-- The four blocks of links a step leaves, as one array. -/
structure Blocks (σ : Scr) (L : Vec Ideal S1024x1024 .f32) : Prop where
  b0 : ∀ (r : Fin 256) (n : Fin 1024), L (ix2 ⟨(r : ℕ), by omega⟩ n) = k0_pay52 (F := Ideal) σ.w' σ.p σ.L0 (ix2 r n)
  b1 : ∀ (r : Fin 256) (n : Fin 1024), L (ix2 ⟨256 + (r : ℕ), by omega⟩ n) = k0_pay59 (F := Ideal) (k0_pay50 σ.w' σ.p) (k0_pay55 σ.w') σ.L1 (k0_pay56 σ.w') (k0_pay57 σ.w') (ix2 r n)
  b2 : ∀ (r : Fin 256) (n : Fin 1024), L (ix2 ⟨512 + (r : ℕ), by omega⟩ n) = k0_pay62 (F := Ideal) σ.w' (k0_pay48 σ.w') (k0_pay50 σ.w' σ.p) σ.L2 (ix2 r n)
  b3 : ∀ (r : Fin 256) (n : Fin 1024), L (ix2 ⟨768 + (r : ℕ), by omega⟩ n) = k0_pay66 (F := Ideal) (k0_pay65 σ.w' (k0_pay48 σ.w') (k0_pay50 σ.w' σ.p) σ.L3) (ix2 r n)

/-- At a later point: the products. -/
theorem B_xw (acc : Left) (h0 : ¬t.val % 32 = 0) : (stAt0 m c t.val t.isLt acc).2.1 = (fun σ => σ.xw) (scr acc) := by
  rw [stAt0_B m c t acc h0]
  rfl

/-- At the first point: the products. -/
theorem A_xw (acc : Left) (h0 : t.val % 32 = 0) : (stAt0 m c t.val t.isLt acc).2.1 = (fun σ => σ.xw) (scr0 m c t) := by
  rw [stAt0_A m c t acc h0]
  funext i; frame_out; rfl

/-- At a later point: the hidden row. -/
theorem B_h (acc : Left) (h0 : ¬t.val % 32 = 0) : (stAt0 m c t.val t.isLt acc).2.2.1 = (fun σ => k0_pay27 (F := Ideal) (hnext m c t σ)) (scr acc) := by
  rw [stAt0_B m c t acc h0]
  funext i; frame_out; simp only [read_unread_whole]; rfl

/-- At the first point: the hidden row. -/
theorem A_h (acc : Left) (h0 : t.val % 32 = 0) : (stAt0 m c t.val t.isLt acc).2.2.1 = (fun σ => k0_pay27 (F := Ideal) (hnext m c t σ)) (scr0 m c t) := by
  rw [stAt0_A m c t acc h0]
  funext i; frame_out; rfl

/-- At a later point: the cell's state. -/
theorem B_c (acc : Left) (h0 : ¬t.val % 32 = 0) : (stAt0 m c t.val t.isLt acc).2.2.2.1 = (fun σ => k0_pay28 (F := Ideal) (cnext m c t σ)) (scr acc) := by
  rw [stAt0_B m c t acc h0]
  funext i; frame_out; simp only [read_unread_whole]; rfl

/-- At the first point: the cell's state. -/
theorem A_c (acc : Left) (h0 : t.val % 32 = 0) : (stAt0 m c t.val t.isLt acc).2.2.2.1 = (fun σ => k0_pay28 (F := Ideal) (cnext m c t σ)) (scr0 m c t) := by
  rw [stAt0_A m c t acc h0]
  funext i; frame_out; rfl

/-- At a later point: the memory. -/
theorem B_M (acc : Left) (h0 : ¬t.val % 32 = 0) : (stAt0 m c t.val t.isLt acc).2.2.2.2.1 = (fun σ => k0_pay84 (F := Ideal) σ.M') (scr acc) := by
  rw [stAt0_B m c t acc h0]
  funext i; frame_out; simp only [read_unread_whole]; rfl

/-- At the first point: the memory. -/
theorem A_M (acc : Left) (h0 : t.val % 32 = 0) : (stAt0 m c t.val t.isLt acc).2.2.2.2.1 = (fun σ => k0_pay84 (F := Ideal) σ.M') (scr0 m c t) := by
  rw [stAt0_A m c t acc h0]
  funext i; frame_out; rfl

/-- At a later point: the usage. -/
theorem B_u (acc : Left) (h0 : ¬t.val % 32 = 0) : (stAt0 m c t.val t.isLt acc).2.2.2.2.2.1 = (fun σ => k0_pay85 (F := Ideal) σ.u') (scr acc) := by
  rw [stAt0_B m c t acc h0]
  funext i; frame_out; simp only [read_unread_whole]; rfl

/-- At the first point: the usage. -/
theorem A_u (acc : Left) (h0 : t.val % 32 = 0) : (stAt0 m c t.val t.isLt acc).2.2.2.2.2.1 = (fun σ => k0_pay85 (F := Ideal) σ.u') (scr0 m c t) := by
  rw [stAt0_A m c t acc h0]
  funext i; frame_out; rfl

/-- At a later point: the write weighting. -/
theorem B_w (acc : Left) (h0 : ¬t.val % 32 = 0) : (stAt0 m c t.val t.isLt acc).2.2.2.2.2.2.1 = (fun σ => k0_pay86 (F := Ideal) σ.w') (scr acc) := by
  rw [stAt0_B m c t acc h0]
  funext i; frame_out; simp only [read_unread_whole]; rfl

/-- At the first point: the write weighting. -/
theorem A_w (acc : Left) (h0 : t.val % 32 = 0) : (stAt0 m c t.val t.isLt acc).2.2.2.2.2.2.1 = (fun σ => k0_pay86 (F := Ideal) σ.w') (scr0 m c t) := by
  rw [stAt0_A m c t acc h0]
  funext i; frame_out; rfl

/-- At a later point: the precedence. -/
theorem B_p (acc : Left) (h0 : ¬t.val % 32 = 0) : (stAt0 m c t.val t.isLt acc).2.2.2.2.2.2.2.2.1 = (fun σ => k0_pay1 (F := Ideal) (k0_pay50 σ.w' σ.p)) (scr acc) := by
  rw [stAt0_B m c t acc h0]
  funext i; frame_out; simp only [read_unread_whole]; rfl

/-- At the first point: the precedence. -/
theorem A_p (acc : Left) (h0 : t.val % 32 = 0) : (stAt0 m c t.val t.isLt acc).2.2.2.2.2.2.2.2.1 = (fun σ => k0_pay1 (F := Ideal) (k0_pay50 σ.w' σ.p)) (scr0 m c t) := by
  rw [stAt0_A m c t acc h0]
  funext i; frame_out; rfl

/-- At a later point: the read weightings. -/
theorem B_r (acc : Left) (h0 : ¬t.val % 32 = 0) : (stAt0 m c t.val t.isLt acc).2.2.2.2.2.2.2.2.2.1 = (fun σ => k0_pay2 (F := Ideal) σ.r') (scr acc) := by
  rw [stAt0_B m c t acc h0]
  funext i; frame_out; simp only [read_unread_whole]; rfl

/-- At a later point: the norms. -/
theorem B_mn (acc : Left) (h0 : ¬t.val % 32 = 0) : (stAt0 m c t.val t.isLt acc).2.2.2.2.2.2.2.2.2.2.1 = (fun σ => k0_pay3 (F := Ideal) (k0_pay69 σ.M')) (scr acc) := by
  rw [stAt0_B m c t acc h0]
  funext i; frame_out; simp only [read_unread_whole]; rfl

/-- At the first point: the norms. -/
theorem A_mn (acc : Left) (h0 : t.val % 32 = 0) : (stAt0 m c t.val t.isLt acc).2.2.2.2.2.2.2.2.2.2.1 = (fun σ => k0_pay3 (F := Ideal) (k0_pay69 σ.M')) (scr0 m c t) := by
  rw [stAt0_A m c t acc h0]
  funext i; frame_out; rfl

/-- At a later point: the interface row. -/
theorem B_iv (acc : Left) (h0 : ¬t.val % 32 = 0) : (stAt0 m c t.val t.isLt acc).2.2.2.2.2.2.2.2.2.2.2 = (fun σ => k0_pay29 (F := Ideal) (hnext m c t σ) (iblk m c 5 t) (iblk m c 6 t)) (scr acc) := by
  rw [stAt0_B m c t acc h0]
  funext i; frame_out; simp only [read_unread_whole]; rfl

/-- At the first point: the interface row. -/
theorem A_iv (acc : Left) (h0 : t.val % 32 = 0) : (stAt0 m c t.val t.isLt acc).2.2.2.2.2.2.2.2.2.2.2 = (fun σ => k0_pay29 (F := Ideal) (hnext m c t σ) (iblk m c 5 t) (iblk m c 6 t)) (scr0 m c t) := by
  rw [stAt0_A m c t acc h0]
  funext i; frame_out; rfl

/-- At a later point: the output block. -/
theorem B_out (acc : Left) (h0 : ¬t.val % 32 = 0) : (stAt0 m c t.val t.isLt acc).1 = (fun σ => outrow m c t σ) (scr acc) := by
  rw [stAt0_B m c t acc h0]
  funext i; frame_out; simp only [read_unread_whole]; rfl

/-- An index of a block of links, from its coordinates. -/
theorem idx_block (x : S256x1024.Idx) (r : Fin 256) (n : Fin 1024) (h0 : (x 0 : ℕ) = r) (h1 : (x 1 : ℕ) = n) : x = ix2 r n := by
  funext a
  fin_cases a
  · exact Fin.ext h0
  · exact Fin.ext h1

/-- At a later point: the links. -/
theorem B_L (acc : Left) (h : ¬t.val % 32 = 0) : Blocks (scr acc) (stAt0 m c t.val t.isLt acc).2.2.2.2.2.2.2.1 := by
  rw [stAt0_B m c t acc h]
  constructor
  · intro r n
    frame_out; simp only [read_unread_whole]
    canon_tiles x h
    · exfalso; have e : (r : ℕ) = 768 + (x 0 : ℕ) := h0; omega
    · exfalso; have e : (r : ℕ) = 512 + (x 0 : ℕ) := h0; omega
    · exfalso; have e : (r : ℕ) = 256 + (x 0 : ℕ) := h0; omega
    · have e : (r : ℕ) = (x 0 : ℕ) := h0
      rw [idx_block x r n (by omega) h1.symm]; rfl
  · intro r n
    frame_out; simp only [read_unread_whole]
    canon_tiles x h
    · exfalso; have e : 256 + (r : ℕ) = 768 + (x 0 : ℕ) := h0; omega
    · exfalso; have e : 256 + (r : ℕ) = 512 + (x 0 : ℕ) := h0; omega
    · have e : 256 + (r : ℕ) = 256 + (x 0 : ℕ) := h0
      rw [idx_block x r n (by omega) h1.symm]; rfl
    · exfalso; have e : 256 + (r : ℕ) = (x 0 : ℕ) := h0; omega
  · intro r n
    frame_out; simp only [read_unread_whole]
    canon_tiles x h
    · exfalso; have e : 512 + (r : ℕ) = 768 + (x 0 : ℕ) := h0; omega
    · have e : 512 + (r : ℕ) = 512 + (x 0 : ℕ) := h0
      rw [idx_block x r n (by omega) h1.symm]; rfl
    · exfalso; have e : 512 + (r : ℕ) = 256 + (x 0 : ℕ) := h0; omega
    · exfalso; have e : 512 + (r : ℕ) = (x 0 : ℕ) := h0; omega
  · intro r n
    frame_out; simp only [read_unread_whole]
    canon_tiles x h
    · have e : 768 + (r : ℕ) = 768 + (x 0 : ℕ) := h0
      rw [idx_block x r n (by omega) h1.symm]; rfl
    · exfalso; have e : 768 + (r : ℕ) = 512 + (x 0 : ℕ) := h0; omega
    · exfalso; have e : 768 + (r : ℕ) = 256 + (x 0 : ℕ) := h0; omega
    · exfalso; have e : 768 + (r : ℕ) = (x 0 : ℕ) := h0; omega

end Cert.Proof.Stage
-- ==== Proof.StagePointA.lean ====
module

public import proofs.«01_k».proof.Proof.StagePoint

/-! # What the first grid point leaves: the read weightings, the row and the links

The first point fills the links itself before it reads them block by block. -/

@[expose] public section
set_option maxRecDepth 16384
noncomputable section
namespace Cert.Proof.Stage
open Idealize.ShloMosaic
open Cert.KernelIdeal Cert.KernelIdeal.Gen Cert.KernelIdeal.Value

/-- A block of rows of the links' array. -/
abbrev rows (o : ℕ) (inb : ∀ a, (![o, 0] : Fin 2 → ℕ) a + (![256, 1024] : Fin 2 → ℕ) a ≤ S1024x1024.size a) : Rect S1024x1024 :=
  Rect.unit ![o, 0] ![256, 1024] inb
/-- All of the links' array. -/
abbrev allRows (inb : ∀ a, (![0, 0] : Fin 2 → ℕ) a + (![1024, 1024] : Fin 2 → ℕ) a ≤ S1024x1024.size a) : Rect S1024x1024 :=
  Rect.unit ![0, 0] ![1024, 1024] inb

variable {sg : RefSig} {κ : Kind} {sp : Space} (v : View sg κ sp S1024x1024 .f32)

/-- An index of a block of rows is no index of another block. -/
theorem rows_apart {o o' : ℕ} {inb inb'} (h : o + 256 ≤ o' ∨ o' + 256 ≤ o) (x : (rows o inb).shape.Idx) :
    (rows o inb).idx x ∉ (rows o' inb').set := by
  intro hm
  have h1 := (Rect.mem_set_unit.1 hm) (0 : Fin 2)
  have e := Rect.idx_unit_val (s := S1024x1024) ![o, 0] ![256, 1024] inb x (0 : Fin 2)
  have hx : (x (0 : Fin 2) : ℕ) < 256 := (x (0 : Fin 2)).isLt
  change ((rows o inb).idx x (0 : Fin 2) : ℕ) = o + _ at e
  change o' ≤ _ ∧ _ < o' + 256 at h1
  rw [e] at h1
  omega

/-- A load of a block of rows does not see what was stored to another block. -/
theorem load_skip {o o' : ℕ} {inb inb'} (h : o + 256 ≤ o' ∨ o' + 256 ≤ o) (P : Vec Ideal S256x1024 .f32)
    (L : List (View.Piece (Elt Ideal) S1024x1024 .f32)) :
    v.readCov (⟨rows o' inb', P⟩ :: L) (rows o inb).toLoadRect = v.readCov L (rows o inb).toLoadRect := by
  rw [View.readCov_eq_canon', View.readCov_eq_canon']
  funext x
  exact View.canon_cons_of_not_mem _ L (rows_apart (inb' := inb') h x)

/-- A load of a block of rows after the whole was stored. -/
theorem load_fill {o : ℕ} {inb inb'} (Z : Vec Ideal S1024x1024 .f32) :
    v.readCov [⟨allRows inb', Z⟩] (rows o inb).toLoadRect = View.ld Z (rows o inb) := by
  rw [View.readCov_eq_canon']
  have e : View.canon [(⟨allRows inb', Z⟩ : View.Piece (Elt Ideal) S1024x1024 .f32)] = Z :=
    View.canon_cons_unit_lit inb' Z [] (fun a => by fin_cases a <;> rfl)
  rw [e]

/-- Four blocks of rows are the whole: what lay under them does not show. -/
theorem canon_rows {i3 i2 i1 i0 ia} (P3 P2 P1 P0 : Vec Ideal S256x1024 .f32) (Z : Vec Ideal S1024x1024 .f32) (y : S1024x1024.Idx) :
    View.canon [(⟨rows 768 i3, P3⟩ : View.Piece (Elt Ideal) S1024x1024 .f32), ⟨rows 512 i2, P2⟩, ⟨rows 256 i1, P1⟩, ⟨rows 0 i0, P0⟩, ⟨allRows ia, Z⟩] y
      = View.canon [(⟨rows 768 i3, P3⟩ : View.Piece (Elt Ideal) S1024x1024 .f32), ⟨rows 512 i2, P2⟩, ⟨rows 256 i1, P1⟩, ⟨rows 0 i0, P0⟩] y := by
  have key : ∀ (o : ℕ) (inb) (P : Vec Ideal S256x1024 .f32) (L L' : List (View.Piece (Elt Ideal) S1024x1024 .f32)),
      (y ∉ (rows o inb).set → View.canon L y = View.canon L' y) →
      View.canon (⟨rows o inb, P⟩ :: L) y = View.canon (⟨rows o inb, P⟩ :: L') y := by
    intro o inb P L L' h
    by_cases hy : y ∈ (rows o inb).set
    · obtain ⟨x, rfl⟩ : ∃ x, (rows o inb).emb x = y := (rows o inb).exists_idx_of_mem hy
      rw [View.canon_cons_emb, View.canon_cons_emb]
    · rw [View.canon_cons_of_not_mem (⟨rows o inb, P⟩ : View.Piece (Elt Ideal) S1024x1024 .f32) L hy,
        View.canon_cons_of_not_mem (⟨rows o inb, P⟩ : View.Piece (Elt Ideal) S1024x1024 .f32) L' hy, h hy]
  refine key _ _ _ _ _ fun h3 => key _ _ _ _ _ fun h2 => key _ _ _ _ _ fun h1 => key _ _ _ _ _ fun h0 => ?_
  exfalso
  have hy0 : (y (0 : Fin 2) : ℕ) < 1024 := (y (0 : Fin 2)).isLt
  have hy1 : (y (1 : Fin 2) : ℕ) < 1024 := (y (1 : Fin 2)).isLt
  have mem : ∀ (o : ℕ) (inb), o ≤ (y (0 : Fin 2) : ℕ) → (y (0 : Fin 2) : ℕ) < o + 256 → y ∈ (rows o inb).set := by
    intro o inb ha hb
    refine Rect.mem_set_unit.2 fun a => ?_
    fin_cases a
    · exact ⟨ha, hb⟩
    · exact ⟨Nat.zero_le _, by change (y (1 : Fin 2) : ℕ) < 0 + 1024; omega⟩
  by_cases a : (y (0 : Fin 2) : ℕ) < 256
  · exact h0 (mem 0 i0 (by omega) (by omega))
  by_cases b : (y (0 : Fin 2) : ℕ) < 512
  · exact h1 (mem 256 i1 (by omega) (by omega))
  by_cases d : (y (0 : Fin 2) : ℕ) < 768
  · exact h2 (mem 512 i2 (by omega) (by omega))
  · exact h3 (mem 768 i3 (by omega) (by omega))

variable (m : (ℓ : Loc nD τ sig) → Buf (Elt Ideal) ℓ) (c : Dev nD) (t : Fin cfg0.N)

set_option maxHeartbeats 4000000 in
/-- At the first point: the read weightings. -/
theorem A_r (acc : Left) (h0 : t.val % 32 = 0) : (stAt0 m c t.val t.isLt acc).2.2.2.2.2.2.2.2.2.1 = (fun σ => k0_pay2 (F := Ideal) σ.r') (scr0 m c t) := by
  rw [stAt0_A m c t acc h0]
  have e : (scr0 m c t).iv = (scr0 m c t).iv := rfl
  conv_lhs at e => simp only [scr0, k0_pay15, k0_pay14, k0_pay13, k0_pay12, k0_pay11, k0_pay10, k0_pay9, k0_pay8, k0_pay7, k0_pay6, k0_pay5, k0_pay4]
  funext i; frame_out
  rw [e]
  simp only [load_skip _ (o := 256) (o' := 0) (by decide), load_skip _ (o := 512) (o' := 0) (by decide), load_skip _ (o := 512) (o' := 256) (by decide), load_skip _ (o := 768) (o' := 0) (by decide), load_skip _ (o := 768) (o' := 256) (by decide), load_skip _ (o := 768) (o' := 512) (by decide), load_fill]
  rfl

set_option maxHeartbeats 4000000 in
/-- At the first point: the output block. -/
theorem A_out (acc : Left) (h0 : t.val % 32 = 0) : (stAt0 m c t.val t.isLt acc).1 = (fun σ => outrow m c t σ) (scr0 m c t) := by
  rw [stAt0_A m c t acc h0]
  have e : (scr0 m c t).iv = (scr0 m c t).iv := rfl
  conv_lhs at e => simp only [scr0, k0_pay15, k0_pay14, k0_pay13, k0_pay12, k0_pay11, k0_pay10, k0_pay9, k0_pay8, k0_pay7, k0_pay6, k0_pay5, k0_pay4]
  funext i; frame_out
  rw [e]
  simp only [load_skip _ (o := 256) (o' := 0) (by decide), load_skip _ (o := 512) (o' := 0) (by decide), load_skip _ (o := 512) (o' := 256) (by decide), load_skip _ (o := 768) (o' := 0) (by decide), load_skip _ (o := 768) (o' := 256) (by decide), load_skip _ (o := 768) (o' := 512) (by decide), load_fill]
  rfl

/-- At the first point: the links. -/
theorem A_L (acc : Left) (h : t.val % 32 = 0) : Blocks (scr0 m c t) (stAt0 m c t.val t.isLt acc).2.2.2.2.2.2.2.1 := by
  rw [stAt0_A m c t acc h]
  have e : (scr0 m c t).iv = (scr0 m c t).iv := rfl
  conv_lhs at e => simp only [scr0, k0_pay15, k0_pay14, k0_pay13, k0_pay12, k0_pay11, k0_pay10, k0_pay9, k0_pay8, k0_pay7, k0_pay6, k0_pay5, k0_pay4]
  constructor
  · intro r n
    frame_out
    rw [e]
    simp only [load_skip _ (o := 256) (o' := 0) (by decide), load_skip _ (o := 512) (o' := 0) (by decide), load_skip _ (o := 512) (o' := 256) (by decide), load_skip _ (o := 768) (o' := 0) (by decide), load_skip _ (o := 768) (o' := 256) (by decide), load_skip _ (o := 768) (o' := 512) (by decide), load_fill]
    refine (canon_rows _ _ _ _ _ _).trans ?_
    canon_tiles x h
    · exfalso; have e : (r : ℕ) = 768 + (x 0 : ℕ) := h0; omega
    · exfalso; have e : (r : ℕ) = 512 + (x 0 : ℕ) := h0; omega
    · exfalso; have e : (r : ℕ) = 256 + (x 0 : ℕ) := h0; omega
    · have e : (r : ℕ) = (x 0 : ℕ) := h0
      rw [idx_block x r n (by omega) h1.symm]; rfl
  · intro r n
    frame_out
    rw [e]
    simp only [load_skip _ (o := 256) (o' := 0) (by decide), load_skip _ (o := 512) (o' := 0) (by decide), load_skip _ (o := 512) (o' := 256) (by decide), load_skip _ (o := 768) (o' := 0) (by decide), load_skip _ (o := 768) (o' := 256) (by decide), load_skip _ (o := 768) (o' := 512) (by decide), load_fill]
    refine (canon_rows _ _ _ _ _ _).trans ?_
    canon_tiles x h
    · exfalso; have e : 256 + (r : ℕ) = 768 + (x 0 : ℕ) := h0; omega
    · exfalso; have e : 256 + (r : ℕ) = 512 + (x 0 : ℕ) := h0; omega
    · have e : 256 + (r : ℕ) = 256 + (x 0 : ℕ) := h0
      rw [idx_block x r n (by omega) h1.symm]; rfl
    · exfalso; have e : 256 + (r : ℕ) = (x 0 : ℕ) := h0; omega
  · intro r n
    frame_out
    rw [e]
    simp only [load_skip _ (o := 256) (o' := 0) (by decide), load_skip _ (o := 512) (o' := 0) (by decide), load_skip _ (o := 512) (o' := 256) (by decide), load_skip _ (o := 768) (o' := 0) (by decide), load_skip _ (o := 768) (o' := 256) (by decide), load_skip _ (o := 768) (o' := 512) (by decide), load_fill]
    refine (canon_rows _ _ _ _ _ _).trans ?_
    canon_tiles x h
    · exfalso; have e : 512 + (r : ℕ) = 768 + (x 0 : ℕ) := h0; omega
    · have e : 512 + (r : ℕ) = 512 + (x 0 : ℕ) := h0
      rw [idx_block x r n (by omega) h1.symm]; rfl
    · exfalso; have e : 512 + (r : ℕ) = 256 + (x 0 : ℕ) := h0; omega
    · exfalso; have e : 512 + (r : ℕ) = (x 0 : ℕ) := h0; omega
  · intro r n
    frame_out
    rw [e]
    simp only [load_skip _ (o := 256) (o' := 0) (by decide), load_skip _ (o := 512) (o' := 0) (by decide), load_skip _ (o := 512) (o' := 256) (by decide), load_skip _ (o := 768) (o' := 0) (by decide), load_skip _ (o := 768) (o' := 256) (by decide), load_skip _ (o := 768) (o' := 512) (by decide), load_fill]
    refine (canon_rows _ _ _ _ _ _).trans ?_
    canon_tiles x h
    · have e : 768 + (r : ℕ) = 768 + (x 0 : ℕ) := h0
      rw [idx_block x r n (by omega) h1.symm]; rfl
    · exfalso; have e : 768 + (r : ℕ) = 512 + (x 0 : ℕ) := h0; omega
    · exfalso; have e : 768 + (r : ℕ) = 256 + (x 0 : ℕ) := h0; omega
    · exfalso; have e : 768 + (r : ℕ) = (x 0 : ℕ) := h0; omega

end Cert.Proof.Stage
-- ==== Proof.StageCore.lean ====
module

public import proofs.«01_k».proof.Proof.StagePointA

/-! # One grid point is one step

When the scratch a grid point takes agrees with a state of the reference, the row it writes is
the row of the reference's step, and the scratch it leaves agrees with the state after. -/

@[expose] public section
set_option maxRecDepth 16384
noncomputable section
namespace Cert.Proof.Stage
open Idealize.ShloMosaic
open Cert.KernelIdeal Cert.KernelIdeal.Gen Cert.KernelIdeal.Value
open Cert.ReferenceIdeal.Step

/-- The scratch holds a state's memory, usage, weightings, links, precedence and norms. -/
structure Held (σ : Scr) (s : State Ideal) : Prop where
  M : ∀ n k, σ.M (ix2 n k) = s.main_v9_9 (ix2 n k)
  u : ∀ n, σ.u (ix2 0 n) = s.main_v9_10 (ix1 n)
  w : ∀ n, σ.w (ix2 0 n) = s.main_v9_11 (ix1 n)
  L : ∀ r n, σ.L (ix2 r n) = s.main_v9_12 (ix2 r n)
  p : ∀ n, σ.p (ix2 0 n) = s.main_v9_13 (ix1 n)
  r : ∀ q n, σ.r (ix2 q n) = s.main_v9_14 (ix2 q n)
  mn : ∀ i n, σ.mn (ix2 0 n) = b234 i s (ix1 n)

/-- The scratch holds what the controller makes of a state in one of the steps. -/
structure Ctrl (j : ℕ) (σ : Scr) (s : State Ideal) : Prop where
  h : ∀ k, σ.h (ix2 0 k) = b39 j s (ix1 k)
  c : ∀ k, σ.c (ix2 0 k) = b29 j s (ix1 k)
  iv : IvAgree j s σ.iv

/-- The scratch holds the products of all rows with their matrix. -/
def Prods (σ : Scr) (s : State Ideal) : Prop :=
  ∀ (i : Fin 32) (g : Fin 2048), σ.xw (ix2 i g)
    = ∑ k : Fin 512, s.main_v9_0 (ix2 i k) * s.main_v9_1 (ix2 ⟨(k : ℕ), by omega⟩ g) + s.main_v9_2 (ix1 g)

section
variable {j : ℕ} {σ : Scr} {s : State Ideal} (H : Held σ s) (hiv : IvAgree j s σ.iv) (hpos : ∀ n, 0 ≤ b148 j s (ix1 n))
include H hiv hpos

/-- The usage. -/
theorem core_u (n : Fin 1024) : σ.u' (ix2 0 n) = b148 j s (ix1 n) := usage hiv H.r H.u H.w n
/-- The write weighting. -/
theorem core_w (n : Fin 1024) : σ.w' (ix2 0 n) = b268 j s (ix1 n) := write_weight hiv H.r H.u H.w H.M (H.mn j) hpos n
/-- The memory. -/
theorem core_M (n : Fin 1024) (k : Fin 64) : σ.M' (ix2 n k) = b283 j s (ix2 n k) :=
  memory (fun k => erase hiv k) (fun k => write_vector hiv k) H.M (core_w H hiv hpos) n k
omit hiv hpos in
/-- The first block of links. -/
theorem core_L0 (r : Fin 256) (n : Fin 1024) : σ.L0 (ix2 r n) = s.main_v9_12 (ix2 ⟨(r : ℕ), by omega⟩ n) :=
  (View.ld_unit_apply_of σ.L ![0, 0] ![256, 1024] _ (ix2 r n) (ix2 ⟨(r : ℕ), by omega⟩ n) (fun a => by fin_cases a <;> simp)).trans (H.L _ _)
omit hiv hpos in
/-- The second block of links. -/
theorem core_L1 (r : Fin 256) (n : Fin 1024) : σ.L1 (ix2 r n) = s.main_v9_12 (ix2 ⟨256 + (r : ℕ), by omega⟩ n) :=
  (View.ld_unit_apply_of σ.L ![256, 0] ![256, 1024] _ (ix2 r n) (ix2 ⟨256 + (r : ℕ), by omega⟩ n) (fun a => by fin_cases a <;> simp)).trans (H.L _ _)
omit hiv hpos in
/-- The third block of links. -/
theorem core_L2 (r : Fin 256) (n : Fin 1024) : σ.L2 (ix2 r n) = s.main_v9_12 (ix2 ⟨512 + (r : ℕ), by omega⟩ n) :=
  (View.ld_unit_apply_of σ.L ![512, 0] ![256, 1024] _ (ix2 r n) (ix2 ⟨512 + (r : ℕ), by omega⟩ n) (fun a => by fin_cases a <;> simp)).trans (H.L _ _)
omit hiv hpos in
/-- The fourth block of links. -/
theorem core_L3 (r : Fin 256) (n : Fin 1024) : σ.L3 (ix2 r n) = s.main_v9_12 (ix2 ⟨768 + (r : ℕ), by omega⟩ n) :=
  (View.ld_unit_apply_of σ.L ![768, 0] ![256, 1024] _ (ix2 r n) (ix2 ⟨768 + (r : ℕ), by omega⟩ n) (fun a => by fin_cases a <;> simp)).trans (H.L _ _)
/-- Forward. -/
theorem core_f (r : Fin 4) (n : Fin 1024) : σ.f (ix2 r n) = b306 j s (ix2 r n) :=
  forward (core_w H hiv hpos) H.p H.r (core_L0 H) (core_L1 H) (core_L2 H) (core_L3 H) r n
/-- Backward. -/
theorem core_b (r : Fin 4) (n : Fin 1024) : σ.b (ix2 r n) = b308 j s (ix2 r n) :=
  backward (core_w H hiv hpos) H.p H.r (core_L0 H) (core_L1 H) (core_L2 H) (core_L3 H) r n
/-- The content weightings. -/
theorem core_rc (r : Fin 4) (n : Fin 1024) : σ.rc (ix2 r n) = b344 j s (ix2 r n) :=
  read_content (fun r k a ha => keys hiv r k a ha) (fun r => strengths hiv r) (core_M H hiv hpos) r n
/-- The read weightings. -/
theorem core_r (r : Fin 4) (n : Fin 1024) : σ.r' (ix2 r n) = b355 j s (ix2 r n) :=
  read_weights (core_f H hiv hpos) (core_rc H hiv hpos) (fun r => mode_content hiv r) (fun r => mode_forward hiv r)
    (fun r n => mode_backward hiv (core_b H hiv hpos) r n) r n
/-- The reads. -/
theorem core_reads (r : Fin 4) (k : Fin 64) : k0_pay81 (F := Ideal) σ.M' σ.f σ.rc σ.mc σ.mf σ.mb (ix2 r k) = b356 j s (ix2 r k) :=
  reads (core_M H hiv hpos) (core_r H hiv hpos) r k
end

variable (m : (ℓ : Loc nD τ sig) → Buf (Elt Ideal) ℓ) (c : Dev nD) (t : Fin cfg0.N)

/-- The blocks of the weights a point sees are the weights of the state; what is left of a rounded half is nothing. -/
structure Wts (s : State Ideal) : Prop where
  w2 : ∀ (k : Fin 512) (g : Fin 2048), iblk m c 2 t (ix2 k g) = s.main_v9_1 (ix2 ⟨512 + (k : ℕ), by omega⟩ g)
  w3 : ∀ (k : Fin 512) (g : Fin 2048), iblk m c 3 t (ix2 k g) = (0 : EReal)
  w5 : ∀ (k : Fin 512) (a : Fin 512) (b : Fin 471), (a : ℕ) = b → iblk m c 5 t (ix2 k a) = s.main_v9_3 (ix2 k b)
  w6 : ∀ (k : Fin 512) (a : Fin 512), iblk m c 6 t (ix2 k a) = (0 : EReal)
  w7 : ∀ (k : Fin 512) (o : Fin 128), iblk m c 7 t (ix2 k o) = s.main_v9_4 (ix2 k o)
  w8 : ∀ (k : Fin 512) (o : Fin 128), iblk m c 8 t (ix2 k o) = (0 : EReal)
  w9 : ∀ (k : Fin 256) (o : Fin 128), iblk m c 9 t (ix2 k o) = s.main_v9_5 (ix2 k o)
  w10 : ∀ (k : Fin 256) (o : Fin 128), iblk m c 10 t (ix2 k o) = (0 : EReal)

variable {m c t}

/-- The row a point writes is the row of the step. -/
theorem core_out {j : ℕ} {σ : Scr} {s : State Ideal} (H : Held σ s) (C : Ctrl j σ s) (hpos : ∀ n, 0 ≤ b148 j s (ix1 n))
    (W : Wts m c t s) (o : Fin 128) : outrow m c t σ (ix3 0 0 o) = b360 j s (ix1 o) := by
  have l9 (q : ℕ) (inb) (k : Fin 64) (o : Fin 128) (h : q + 64 ≤ 256) :
      View.ld (iblk m c 9 t) (Rect.unit ![q, 0] ![64, 128] inb) (ix2 k o) = s.main_v9_5 (ix2 ⟨q + (k : ℕ), by omega⟩ o) :=
    (View.ld_unit_apply_of (iblk m c 9 t) ![q, 0] ![64, 128] inb (ix2 k o) (ix2 ⟨q + (k : ℕ), by omega⟩ o)
      (fun a => by fin_cases a <;> simp)).trans (W.w9 _ _)
  have l10 (q : ℕ) (inb) (k : Fin 64) (o : Fin 128) (h : q + 64 ≤ 256) :
      View.ld (iblk m c 10 t) (Rect.unit ![q, 0] ![64, 128] inb) (ix2 k o) = (0 : EReal) :=
    (View.ld_unit_apply_of (iblk m c 10 t) ![q, 0] ![64, 128] inb (ix2 k o) (ix2 ⟨q + (k : ℕ), by omega⟩ o)
      (fun a => by fin_cases a <;> simp)).trans (W.w10 _ _)
  refine out_row (core_reads H C.iv hpos) C.h (fun k => hidden_sub k) W.w7 W.w8 (fun k o => ?_) (fun k o => l10 0 _ k o (by omega))
    (fun k o => l9 64 _ k o (by omega)) (fun k o => l10 64 _ k o (by omega))
    (fun k o => l9 128 _ k o (by omega)) (fun k o => l10 128 _ k o (by omega))
    (fun k o => l9 192 _ k o (by omega)) (fun k o => l10 192 _ k o (by omega)) o
  refine (l9 0 _ k o (by omega)).trans ?_
  congr 2
  exact Fin.ext (Nat.zero_add _)

variable (m c t) in
/-- The scratch after a point, from the scratch it takes. -/
structure Leaves (σ σ' : Scr) : Prop where
  xw : σ'.xw = σ.xw
  h : σ'.h = k0_pay27 (F := Ideal) (hnext m c t σ)
  cc : σ'.c = k0_pay28 (F := Ideal) (cnext m c t σ)
  M : σ'.M = k0_pay84 (F := Ideal) σ.M'
  u : σ'.u = k0_pay85 (F := Ideal) σ.u'
  w : σ'.w = k0_pay86 (F := Ideal) σ.w'
  L : Blocks σ σ'.L
  p : σ'.p = k0_pay1 (F := Ideal) (k0_pay50 σ.w' σ.p)
  r : σ'.r = k0_pay2 (F := Ideal) σ.r'
  mn : σ'.mn = k0_pay3 (F := Ideal) (k0_pay69 σ.M')
  iv : σ'.iv = k0_pay29 (F := Ideal) (hnext m c t σ) (iblk m c 5 t) (iblk m c 6 t)

variable (m c t) in
/-- The scratch after a point, from what the point leaves. -/
theorem leaves_mk (σ : Scr) (a : Left) (xw : a.2.1 = σ.xw) (h : a.2.2.1 = k0_pay27 (F := Ideal) (hnext m c t σ))
    (cc : a.2.2.2.1 = k0_pay28 (F := Ideal) (cnext m c t σ)) (M : a.2.2.2.2.1 = k0_pay84 (F := Ideal) σ.M')
    (u : a.2.2.2.2.2.1 = k0_pay85 (F := Ideal) σ.u') (w : a.2.2.2.2.2.2.1 = k0_pay86 (F := Ideal) σ.w')
    (L : Blocks σ a.2.2.2.2.2.2.2.1) (p : a.2.2.2.2.2.2.2.2.1 = k0_pay1 (F := Ideal) (k0_pay50 σ.w' σ.p))
    (r : a.2.2.2.2.2.2.2.2.2.1 = k0_pay2 (F := Ideal) σ.r') (mn : a.2.2.2.2.2.2.2.2.2.2.1 = k0_pay3 (F := Ideal) (k0_pay69 σ.M'))
    (iv : a.2.2.2.2.2.2.2.2.2.2.2 = k0_pay29 (F := Ideal) (hnext m c t σ) (iblk m c 5 t) (iblk m c 6 t)) :
    Leaves m c t σ (scr a) := ⟨xw, h, cc, M, u, w, L, p, r, mn, iv⟩

/-- What a later point leaves. -/
theorem leaves_later (acc : Left) (h : ¬t.val % 32 = 0) : Leaves m c t (scr acc) (scr (stAt0 m c t.val t.isLt acc)) :=
  leaves_mk m c t (scr acc) (stAt0 m c t.val t.isLt acc) (B_xw m c t acc h) (B_h m c t acc h) (B_c m c t acc h) (B_M m c t acc h)
    (B_u m c t acc h) (B_w m c t acc h) (B_L m c t acc h) (B_p m c t acc h) (B_r m c t acc h) (B_mn m c t acc h) (B_iv m c t acc h)

/-- What the first point leaves. -/
theorem leaves_first (acc : Left) (h : t.val % 32 = 0) : Leaves m c t (scr0 m c t) (scr (stAt0 m c t.val t.isLt acc)) :=
  leaves_mk m c t (scr0 m c t) (stAt0 m c t.val t.isLt acc) (A_xw m c t acc h) (A_h m c t acc h) (A_c m c t acc h) (A_M m c t acc h)
    (A_u m c t acc h) (A_w m c t acc h) (A_L m c t acc h) (A_p m c t acc h) (A_r m c t acc h) (A_mn m c t acc h) (A_iv m c t acc h)

/-- The memory side of the scratch after a point holds the state after the step. -/
theorem core_next {j : ℕ} {σ σ' : Scr} {s : State Ideal} (H : Held σ s) (hiv : IvAgree j s σ.iv)
    (hpos : ∀ n, 0 ≤ b148 j s (ix1 n)) (E : Leaves m c t σ σ') : Held σ' (step j s) where
  M n k := by
    have e := core_M H hiv hpos
    rw [step_main_v9_9, E.M]; pointwise [k0_pay84, e]
  u n := by
    have e := core_u H hiv hpos
    rw [step_main_v9_10, E.u]; pointwise [k0_pay85, e]
  w n := by
    have e := core_w H hiv hpos
    rw [step_main_v9_11, E.w]; pointwise [k0_pay86, e]
  p n := by
    have e := precedence (core_w H hiv hpos) H.p
    rw [step_main_v9_13, E.p]; pointwise [k0_pay1, e]
  r q n := by
    have e := core_r H hiv hpos
    rw [step_main_v9_14, E.r]; pointwise [k0_pay2, e]
  mn i n := by
    have e := norms (core_M H hiv hpos)
    rw [norms_next, E.mn]; pointwise [k0_pay3, e]
  L r n := by
    have hw := core_w H hiv hpos
    have e0 := links0 hw H.p (core_L0 H)
    have e1 := links1 hw H.p (core_L1 H)
    have e2 := links2 hw H.p (core_L2 H)
    have e3 := links3 hw H.p (core_L3 H)
    rw [step_main_v9_12]
    have hr := r.isLt
    by_cases h0 : (r : ℕ) < 256
    · have i : r = ⟨((⟨r, h0⟩ : Fin 256) : ℕ), by omega⟩ := Fin.ext rfl
      rw [i, E.L.b0, ← e0]; pointwise [k0_pay52]
    by_cases h1 : (r : ℕ) < 512
    · have i : r = ⟨256 + ((⟨(r : ℕ) - 256, by omega⟩ : Fin 256) : ℕ), by dsimp only; omega⟩ := Fin.ext (by dsimp only; omega)
      rw [i, E.L.b1, ← e1]; pointwise [k0_pay59]
    by_cases h2 : (r : ℕ) < 768
    · have i : r = ⟨512 + ((⟨(r : ℕ) - 512, by omega⟩ : Fin 256) : ℕ), by dsimp only; omega⟩ := Fin.ext (by dsimp only; omega)
      rw [i, E.L.b2, ← e2]; pointwise [k0_pay62]
    · have i : r = ⟨768 + ((⟨(r : ℕ) - 768, by omega⟩ : Fin 256) : ℕ), by dsimp only; omega⟩ := Fin.ext (by dsimp only; omega)
      rw [i, E.L.b3, ← e3]; pointwise [k0_pay66]

/-- The row of products a point takes is that of the next step. -/
theorem off_row : ∀ t : Fin cfg0.N, k0_off1 (grid0.coords t) (0 : Fin 2) = min (t.val + 1) 31 ∧ k0_off1 (grid0.coords t) (1 : Fin 2) = 0 :=
  (by decide +kernel : ∀ t : Fin grid0.N, _)

/-- The controller's side of the scratch after a point is that of the step after. -/
theorem ctrl_next {σ σ' : Scr} {s : State Ideal} (C : Ctrl t.val σ s) (X : Prods σ s) (W : Wts m c t s) (E : Leaves m c t σ σ')
    (hj : t.val + 1 < 32) : Ctrl (t.val + 1) σ' (step t.val s) := by
  have hx (g : Fin 2048) : xrow t σ (ix2 0 g) = ∑ k : Fin 512, (step t.val s).main_v9_0 (ix2 ⟨t.val + 1, hj⟩ k)
      * (step t.val s).main_v9_1 (ix2 ⟨(k : ℕ), by omega⟩ g) + (step t.val s).main_v9_2 (ix1 g) := by
    refine (View.ld_unit_apply_of σ.xw (k0_off1 (grid0.coords t)) ![1, 2048] _ (ix2 0 g) (ix2 ⟨t.val + 1, hj⟩ g) (fun a => ?_)).trans (X _ _)
    have o := off_row t
    fin_cases a
    · change t.val + 1 = k0_off1 (grid0.coords t) (0 : Fin 2) + 0
      rw [o.1]; omega
    · change (g : ℕ) = k0_off1 (grid0.coords t) (1 : Fin 2) + g
      rw [o.2]; omega
  have hh (k : Fin 512) : σ.h (ix2 0 k) = (step t.val s).main_v9_7 (ix1 k) := by rw [step_main_v9_7]; exact C.h k
  have hc (k : Fin 512) : σ.c (ix2 0 k) = (step t.val s).main_v9_8 (ix1 k) := by rw [step_main_v9_8]; exact C.c k
  have hz (k : Fin 512) : (step t.val s).main_v9_7 (ix1 k) - (step t.val s).main_v9_7 (ix1 k) = 0 := by
    rw [step_main_v9_7]; exact hidden_sub k
  have hN (k : Fin 512) : hnext m c t σ (ix2 0 k) = b39 (t.val + 1) (step t.val s) (ix1 k) := hidden hj hx hh hz hc W.w2 W.w3 k
  have cN (k : Fin 512) : cnext m c t σ (ix2 0 k) = b29 (t.val + 1) (step t.val s) (ix1 k) := cell hj hx hh hz hc W.w2 W.w3 k
  refine ⟨fun k => ?_, fun k => ?_, ?_⟩
  · rw [E.h]; pointwise [k0_pay27, hN]
  · rw [E.cc]; pointwise [k0_pay28, cN]
  · rw [E.iv]
    exact interface (hh := hnext m c t σ) hN W.w5 W.w6

end Cert.Proof.Stage
-- ==== Proof.StageHost.lean ====
module

public import proofs.«01_k».proof.Proof.StageCore

/-! # The blocks the grid points see

Every window but the output's takes its whole array at every point; the arrays are the program's
arguments, their parts, and what the operations before the kernel make of them. -/

@[expose] public section
set_option backward.proofsInPublic true
set_option maxRecDepth 16384
noncomputable section
namespace Cert.Proof.Stage
open Idealize.ShloMosaic Idealize.ShloMosaic.TcCoe
open Cert.KernelIdeal Cert.KernelIdeal.Gen Cert.KernelIdeal.Value
/-- A number of which nothing is left when it is taken from itself. -/
def Gone (v : EReal) : Prop := v - v = 0

variable (m : (ℓ : Loc nD τ sig) → Buf (Elt Ideal) ℓ) (c : Dev nD) (t : Fin cfg0.N)

/-- Window 0 starts at the head of its array at every point. -/
theorem at_0 : ∀ t : Fin cfg0.N, win0_0.index t 0 = 0 ∧ win0_0.index t 1 = 0 := by decide +kernel

/-- Window 0 takes its array whole. -/
theorem blk_0 (i : Fin 32) (k : Fin 512) : iblk m c 0 t (ix2 i k) = V m c main_arg0 (ix2 i k) := by
  blk_ext [iblk, (at_0 t).1, (at_0 t).2]

/-- Window 1 starts at the head of its array at every point. -/
theorem at_1 : ∀ t : Fin cfg0.N, win0_1.index t 0 = 0 ∧ win0_1.index t 1 = 0 := by decide +kernel

/-- Window 1 takes its array whole. -/
theorem blk_1 (i : Fin 512) (k : Fin 2048) : iblk m c 1 t (ix2 i k) = V m c main_call0_v0 (ix2 i k) := by
  blk_ext [iblk, (at_1 t).1, (at_1 t).2]

/-- Window 2 starts at the head of its array at every point. -/
theorem at_2 : ∀ t : Fin cfg0.N, win0_2.index t 0 = 0 ∧ win0_2.index t 1 = 0 := by decide +kernel

/-- Window 2 takes its array whole. -/
theorem blk_2 (i : Fin 512) (k : Fin 2048) : iblk m c 2 t (ix2 i k) = V m c main_call0_v2 (ix2 i k) := by
  blk_ext [iblk, (at_2 t).1, (at_2 t).2]

/-- Window 3 starts at the head of its array at every point. -/
theorem at_3 : ∀ t : Fin cfg0.N, win0_3.index t 0 = 0 ∧ win0_3.index t 1 = 0 := by decide +kernel

/-- Window 3 takes its array whole. -/
theorem blk_3 (i : Fin 512) (k : Fin 2048) : iblk m c 3 t (ix2 i k) = V m c main_call0_v5 (ix2 i k) := by
  blk_ext [iblk, (at_3 t).1, (at_3 t).2]

/-- Window 4 starts at the head of its array at every point. -/
theorem at_4 : ∀ t : Fin cfg0.N, win0_4.index t 0 = 0 ∧ win0_4.index t 1 = 0 := by decide +kernel

/-- Window 4 takes its array whole. -/
theorem blk_4 (i : Fin 1) (k : Fin 2048) : iblk m c 4 t (ix2 i k) = V m c main_call0_v6 (ix2 i k) := by
  blk_ext [iblk, (at_4 t).1, (at_4 t).2]

/-- Window 5 starts at the head of its array at every point. -/
theorem at_5 : ∀ t : Fin cfg0.N, win0_5.index t 0 = 0 ∧ win0_5.index t 1 = 0 := by decide +kernel

/-- Window 5 takes its array whole. -/
theorem blk_5 (i : Fin 512) (k : Fin 512) : iblk m c 5 t (ix2 i k) = V m c main_call0_v8 (ix2 i k) := by
  blk_ext [iblk, (at_5 t).1, (at_5 t).2]

/-- Window 6 starts at the head of its array at every point. -/
theorem at_6 : ∀ t : Fin cfg0.N, win0_6.index t 0 = 0 ∧ win0_6.index t 1 = 0 := by decide +kernel

/-- Window 6 takes its array whole. -/
theorem blk_6 (i : Fin 512) (k : Fin 512) : iblk m c 6 t (ix2 i k) = V m c main_call0_v11 (ix2 i k) := by
  blk_ext [iblk, (at_6 t).1, (at_6 t).2]

/-- Window 7 starts at the head of its array at every point. -/
theorem at_7 : ∀ t : Fin cfg0.N, win0_7.index t 0 = 0 ∧ win0_7.index t 1 = 0 := by decide +kernel

/-- Window 7 takes its array whole. -/
theorem blk_7 (i : Fin 512) (k : Fin 128) : iblk m c 7 t (ix2 i k) = V m c main_call0_v12 (ix2 i k) := by
  blk_ext [iblk, (at_7 t).1, (at_7 t).2]

/-- Window 8 starts at the head of its array at every point. -/
theorem at_8 : ∀ t : Fin cfg0.N, win0_8.index t 0 = 0 ∧ win0_8.index t 1 = 0 := by decide +kernel

/-- Window 8 takes its array whole. -/
theorem blk_8 (i : Fin 512) (k : Fin 128) : iblk m c 8 t (ix2 i k) = V m c main_call0_v15 (ix2 i k) := by
  blk_ext [iblk, (at_8 t).1, (at_8 t).2]

/-- Window 9 starts at the head of its array at every point. -/
theorem at_9 : ∀ t : Fin cfg0.N, win0_9.index t 0 = 0 ∧ win0_9.index t 1 = 0 := by decide +kernel

/-- Window 9 takes its array whole. -/
theorem blk_9 (i : Fin 256) (k : Fin 128) : iblk m c 9 t (ix2 i k) = V m c main_call0_v16 (ix2 i k) := by
  blk_ext [iblk, (at_9 t).1, (at_9 t).2]

/-- Window 10 starts at the head of its array at every point. -/
theorem at_10 : ∀ t : Fin cfg0.N, win0_10.index t 0 = 0 ∧ win0_10.index t 1 = 0 := by decide +kernel

/-- Window 10 takes its array whole. -/
theorem blk_10 (i : Fin 256) (k : Fin 128) : iblk m c 10 t (ix2 i k) = V m c main_call0_v19 (ix2 i k) := by
  blk_ext [iblk, (at_10 t).1, (at_10 t).2]

/-- What the operations before the kernel leave at `main_call0_v0`. -/
theorem host_0 : V m c main_call0_v0 = extractStridedSlice S512x2048 ![0, 0] (m ((c : Thread nD τ).loc main_arg1) : FVec Ideal S1024x2048 .f32) slices_S1024x2048_S512x2048_0_0 := by
  unfold V
  after_results_simp
  rfl

/-- What the operations before the kernel leave at `main_call0_v2`. -/
theorem host_2 : V m c main_call0_v2 = truncf (F := Ideal) .bf16 (extractStridedSlice S512x2048 ![512, 0] (m ((c : Thread nD τ).loc main_arg1) : FVec Ideal S1024x2048 .f32) slices_S1024x2048_S512x2048_512_0) bitsLt_bf16_f32 := by
  unfold V
  after_results_simp
  rfl

/-- What the operations before the kernel leave at `main_call0_v5`. -/
theorem host_5 : V m c main_call0_v5 = truncf (F := Ideal) .bf16 (subf (extractStridedSlice S512x2048 ![512, 0] (m ((c : Thread nD τ).loc main_arg1) : FVec Ideal S1024x2048 .f32) slices_S1024x2048_S512x2048_512_0) (extf (F := Ideal) .f32 (truncf (F := Ideal) .bf16 (extractStridedSlice S512x2048 ![512, 0] (m ((c : Thread nD τ).loc main_arg1) : FVec Ideal S1024x2048 .f32) slices_S1024x2048_S512x2048_512_0) bitsLt_bf16_f32) bitsLt_bf16_f32)) bitsLt_bf16_f32 := by
  unfold V
  after_results_simp
  rfl

/-- What the operations before the kernel leave at `main_call0_v6`. -/
theorem host_6 : V m c main_call0_v6 = shapeCast S1x2048 (m ((c : Thread nD τ).loc main_arg2) : FVec Ideal S2048 .f32) shapeCasts_S2048_S1x2048 := by
  unfold V
  after_results_simp
  rfl

/-- What the operations before the kernel leave at `main_call0_v8`. -/
theorem host_8 : V m c main_call0_v8 = truncf (F := Ideal) .bf16 (pad S512x512 ![0, 0] ![0, 41] ![0, 0] (m ((c : Thread nD τ).loc main_arg3) : FVec Ideal S512x471 .f32) (sitofp (F := Ideal) .f32 (constantI S_ 32 0#32)) pads_S512x471_S512x512_000_0410 h_S_) bitsLt_bf16_f32 := by
  unfold V
  after_results_simp
  rfl

/-- What the operations before the kernel leave at `main_call0_v11`. -/
theorem host_11 : V m c main_call0_v11 = truncf (F := Ideal) .bf16 (subf (pad S512x512 ![0, 0] ![0, 41] ![0, 0] (m ((c : Thread nD τ).loc main_arg3) : FVec Ideal S512x471 .f32) (sitofp (F := Ideal) .f32 (constantI S_ 32 0#32)) pads_S512x471_S512x512_000_0410 h_S_) (extf (F := Ideal) .f32 (truncf (F := Ideal) .bf16 (pad S512x512 ![0, 0] ![0, 41] ![0, 0] (m ((c : Thread nD τ).loc main_arg3) : FVec Ideal S512x471 .f32) (sitofp (F := Ideal) .f32 (constantI S_ 32 0#32)) pads_S512x471_S512x512_000_0410 h_S_) bitsLt_bf16_f32) bitsLt_bf16_f32)) bitsLt_bf16_f32 := by
  unfold V
  after_results_simp
  rfl

/-- What the operations before the kernel leave at `main_call0_v12`. -/
theorem host_12 : V m c main_call0_v12 = truncf (F := Ideal) .bf16 (m ((c : Thread nD τ).loc main_arg4) : FVec Ideal S512x128 .f32) bitsLt_bf16_f32 := by
  unfold V
  after_results_simp
  rfl

/-- What the operations before the kernel leave at `main_call0_v15`. -/
theorem host_15 : V m c main_call0_v15 = truncf (F := Ideal) .bf16 (subf (m ((c : Thread nD τ).loc main_arg4) : FVec Ideal S512x128 .f32) (extf (F := Ideal) .f32 (truncf (F := Ideal) .bf16 (m ((c : Thread nD τ).loc main_arg4) : FVec Ideal S512x128 .f32) bitsLt_bf16_f32) bitsLt_bf16_f32)) bitsLt_bf16_f32 := by
  unfold V
  after_results_simp
  rfl

/-- What the operations before the kernel leave at `main_call0_v16`. -/
theorem host_16 : V m c main_call0_v16 = truncf (F := Ideal) .bf16 (m ((c : Thread nD τ).loc main_arg5) : FVec Ideal S256x128 .f32) bitsLt_bf16_f32 := by
  unfold V
  after_results_simp
  rfl

/-- What the operations before the kernel leave at `main_call0_v19`. -/
theorem host_19 : V m c main_call0_v19 = truncf (F := Ideal) .bf16 (subf (m ((c : Thread nD τ).loc main_arg5) : FVec Ideal S256x128 .f32) (extf (F := Ideal) .f32 (truncf (F := Ideal) .bf16 (m ((c : Thread nD τ).loc main_arg5) : FVec Ideal S256x128 .f32) bitsLt_bf16_f32) bitsLt_bf16_f32)) bitsLt_bf16_f32 := by
  unfold V
  after_results_simp
  rfl

/-- The controller's upper weights. -/
theorem in_1 (k : Fin 512) (g : Fin 2048) : iblk m c 1 t (ix2 k g) = m ((c : Thread nD τ).loc main_arg1) (ix2 ⟨(k : ℕ), by omega⟩ g) := by
  rw [blk_1, host_0]
  pointwise

/-- The controller's lower weights, high half. -/
theorem in_2 (k : Fin 512) (g : Fin 2048) : iblk m c 2 t (ix2 k g) = m ((c : Thread nD τ).loc main_arg1) (ix2 ⟨512 + (k : ℕ), by omega⟩ g) := by
  rw [blk_2, host_2]
  pointwise

/-- The controller's lower weights, low half. -/
theorem in_3 (h : ∀ (k : Fin 512) (g : Fin 2048), Gone (m ((c : Thread nD τ).loc main_arg1) (ix2 ⟨512 + (k : ℕ), by omega⟩ g)))
    (k : Fin 512) (g : Fin 2048) : iblk m c 3 t (ix2 k g) = (0 : EReal) := by
  rw [blk_3, host_5]
  pointwise
  exact h k g

/-- The controller's offsets. -/
theorem in_4 (g : Fin 2048) : iblk m c 4 t (ix2 0 g) = m ((c : Thread nD τ).loc main_arg2) (ix1 g) := by
  rw [blk_4, host_6]
  pointwise

/-- The interface weights, high half. -/
theorem in_5 (k : Fin 512) (a : Fin 512) (b : Fin 471) (hab : (a : ℕ) = b) : iblk m c 5 t (ix2 k a) = m ((c : Thread nD τ).loc main_arg3) (ix2 k b) := by
  rw [blk_5, host_8]
  pointwise
  have P : ∀ q : Fin 2, (![0, 0] : Fin 2 → ℕ) q ≤ ((ix2 k a : S512x512.Idx) q : ℕ) ∧ (((ix2 k a : S512x512.Idx) q : ℕ) - (![0, 0] : Fin 2 → ℕ) q) % ((![0, 0] : Fin 2 → ℕ) q + 1) = 0
      ∧ (((ix2 k a : S512x512.Idx) q : ℕ) - (![0, 0] : Fin 2 → ℕ) q) / ((![0, 0] : Fin 2 → ℕ) q + 1) < S512x471.size q := by
    intro q
    fin_cases q <;> simp [Nat.mod_one]
    omega
  split_ifs with hh
  · exact congrArg _ (congrArg (ix2 k) (Fin.ext hab))
  · exact absurd P hh

/-- The interface weights, low half. -/
theorem in_6 (h : ∀ (k : Fin 512) (g : Fin 471), Gone (m ((c : Thread nD τ).loc main_arg3) (ix2 k g)))
    (k : Fin 512) (a : Fin 512) : iblk m c 6 t (ix2 k a) = (0 : EReal) := by
  rw [blk_6, host_11]
  pointwise
  split_ifs with hh
  · exact h k _
  · show ((((0#32 : BitVec 32).toInt : ℝ) : EReal) - (((0#32 : BitVec 32).toInt : ℝ) : EReal)) = 0
    simp

/-- The output weights, high half. -/
theorem in_7 (k : Fin 512) (o : Fin 128) : iblk m c 7 t (ix2 k o) = m ((c : Thread nD τ).loc main_arg4) (ix2 k o) := by
  rw [blk_7, host_12]
  pointwise

/-- The read weights, high half. -/
theorem in_9 (k : Fin 256) (o : Fin 128) : iblk m c 9 t (ix2 k o) = m ((c : Thread nD τ).loc main_arg5) (ix2 k o) := by
  rw [blk_9, host_16]
  pointwise

/-- The output weights, low half. -/
theorem in_8 (h : ∀ (k : Fin 512) (o : Fin 128), Gone (m ((c : Thread nD τ).loc main_arg4) (ix2 k o))) (k : Fin 512) (o : Fin 128) :
    iblk m c 8 t (ix2 k o) = (0 : EReal) := by
  rw [blk_8, host_15]
  pointwise
  exact h k o

/-- The read weights, low half. -/
theorem in_10 (h : ∀ (k : Fin 256) (o : Fin 128), Gone (m ((c : Thread nD τ).loc main_arg5) (ix2 k o))) (k : Fin 256) (o : Fin 128) :
    iblk m c 10 t (ix2 k o) = (0 : EReal) := by
  rw [blk_10, host_19]
  pointwise
  exact h k o

end Cert.Proof.Stage
-- ==== Proof.StageBase.lean ====
module

public import proofs.«01_k».proof.Proof.StageHost

/-! # What the first grid point starts from is the reference's first state -/

@[expose] public section
set_option backward.proofsInPublic true
set_option maxRecDepth 16384
noncomputable section
namespace Cert.Proof.Stage
open Idealize.ShloMosaic
open Cert.KernelIdeal Cert.KernelIdeal.Gen Cert.KernelIdeal.Value
open Cert.ReferenceIdeal.Step

/-- A row of the upper half is a row. -/
theorem low_lt (k : Fin 512) : (k : ℕ) < 1024 := by omega

section
variable {s : State Ideal} {X : Vec Ideal S32x512 .f32} {Y : Vec Ideal S512x2048 .f32} {B : Vec Ideal S1x2048 .f32}
  (hX : ∀ (i : Fin 32) (k : Fin 512), X (ix2 i k) = s.main_v9_0 (ix2 i k))
  (hY : ∀ (k : Fin 512) (g : Fin 2048), Y (ix2 k g) = s.main_v9_1 (ix2 ⟨(k : ℕ), low_lt k⟩ g))
  (hB : ∀ g : Fin 2048, B (ix2 0 g) = s.main_v9_2 (ix1 g))
include hX hY hB

/-- The products of all rows. -/
theorem base_rows (i : Fin 32) (g : Fin 2048) : k0_pay4 X Y B (ix2 i g)
    = ∑ k : Fin 512, s.main_v9_0 (ix2 i k) * s.main_v9_1 (ix2 ⟨(k : ℕ), low_lt k⟩ g) + s.main_v9_2 (ix1 g) := by
  pointwise [k0_pay4, hX, hY, hB]

variable (h0 : ∀ k : Fin 512, s.main_v9_7 (ix1 k) = (0 : EReal)) (c0 : ∀ k : Fin 512, s.main_v9_8 (ix1 k) = (0 : EReal))
include h0

/-- The gates of the first step before they are squashed. -/
theorem base_gates (g : Fin 2048) : k0_pay6 X Y B (ix2 0 g) = b5 0 s (ix1 g) := by
  have e := base_rows hX hY hB
  pointwise [k0_pay6, e]
  have c0 : Host.clampedStart ReferenceIdeal.S32x512 ReferenceIdeal.S1x512 rfl
      (fun k => BitVec.toInt (![constantI ReferenceIdeal.S_ 32 (BitVec.ofNat 32 0), constantI ReferenceIdeal.S_ 32 0#32] k
        (Shape.Idx.first Cert.ReferenceIdeal.Gen.h_S_))) 0 = 0 := by
    simp [Host.clampedStart]
    exact le_of_eq rfl
  have c1 : Host.clampedStart ReferenceIdeal.S32x512 ReferenceIdeal.S1x512 rfl
      (fun k => BitVec.toInt (![constantI ReferenceIdeal.S_ 32 (BitVec.ofNat 32 0), constantI ReferenceIdeal.S_ 32 0#32] k
        (Shape.Idx.first Cert.ReferenceIdeal.Gen.h_S_))) 1 = 0 := by
    simp [Host.clampedStart]
  pointwise [b5, b4, b3, b2, b1, b0, c0, c1, h0]
  simp only [mul_zero, zero_mul, Finset.sum_const_zero, add_zero, zero_add]

include c0

/-- The cell's first state. -/
theorem base_cell (k : Fin 512) : k0_pay7 X Y B (ix2 0 k) = b29 0 s (ix1 k) := by
  have e := base_gates hX hY hB h0
  pointwise [k0_pay7, e]
  pointwise [b29, b28, b27, b26, b25, b24, b23, b22, b21, b20, b19, b18, b17, b16, b15, b14, b13, b12, b11, b10, b8, b7, b6, c0]
  rfl

/-- The first hidden row. -/
theorem base_hidden (k : Fin 512) : k0_pay8 X Y B (ix2 0 k) = b39 0 s (ix1 k) := by
  have e := base_gates hX hY hB h0
  have e' := base_cell hX hY hB h0 c0
  pointwise [k0_pay8, e, e']
  pointwise [b39, b38, b37, b36, b35, b34, b33, b32, b31, b30, b9]
  rfl

/-- The first interface row. -/
theorem base_interface {ih il : Vec Ideal S512x512 .bf16}
    (hi : ∀ (k : Fin 512) (a : Fin 512) (b : Fin 471), (a : ℕ) = b → ih (ix2 k a) = s.main_v9_3 (ix2 k b))
    (hl : ∀ k a, il (ix2 k a) = 0) :
    IvAgree 0 s (k0_pay15 (F := Ideal) (k0_pay11 ih) (k0_pay12 il) (k0_pay13 X Y B) (k0_pay14 X Y B)) :=
  interface (hh := k0_pay8 X Y B) (base_hidden hX hY hB h0 c0) hi hl
end

variable (m : (ℓ : Loc nD τ sig) → Buf (Elt Ideal) ℓ) (c : Dev nD) (t : Fin cfg0.N)

/-- The cleared scratch holds a cleared state. -/
theorem base_held {x : FVec Ideal ReferenceIdeal.S32x512 .f32} {W : FVec Ideal ReferenceIdeal.S1024x2048 .f32} {b : FVec Ideal ReferenceIdeal.S2048 .f32}
    {IM : FVec Ideal ReferenceIdeal.S512x471 .f32} {VM : FVec Ideal ReferenceIdeal.S512x128 .f32} {RM : FVec Ideal ReferenceIdeal.S256x128 .f32} :
    Held (scr0 m c t) (init x W b IM VM RM) where
  M n k := by
    show k0_pay16 (F := Ideal) (ix2 n k) = K_main_v2 (F := Ideal) (ix2 n k)
    pointwise [k0_pay16, K_main_v2, K_main_cst_1]
  u n := by
    show k0_pay17 (F := Ideal) (ix2 0 n) = K_main_v3 (F := Ideal) (ix1 n)
    pointwise [k0_pay17, K_main_v3, K_main_cst_2]
  w n := by
    show k0_pay18 (F := Ideal) (ix2 0 n) = K_main_v4 (F := Ideal) (ix1 n)
    pointwise [k0_pay18, K_main_v4, K_main_cst_3]
  L r n := by
    show k0_pay19 (F := Ideal) (ix2 r n) = K_main_v5 (F := Ideal) (ix2 r n)
    pointwise [k0_pay19, K_main_v5, K_main_cst_4]
  p n := by
    show k0_pay20 (F := Ideal) (ix2 0 n) = K_main_v6 (F := Ideal) (ix1 n)
    pointwise [k0_pay20, K_main_v6, K_main_cst_5]
  r q n := by
    show k0_pay22 (F := Ideal) k0_pay21 (ix2 q n) = K_main_v7 (F := Ideal) (ix2 q n)
    pointwise [k0_pay22, k0_pay21, K_main_v7, K_main_cst_6]
  mn i n := by
    show k0_pay23 (F := Ideal) (ix2 0 n) = _
    have e (a : Fin 1024) (b' : Fin 64) : (init (F := Ideal) x W b IM VM RM).main_v9_9 (ix2 a b') = (0 : EReal) := by
      show K_main_v2 (F := Ideal) (ix2 a b') = _
      pointwise [K_main_v2, K_main_cst_1]
    pointwise [k0_pay23]
    pointwise [b234, b233, b232, b231, e]
    have z : Ideal.sqrt ((0 : ℝ) : EReal) = 0 := by
      show (if (0 : ℝ) < 0 then ⊥ else ((Real.sqrt 0 : ℝ) : EReal)) = 0
      simp
    simp only [mul_zero, Finset.sum_const_zero]
    exact z.symm

end Cert.Proof.Stage
-- ==== Proof.StageOut.lean ====
module

public import proofs.«01_k».proof.Proof.StageCore

/-! # The rows the reference gathers -/

@[expose] public section
set_option backward.proofsInPublic true
set_option maxRecDepth 16384
noncomputable section
namespace Cert.Proof.Stage
open Idealize.ShloMosaic
open Cert.ReferenceIdeal Cert.ReferenceIdeal.Gen
open Cert.ReferenceIdeal.Step

/-- A step puts its row in its place and keeps the others. -/
theorem row_put (j : ℕ) (hj : j < 32) (s : State Ideal) (i : Fin 32) (o : Fin 128) :
    b363 j s (ix2 i o) = if (i : ℕ) = j then b360 j s (ix1 o) else s.main_v9_15 (ix2 i o) := by
  have c0 : Host.clampedStart S32x128 S1x128 rfl
      (fun k => BitVec.toInt (![constantI S_ 32 (BitVec.ofNat 32 j), constantI S_ 32 0#32] k
        (Shape.Idx.first h_S_))) 0 = j := by
    simp [Host.clampedStart]
    rw [show (constantI S_ 32 (BitVec.ofNat 32 j) (Shape.Idx.first h_S_)).toInt = j from
      WordArith.toInt_ofNat_small _ (by omega)]
    omega
  have c1 : Host.clampedStart S32x128 S1x128 rfl
      (fun k => BitVec.toInt (![constantI S_ 32 (BitVec.ofNat 32 j), constantI S_ 32 0#32] k
        (Shape.Idx.first h_S_))) 1 = 0 := by
    simp [Host.clampedStart]
  pointwise [b363, b362, b361, c0, c1]
  by_cases h : (i : ℕ) = j
  · rw [dif_pos ⟨by omega, by omega⟩, if_pos h]
  · rw [dif_neg (by omega), if_neg h]

/-- After some steps the rows of those steps are in their places. -/
theorem rows_put (I : ℕ → State Ideal) (hI : ∀ n, I (n + 1) = step n (I n)) (n : ℕ) (hn : n ≤ 32) (i : Fin 32) (hi : (i : ℕ) < n)
    (o : Fin 128) : (I n).main_v9_15 (ix2 i o) = b360 i (I i) (ix1 o) := by
  induction n with
  | zero => omega
  | succ n ih =>
    rw [hI, step_main_v9_15, row_put n (by omega)]
    by_cases h : (i : ℕ) = n
    · rw [if_pos h, h]
    · rw [if_neg h]
      exact ih (by omega) (by omega)

/-- The reference's result, read at its coordinates. -/
theorem result_row (I : ℕ → State Ideal) (hI : ∀ n, I (n + 1) = step n (I n)) (i : Fin 32) (o : Fin 128) :
    R_main_v10 (I 32) (ix3 i 0 o) = b360 i (I i) (ix1 o) := by
  have e := rows_put I hI 32 le_rfl i i.isLt o
  rw [← e]
  pointwise [R_main_v10]

end Cert.Proof.Stage
-- ==== Proof.StageRun.lean ====
module

public import proofs.«01_k».proof.Proof.StageBase
public import proofs.«01_k».proof.Proof.StageOut

/-! # The grid points carry the reference's states -/

@[expose] public section
set_option backward.proofsInPublic true
set_option maxRecDepth 16384
noncomputable section
namespace Cert.Proof.Stage
open Idealize.ShloMosaic Idealize.ShloMosaic.TcCoe
open Cert.KernelIdeal Cert.KernelIdeal.Gen Cert.KernelIdeal.Value
open Cert.ReferenceIdeal.Step

variable (m : (ℓ : Loc nD τ sig) → Buf (Elt Ideal) ℓ) (c : Dev nD)

/-- A sequence of the reference's states from the kernel's arguments, with weights of which the
rounded half leaves nothing and with no negative usage. -/
structure Seq (I : ℕ → State Ideal) : Prop where
  i0 : I 0 = init (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
  i1 : ∀ n, I (n + 1) = step n (I n)
  fW : ∀ (k : Fin 512) (g : Fin 2048), Gone (m ((c : Thread nD τ).loc main_arg1) (ix2 ⟨512 + (k : ℕ), by omega⟩ g))
  fI : ∀ (k : Fin 512) (g : Fin 471), Gone (m ((c : Thread nD τ).loc main_arg3) (ix2 k g))
  fV : ∀ (k : Fin 512) (g : Fin 128), Gone (m ((c : Thread nD τ).loc main_arg4) (ix2 k g))
  fR : ∀ (k : Fin 256) (g : Fin 128), Gone (m ((c : Thread nD τ).loc main_arg5) (ix2 k g))
  pos : ∀ j, j < 32 → ∀ n, 0 ≤ b148 j (I j) (ix1 n)

variable {m c} {I : ℕ → State Ideal} (S : Seq m c I)
include S

/-- The steps leave the arguments. -/
theorem Seq.args (n : ℕ) : (I n).main_v9_0 = m ((c : Thread nD τ).loc main_arg0) ∧ (I n).main_v9_1 = m ((c : Thread nD τ).loc main_arg1)
    ∧ (I n).main_v9_2 = m ((c : Thread nD τ).loc main_arg2) ∧ (I n).main_v9_3 = m ((c : Thread nD τ).loc main_arg3)
    ∧ (I n).main_v9_4 = m ((c : Thread nD τ).loc main_arg4) ∧ (I n).main_v9_5 = m ((c : Thread nD τ).loc main_arg5) := by
  induction n with
  | zero => rw [S.i0]; exact ⟨rfl, rfl, rfl, rfl, rfl, rfl⟩
  | succ n ih => rw [S.i1]; exact ih

/-- The weights a point sees. -/
theorem Seq.wts (t : Fin cfg0.N) (n : ℕ) : Wts m c t (I n) := by
  obtain ⟨e0, e1, e2, e3, e4, e5⟩ := S.args n
  refine ⟨fun k g => ?_, in_3 m c t S.fW, fun k a b hab => ?_, in_6 m c t S.fI, fun k o => ?_, in_8 m c t S.fV, fun k o => ?_, in_10 m c t S.fR⟩
  · rw [e1]; exact in_2 m c t k g
  · rw [e3]; exact in_5 m c t k a b hab
  · rw [e4]; exact in_7 m c t k o
  · rw [e5]; exact in_9 m c t k o

/-- What holds of the scratch a point takes. -/
structure Good (n : ℕ) (σ : Scr) (s : State Ideal) : Prop where
  held : Held σ s
  ctrl : Ctrl n σ s
  prods : Prods σ s

/-- The first point. -/
theorem Seq.good_first (t : Fin cfg0.N) : Good 0 (scr0 m c t) (I 0) := by
  obtain ⟨e0, e1, e2, e3, e4, e5⟩ := S.args 0
  have hX : ∀ (i : Fin 32) (k : Fin 512), iblk m c 0 t (ix2 i k) = (I 0).main_v9_0 (ix2 i k) := fun i k => by
    rw [e0, blk_0, V_main_arg0]
  have hY : ∀ (k : Fin 512) (g : Fin 2048), iblk m c 1 t (ix2 k g) = (I 0).main_v9_1 (ix2 ⟨(k : ℕ), low_lt k⟩ g) := fun k g => by
    rw [e1]; exact in_1 m c t k g
  have hB : ∀ g : Fin 2048, iblk m c 4 t (ix2 0 g) = (I 0).main_v9_2 (ix1 g) := fun g => by
    rw [e2]; exact in_4 m c t g
  have h0 : ∀ k : Fin 512, (I 0).main_v9_7 (ix1 k) = (0 : EReal) := fun k => by
    rw [S.i0]
    show K_main_v0 (F := Ideal) (ix1 k) = _
    pointwise [K_main_v0, K_main_cst]
  have c0 : ∀ k : Fin 512, (I 0).main_v9_8 (ix1 k) = (0 : EReal) := fun k => by
    rw [S.i0]
    show K_main_v1 (F := Ideal) (ix1 k) = _
    pointwise [K_main_v1, K_main_cst_0]
  have hc := base_cell hX hY hB h0 c0
  have hh := base_hidden hX hY hB h0 c0
  have hp := base_rows hX hY hB
  refine ⟨?_, ⟨fun k => ?_, fun k => ?_, ?_⟩, fun i g => ?_⟩
  · rw [S.i0]; exact base_held m c t
  · show k0_pay9 (F := Ideal) _ _ _ (ix2 0 k) = _
    pointwise [k0_pay9, hh]
  · show k0_pay10 (F := Ideal) _ _ _ (ix2 0 k) = _
    pointwise [k0_pay10, hc]
  · exact base_interface hX hY hB h0 c0 (S.wts t 0).w5 (S.wts t 0).w6
  · show k0_pay5 (F := Ideal) _ _ _ (ix2 i g) = _
    pointwise [k0_pay5, hp]

/-- A point hands on. -/
theorem Seq.good_next (t : Fin cfg0.N) {σ σ' : Scr} (G : Good t.val σ (I t.val)) (E : Leaves m c t σ σ') (h : t.val + 1 < 32) :
    Good (t.val + 1) σ' (I (t.val + 1)) := by
  rw [S.i1]
  refine ⟨core_next G.held G.ctrl.iv (S.pos t.val (by omega)) E, ctrl_next G.ctrl G.prods (S.wts t t.val) E h, ?_⟩
  intro i g
  rw [E.xw]
  exact G.prods i g

/-- The fold over the points. -/
abbrev fold (m : (ℓ : Loc nD τ sig) → Buf (Elt Ideal) ℓ) (c : Dev nD) (n : ℕ) (h : 0 + n < cfg0.N) : Left :=
  Pipeline.accAt (fun n h => stAt0 m c n h junk0) (stAt0 m c) 0 n h

/-- The scratch a point leaves, and the row it writes. -/
theorem Seq.points (n : ℕ) (h : 0 + n < cfg0.N) (h' : n < 32) :
    (n + 1 < 32 → Good (n + 1) (scr (fold m c n h)) (I (n + 1)))
    ∧ ∀ o : Fin 128, (fold m c n h).1 (ix3 0 0 o) = b360 n (I n) (ix1 o) := by
  induction n with
  | zero =>
    have hz : 0 < cfg0.N := by omega
    have G := S.good_first ⟨0, hz⟩
    have E := leaves_first (m := m) (c := c) (t := ⟨0, hz⟩) junk0 rfl
    refine ⟨fun h2 => S.good_next ⟨0, hz⟩ G E h2, fun o => ?_⟩
    refine (congrFun (A_out m c ⟨0, hz⟩ junk0 rfl) (ix3 0 0 o)).trans ?_
    exact core_out G.held G.ctrl (S.pos 0 (by omega)) (S.wts ⟨0, hz⟩ 0) o
  | succ n ih =>
    have hz : n + 1 < cfg0.N := by omega
    have G := (ih (by omega) (by omega)).1 h'
    have hm : ¬ (n + 1) % 32 = 0 := by omega
    have e : fold m c (n + 1) h = stAt0 m c (n + 1) hz (fold m c n (by omega)) := by
      unfold fold
      rw [Pipeline.accAt_succ]
      simp only [Nat.zero_add]
    have E := leaves_later (m := m) (c := c) (t := ⟨n + 1, hz⟩) (fold m c n (by omega)) hm
    rw [e]
    refine ⟨fun h2 => S.good_next ⟨n + 1, hz⟩ G E h2, fun o => ?_⟩
    refine (congrFun (B_out m c ⟨n + 1, hz⟩ (fold m c n (by omega)) hm) (ix3 0 0 o)).trans ?_
    exact core_out G.held G.ctrl (S.pos (n + 1) h') (S.wts ⟨n + 1, hz⟩ (n + 1)) o

/-- The array the kernel leaves is the array the reference leaves. -/
theorem Seq.result : G11 m c = R_main_v10 (I 32) := by
  funext i
  obtain ⟨t, o, rfl⟩ : ∃ (t : Fin 32) (o : Fin 128), i = ix3 t 0 o := by
    refine ⟨i 0, i 2, ?_⟩
    rw [eq_ix3 i]
    congr 1
    exact Subsingleton.elim _ _
  refine Eq.trans ?_ (result_row I S.i1 t o).symm
  have hp : pt11Of (ix3 t 0 o) = t := by
    have h1 := t.isLt
    have h2 := o.isLt
    show 1 * ((t : ℕ) / 1 - 0) + 1 * (0 / 1 - 0) + 1 * ((o : ℕ) / 128 - 0) = t
    omega
  have ht : 0 + (t : ℕ) < cfg0.N := by
    have := t.isLt
    have hN : cfg0.N = 32 := N_0
    omega
  rw [← (S.points t ht t.isLt).2 o]
  unfold G11
  rw [dif_pos (by rw [hp]; omega)]
  have hl : loc11Of (ix3 t 0 o) = ix3 0 0 o := by
    funext a
    apply Fin.ext
    match a with
    | ⟨0, _⟩ => exact Nat.mod_one _
    | ⟨1, _⟩ => exact Nat.mod_one _
    | ⟨2, _⟩ => exact Nat.mod_eq_of_lt o.isLt
  rw [hl, fold0_congr m c _ _ _ ht hp]

end Cert.Proof.Stage
-- ==== Proof.lean ====
/-
The proof of `Cert.Claim`: the frames of the kernel, of its idealized form and of the reference, and that the
idealized kernel is the kernel with its one named constant; and that the idealized kernel and the reference end
with the same array.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import proofs.«01_k».proof.Proof.Gen.ReferenceIdeal.Run
public import proofs.«01_k».proof.Proof.Gen.ReferenceIdeal.Step
public import proofs.«01_k».proof.Proof.Gen.KernelIdeal.Value
public import proofs.«01_k».proof.Proof.Gen.Pre_usage_stays_nonnegative
public import proofs.«01_k».proof.Proof.RefTrip
public import proofs.«01_k».proof.Proof.StagePre
public import proofs.«01_k».proof.Proof.StageRun
public import Idealize.ShloMosaic.Lib.Quiescent

@[expose] public section

noncomputable section

namespace Cert.Proof

open Idealize.ShloMosaic Idealize.SL.Sem

/-- The kernel as printed runs, leaves its arguments and ends with every counter at zero. -/
theorem frame_kernel : Cert.quiescent_Kernel (hKernel := Cert.Kernel.Gen.facts) := fun m ρ _ => Cert.Kernel.Gen.frame m ρ

/-- So does its idealized form. -/
theorem frame_kernelIdeal : Cert.quiescent_KernelIdeal (hKernelIdeal := Cert.KernelIdeal.Gen.facts) :=
  fun m ρ _ => Cert.KernelIdeal.Gen.frame m ρ

/-- So does the reference, which declares no semaphore. -/
theorem frame_referenceIdeal : Cert.quiescent_ReferenceIdeal (hReferenceIdeal := Cert.ReferenceIdeal.Gen.facts) :=
  fun m ρ _ => (θ_run Cert.ReferenceIdeal.defs _ _).mono
    (fun r h => ⟨fun c => (h c).2, sem_eq_zero_of_no_sems (by decide) r.2⟩) (Cert.ReferenceIdeal.Value.run m ρ)

/-- The one replaced constant is the one the named constant's rule allows. -/
theorem preserves : Cert.preserves_Kernel_KernelIdeal :=
  IdealRules.named_const.statement Cert.KernelIdeal.κ "log0" .f32 0xC7C35000#32 ⊥ rfl

/-- The reference's states, from the arguments the kernel is given. -/
def states (m : (ℓ : Loc Cert.KernelIdeal.nD Cert.KernelIdeal.τ Cert.KernelIdeal.sig) → Buf (Elt Ideal) ℓ) (c : Dev Cert.KernelIdeal.nD) :
    ℕ → Cert.ReferenceIdeal.Step.State Ideal
  | 0 => Cert.ReferenceIdeal.Step.init (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
  | n + 1 => Cert.ReferenceIdeal.Step.step n (states m c n)

/-- What the predicate has gathered before each of the steps. -/
def gathers (I : ℕ → Cert.ReferenceIdeal.Step.State Ideal) : ℕ → IVec Cert.Pre_usage_stays_nonnegative.S1024 1
  | 0 => broadcastInDim Cert.Pre_usage_stays_nonnegative.S1024 ![] Cert.Pre_usage_stays_nonnegative.Facts.bcast_S_S1024 (constantI Cert.Pre_usage_stays_nonnegative.S_ 1 1#1)
  | n + 1 => andi (gathers I n) (cmpf (F := Ideal) .oge (Cert.ReferenceIdeal.Step.b148 n (I n))
      (broadcastInDim Cert.Pre_usage_stays_nonnegative.S1024 ![] Cert.Pre_usage_stays_nonnegative.Facts.bcast_S_S1024 (constant (F := Ideal) Cert.Pre_usage_stays_nonnegative.S_ .f32 0x00000000#32)))

/-- Under the predicate the states have finite weights and no negative usage. -/
theorem states_seq (m : (ℓ : Loc Cert.KernelIdeal.nD Cert.KernelIdeal.τ Cert.KernelIdeal.sig) → Buf (Elt Ideal) ℓ)
    (h : Cert.Pre_KernelIdeal_usage_stays_nonnegative (hPre_usage_stays_nonnegative := Cert.Pre_usage_stays_nonnegative.Gen.facts) m)
    (c : Dev Cert.KernelIdeal.nD) : Stage.Seq m c (states m c) := by
  obtain ⟨h0, h1, h2, h3, h4⟩ := h c
  have R : Stage.Runs _ _ _ _ _ _ (states m c) (gathers (states m c)) := ⟨rfl, fun _ => rfl, rfl, fun _ => rfl⟩
  exact ⟨rfl, fun _ => rfl, R.finite_W h1, R.finite_IM h2, R.finite_VM h3, R.finite_RM h4, R.usage h0⟩

/-- The idealized kernel and the reference end with the same array. -/
theorem algebraic : Cert.algebraic_KernelIdeal_ReferenceIdeal_pre_usage_stays_nonnegative (hKernelIdeal := Cert.KernelIdeal.Gen.facts)
    (hReferenceIdeal := Cert.ReferenceIdeal.Gen.facts) (hPre_usage_stays_nonnegative := Cert.Pre_usage_stays_nonnegative.Gen.facts) := by
  intro m g m' g' hpre hm
  refine ⟨fun c => Cert.KernelIdeal.Value.G11 m c, Cert.KernelIdeal.Value.run m g, ?_⟩
  refine (θ_run Cert.ReferenceIdeal.defs _ _).mono (fun r h c => ?_)
    (RefTrip.run_iter (F := Ideal) m' g' (fun c => states m c) (fun c => ?_) (fun c n => rfl))
  · exact ⟨(h c).1.trans (states_seq m hpre c).result.symm, (h c).2⟩
  · obtain ⟨e0, e1, e2, e3, e4, e5⟩ := hm c
    show _ = Cert.ReferenceIdeal.Step.init (F := Ideal) _ _ _ _ _ _
    rw [e0, e1, e2, e3, e4, e5]
    rfl

/-- Everything claimed. -/
theorem claim : Cert.Claim :=
  ⟨Cert.Kernel.Gen.facts, Cert.KernelIdeal.Gen.facts, Cert.ReferenceIdeal.Gen.facts, Cert.Pre_usage_stays_nonnegative.Gen.facts,
    frame_kernel, frame_kernelIdeal, fun m ρ _ => Cert.KernelIdeal.Gen.frame m ρ, frame_referenceIdeal,
    fun m ρ _ => frame_referenceIdeal m ρ trivial, preserves, algebraic⟩

end Cert.Proof

end
